-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥
  ∧ IdealRules.sign_bit.Statement Cert.Kernel5Ideal.S128x1 .f32

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v101_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v101_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v22)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v22) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v12)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v12) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v57) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v58) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v40) = v0 c
          ∧ r.2.mem ((c.tc : Thread Cert.Reference16Ideal.nD Cert.Reference16Ideal.τ).loc Cert.Reference16Ideal.main_v41) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .f32) (main_arg1 : FVec F S5632x2048 .f32) (main_arg2 : FVec F S8192x5632 .f32) (main_arg3 : FVec F S8192x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Pre_finite5.lean ====
abbrev S8192x2048 : Shape := ⟨2, ![8192, 2048]⟩
abbrev S8192x6144 : Shape := ⟨2, ![8192, 6144]⟩
abbrev S16 : Shape := ⟨1, ![16]⟩
abbrev S8192x1024 : Shape := ⟨2, ![8192, 1024]⟩
abbrev S_ : Shape := ⟨0, ![]⟩
abbrev S8192x16 : Shape := ⟨2, ![8192, 16]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x6144_S8192x16_0_5632 : S8192x6144.Slices ![0, 5632] S8192x16
  bcast_S_S8192x16 : S_.BroadcastsInDim S8192x16 (![] : Fin 0 → Fin S8192x16.rank)
  reducesTo_S8192x16_S_d0_1 : S8192x16.ReducesTo [0, 1] S_
  bcast_S_S16 : S_.BroadcastsInDim S16 (![] : Fin 0 → Fin S16.rank)
  reducesTo_S16_S_d0 : S16.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v14 main_v18
  main_v19

def fn {F : FTy → Type} [FloatOps F] (main_arg0 : FVec F S8192x2048 .f32) (main_arg1 : FVec F S8192x6144 .f32) (main_arg2 : FVec F S16 .f32) (main_arg3 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x16 .f32 := (extractStridedSlice S8192x16 ![0, 5632] · slices_S8192x6144_S8192x16_0_5632) main_arg1
  let main_v5 : FVec F S8192x16 .f32 := Host.absf main_v4
  let main_cst_0 : FVec F S_ .f32 := constant S_ .f32 0x7F800000#32
  let main_v6 : FVec F S8192x16 .f32 := broadcastInDim S8192x16 ![] bcast_S_S8192x16 main_cst_0
  let main_v7 : IVec S8192x16 1 := cmpf .olt main_v5 main_v6
  let main_c_1 : IVec S_ 1 := constantI S_ 1 1#1
  let main_v8 : IVec S_ 1 := (fun x v => Host.reduce IntOp.andi x v reducesTo_S8192x16_S_d0_1 h_S_) main_v7 main_c_1
  let main_v9 : IVec S_ 1 := andi main_v3 main_v8
  let main_v10 : FVec F S16 .f32 := Host.absf main_arg2
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_v14 main_v15 main_v16
-- ==== Kernel.lean ====
abbrev S8192x2048 : Shape := ⟨2, ![8192, 2048]⟩
abbrev S5632x2048 : Shape := ⟨2, ![5632, 2048]⟩
abbrev S8192x5632 : Shape := ⟨2, ![8192, 5632]⟩
abbrev S8x704x2048 : Shape := ⟨3, ![8, 704, 2048]⟩
abbrev S_ : Shape := ⟨0, ![]⟩
abbrev S8x768x2048 : Shape := ⟨3, ![8, 768, 2048]⟩
abbrev S8192x8x704 : Shape := ⟨3, ![8192, 8, 704]⟩
abbrev S8x8192x704 : Shape := ⟨3, ![8, 8192, 704]⟩
abbrev S8x8192x768 : Shape := ⟨3, ![8, 8192, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 24
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S8x704x2048, .f32⟩
  | .hbm, ⟨6, _⟩ => ⟨S8x704x2048, .bf16⟩
  | .hbm, ⟨7, _⟩ => ⟨S_, .i32⟩
  | .hbm, ⟨8, _⟩ => ⟨S_, .bf16⟩
  | .hbm, ⟨9, _⟩ => ⟨S8x768x2048, .bf16⟩
  | .hbm, ⟨10, _⟩ => ⟨S8192x8x704, .f32⟩
  | .hbm, ⟨11, _⟩ => ⟨S8x8192x704, .f32⟩
  | .hbm, ⟨12, _⟩ => ⟨S8x8192x704, .bf16⟩
  | .hbm, ⟨13, _⟩ => ⟨S_, .i32⟩
  | .hbm, ⟨14, _⟩ => ⟨S_, .bf16⟩
  | .hbm, ⟨15, _⟩ => ⟨S8x8192x768, .bf16⟩
  | .hbm, ⟨16, _⟩ => ⟨S8192x8x704, .f32⟩
  | .hbm, ⟨17, _⟩ => ⟨S8x8192x704, .f32⟩
  | .hbm, ⟨18, _⟩ => ⟨S8x8192x704, .bf16⟩
  | .hbm, ⟨19, _⟩ => ⟨S_, .i32⟩
  | .hbm, ⟨20, _⟩ => ⟨S_, .bf16⟩
  | .hbm, ⟨21, _⟩ => ⟨S8x8192x768, .bf16⟩
  | .hbm, ⟨22, _⟩ => ⟨S8x8192x768, .bf16⟩
  | .hbm, ⟨23, _⟩ => ⟨S8x8192x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩
abbrev S8x8192x768 : Shape := ⟨3, ![8, 8192, 768]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x8x704, .f32⟩
  | .hbm, ⟨27, _⟩ => ⟨S8x8192x704, .f32⟩
  | .hbm, ⟨28, _⟩ => ⟨S_, .i32⟩
  | .hbm, ⟨29, _⟩ => ⟨S_, .f32⟩
  | .hbm, ⟨30, _⟩ => ⟨S8x8192x768, .f32⟩
  | .hbm, ⟨31, _⟩ => ⟨S8x8192x768, .bf16⟩
  | .hbm, ⟨32, _⟩ => ⟨S8192x8x704, .f32⟩
  | .hbm, ⟨33, _⟩ => ⟨S8x8192x704, .f32⟩
  | .hbm, ⟨34, _⟩ => ⟨S_, .i32⟩
  | .hbm, ⟨35, _⟩ => ⟨S_, .f32⟩
  | .hbm, ⟨36, _⟩ => ⟨S8x8192x768, .f32⟩
  | .hbm, ⟨37, _⟩ => ⟨S8x8192x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_call3_v0 : Ref sig .tc := ⟨.hbm, 35, rfl⟩
abbrev main_v13 : Ref sig .tc := ⟨.hbm, 36, rfl⟩
abbrev main_v14 : Ref sig .tc := ⟨.hbm, 37, rfl⟩

abbrev nD : Nat := 1
abbrev τ : Topo := Topo.v7x

variable {F : FTy → Type} [FloatOps F]
-- ==== Kernel2.lean ====
abbrev S8192x5632 : Shape := ⟨2, ![8192, 5632]⟩
abbrev S8192x2048 : Shape := ⟨2, ![8192, 2048]⟩
abbrev S_ : Shape := ⟨0, ![]⟩
abbrev S8192x8x704 : Shape := ⟨3, ![8192, 8, 704]⟩
abbrev S8x8192x704 : Shape := ⟨3, ![8, 8192, 704]⟩
abbrev S8x8192x768 : Shape := ⟨3, ![8, 8192, 768]⟩
abbrev S2x4x704x2048 : Shape := ⟨4, ![2, 4, 704, 2048]⟩
abbrev S1x1024x768 : Shape := ⟨3, ![1, 1024, 768]⟩
abbrev S1024x2048 : Shape := ⟨2, ![1024, 2048]⟩
abbrev S1x1x704x2048 : Shape := ⟨4, ![1, 1, 704, 2048]⟩
abbrev S768x2048 : Shape := ⟨2, ![768, 2048]⟩
abbrev S1024x768 : Shape := ⟨2, ![1024, 768]⟩
abbrev S704x2048 : Shape := ⟨2, ![704, 2048]⟩

abbrev nBuf : Space → Nat
  | .hbm => 21
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x8x704, .f32⟩
  | .hbm, ⟨14, _⟩ => ⟨S8x8192x704, .f32⟩
  | .hbm, ⟨15, _⟩ => ⟨S8x8192x704, .bf16⟩
  | .hbm, ⟨16, _⟩ => ⟨S_, .i32⟩
  | .hbm, ⟨17, _⟩ => ⟨S_, .bf16⟩
  | .hbm, ⟨18, _⟩ => ⟨S8x8192x768, .bf16⟩
  | .hbm, ⟨19, _⟩ => ⟨S8192x2048, .bf16⟩
  | .hbm, ⟨20, _⟩ => ⟨S2x4x704x2048, .bf16⟩
  | .local _ .vmem, ⟨0, _⟩ => ⟨S1x1024x768, .bf16⟩
  | .local _ .vmem, ⟨1, _⟩ => ⟨S1x1024x768, .bf16⟩
  | .local _ .vmem, ⟨2, _⟩ => ⟨S1024x2048, .bf16⟩
  | .local _ .vmem, ⟨3, _⟩ => ⟨S1024x2048, .bf16⟩
  | .local _ .vmem, ⟨4, _⟩ => ⟨S1x1x704x2048, .bf16⟩
  | .local _ .vmem, ⟨5, _⟩ => ⟨S1x1x704x2048, .bf16⟩
  | .local _ .vmem, ⟨6, _⟩ => ⟨S768x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x2x704x2048 : Shape := ⟨4, ![4, 2, 704, 2048]⟩
abbrev S2x4x704x2048 : Shape := ⟨4, ![2, 4, 704, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S_, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x2048, .f32⟩
  | .hbm, ⟨16, _⟩ => ⟨S2048x5632, .f32⟩
  | .hbm, ⟨17, _⟩ => ⟨S5632x2048, .f32⟩
  | .hbm, ⟨18, _⟩ => ⟨S4x2x704x2048, .f32⟩
  | .hbm, ⟨19, _⟩ => ⟨S2x4x704x2048, .f32⟩
  | .hbm, ⟨20, _⟩ => ⟨S2x4x704x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S8192x8x704 : Shape := ⟨3, ![8192, 8, 704]⟩
abbrev S8x8192x704 : Shape := ⟨3, ![8, 8192, 704]⟩
abbrev S_ : Shape := ⟨0, ![]⟩
abbrev S8x8192x768 : Shape := ⟨3, ![8, 8192, 768]⟩
abbrev S2x4x704x2048 : Shape := ⟨4, ![2, 4, 704, 2048]⟩
abbrev S1024x1024 : Shape := ⟨2, ![1024, 1024]⟩
abbrev S1x1024x768 : Shape := ⟨3, ![1, 1024, 768]⟩
abbrev S1x1x704x1024 : Shape := ⟨4, ![1, 1, 704, 1024]⟩
abbrev S768x1024 : Shape := ⟨2, ![768, 1024]⟩
abbrev S1024x768 : Shape := ⟨2, ![1024, 768]⟩
abbrev S704x1024 : Shape := ⟨2, ![704, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x2048, .bf16⟩
  | .hbm, ⟨4, _⟩ => ⟨S8192x8x704, .f32⟩
  | .hbm, ⟨5, _⟩ => ⟨S8x8192x704, .f32⟩
  | .hbm, ⟨6, _⟩ => ⟨S8x8192x704, .bf16⟩
  | .hbm, ⟨7, _⟩ => ⟨S_, .i32⟩
  | .hbm, ⟨8, _⟩ => ⟨S_, .bf16⟩
  | .hbm, ⟨9, _⟩ => ⟨S8x8192x768, .bf16⟩
  | .hbm, ⟨10, _⟩ => ⟨S8192x8x704, .f32⟩
  | .hbm, ⟨11, _⟩ => ⟨S8x8192x704, .f32⟩
  | .hbm, ⟨12, _⟩ => ⟨S8x8192x704, .bf16⟩
  | .hbm, ⟨13, _⟩ => ⟨S_, .i32⟩
  | .hbm, ⟨14, _⟩ => ⟨S_, .bf16⟩
  | .hbm, ⟨15, _⟩ => ⟨S8x8192x768, .bf16⟩
  | .hbm, ⟨16, _⟩ => ⟨S2x4x704x2048, .bf16⟩
  | .hbm, ⟨17, _⟩ => ⟨S2x4x704x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1x704x1024, .bf16⟩
  | .local _ .vmem, ⟨10, _⟩ => ⟨S768x1024, .f32⟩
  | .local _ .vmem, ⟨11, _⟩ => ⟨S768x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S4x2x704x2048 : Shape := ⟨4, ![4, 2, 704, 2048]⟩
abbrev S2x4x704x2048 : Shape := ⟨4, ![2, 4, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S4x2x704x2048, .f32⟩
  | .hbm, ⟨13, _⟩ => ⟨S2x4x704x2048, .f32⟩
  | .hbm, ⟨14, _⟩ => ⟨S2x4x704x2048, .bf16⟩
  | .hbm, ⟨15, _⟩ => ⟨S5632x2048, .f32⟩
  | .hbm, ⟨16, _⟩ => ⟨S4x2x704x2048, .f32⟩
  | .hbm, ⟨17, _⟩ => ⟨S2x4x704x2048, .f32⟩
  | .hbm, ⟨18, _⟩ => ⟨S2x4x704x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S8192x5632 : Shape := ⟨2, ![8192, 5632]⟩
abbrev S2048x5632 : Shape := ⟨2, ![2048, 5632]⟩
abbrev S8192x8x704 : Shape := ⟨3, ![8192, 8, 704]⟩
abbrev S8x8192x704 : Shape := ⟨3, ![8, 8192, 704]⟩
abbrev S_ : Shape := ⟨0, ![]⟩
abbrev S8x8192x768 : Shape := ⟨3, ![8, 8192, 768]⟩
abbrev S5632x2048 : Shape := ⟨2, ![5632, 2048]⟩
abbrev S8x704x2048 : Shape := ⟨3, ![8, 704, 2048]⟩
abbrev S8x768x2048 : Shape := ⟨3, ![8, 768, 2048]⟩
abbrev S8192x2048 : Shape := ⟨2, ![8192, 2048]⟩
abbrev S1x1024x768 : Shape := ⟨3, ![1, 1024, 768]⟩
abbrev S1x768x1024 : Shape := ⟨3, ![1, 768, 1024]⟩
abbrev S1024x1024 : Shape := ⟨2, ![1024, 1024]⟩
abbrev S1024x768 : Shape := ⟨2, ![1024, 768]⟩
abbrev S768x1024 : Shape := ⟨2, ![768, 1024]⟩

abbrev nBuf : Space → Nat
  | .hbm => 29
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S8192x8x704, .f32⟩
  | .hbm, ⟨5, _⟩ => ⟨S8x8192x704, .f32⟩
  | .hbm, ⟨6, _⟩ => ⟨S8x8192x704, .bf16⟩
  | .hbm, ⟨7, _⟩ => ⟨S_, .i32⟩
  | .hbm, ⟨8, _⟩ => ⟨S_, .bf16⟩
  | .hbm, ⟨9, _⟩ => ⟨S8x8192x768, .bf16⟩
  | .hbm, ⟨10, _⟩ => ⟨S8192x8x704, .f32⟩
  | .hbm, ⟨11, _⟩ => ⟨S8x8192x704, .f32⟩
  | .hbm, ⟨12, _⟩ => ⟨S8x8192x704, .bf16⟩
  | .hbm, ⟨13, _⟩ => ⟨S_, .i32⟩
  | .hbm, ⟨14, _⟩ => ⟨S_, .bf16⟩
  | .hbm, ⟨15, _⟩ => ⟨S8x8192x768, .bf16⟩
  | .hbm, ⟨16, _⟩ => ⟨S5632x2048, .f32⟩
  | .hbm, ⟨17, _⟩ => ⟨S8x704x2048, .f32⟩
  | .hbm, ⟨18, _⟩ => ⟨S8x704x2048, .bf16⟩
  | .hbm, ⟨19, _⟩ => ⟨S_, .i32⟩
  | .hbm, ⟨20, _⟩ => ⟨S_, .bf16⟩
  | .hbm, ⟨21, _⟩ => ⟨S8x768x2048, .bf16⟩
  | .hbm, ⟨22, _⟩ => ⟨S5632x2048, .f32⟩
  | .hbm, ⟨23, _⟩ => ⟨S8x704x2048, .f32⟩
  | .hbm, ⟨24, _⟩ => ⟨S8x704x2048, .bf16⟩
  | .hbm, ⟨25, _⟩ => ⟨S_, .i32⟩
  | .hbm, ⟨26, _⟩ => ⟨S_, .bf16⟩
  | .hbm, ⟨27, _⟩ => ⟨S8x768x2048, .bf16⟩
  | .hbm, ⟨28, _⟩ => ⟨S8192x2048, .bf16⟩
  | .local _ .vmem, ⟨0, _⟩ => ⟨S1x1024x768, .bf16⟩
  | .local _ .vmem, ⟨1, _⟩ => ⟨S1x1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call3_v0 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8192x2048 : Shape := ⟨2, ![8192, 2048]⟩
abbrev S8192x6144 : Shape := ⟨2, ![8192, 6144]⟩
abbrev S16 : Shape := ⟨1, ![16]⟩
abbrev S8192x1024 : Shape := ⟨2, ![8192, 1024]⟩
abbrev S8192x4x256 : Shape := ⟨3, ![8192, 4, 256]⟩
abbrev S4x8192x256 : Shape := ⟨3, ![4, 8192, 256]⟩
abbrev S_ : Shape := ⟨0, ![]⟩
abbrev S8192x16 : Shape := ⟨2, ![8192, 16]⟩
abbrev S1x16 : Shape := ⟨2, ![1, 16]⟩
abbrev S16x8192 : Shape := ⟨2, ![16, 8192]⟩
abbrev S4x8192 : Shape := ⟨2, ![4, 8192]⟩
abbrev S8192x8192 : Shape := ⟨2, ![8192, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x1 : Shape := ⟨2, ![4, 1]⟩
abbrev S4x64x128 : Shape := ⟨3, ![4, 64, 128]⟩
abbrev S4x63x1 : Shape := ⟨3, ![4, 63, 1]⟩
abbrev S4x63 : Shape := ⟨2, ![4, 63]⟩
abbrev S4x64 : Shape := ⟨2, ![4, 64]⟩
abbrev S64x8192 : Shape := ⟨2, ![64, 8192]⟩
abbrev S4x64x1 : Shape := ⟨3, ![4, 64, 1]⟩
abbrev S4x64x8192 : Shape := ⟨3, ![4, 64, 8192]⟩
abbrev S4x64x8192x1 : Shape := ⟨4, ![4, 64, 8192, 1]⟩
abbrev S4x1x8192x256 : Shape := ⟨4, ![4, 1, 8192, 256]⟩
abbrev S4x64x8192x256 : Shape := ⟨4, ![4, 64, 8192, 256]⟩
abbrev S4x256x64x256 : Shape := ⟨4, ![4, 256, 64, 256]⟩
abbrev S64x4x256x256 : Shape := ⟨4, ![64, 4, 256, 256]⟩
abbrev S4x256x64 : Shape := ⟨3, ![4, 256, 64]⟩
abbrev S64x4x256 : Shape := ⟨3, ![64, 4, 256]⟩
abbrev S64x4 : Shape := ⟨2, ![64, 4]⟩
abbrev S64x4x1 : Shape := ⟨3, ![64, 4, 1]⟩
abbrev S64x4x1x256 : Shape := ⟨4, ![64, 4, 1, 256]⟩
abbrev S64x4x2x256 : Shape := ⟨4, ![64, 4, 2, 256]⟩
abbrev S8192x4 : Shape := ⟨2, ![8192, 4]⟩
abbrev S8192x128 : Shape := ⟨2, ![8192, 128]⟩
abbrev S128 : Shape := ⟨1, ![128]⟩
abbrev S1x128 : Shape := ⟨2, ![1, 128]⟩
abbrev S16x1 : Shape := ⟨2, ![16, 1]⟩
abbrev S128x2048 : Shape := ⟨2, ![128, 2048]⟩
abbrev S128x1024 : Shape := ⟨2, ![128, 1024]⟩
abbrev S128x128 : Shape := ⟨2, ![128, 128]⟩
abbrev S16x128 : Shape := ⟨2, ![16, 128]⟩
abbrev S1x4x256x256 : Shape := ⟨4, ![1, 4, 256, 256]⟩
abbrev S1x4x2x256 : Shape := ⟨4, ![1, 4, 2, 256]⟩
abbrev S4x256x256 : Shape := ⟨3, ![4, 256, 256]⟩
abbrev S4x1x256 : Shape := ⟨3, ![4, 1, 256]⟩
abbrev S128x1 : Shape := ⟨2, ![128, 1]⟩
abbrev S1x1x1x1 : Shape := ⟨4, ![1, 1, 1, 1]⟩
abbrev S1x1 : Shape := ⟨2, ![1, 1]⟩
abbrev S1 : Shape := ⟨1, ![1]⟩
abbrev S128x256 : Shape := ⟨2, ![128, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S1x256x256 : Shape := ⟨3, ![1, 256, 256]⟩
abbrev S1x1x256 : Shape := ⟨3, ![1, 1, 256]⟩
abbrev S256x1 : Shape := ⟨2, ![256, 1]⟩

abbrev nBuf : Space → Nat
  | .hbm => 144
  | .vmem => 30
  | .smem => 0
  | _ => 0

abbrev hbmTy0_0 (i : Nat) : BufTy := match i % 128 with
  | 0 => ⟨S8192x2048, .f32⟩
  | 1 => ⟨S8192x6144, .f32⟩
  | 2 => ⟨S16, .f32⟩
  | 3 => ⟨S8192x1024, .f32⟩
  | 4 => ⟨S8192x1024, .f32⟩
  | 5 => ⟨S8192x4x256, .f32⟩
  | 6 => ⟨S4x8192x256, .f32⟩
  | 7 => ⟨S8192x1024, .f32⟩
  | 8 => ⟨S8192x4x256, .f32⟩
  | 9 => ⟨S4x8192x256, .f32⟩
  | 10 => ⟨S_, .f32⟩
  | 11 => ⟨S4x8192x256, .f32⟩
  | 12 => ⟨S4x8192x256, .f32⟩
  | 13 => ⟨S8192x1024, .f32⟩
  | 14 => ⟨S8192x4x256, .f32⟩
  | 15 => ⟨S4x8192x256, .f32⟩
  | 16 => ⟨S8192x16, .f32⟩
  | 17 => ⟨S1x16, .f32⟩
  | 18 => ⟨S8192x16, .f32⟩
  | 19 => ⟨S8192x16, .f32⟩
  | 20 => ⟨S16x8192, .f32⟩
  | 21 => ⟨S4x8192, .f32⟩
  | 22 => ⟨S4x8192, .f32⟩
  | 23 => ⟨S4x8192, .f32⟩
  | 24 => ⟨S_, .f32⟩
  | 25 => ⟨S4x8192, .f32⟩
  | 26 => ⟨S4x8192, .f32⟩
  | 27 => ⟨S4x8192, .f32⟩
  | 28 => ⟨S4x8192, .f32⟩
  | 29 => ⟨S4x8192, .i1⟩
  | 30 => ⟨S4x8192, .f32⟩
  | 31 => ⟨S4x8192, .f32⟩
  | 32 => ⟨S4x8192, .f32⟩
  | 33 => ⟨S4x8192, .f32⟩
  | 34 => ⟨S4x8192, .f32⟩
  | 35 => ⟨S4x8192, .f32⟩
  | 36 => ⟨S4x8192, .f32⟩
  | 37 => ⟨S4x8192, .f32⟩
  | 38 => ⟨S4x8192, .f32⟩
  | 39 => ⟨S_, .f32⟩
  | 40 => ⟨S_, .f32⟩
  | 41 => ⟨S4x8192, .f32⟩
  | 42 => ⟨S8192x8192, .i32⟩
  | 43 => ⟨S8192x8192, .i32⟩
  | 44 => ⟨S8192x8192, .i1⟩
  | 45 => ⟨S4x8192x1, .f32⟩
  | 46 => ⟨S4x1x8192, .f32⟩
  | 47 => ⟨S4x8192x8192, .f32⟩
  | 48 => ⟨S4x8192x8192, .f32⟩
  | 49 => ⟨S4x8192x8192, .f32⟩
  | 50 => ⟨S4x1x8192, .f32⟩
  | 51 => ⟨S4x8192x8192, .f32⟩
  | 52 => ⟨S4x8192x8192, .f32⟩
  | 53 => ⟨S_, .f32⟩
  | 54 => ⟨S_, .f32⟩
  | 55 => ⟨S4x8192x8192, .i1⟩
  | 56 => ⟨S4x8192x8192, .f32⟩
  | 57 => ⟨S4x8192x8192, .f32⟩
  | 58 => ⟨S_, .f32⟩
  | 59 => ⟨S4x8192, .f32⟩
  | 60 => ⟨S4x8192, .f32⟩
  | 61 => ⟨S4x8192x8192, .f32⟩
  | 62 => ⟨S4x8192x1, .f32⟩
  | 63 => ⟨S4x8192x8192, .f32⟩
  | 64 => ⟨S4x8192x8192, .f32⟩
  | 65 => ⟨S4x8192x8192, .f32⟩
  | 66 => ⟨S4x8192x8192, .f32⟩
  | 67 => ⟨S_, .f32⟩
  | 68 => ⟨S4x8192, .f32⟩
  | 69 => ⟨S4x8192x256, .f32⟩
  | 70 => ⟨S4x8192, .f32⟩
  | 71 => ⟨S4x8192, .f32⟩
  | 72 => ⟨S4x8192, .f32⟩
  | 73 => ⟨S4x8192, .f32⟩
  | 74 => ⟨S4x8192x1, .f32⟩
  | 75 => ⟨S4x8192x256, .f32⟩
  | 76 => ⟨S4x8192x256, .f32⟩
  | 77 => ⟨S_, .f32⟩
  | 78 => ⟨S4x1, .f32⟩
  | 79 => ⟨S4x64x128, .f32⟩
  | 80 => ⟨S4x63x1, .f32⟩
  | 81 => ⟨S4x63, .f32⟩
  | 82 => ⟨S4x64, .f32⟩
  | 83 => ⟨S_, .f32⟩
  | 84 => ⟨S4x1, .f32⟩
  | 85 => ⟨S4x64x128, .f32⟩
  | 86 => ⟨S4x63x1, .f32⟩
  | 87 => ⟨S4x63, .f32⟩
  | 88 => ⟨S4x64, .f32⟩
  | 89 => ⟨S64x8192, .i32⟩
  | 90 => ⟨S64x8192, .i32⟩
  | 91 => ⟨S_, .i32⟩
  | 92 => ⟨S64x8192, .i32⟩
  | 93 => ⟨S64x8192, .i32⟩
  | 94 => ⟨S64x8192, .i1⟩
  | 95 => ⟨S4x64x1, .f32⟩
  | 96 => ⟨S4x1x8192, .f32⟩
  | 97 => ⟨S4x64x8192, .f32⟩
  | 98 => ⟨S4x64x8192, .f32⟩
  | 99 => ⟨S4x64x8192, .f32⟩
  | 100 => ⟨S4x1x8192, .f32⟩
  | 101 => ⟨S4x64x8192, .f32⟩
  | 102 => ⟨S4x64x8192, .f32⟩
  | 103 => ⟨S4x64x1, .f32⟩
  | 104 => ⟨S4x64x8192, .f32⟩
  | 105 => ⟨S4x64x8192, .f32⟩
  | 106 => ⟨S4x64x8192, .f32⟩
  | 107 => ⟨S_, .f32⟩
  | 108 => ⟨S_, .f32⟩
  | 109 => ⟨S4x64x8192, .i1⟩
  | 110 => ⟨S4x64x8192, .f32⟩
  | 111 => ⟨S4x64x8192, .f32⟩
  | 112 => ⟨S4x64x8192x1, .f32⟩
  | 113 => ⟨S4x1x8192x256, .f32⟩
  | 114 => ⟨S4x64x8192x256, .f32⟩
  | 115 => ⟨S4x64x8192x256, .f32⟩
  | 116 => ⟨S4x64x8192x256, .f32⟩
  | 117 => ⟨S4x256x64x256, .f32⟩
  | 118 => ⟨S64x4x256x256, .f32⟩
  | 119 => ⟨S4x256x64, .f32⟩
  | 120 => ⟨S64x4x256, .f32⟩
  | 121 => ⟨S64x4, .f32⟩
  | 122 => ⟨S64x4x1, .f32⟩
  | 123 => ⟨S64x4x256, .f32⟩
  | 124 => ⟨S64x4x1x256, .f32⟩
  | 125 => ⟨S64x4x1x256, .f32⟩
  | 126 => ⟨S64x4x2x256, .f32⟩
  | 127 => ⟨S8192x4, .f32⟩
  | _ => ⟨S8192x2048, .f32⟩

abbrev hbmTy0_1 (i : Nat) : BufTy := match i % 128 with
  | 0 => ⟨S_, .i32⟩
  | 1 => ⟨S_, .f32⟩
  | 2 => ⟨S8192x128, .f32⟩
  | 3 => ⟨S_, .i32⟩
  | 4 => ⟨S_, .f32⟩
  | 5 => ⟨S128, .f32⟩
  | 6 => ⟨S1x128, .f32⟩
  | 7 => ⟨S16x1, .f32⟩
  | 8 => ⟨S8192x16, .f32⟩
  | 9 => ⟨S16x8192, .f32⟩
  | 10 => ⟨S8192x4x256, .f32⟩
  | 11 => ⟨S8192x1024, .f32⟩
  | 12 => ⟨S8192x2048, .f32⟩
  | 13 => ⟨S8192x1024, .f32⟩
  | 14 => ⟨S8192x128, .f32⟩
  | 15 => ⟨S16x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S16x128, .f32⟩
  | .local _ .vmem, ⟨7, _⟩ => ⟨S16x128, .f32⟩
  | .local _ .vmem, ⟨8, _⟩ => ⟨S1x128, .f32⟩
  | .local _ .vmem, ⟨9, _⟩ => ⟨S16x1, .f32⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | .local _ .vmem, ⟨14, _⟩ => ⟨S1x4x256x256, .f32⟩
  | .local _ .vmem, ⟨15, _⟩ => ⟨S1x4x256x256, .f32⟩
  | .local _ .vmem, ⟨16, _⟩ => ⟨S1x4x2x256, .f32⟩
  | .local _ .vmem, ⟨17, _⟩ => ⟨S1x4x2x256, .f32⟩
  | .local _ .vmem, ⟨18, _⟩ => ⟨S128x1024, .f32⟩
  | .local _ .vmem, ⟨19, _⟩ => ⟨S128x1024, .f32⟩
  | .local _ .vmem, ⟨20, _⟩ => ⟨S128x2048, .f32⟩
  | .local _ .vmem, ⟨21, _⟩ => ⟨S128x2048, .f32⟩
  | .local _ .vmem, ⟨22, _⟩ => ⟨S128x1024, .f32⟩
  | .local _ .vmem, ⟨23, _⟩ => ⟨S128x1024, .f32⟩
  | .local _ .vmem, ⟨24, _⟩ => ⟨S128x128, .f32⟩
  | .local _ .vmem, ⟨25, _⟩ => ⟨S128x128, .f32⟩
  | .local _ .vmem, ⟨26, _⟩ => ⟨S16x128, .f32⟩
  | .local _ .vmem, ⟨27, _⟩ => ⟨S16x128, .f32⟩
  | .local _ .vmem, ⟨28, _⟩ => ⟨S4x256x256, .f32⟩
  | .local _ .vmem, ⟨29, _⟩ => ⟨S4x1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_call1_call0_cst : Ref sig .tc := ⟨.hbm, 39, rfl⟩
abbrev main_call1_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_3 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_5 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_6 : Ref sig .tc := ⟨.hbm, 128, rfl⟩
abbrev main_call4_v0 : Ref sig .tc := ⟨.hbm, 129, rfl⟩
abbrev main_v93 : Ref sig .tc := ⟨.hbm, 130, rfl⟩
abbrev main_c_7 : Ref sig .tc := ⟨.hbm, 131, rfl⟩
abbrev main_call5_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101_0 : Ref sig .tc := ⟨.hbm, 140, rfl⟩
abbrev main_v101_1 : Ref sig .tc := ⟨.hbm, 141, rfl⟩
abbrev main_v101_2 : Ref sig .tc := ⟨.hbm, 142, rfl⟩
abbrev main_v101_3 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c44_i32 : BitVec 32 := 44#32
  let c0_i32 : BitVec 32 := 0#32
  ![v0.toNat, c44_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S8192x2048 : Shape := ⟨2, ![8192, 2048]⟩
abbrev S8192x6144 : Shape := ⟨2, ![8192, 6144]⟩
abbrev S16 : Shape := ⟨1, ![16]⟩
abbrev S8192x1024 : Shape := ⟨2, ![8192, 1024]⟩
abbrev S8192x4x256 : Shape := ⟨3, ![8192, 4, 256]⟩
abbrev S4x8192x256 : Shape := ⟨3, ![4, 8192, 256]⟩
abbrev S_ : Shape := ⟨0, ![]⟩
abbrev S8192x16 : Shape := ⟨2, ![8192, 16]⟩
abbrev S1x16 : Shape := ⟨2, ![1, 16]⟩
abbrev S16x8192 : Shape := ⟨2, ![16, 8192]⟩
abbrev S4x8192 : Shape := ⟨2, ![4, 8192]⟩
abbrev S8192x8192 : Shape := ⟨2, ![8192, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x256x8192 : Shape := ⟨3, ![4, 256, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S16, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x4x256, .f32⟩
  | .hbm, ⟨7, _⟩ => ⟨S4x8192x256, .f32⟩
  | .hbm, ⟨8, _⟩ => ⟨S8192x1024, .f32⟩
  | .hbm, ⟨9, _⟩ => ⟨S8192x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S8192x16, .f32⟩
  | .hbm, ⟨15, _⟩ => ⟨S1x16, .f32⟩
  | .hbm, ⟨16, _⟩ => ⟨S8192x16, .f32⟩
  | .hbm, ⟨17, _⟩ => ⟨S8192x16, .f32⟩
  | .hbm, ⟨18, _⟩ => ⟨S16x8192, .f32⟩
  | .hbm, ⟨19, _⟩ => ⟨S4x8192, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192, .f32⟩
  | .hbm, ⟨26, _⟩ => ⟨S4x8192, .f32⟩
  | .hbm, ⟨27, _⟩ => ⟨S4x8192, .i1⟩
  | .hbm, ⟨28, _⟩ => ⟨S4x8192, .f32⟩
  | .hbm, ⟨29, _⟩ => ⟨S4x8192, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S_, .f32⟩
  | .hbm, ⟨38, _⟩ => ⟨S_, .f32⟩
  | .hbm, ⟨39, _⟩ => ⟨S4x8192, .f32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S4x8192x1, .f32⟩
  | .hbm, ⟨44, _⟩ => ⟨S4x1x8192, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S4x1x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S_, .f32⟩
  | .hbm, ⟨53, _⟩ => ⟨S4x8192x8192, .i1⟩
  | .hbm, ⟨54, _⟩ => ⟨S4x8192x8192, .f32⟩
  | .hbm, ⟨55, _⟩ => ⟨S4x8192x8192, .f32⟩
  | .hbm, ⟨56, _⟩ => ⟨S_, .f32⟩
  | .hbm, ⟨57, _⟩ => ⟨S4x8192, .f32⟩
  | .hbm, ⟨58, _⟩ => ⟨S4x8192, .f32⟩
  | .hbm, ⟨59, _⟩ => ⟨S4x8192x8192, .f32⟩
  | .hbm, ⟨60, _⟩ => ⟨S4x8192x1, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S8192x4x256, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192, .f32⟩
  | .hbm, ⟨71, _⟩ => ⟨S4x8192, .f32⟩
  | .hbm, ⟨72, _⟩ => ⟨S4x8192, .f32⟩
  | .hbm, ⟨73, _⟩ => ⟨S4x8192, .f32⟩
  | .hbm, ⟨74, _⟩ => ⟨S4x8192x1, .f32⟩
  | .hbm, ⟨75, _⟩ => ⟨S4x8192x256, .f32⟩
  | .hbm, ⟨76, _⟩ => ⟨S4x8192x256, .f32⟩
  | .hbm, ⟨77, _⟩ => ⟨S8192x4x256, .f32⟩
  | .hbm, ⟨78, _⟩ => ⟨S8192x1024, .f32⟩
  | .hbm, ⟨79, _⟩ => ⟨S8192x4x256, .f32⟩
  | .hbm, ⟨80, _⟩ => ⟨S4x8192x256, .f32⟩
  | .hbm, ⟨81, _⟩ => ⟨S4x8192x256, .f32⟩
  | .hbm, ⟨82, _⟩ => ⟨S4x8192x256, .f32⟩
  | .hbm, ⟨83, _⟩ => ⟨S4x256x8192, .f32⟩
  | .hbm, ⟨84, _⟩ => ⟨S4x8192x256, .f32⟩
  | .hbm, ⟨85, _⟩ => ⟨S8192x4x256, .f32⟩
  | .hbm, ⟨86, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_call1_call0_cst : Ref sig .tc := ⟨.hbm, 37, rfl⟩
abbrev main_call1_call0_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S8x8192x768 : Shape := ⟨3, ![8, 8192, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 19
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S5632x2048, .f32⟩
  | .hbm, ⟨5, _⟩ => ⟨S8x704x2048, .f32⟩
  | .hbm, ⟨6, _⟩ => ⟨S8x704x2048, .bf16⟩
  | .hbm, ⟨7, _⟩ => ⟨S_, .i32⟩
  | .hbm, ⟨8, _⟩ => ⟨S_, .bf16⟩
  | .hbm, ⟨9, _⟩ => ⟨S8x768x2048, .bf16⟩
  | .hbm, ⟨10, _⟩ => ⟨S5632x2048, .f32⟩
  | .hbm, ⟨11, _⟩ => ⟨S8x704x2048, .f32⟩
  | .hbm, ⟨12, _⟩ => ⟨S8x704x2048, .bf16⟩
  | .hbm, ⟨13, _⟩ => ⟨S_, .i32⟩
  | .hbm, ⟨14, _⟩ => ⟨S_, .bf16⟩
  | .hbm, ⟨15, _⟩ => ⟨S8x768x2048, .bf16⟩
  | .hbm, ⟨16, _⟩ => ⟨S8x8192x768, .bf16⟩
  | .hbm, ⟨17, _⟩ => ⟨S8x8192x768, .bf16⟩
  | .hbm, ⟨18, _⟩ => ⟨S8x8192x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S_ : Shape := ⟨0, ![]⟩
abbrev S8x8192x768 : Shape := ⟨3, ![8, 8192, 768]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x8x704, .f32⟩
  | .hbm, ⟨6, _⟩ => ⟨S8x8192x704, .f32⟩
  | .hbm, ⟨7, _⟩ => ⟨S_, .i32⟩
  | .hbm, ⟨8, _⟩ => ⟨S_, .f32⟩
  | .hbm, ⟨9, _⟩ => ⟨S8x8192x768, .f32⟩
  | .hbm, ⟨10, _⟩ => ⟨S8x8192x768, .bf16⟩
  | .hbm, ⟨11, _⟩ => ⟨S8192x8x704, .f32⟩
  | .hbm, ⟨12, _⟩ => ⟨S8x8192x704, .f32⟩
  | .hbm, ⟨13, _⟩ => ⟨S_, .i32⟩
  | .hbm, ⟨14, _⟩ => ⟨S_, .f32⟩
  | .hbm, ⟨15, _⟩ => ⟨S8x8192x768, .f32⟩
  | .hbm, ⟨16, _⟩ => ⟨S8x8192x768, .bf16⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x8x704, .f32⟩
  | .hbm, ⟨28, _⟩ => ⟨S8x8192x704, .f32⟩
  | .hbm, ⟨29, _⟩ => ⟨S_, .i32⟩
  | .hbm, ⟨30, _⟩ => ⟨S_, .f32⟩
  | .hbm, ⟨31, _⟩ => ⟨S8x8192x768, .f32⟩
  | .hbm, ⟨32, _⟩ => ⟨S8x8192x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_call2_v0 : Ref sig .tc := ⟨.hbm, 17, rfl⟩
abbrev main_call2_v1 : Ref sig .tc := ⟨.hbm, 18, rfl⟩
abbrev main_call2_cst : Ref sig .tc := ⟨.hbm, 19, rfl⟩
abbrev main_call2_v2 : Ref sig .tc := ⟨.hbm, 20, rfl⟩
abbrev main_call2_v3 : Ref sig .tc := ⟨.hbm, 21, rfl⟩
abbrev main_call2_cst_0 : Ref sig .tc := ⟨.hbm, 22, rfl⟩
abbrev main_call2_v4 : Ref sig .tc := ⟨.hbm, 23, rfl⟩
abbrev main_call2_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_call3_v0 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x8x704 : Shape := ⟨3, ![8192, 8, 704]⟩
abbrev S8x8192x704 : Shape := ⟨3, ![8, 8192, 704]⟩
abbrev S_ : Shape := ⟨0, ![]⟩
abbrev S8x8192x768 : Shape := ⟨3, ![8, 8192, 768]⟩
abbrev S8x704x2048 : Shape := ⟨3, ![8, 704, 2048]⟩
abbrev S8x768x2048 : Shape := ⟨3, ![8, 768, 2048]⟩
abbrev S8192x2048 : Shape := ⟨2, ![8192, 2048]⟩
abbrev S1x1024x768 : Shape := ⟨3, ![1, 1024, 768]⟩
abbrev S1x768x2048 : Shape := ⟨3, ![1, 768, 2048]⟩
abbrev S1024x2048 : Shape := ⟨2, ![1024, 2048]⟩
abbrev S1024x768 : Shape := ⟨2, ![1024, 768]⟩
abbrev S768x2048 : Shape := ⟨2, ![768, 2048]⟩

abbrev nBuf : Space → Nat
  | .hbm => 14
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x8x704, .f32⟩
  | .hbm, ⟨3, _⟩ => ⟨S8x8192x704, .f32⟩
  | .hbm, ⟨4, _⟩ => ⟨S8x8192x704, .bf16⟩
  | .hbm, ⟨5, _⟩ => ⟨S_, .i32⟩
  | .hbm, ⟨6, _⟩ => ⟨S_, .bf16⟩
  | .hbm, ⟨7, _⟩ => ⟨S8x8192x768, .bf16⟩
  | .hbm, ⟨8, _⟩ => ⟨S8x704x2048, .f32⟩
  | .hbm, ⟨9, _⟩ => ⟨S8x704x2048, .bf16⟩
  | .hbm, ⟨10, _⟩ => ⟨S_, .i32⟩
  | .hbm, ⟨11, _⟩ => ⟨S_, .bf16⟩
  | .hbm, ⟨12, _⟩ => ⟨S8x768x2048, .bf16⟩
  | .hbm, ⟨13, _⟩ => ⟨S8192x2048, .bf16⟩
  | .local _ .vmem, ⟨0, _⟩ => ⟨S1x1024x768, .bf16⟩
  | .local _ .vmem, ⟨1, _⟩ => ⟨S1x1024x768, .bf16⟩
  | .local _ .vmem, ⟨2, _⟩ => ⟨S1x768x2048, .bf16⟩
  | .local _ .vmem, ⟨3, _⟩ => ⟨S1x768x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S8192x2048 : Shape := ⟨2, ![8192, 2048]⟩
abbrev S8192x5648 : Shape := ⟨2, ![8192, 5648]⟩
abbrev S_ : Shape := ⟨0, ![]⟩
abbrev S8192x496 : Shape := ⟨2, ![8192, 496]⟩
abbrev S8192x1024 : Shape := ⟨2, ![8192, 1024]⟩
abbrev S8192x256 : Shape := ⟨2, ![8192, 256]⟩
abbrev S8192x16 : Shape := ⟨2, ![8192, 16]⟩
abbrev S8192x6144 : Shape := ⟨2, ![8192, 6144]⟩
abbrev S2048x6144 : Shape := ⟨2, ![2048, 6144]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5648, .f32⟩
  | .hbm, ⟨2, _⟩ => ⟨S8192x2048, .bf16⟩
  | .hbm, ⟨3, _⟩ => ⟨S8192x5648, .bf16⟩
  | .hbm, ⟨4, _⟩ => ⟨S_, .bf16⟩
  | .hbm, ⟨5, _⟩ => ⟨S8192x496, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x256, .bf16⟩
  | .hbm, ⟨12, _⟩ => ⟨S8192x256, .bf16⟩
  | .hbm, ⟨13, _⟩ => ⟨S8192x16, .bf16⟩
  | .hbm, ⟨14, _⟩ => ⟨S8192x6144, .bf16⟩
  | .hbm, ⟨15, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x5648 : Shape := ⟨2, ![8192, 5648]⟩
abbrev S_ : Shape := ⟨0, ![]⟩
abbrev S2048x5648 : Shape := ⟨2, ![2048, 5648]⟩
abbrev S5648x2048 : Shape := ⟨2, ![5648, 2048]⟩
abbrev S2048x1024 : Shape := ⟨2, ![2048, 1024]⟩
abbrev S2048x256 : Shape := ⟨2, ![2048, 256]⟩
abbrev S2048x16 : Shape := ⟨2, ![2048, 16]⟩
abbrev S2048x496 : Shape := ⟨2, ![2048, 496]⟩
abbrev S2048x6144 : Shape := ⟨2, ![2048, 6144]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5648, .f32⟩
  | .hbm, ⟨2, _⟩ => ⟨S_, .f32⟩
  | .hbm, ⟨3, _⟩ => ⟨S2048x5648, .f32⟩
  | .hbm, ⟨4, _⟩ => ⟨S8192x5648, .f32⟩
  | .hbm, ⟨5, _⟩ => ⟨S5648x2048, .f32⟩
  | .hbm, ⟨6, _⟩ => ⟨S2048x5648, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x16, .f32⟩
  | .hbm, ⟨15, _⟩ => ⟨S_, .f32⟩
  | .hbm, ⟨16, _⟩ => ⟨S2048x496, .f32⟩
  | .hbm, ⟨17, _⟩ => ⟨S2048x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel10.lean ====
abbrev S8192x5648 : Shape := ⟨2, ![8192, 5648]⟩
abbrev S2048x5648 : Shape := ⟨2, ![2048, 5648]⟩
abbrev S_ : Shape := ⟨0, ![]⟩
abbrev S8192x496 : Shape := ⟨2, ![8192, 496]⟩
abbrev S8192x1024 : Shape := ⟨2, ![8192, 1024]⟩
abbrev S8192x256 : Shape := ⟨2, ![8192, 256]⟩
abbrev S8192x16 : Shape := ⟨2, ![8192, 16]⟩
abbrev S8192x6144 : Shape := ⟨2, ![8192, 6144]⟩
abbrev S2048x496 : Shape := ⟨2, ![2048, 496]⟩
abbrev S2048x1024 : Shape := ⟨2, ![2048, 1024]⟩
abbrev S2048x256 : Shape := ⟨2, ![2048, 256]⟩
abbrev S2048x16 : Shape := ⟨2, ![2048, 16]⟩
abbrev S2048x6144 : Shape := ⟨2, ![2048, 6144]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 27
  | .vmem => 7
  | .smem => 0
  | _ => 0

abbrev bufTy : (tb : Table) → Fin (tcTables nBuf tb) → BufTy
  | .hbm, ⟨0, _⟩ => ⟨S8192x5648, .f32⟩
  | .hbm, ⟨1, _⟩ => ⟨S2048x5648, .f32⟩
  | .hbm, ⟨2, _⟩ => ⟨S8192x5648, .bf16⟩
  | .hbm, ⟨3, _⟩ => ⟨S_, .bf16⟩
  | .hbm, ⟨4, _⟩ => ⟨S8192x496, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x256, .bf16⟩
  | .hbm, ⟨11, _⟩ => ⟨S8192x256, .bf16⟩
  | .hbm, ⟨12, _⟩ => ⟨S8192x16, .bf16⟩
  | .hbm, ⟨13, _⟩ => ⟨S8192x6144, .bf16⟩
  | .hbm, ⟨14, _⟩ => ⟨S2048x5648, .bf16⟩
  | .hbm, ⟨15, _⟩ => ⟨S_, .bf16⟩
  | .hbm, ⟨16, _⟩ => ⟨S2048x496, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x256, .bf16⟩
  | .hbm, ⟨23, _⟩ => ⟨S2048x256, .bf16⟩
  | .hbm, ⟨24, _⟩ => ⟨S2048x16, .bf16⟩
  | .hbm, ⟨25, _⟩ => ⟨S2048x6144, .bf16⟩
  | .hbm, ⟨26, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x5648 : Shape := ⟨2, ![8192, 5648]⟩
abbrev S2048x5648 : Shape := ⟨2, ![2048, 5648]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5648, .f32⟩
  | .hbm, ⟨1, _⟩ => ⟨S2048x5648, .f32⟩
  | .hbm, ⟨2, _⟩ => ⟨S_, .f32⟩
  | .hbm, ⟨3, _⟩ => ⟨S8192x2048, .f32⟩
  | .hbm, ⟨4, _⟩ => ⟨S8192x5648, .f32⟩
  | .hbm, ⟨5, _⟩ => ⟨S8192x2048, .f32⟩
  | .hbm, ⟨6, _⟩ => ⟨S8192x2048, .bf16⟩
  | _, _ => ⟨S8192x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x2048 : Shape := ⟨2, ![8192, 2048]⟩
abbrev S2x4x256x2048 : Shape := ⟨4, ![2, 4, 256, 2048]⟩
abbrev S1024x1024 : Shape := ⟨2, ![1024, 1024]⟩
abbrev S2x2x256x1024 : Shape := ⟨4, ![2, 2, 256, 1024]⟩
abbrev S256x1024 : Shape := ⟨2, ![256, 1024]⟩
abbrev S1x1x256x1024 : Shape := ⟨4, ![1, 1, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2x4x256x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x2x256x1024, .bf16⟩
  | .local _ .vmem, ⟨5, _⟩ => ⟨S2x2x256x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S4x2x256x2048, .f32⟩
  | .hbm, ⟨8, _⟩ => ⟨S2x4x256x2048, .f32⟩
  | .hbm, ⟨9, _⟩ => ⟨S2x4x256x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x5648 : Shape := ⟨2, ![2048, 5648]⟩
abbrev S_ : Shape := ⟨0, ![]⟩
abbrev S2048x496 : Shape := ⟨2, ![2048, 496]⟩
abbrev S2048x1024 : Shape := ⟨2, ![2048, 1024]⟩
abbrev S2048x256 : Shape := ⟨2, ![2048, 256]⟩
abbrev S2048x16 : Shape := ⟨2, ![2048, 16]⟩
abbrev S2048x6144 : Shape := ⟨2, ![2048, 6144]⟩
abbrev S8192x6144 : Shape := ⟨2, ![8192, 6144]⟩
abbrev S1024x2048 : Shape := ⟨2, ![1024, 2048]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5648, .f32⟩
  | .hbm, ⟨2, _⟩ => ⟨S8192x2048, .bf16⟩
  | .hbm, ⟨3, _⟩ => ⟨S2048x5648, .bf16⟩
  | .hbm, ⟨4, _⟩ => ⟨S_, .bf16⟩
  | .hbm, ⟨5, _⟩ => ⟨S2048x496, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x256, .bf16⟩
  | .hbm, ⟨12, _⟩ => ⟨S2048x256, .bf16⟩
  | .hbm, ⟨13, _⟩ => ⟨S2048x16, .bf16⟩
  | .hbm, ⟨14, _⟩ => ⟨S2048x6144, .bf16⟩
  | .hbm, ⟨15, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x5648 : Shape := ⟨2, ![2048, 5648]⟩
abbrev S8192x5648 : Shape := ⟨2, ![8192, 5648]⟩
abbrev S8192x1024 : Shape := ⟨2, ![8192, 1024]⟩
abbrev S8192x256 : Shape := ⟨2, ![8192, 256]⟩
abbrev S8192x16 : Shape := ⟨2, ![8192, 16]⟩
abbrev S_ : Shape := ⟨0, ![]⟩
abbrev S8192x496 : Shape := ⟨2, ![8192, 496]⟩
abbrev S8192x6144 : Shape := ⟨2, ![8192, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5648, .f32⟩
  | .hbm, ⟨2, _⟩ => ⟨S8192x5648, .f32⟩
  | .hbm, ⟨3, _⟩ => ⟨S8192x1024, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x16, .f32⟩
  | .hbm, ⟨11, _⟩ => ⟨S_, .f32⟩
  | .hbm, ⟨12, _⟩ => ⟨S8192x496, .f32⟩
  | .hbm, ⟨13, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x1024 : Shape := ⟨2, ![8192, 1024]⟩
abbrev S8192x6144 : Shape := ⟨2, ![8192, 6144]⟩
abbrev S1024 : Shape := ⟨1, ![1024]⟩
abbrev S8192x2048 : Shape := ⟨2, ![8192, 2048]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024, .f32⟩
  | .hbm, ⟨4, _⟩ => ⟨S8192x2048, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8192x1024 : Shape := ⟨2, ![8192, 1024]⟩
abbrev S8192x6144 : Shape := ⟨2, ![8192, 6144]⟩
abbrev S1024 : Shape := ⟨1, ![1024]⟩
abbrev S8192x2048 : Shape := ⟨2, ![8192, 2048]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S4x256 : Shape := ⟨2, ![4, 256]⟩
abbrev S1x4x256 : Shape := ⟨3, ![1, 4, 256]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x4x256, .f32⟩
  | .hbm, ⟨8, _⟩ => ⟨S8192x4x256, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S8192x4x256, .f32⟩
  | .hbm, ⟨24, _⟩ => ⟨S8192x4x256, .f32⟩
  | .hbm, ⟨25, _⟩ => ⟨S4x256, .f32⟩
  | .hbm, ⟨26, _⟩ => ⟨S1x4x256, .f32⟩
  | .hbm, ⟨27, _⟩ => ⟨S8192x4x256, .f32⟩
  | .hbm, ⟨28, _⟩ => ⟨S8192x4x256, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x4x256, .f32⟩
  | .hbm, ⟨47, _⟩ => ⟨S8192x1024, .f32⟩
  | .hbm, ⟨48, _⟩ => ⟨S8192x4x256, .f32⟩
  | .hbm, ⟨49, _⟩ => ⟨S_, .f32⟩
  | .hbm, ⟨50, _⟩ => ⟨S4x256, .f32⟩
  | .hbm, ⟨51, _⟩ => ⟨S1x4x256, .f32⟩
  | .hbm, ⟨52, _⟩ => ⟨S8192x4x256, .f32⟩
  | .hbm, ⟨53, _⟩ => ⟨S8192x4x256, .f32⟩
  | .hbm, ⟨54, _⟩ => ⟨S_, .f32⟩
  | .hbm, ⟨55, _⟩ => ⟨S4x256, .f32⟩
  | .hbm, ⟨56, _⟩ => ⟨S1024, .f32⟩
  | .hbm, ⟨57, _⟩ => ⟨S8192x4x256, .f32⟩
  | .hbm, ⟨58, _⟩ => ⟨S_, .f32⟩
  | .hbm, ⟨59, _⟩ => ⟨S8192x4, .f32⟩
  | .hbm, ⟨60, _⟩ => ⟨S8192x4x1, .f32⟩
  | .hbm, ⟨61, _⟩ => ⟨S8192x4x256, .f32⟩
  | .hbm, ⟨62, _⟩ => ⟨S8192x4x256, .f32⟩
  | .hbm, ⟨63, _⟩ => ⟨S8192x4x1, .f32⟩
  | .hbm, ⟨64, _⟩ => ⟨S_, .f32⟩
  | .hbm, ⟨65, _⟩ => ⟨S8192x4x1, .f32⟩
  | .hbm, ⟨66, _⟩ => ⟨S8192x4x1, .f32⟩
  | .hbm, ⟨67, _⟩ => ⟨S_, .f32⟩
  | .hbm, ⟨68, _⟩ => ⟨S8192x4, .f32⟩
  | .hbm, ⟨69, _⟩ => ⟨S8192x4x256, .f32⟩
  | .hbm, ⟨70, _⟩ => ⟨S8192x4x256, .f32⟩
  | .hbm, ⟨71, _⟩ => ⟨S8192x4x256, .f32⟩
  | .hbm, ⟨72, _⟩ => ⟨S8192x4x256, .f32⟩
  | .hbm, ⟨73, _⟩ => ⟨S8192x4x256, .f32⟩
  | .hbm, ⟨74, _⟩ => ⟨S8192x1024, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel16.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .bf16⟩
  | .hbm, ⟨4, _⟩ => ⟨S1x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference16Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel17.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .bf16⟩
  | .hbm, ⟨4, _⟩ => ⟨S1x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel18.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel19.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel20.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel21.lean ====
abbrev S8192x1024 : Shape := ⟨2, ![8192, 1024]⟩
abbrev S8192x6144 : Shape := ⟨2, ![8192, 6144]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S8192x1024 : Shape := ⟨2, ![8192, 1024]⟩
abbrev S8192x6144 : Shape := ⟨2, ![8192, 6144]⟩
abbrev S1024 : Shape := ⟨1, ![1024]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S4x256 : Shape := ⟨2, ![4, 256]⟩
abbrev S1x4x256 : Shape := ⟨3, ![1, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024, .f32⟩
  | .hbm, ⟨4, _⟩ => ⟨S8192x1024, .f32⟩
  | .hbm, ⟨5, _⟩ => ⟨S8192x4x256, .f32⟩
  | .hbm, ⟨6, _⟩ => ⟨S8192x4x256, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S8192x4x1, .f32⟩
  | .hbm, ⟨17, _⟩ => ⟨S8192x4x256, .f32⟩
  | .hbm, ⟨18, _⟩ => ⟨S8192x4x256, .f32⟩
  | .hbm, ⟨19, _⟩ => ⟨S4x256, .f32⟩
  | .hbm, ⟨20, _⟩ => ⟨S1x4x256, .f32⟩
  | .hbm, ⟨21, _⟩ => ⟨S8192x4x256, .f32⟩
  | .hbm, ⟨22, _⟩ => ⟨S8192x4x256, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Shards.lean ====
/-
The layout in which the eight feed-forward shards travel.

A hidden activation of 8192 tokens by 5632 units is held as eight shards of 704 units, each padded with 64 zero units to
768; a weight with the 5632 units along its rows is cut and padded the same way. This module names the two layouts as
functions of an index and reads the host operations that build them.
-/
module

public import Idealize.ShloMosaic.Lib.Pipeline.Value
public import Idealize.ShloMosaic.Lib.KernelVsHost
public import Idealize.ShloMosaic.Lib.ValueIdx
public import Idealize.ShloMosaic.PureOps.Ideal.Laws
public import Idealize.ShloMosaic.Lib.Pipeline.ValueKit.Acc

@[expose] public section

set_option maxRecDepth 16384

noncomputable section

namespace Cert.Shards

open Idealize.ShloMosaic Idealize.ShloMosaic.ValueIdx
open scoped BigOperators

/-- Tokens by hidden units. -/
abbrev Hid : Shape := ⟨2, ![8192, 5632]⟩
/-- Hidden units by model width. -/
abbrev Wgt : Shape := ⟨2, ![5632, 2048]⟩
/-- Shard, token, unit within the padded shard. -/
abbrev HidSh : Shape := ⟨3, ![8, 8192, 768]⟩
/-- Shard, unit within the padded shard, model width. -/
abbrev WgtSh : Shape := ⟨3, ![8, 768, 2048]⟩

/-- Unit `f` of shard `j` among all hidden units. -/
abbrev unit (j : Fin 8) (f : Fin 768) (h : f.val < 704) : Fin 5632 := ⟨704 * j.val + f.val, by have := j.isLt; omega⟩

/-- An activation cut into shards along its units, zero on the padding. -/
def cols (x : Hid.Idx → EReal) (i : HidSh.Idx) : EReal :=
  if h : (i 2).val < 704 then x (ix2 (i 1) (unit (i 0) (i 2) h)) else 0

/-- A weight cut into shards along its rows, zero on the padding. -/
def rows (x : Wgt.Idx → EReal) (i : WgtSh.Idx) : EReal :=
  if h : (i 1).val < 704 then x (ix2 (unit (i 0) (i 1) h) (i 2)) else 0

/-- A weight transposed: hidden units by model width. -/
abbrev flip (w : (⟨2, ![2048, 5632]⟩ : Shape).Idx → EReal) (i : Wgt.Idx) : EReal := w (ix2 (i 1) (i 0))

/-- The host's transposition of a weight. -/
theorem flip_host (w : (⟨2, ![2048, 5632]⟩ : Shape).Idx → EReal) (h : (⟨2, ![2048, 5632]⟩ : Shape).Transposes [1, 0] Wgt) :
    transpose Wgt [1, 0] w h = flip w :=
  funext fun i => transpose_apply _ _ _ i _ fun b => by fin_cases b <;> rfl

/-- On a padding unit an activation's shard is zero. -/
theorem cols_of_not (x : Hid.Idx → EReal) (i : HidSh.Idx) (h : ¬(i 2).val < 704) : cols x i = 0 := dif_neg h
/-- On a true unit an activation's shard is the activation. -/
theorem cols_of_lt (x : Hid.Idx → EReal) (i : HidSh.Idx) (h : (i 2).val < 704) :
    cols x i = x (ix2 (i 1) (unit (i 0) (i 2) h)) := dif_pos h
/-- On a padding unit a weight's shard is zero. -/
theorem rows_of_not (x : Wgt.Idx → EReal) (i : WgtSh.Idx) (h : ¬(i 1).val < 704) : rows x i = 0 := dif_neg h
/-- On a true unit a weight's shard is the weight. -/
theorem rows_of_lt (x : Wgt.Idx → EReal) (i : WgtSh.Idx) (h : (i 1).val < 704) :
    rows x i = x (ix2 (unit (i 0) (i 1) h) (i 2)) := dif_pos h

/-- The host's reshape, transpose and zero padding of an activation build `cols`. -/
theorem pad_cols {u : Shape} (x : Hid.Idx → EReal) (v : u.Idx → EReal)
    (hr : Hid.ShapeCasts ⟨3, ![8192, 8, 704]⟩) (ht : (⟨3, ![8192, 8, 704]⟩ : Shape).Transposes [1, 0, 2] ⟨3, ![8, 8192, 704]⟩)
    (hp : (⟨3, ![8, 8192, 704]⟩ : Shape).Pads ![0, 0, 0] ![0, 0, 64] ![0, 0, 0] HidSh) (hu : 0 < u.numel)
    (h0 : v (Shape.Idx.first hu) = 0) :
    pad HidSh ![0, 0, 0] ![0, 0, 64] ![0, 0, 0]
      (transpose ⟨3, ![8, 8192, 704]⟩ [1, 0, 2] (shapeCast ⟨3, ![8192, 8, 704]⟩ x hr) ht) v hp hu = cols x := by
  funext i
  by_cases h : (i 2).val < 704
  · rw [cols_of_lt x i h, pad_apply_of_inside _ _ _ _ v hp hu i (ix3 (i 0) (i 1) ⟨(i 2).val, h⟩ : (⟨3, ![8, 8192, 704]⟩ : Shape).Idx)
        (fun a => by fin_cases a <;> simp),
      transpose_apply _ _ ht _ (ix3 (i 1) (i 0) ⟨(i 2).val, h⟩ : (⟨3, ![8192, 8, 704]⟩ : Shape).Idx)
        (fun b => by fin_cases b <;> rfl)]
    refine shapeCast_apply x hr _ _ ?_
    rw [Shape.rowMajor_val_two, Shape.rowMajor_val_three]
    show (i 1).val * 5632 + (704 * (i 0).val + (i 2).val) = ((i 1).val * 8 + (i 0).val) * 704 + (i 2).val
    omega
  · rw [cols_of_not x i h, pad_apply_of_not_inside _ _ _ _ v hp hu i 2 (by
      intro hin
      have h2 := hin.2.2
      simp at h2
      exact h (by simpa using h2)), h0]

/-- The host's reshape and zero padding of a weight build `rows`. -/
theorem pad_rows {u : Shape} (x : Wgt.Idx → EReal) (v : u.Idx → EReal)
    (hr : Wgt.ShapeCasts ⟨3, ![8, 704, 2048]⟩)
    (hp : (⟨3, ![8, 704, 2048]⟩ : Shape).Pads ![0, 0, 0] ![0, 64, 0] ![0, 0, 0] WgtSh) (hu : 0 < u.numel)
    (h0 : v (Shape.Idx.first hu) = 0) :
    pad WgtSh ![0, 0, 0] ![0, 64, 0] ![0, 0, 0] (shapeCast ⟨3, ![8, 704, 2048]⟩ x hr) v hp hu = rows x := by
  funext i
  by_cases h : (i 1).val < 704
  · rw [rows_of_lt x i h, pad_apply_of_inside _ _ _ _ v hp hu i (ix3 (i 0) ⟨(i 1).val, h⟩ (i 2) : (⟨3, ![8, 704, 2048]⟩ : Shape).Idx)
        (fun a => by fin_cases a <;> simp)]
    refine shapeCast_apply x hr _ _ ?_
    rw [Shape.rowMajor_val_two, Shape.rowMajor_val_three]
    show (704 * (i 0).val + (i 1).val) * 2048 + (i 2).val = ((i 0).val * 704 + (i 1).val) * 2048 + (i 2).val
    omega
  · rw [rows_of_not x i h, pad_apply_of_not_inside _ _ _ _ v hp hu i 1 (by
      intro hin
      have h2 := hin.2.2
      simp at h2
      exact h (by simpa using h2)), h0]

/-- A sum over the padded units of the eight shards, zero on the padding, is the sum over all hidden units. -/
theorem sum_units (f : Fin 5632 → EReal) :
    ∑ s : Fin 8, ∑ k : Fin 768, (if h : k.val < 704 then f (unit s k h) else 0) = ∑ l : Fin 5632, f l := by
  rw [← Fin.sum_mul_add_fin (S := 8) (n := 704) (f := f)]
  refine Finset.sum_congr rfl fun s _ => ?_
  show ∑ k : Fin (704 + 64), _ = _
  rw [Fin.sum_univ_add]
  refine (congrArg₂ (· + ·) (Finset.sum_congr rfl fun k _ => ?_) (Finset.sum_eq_zero fun k _ => ?_)).trans (add_zero _)
  · exact (dif_pos k.isLt).trans (congrArg f (Fin.ext (by show 704 * s.val + k.val = s.val * 704 + k.val; omega)))
  · exact dif_neg (by show ¬704 + k.val < 704; omega)

end Cert.Shards
-- ==== Proof.GateMath.lean ====
/-
The scalar side of the gated feed-forward's backward pass, on the extended reals.

The gate is `silu h = h * logistic h`. The kernel multiplies the incoming derivative by `l * (1 + h * (1 - l))`, the
reference differentiates `silu` and adds its two terms; the two agree as soon as the incoming derivative is finite,
whatever the pre-activation `h`.
-/
module

public import Idealize.ShloMosaic.PureOps.Ideal.Laws
public import Idealize.ShloMosaic.Lib.ReduceAll

@[expose] public section

noncomputable section

namespace Cert.GateMath

open Idealize.ShloMosaic
open scoped BigOperators

/-- The word of the literal 1.0 denotes one. -/
theorem one_word : Ideal.ofBits .f32 0x3F800000#32 = (1 : EReal) := by
  simp [Ideal.ofBits, Ideal.ieee]
  rw [← EReal.coe_mul]
  norm_num

/-- The word of the infinite literal denotes the greatest extended real. -/
theorem inf_word : Ideal.ofBits .f32 0x7F800000#32 = (⊤ : EReal) := by
  simp [Ideal.ofBits, Ideal.ieee]

/-- An extended real is finite: it is a real number. -/
def Fin' (x : EReal) : Prop := ∃ r : ℝ, x = (r : EReal)

/-- What has a magnitude below the greatest extended real is finite. -/
theorem fin_of_abs {x : EReal} (h : max x (-x) < ⊤) : Fin' x := by
  induction x using EReal.rec with
  | bot => simp at h
  | top => simp at h
  | coe r => exact ⟨r, rfl⟩

/-- A product of finite numbers is finite. -/
theorem Fin'.mul {x y : EReal} : Fin' x → Fin' y → Fin' (x * y) := by
  rintro ⟨a, rfl⟩ ⟨b, rfl⟩; exact ⟨a * b, (EReal.coe_mul a b).symm⟩

/-- A finite sum of finite numbers is finite. -/
theorem Fin'.sum {ι : Type} (s : Finset ι) (f : ι → EReal) (h : ∀ i, Fin' (f i)) : Fin' (∑ i ∈ s, f i) := by
  refine Finset.sum_induction f Fin' ?_ ⟨0, rfl⟩ (fun i _ => h i)
  rintro _ _ ⟨a, rfl⟩ ⟨b, rfl⟩
  exact ⟨a + b, (EReal.coe_add a b).symm⟩

/-- The derivative that reaches the gate's pre-activation `h`, as the kernel forms it, from the derivative `da` of the
    gated product and the other factor `u`. -/
def dGate (da h u : EReal) : EReal := (da * u) * (Ideal.logistic h * (1 + h * (1 - Ideal.logistic h)))

/-- The derivative that reaches the other factor, as the kernel forms it. -/
def dUp (da h : EReal) : EReal := (da * h) * Ideal.logistic h

/-- The exponential at the least extended real is zero. -/
theorem exp_bot : Ideal.exp ⊥ = 0 := rfl
/-- The exponential at the greatest extended real is itself. -/
theorem exp_top : Ideal.exp ⊤ = ⊤ := rfl
/-- The exponential of a real number. -/
theorem exp_coe (r : ℝ) : Ideal.exp (r : EReal) = ((Real.exp r : ℝ) : EReal) := rfl

/-- The logistic function at the greatest extended real is one. -/
theorem logistic_top : Ideal.logistic ⊤ = 1 := by
  unfold Ideal.logistic
  rw [EReal.neg_top, exp_bot, add_zero]
  simp [Ideal.div]
/-- The logistic function at the least extended real is zero. -/
theorem logistic_bot : Ideal.logistic ⊥ = 0 := by
  unfold Ideal.logistic
  rw [EReal.neg_bot, exp_top, EReal.add_top_of_ne_bot (by exact_mod_cast EReal.coe_ne_bot 1)]
  simp [Ideal.div]
/-- The logistic function of a real number is a real number. -/
theorem logistic_coe (r : ℝ) : ∃ s : ℝ, Ideal.logistic (r : EReal) = (s : EReal) := by
  have hp : (0 : ℝ) < 1 + Real.exp (-r) := by positivity
  refine ⟨1 * (1 + Real.exp (-r))⁻¹, ?_⟩
  have e : (1 : EReal) + Ideal.exp (-(r : EReal)) = ((1 + Real.exp (-r) : ℝ) : EReal) := by
    rw [← EReal.coe_neg, exp_coe, EReal.coe_add, EReal.coe_one]
  unfold Ideal.logistic
  rw [e]
  unfold Ideal.div
  rw [if_neg (by exact_mod_cast hp.ne'), EReal.coe_mul, EReal.coe_inv, EReal.coe_one]

/-- THE GATE'S EQUATION: for a finite incoming derivative `c` the kernel's single product is the reference's sum of the
    two terms of the product rule. -/
theorem gate_eq {c : EReal} (hc : Fin' c) (h : EReal) :
    c * (Ideal.logistic h * (1 + h * (1 - Ideal.logistic h)))
      = c * Ideal.logistic h + (h * c) * (Ideal.logistic h * (1 - Ideal.logistic h)) := by
  obtain ⟨c, rfl⟩ := hc
  induction h using EReal.rec with
  | bot => rw [logistic_bot]; simp
  | top =>
    have h1 : (1 : EReal) - 1 = 0 := by rw [← EReal.coe_one, ← EReal.coe_sub, sub_self, EReal.coe_zero]
    rw [logistic_top, h1]; simp
  | coe r =>
    obtain ⟨s, hs⟩ := logistic_coe r
    rw [hs]
    norm_cast
    ring_nf

/-- The reference's derivative at the other factor is the kernel's. -/
theorem up_eq (da h : EReal) : (h * Ideal.logistic h) * da = dUp da h := by
  unfold dUp
  rw [mul_comm, mul_assoc]

/-- With a zero derivative and zero factors (the padding) the kernel's gate derivative is zero. -/
theorem dGate_zero (h u : EReal) : dGate 0 h u = 0 := by simp [dGate]
/-- … and so is its other derivative. -/
theorem dUp_zero (h : EReal) : dUp 0 h = 0 := by simp [dUp]

/-- The zero offsets of a whole rank-two block. -/
theorem hz2 : (![0, 0] : Fin 2 → Nat) = fun _ => 0 := funext fun a => by fin_cases a <;> rfl
/-- The zero offsets of a whole rank-three block. -/
theorem hz3 : (![0, 0, 0] : Fin 3 → Nat) = fun _ => 0 := funext fun a => by fin_cases a <;> rfl

end Cert.GateMath
-- ==== Proof.GateKernel.lean ====
/-
The kernel that carries the derivative of a feed-forward's output back to its two hidden pre-activations.

Grid point (i, j) holds 1024 tokens and one shard of 768 padded units. It multiplies the derivative's rows by the shard
of the second weight, transposed, and pushes the product through the gate. The module computes one block, then the two
arrays, as functions of the four arguments.
-/
module

public import proofs.«01_k».proof.Proof.Shards
public import proofs.«01_k».proof.Proof.GateMath
public import proofs.«01_k».proof.Proof.Gen.KernelIdeal.Value
public import Idealize.ShloMosaic.Lib.MatmulPlain
public import Idealize.ShloMosaic.Lib.Pipeline.ValueKit.Geometry
public import Idealize.ShloMosaic.Lib.Pipeline.ValueKit.Acc

@[expose] public section

set_option maxRecDepth 16384

noncomputable section

namespace Cert.GateKernel

open Cert.KernelIdeal Cert.KernelIdeal.Gen Cert.Shards Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The derivative of the feed-forward's output. -/
abbrev df (c : Dev nD) : (⟨2, ![8192, 2048]⟩ : Shape).Idx → EReal := m ((c : Thread nD τ).loc main_arg0)
/-- The second weight. -/
abbrev wd (c : Dev nD) : Wgt.Idx → EReal := m ((c : Thread nD τ).loc main_arg1)
/-- The gate's pre-activation. -/
abbrev hg (c : Dev nD) : Hid.Idx → EReal := m ((c : Thread nD τ).loc main_arg2)
/-- The other factor. -/
abbrev hu (c : Dev nD) : Hid.Idx → EReal := m ((c : Thread nD τ).loc main_arg3)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

theorem V_df (c : Dev nD) : V m c main_v0 = df m c := by
  simp only [V, hostOps0, hostOps0_1, hostOps0_2, hostOps0_3, hostOps0_4, hostOps0_5, List.flatten_cons, List.flatten_nil,
    List.append_nil, List.cons_append, List.nil_append, TRef.binary, TRef.nullary, TRef.unary, TRef.toBuf, TRef.ofBuf, cast_eq]
  after_results <;> rfl

theorem V_wd (c : Dev nD) : V m c main_v3 = rows (wd m c) := by
  refine Eq.trans ?_ (pad_rows (wd m c) (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, hostOps0_4, hostOps0_5, List.flatten_cons, List.flatten_nil,
    List.append_nil, List.cons_append, List.nil_append, TRef.binary, TRef.nullary, TRef.unary, TRef.toBuf, TRef.ofBuf, cast_eq]
  after_results <;> rfl

theorem V_hg (c : Dev nD) : V m c main_v7 = cols (hg m c) := by
  refine Eq.trans ?_ (pad_cols (hg m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, hostOps0_4, hostOps0_5, List.flatten_cons, List.flatten_nil,
    List.append_nil, List.cons_append, List.nil_append, TRef.binary, TRef.nullary, TRef.unary, TRef.toBuf, TRef.ofBuf, cast_eq]
  after_results <;> rfl

theorem V_hu (c : Dev nD) : V m c main_v11 = cols (hu m c) := by
  refine Eq.trans ?_ (pad_cols (hu m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, hostOps0_4, hostOps0_5, List.flatten_cons, List.flatten_nil,
    List.append_nil, List.cons_append, List.nil_append, TRef.binary, TRef.nullary, TRef.unary, TRef.toBuf, TRef.ofBuf, cast_eq]
  after_results <;> rfl

/-! ## One block -/

/-- The block's product: 1024 rows of the derivative against the 768 rows of the weight's shard. -/
theorem product_apply (x : Vec Ideal S1024x2048 .bf16) (w : Vec Ideal S1x768x2048 .bf16) (r : Fin 1024) (u : Fin 768) :
    k0_pay2 x w (ix2 r u) = ∑ k : Fin 2048, x (ix2 r k) * w (ix3 0 u k) := by
  unfold k0_pay2
  rw [shapeCast_self]
  show FloatOps.matmul (DotDims.transposedRhs 1024 2048 768) none _ _ _ (ix2 r u) = _
  rw [Ideal.matmul_transposedRhs_apply]
  show Ideal.ofBits .f32 0x00000000#32 + _ = _
  rw [Ideal.ofBits_zero_f32, zero_add]
  refine Finset.sum_congr rfl fun k _ => congrArg _ ?_
  exact (shapeCast_dropUnit_apply _ w _ (ix2 u k)).trans (congrArg w (funext fun a => by fin_cases a <;> rfl))

/-- The derivative of the hidden product, at a token and a padded unit of a shard. -/
def da (c : Dev nD) (i : HidSh.Idx) : EReal := ∑ k : Fin 2048, df m c (ix2 (i 1) k) * rows (wd m c) (ix3 (i 0) (i 2) k)

/-- What the kernel leaves in its first result. -/
def G4 (c : Dev nD) (i : HidSh.Idx) : EReal := dGate (da m c i) (cols (hg m c) i) (cols (hu m c) i)
/-- What the kernel leaves in its second result. -/
def G5 (c : Dev nD) (i : HidSh.Idx) : EReal := dUp (da m c i) (cols (hg m c) i)

theorem word_one : (Scalar.ofBits .f32 0x3F800000#32 : Ideal .f32) = (1 : EReal) := one_word
theorem word_zero : (Scalar.ofBits .f32 0x00000000#32 : Ideal .f32) = (0 : EReal) := Ideal.ofBits_zero_f32

/-- A block of the first result from the four input blocks. -/
theorem block4 (x : Vec Ideal S1024x2048 .bf16) (w : Vec Ideal S1x768x2048 .bf16) (u h : Vec Ideal S1x1024x768 .bf16) (y : S1x1024x768.Idx) :
    Value.E4 x w u h y
      = dGate (∑ k : Fin 2048, x (ix2 (y 1) k) * w (ix3 0 (y 2) k)) (h (ix3 0 (y 1) (y 2))) (u (ix3 0 (y 1) (y 2))) := by
  rw [← product_apply x w (y 1) (y 2)]
  have e0 : Value.ix4_0 y = ix2 (y 1) (y 2) := funext fun a => by fin_cases a <;> rfl
  have e1 : Value.ix4_1 y = ix3 0 (y 1) (y 2) := funext fun a => by fin_cases a <;> rfl
  have e2 : Value.ix4_2 y = ix3 0 (y 1) (y 2) := funext fun a => by fin_cases a <;> rfl
  have e3 : Value.ix4_3 y = ix3 0 (y 1) (y 2) := funext fun a => by fin_cases a <;> rfl
  have e4 : Value.ix4_4 y = ix3 0 (y 1) (y 2) := funext fun a => by fin_cases a <;> rfl
  unfold Value.E4
  rw [e0, e1, e2, e3, e4]
  simp only [Ideal.truncf_def, Ideal.extf_def, Ideal.mulf_def, Ideal.addf_def, Ideal.subf_def, Ideal.divf_def, Ideal.exp_def, word_one, word_zero,
    zero_sub]
  rfl

/-- A block of the second result from three of the input blocks. -/
theorem block5 (x : Vec Ideal S1024x2048 .bf16) (w : Vec Ideal S1x768x2048 .bf16) (h : Vec Ideal S1x1024x768 .bf16) (y : S1x1024x768.Idx) :
    Value.E5 x w h y = dUp (∑ k : Fin 2048, x (ix2 (y 1) k) * w (ix3 0 (y 2) k)) (h (ix3 0 (y 1) (y 2))) := by
  rw [← product_apply x w (y 1) (y 2)]
  have e0 : Value.ix5_0 y = ix2 (y 1) (y 2) := funext fun a => by fin_cases a <;> rfl
  have e1 : Value.ix5_1 y = ix3 0 (y 1) (y 2) := funext fun a => by fin_cases a <;> rfl
  have e2 : Value.ix5_2 y = ix3 0 (y 1) (y 2) := funext fun a => by fin_cases a <;> rfl
  unfold Value.E5
  rw [e0, e1, e2]
  simp only [Ideal.truncf_def, Ideal.extf_def, Ideal.mulf_def, Ideal.addf_def, Ideal.subf_def, Ideal.divf_def, Ideal.exp_def, word_one, word_zero,
    zero_sub]
  rfl

/-! ## Where the blocks lie -/

theorem at0 : ∀ t : Fin cfg0.N, win0_0.index t = ![t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![t.val % 8, t.val / 8, 0] := (by decide +kernel : ∀ t : Fin grid0.N, _)
theorem at3 : ∀ t : Fin cfg0.N, win0_3.index t = ![t.val % 8, t.val / 8, 0] := (by decide +kernel : ∀ t : Fin grid0.N, _)
theorem at4 : ∀ t : Fin cfg0.N, win0_4.index t = ![t.val % 8, t.val / 8, 0] := (by decide +kernel : ∀ t : Fin grid0.N, _)
theorem at5 : ∀ t : Fin cfg0.N, win0_5.index t = ![t.val % 8, t.val / 8, 0] := (by decide +kernel : ∀ t : Fin grid0.N, _)

/-- Row `r` of the tokens at point `t`. -/
abbrev tok (t : Fin cfg0.N) (r : Fin 1024) : Fin 8192 := ⟨t.val / 8 * 1024 + r.val, by have : t.val < 64 := t.isLt; omega⟩
/-- The shard of point `t`. -/
abbrev shard (t : Fin cfg0.N) : Fin 8 := ⟨t.val % 8, by omega⟩

theorem in0 (c : Dev nD) (t : Fin cfg0.N) (r : Fin 1024) (k : Fin 2048) : iblk m c 0 t (ix2 r k) = df m c (ix2 (tok t r) k) := by
  rw [← V_df m c]
  blk_simp [iblk]
  refine congrArg (V m c main_v0) ?_
  blk_ext [at0]

theorem in1 (c : Dev nD) (t : Fin cfg0.N) (u : Fin 768) (k : Fin 2048) :
    iblk m c 1 t (ix3 0 u k) = rows (wd m c) (ix3 (shard t) u k) := by
  rw [← V_wd m c]
  blk_simp [iblk]
  refine congrArg (V m c main_v3) ?_
  blk_ext [at1]

theorem in2 (c : Dev nD) (t : Fin cfg0.N) (r : Fin 1024) (u : Fin 768) :
    iblk m c 2 t (ix3 0 r u) = cols (hg m c) (ix3 (shard t) (tok t r) u) := by
  rw [← V_hg m c]
  blk_simp [iblk]
  refine congrArg (V m c main_v7) ?_
  blk_ext [at2]

theorem in3 (c : Dev nD) (t : Fin cfg0.N) (r : Fin 1024) (u : Fin 768) :
    iblk m c 3 t (ix3 0 r u) = cols (hu m c) (ix3 (shard t) (tok t r) u) := by
  rw [← V_hu m c]
  blk_simp [iblk]
  refine congrArg (V m c main_v11) ?_
  blk_ext [at3]

theorem out4 (t : Fin cfg0.N) (y : S1x1024x768.Idx) : ((cfg0.win 4).blk t).view.emb y = ix3 (shard t) (tok t (y 1)) (y 2) := by
  blk_ext [at4]

theorem out5 (t : Fin cfg0.N) (y : S1x1024x768.Idx) : ((cfg0.win 5).blk t).view.emb y = ix3 (shard t) (tok t (y 1)) (y 2) := by
  blk_ext [at5]

/-! ## The two arrays -/

/-- The derivative's block at a point. -/
abbrev lhs (c : Dev nD) (t : Fin cfg0.N) : Vec Ideal S1024x2048 .bf16 := iblk m c 0 t
/-- The weight's block at a point. -/
abbrev rhs (c : Dev nD) (t : Fin cfg0.N) : Vec Ideal S1x768x2048 .bf16 := iblk m c 1 t

/-- The product of the two blocks is the derivative of the hidden product. -/
theorem sum_in (c : Dev nD) (t : Fin cfg0.N) (r : Fin 1024) (u : Fin 768) :
    ∑ k : Fin 2048, lhs m c t (ix2 r k) * rhs m c t (ix3 0 u k) = da m c (ix3 (shard t) (tok t r) u) :=
  Finset.sum_congr rfl fun k _ => congrArg₂ (fun a b : EReal => a * b) (in0 m c t r k) (in1 m c t u k)

/-- The first result's array after the run. -/
theorem final4 (c : Dev nD) : (dats m 0 c).arrAt 4 cfg0.N = G4 m c := by
  refine (dats m 0 c).arrAt_eq_of_covers 4 _ (by decide +kernel) fun t hf y => ?_
  blk_simp
  rw [after0_4]
  unfold out0_4
  rw [View.ld_unit_zero (S := S1024x2048) hz2, View.ld_unit_zero (S := S1x768x2048) hz3, View.ld_unit_zero (S := S1x1024x768) hz3,
    View.ld_unit_zero (S := S1x1024x768) hz3, Value.canon4_eq, block4,
    show ((View.whole main_v12_0).slice (win0_4.rect t)).emb y = ix3 (shard t) (tok t (y 1)) (y 2) from out4 t y,
    in2 m c t (y 1) (y 2), in3 m c t (y 1) (y 2), sum_in m c t (y 1) (y 2)]
  rfl

/-- The second result's array after the run. -/
theorem final5 (c : Dev nD) : (dats m 0 c).arrAt 5 cfg0.N = G5 m c := by
  refine (dats m 0 c).arrAt_eq_of_covers 5 _ (by decide +kernel) fun t hf y => ?_
  blk_simp
  rw [after0_5]
  unfold out0_5
  rw [View.ld_unit_zero (S := S1024x2048) hz2, View.ld_unit_zero (S := S1x768x2048) hz3, View.ld_unit_zero (S := S1x1024x768) hz3,
    Value.canon5_eq, block5,
    show ((View.whole main_v12_1).slice (win0_5.rect t)).emb y = ix3 (shard t) (tok t (y 1)) (y 2) from out5 t y,
    in2 m c t (y 1) (y 2), sum_in m c t (y 1) (y 2)]
  rfl

end Cert.GateKernel
-- ==== Proof.GateReference.lean ====
/-
The reference of the same pass: the derivative of `(silu(h_gate) * h_up) @ w_down` in its two pre-activations, read at an
index, then laid out in shards.
-/
module

public import proofs.«01_k».proof.Proof.Shards
public import proofs.«01_k».proof.Proof.GateMath
public import proofs.«01_k».proof.Proof.Gen.ReferenceIdeal.Read

@[expose] public section

set_option maxRecDepth 16384

noncomputable section

namespace Cert.GateReference

open Cert.ReferenceIdeal Cert.ReferenceIdeal.Gen Cert.ReferenceIdeal.Read Cert.Shards Cert.GateMath
open Idealize.ShloMosaic Idealize.ShloMosaic.TcCoe Idealize.ShloMosaic.ValueIdx
open scoped BigOperators

variable (df : (⟨2, ![8192, 2048]⟩ : Shape).Idx → EReal) (wd : Wgt.Idx → EReal) (hg hu : Hid.Idx → EReal)

/-- The derivative of the hidden product at a token and a hidden unit. -/
def dAct (i : Hid.Idx) : EReal := ∑ k : Fin 2048, df (ix2 (i 0) k) * wd (ix2 (i 1) k)

/-- The padding word converts to zero. -/
theorem padding : (val_main_call2_v0 (F := Ideal) : S_.Idx → EReal) (Shape.Idx.first h_S_) = 0 := by
  show FloatOps.sitofp (F := Ideal) .f32 (0#32 : BitVec 32) = 0
  simp [FloatOps.sitofp]

/-- The reference's logistic function. -/
theorem logistic_apply (i : Hid.Idx) : val_main_v0_2 (F := Ideal) hg i = Ideal.logistic (hg i) := by
  rw [val_main_v0_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-hg i)) = _
  rw [one_word]
  rfl

/-- The reference's derivative of the hidden product. -/
theorem dAct_apply (i : Hid.Idx) : val_main_v3 (F := Ideal) df wd i = dAct df wd i := by
  rw [val_main_v3_apply]
  refine Finset.sum_congr rfl fun k _ => congrArg₂ (· * ·) (congrArg df ?_) (congrArg wd ?_)
  · funext a; fin_cases a <;> rfl
  · funext a; fin_cases a <;> rfl

/-- The reference's derivative at the gate's pre-activation. -/
theorem gate_apply (i : Hid.Idx) : val_main_v6 (F := Ideal) df wd hg hu i
    = (dAct df wd i * hu i) * Ideal.logistic (hg i)
      + (hg i * (dAct df wd i * hu i)) * (Ideal.logistic (hg i) * (1 - Ideal.logistic (hg i))) := by
  rw [val_main_v6_apply, val_main_call1_v1_apply, val_main_call1_v2_apply, val_main_call1_v0_apply, val_main_v5_apply, val_main_v0_1_apply,
    val_main_call0_v7_apply, val_main_call0_v6_apply, val_main_call0_cst_1_apply, logistic_apply, dAct_apply]
  show _ + _ * (_ * (Ideal.ofBits .f32 0x3F800000#32 - _)) = _
  rw [one_word]
  rfl

/-- The reference's derivative at the other factor. -/
theorem up_apply (i : Hid.Idx) : val_main_v4 (F := Ideal) df wd hg i = (hg i * Ideal.logistic (hg i)) * dAct df wd i := by
  rw [val_main_v4_apply, val_main_v0_0_apply, logistic_apply, dAct_apply]
  rfl

/-- The first result: the gate's derivative in shards. -/
theorem result0 : (val_main_v10 (F := Ideal) df wd hg hu : HidSh.Idx → EReal) = cols (val_main_v6 (F := Ideal) df wd hg hu) :=
  pad_cols (val_main_v6 (F := Ideal) df wd hg hu) (val_main_call2_v0 (F := Ideal)) shapeCasts_S8192x5632_S8192x8x704
    transposes_S8192x8x704_S8x8192x704_1_0_2 pads_S8x8192x704_S8x8192x768_000_000_0640 h_S_ padding

/-- The second result: the other derivative in shards. -/
theorem result1 : (val_main_v14 (F := Ideal) df wd hg : HidSh.Idx → EReal) = cols (val_main_v4 (F := Ideal) df wd hg) :=
  pad_cols (val_main_v4 (F := Ideal) df wd hg) (val_main_call2_v0 (F := Ideal)) shapeCasts_S8192x5632_S8192x8x704
    transposes_S8192x8x704_S8x8192x704_1_0_2 pads_S8x8192x704_S8x8192x768_000_000_0640 h_S_ padding

end Cert.GateReference
-- ==== Proof.Gate.lean ====
/-
The gated feed-forward's backward pass: the kernel's two arrays are the reference's, whenever the derivative that arrives,
the second weight and the ungated factor are finite. The gate's pre-activation may be infinite.
-/
module

public import proofs.«01_k».proof.Proof.GateKernel
public import proofs.«01_k».proof.Proof.GateReference
public import proofs.«01_k».proof.Proof.Gen.Pre_finite
public import proofs.«01_k».proof.Defs

@[expose] public section

set_option maxRecDepth 16384

noncomputable section

namespace Cert.Gate

open Cert.Shards Cert.GateMath Cert.GateKernel
open Idealize.ShloMosaic Idealize.ShloMosaic.TcCoe Idealize.SL.Sem Idealize.ShloMosaic.ValueIdx
open scoped BigOperators

/-- What the stated precondition says of one array: every element is finite. -/
theorem finite_of {s t u : Shape} {axes : List (Fin s.rank)} [Subsingleton t.Idx] (x : s.Idx → EReal) (b : s.Idx → EReal)
    (init : u.Idx → BitVec 1) (h : s.ReducesTo axes t) (hu : 0 < u.numel) (j : t.Idx) (hb : ∀ i, b i = ⊤)
    (e : Host.reduce IntOp.andi (cmpf (F := Ideal) (φ := .f32) .olt (Host.absf (F := Ideal) (φ := .f32) x) b) init h hu j = 1#1) (i : s.Idx) :
    Fin' (x i) := by
  have h1 := Host.reduce_andi_all _ _ h hu j e i
  have h2 : Ideal.cmp .olt (max (x i) (-(x i))) (b i) = 1#1 := h1
  rw [hb] at h2
  refine fin_of_abs ?_
  by_contra hn
  simp [Ideal.cmp, hn] at h2

instance : Subsingleton Cert.Pre_finite.S_.Idx := ⟨fun a b => funext fun i => i.elim0⟩

section
variable (m : (ℓ : Loc Cert.KernelIdeal.nD Cert.KernelIdeal.τ Cert.KernelIdeal.sig) → Buf (Elt Ideal) ℓ)
  (hp : Cert.Pre_KernelIdeal_finite m) (c : Dev Cert.KernelIdeal.nD)
include hp

/-- The precondition, read: the three arrays are finite at every index. -/
theorem finite : (∀ i, Fin' (df m c i)) ∧ (∀ i, Fin' (wd m c i)) ∧ (∀ i, Fin' (hu m c i)) := by
  have h := congrFun (hp c) (fun a => a.elim0)
  unfold Cert.Pre_finite.fn at h
  dsimp only at h
  have h1 := IntOp.andi_eq_one.mp h
  have h2 := IntOp.andi_eq_one.mp h1.1
  exact ⟨finite_of _ _ _ _ _ _ (fun _ => inf_word) h2.1, finite_of _ _ _ _ _ _ (fun _ => inf_word) h2.2,
    finite_of _ _ _ _ _ _ (fun _ => inf_word) h1.2⟩

/-- The derivative of the hidden product is finite. -/
theorem finite_da (i : Hid.Idx) : Fin' (Cert.GateReference.dAct (df m c) (wd m c) i) :=
  Fin'.sum _ _ fun _ => (finite m hp c).1 _ |>.mul ((finite m hp c).2.1 _)
omit hp

/-- The kernel's derivative of the hidden product is the reference's on a true unit … -/
theorem da_of_lt (i : HidSh.Idx) (h : (i 2).val < 704) :
    da m c i = Cert.GateReference.dAct (df m c) (wd m c) (ix2 (i 1) (unit (i 0) (i 2) h)) :=
  Finset.sum_congr rfl fun k _ => by rw [rows_of_lt _ _ h]

/-- … and zero on a padding unit. -/
theorem da_of_not (i : HidSh.Idx) (h : ¬(i 2).val < 704) : da m c i = 0 :=
  Finset.sum_eq_zero fun k _ => by rw [rows_of_not _ _ h, mul_zero]

include hp
/-- THE FIRST RESULT: the kernel's gate derivative is the reference's. -/
theorem result0 : (G4 m c : HidSh.Idx → EReal) = Cert.ReferenceIdeal.Read.val_main_v10 (F := Ideal) (df m c) (wd m c) (hg m c) (hu m c) := by
  rw [Cert.GateReference.result0]
  funext i
  unfold G4
  by_cases h : (i 2).val < 704
  · rw [da_of_lt m c i h, cols_of_lt _ i h, cols_of_lt _ i h, cols_of_lt _ i h, Cert.GateReference.gate_apply]
    exact gate_eq ((finite_da m hp c _).mul ((finite m hp c).2.2 _)) _
  · rw [da_of_not m c i h, dGate_zero, cols_of_not _ i h]
omit hp

/-- THE SECOND RESULT: the kernel's derivative of the other factor is the reference's. -/
theorem result1 : (G5 m c : HidSh.Idx → EReal) = Cert.ReferenceIdeal.Read.val_main_v14 (F := Ideal) (df m c) (wd m c) (hg m c) := by
  rw [Cert.GateReference.result1]
  funext i
  unfold G5
  by_cases h : (i 2).val < 704
  · rw [da_of_lt m c i h, cols_of_lt _ i h, cols_of_lt _ i h, Cert.GateReference.up_apply, up_eq]
  · rw [da_of_not m c i h, dUp_zero, cols_of_not _ i h]
end

/-- The claim: the two programs leave the same two arrays. -/
theorem equal : Cert.algebraic_KernelIdeal_ReferenceIdeal_pre_finite := fun m g m' g' hp hag =>
  ⟨fun c => G4 m c, fun c => G5 m c,
    (θ_run _ _ _).mono (fun _ h c => ⟨(h c).1.trans (final4 m c), (h c).2.1.trans (final5 m c), (h c).2.2⟩)
      (Cert.KernelIdeal.Value.run_blocks m g),
    (θ_run _ _ _).mono (fun _ h c => ⟨(h c).1.trans (by
        rw [Cert.ReferenceIdeal.Read.val_main_v10_eq, (hag c).1, (hag c).2.1, (hag c).2.2.1, (hag c).2.2.2]
        exact (result0 m hp c).symm), (h c).2.1.trans (by
        rw [Cert.ReferenceIdeal.Read.val_main_v14_eq, (hag c).1, (hag c).2.1, (hag c).2.2.1]
        exact (result1 m c).symm), (h c).2.2⟩)
      (Cert.ReferenceIdeal.Value.run m' g')⟩

end Cert.Gate
-- ==== Proof.Contract.lean ====
/-
A product contracting the rows of both operands, read at an index.
-/
module

public import Idealize.ShloMosaic.Lib.MatmulPlain

@[expose] public section

noncomputable section

namespace Cert.Contract

open Idealize.ShloMosaic Idealize.ShloMosaic.ValueIdx
open scoped BigOperators

/-- The dimension numbers of `[K,M]ᵀ × [K,N] → [M,N]`. -/
def rowsRows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [], rfl, Nat.two_pos,
    fun b => by fin_cases b <;> rfl⟩

/-- Its contraction index as the contracted row. -/
def rowOf (K M N : ℕ) : (rowsRows K M N).contr.Idx ≃ Fin K := contrEquiv1 _ K rfl rfl

/-- `[K,M]ᵀ × [K,N]` at (r, c): the accumulator plus `Σ_k lhs[k,r] · rhs[k,c]`. -/
theorem rowsRows_apply {K M N : ℕ} {φ₁ φ₂ : FTy} (prec : Option ContractPrecision) (lhs : FVec Ideal ⟨2, ![K, M]⟩ φ₁)
    (rhs : FVec Ideal ⟨2, ![K, N]⟩ φ₂) (acc : FVec Ideal ⟨2, ![M, N]⟩ .f32) (r : Fin M) (c : Fin N) :
    FloatOps.matmul (rowsRows K M N) prec lhs rhs acc (ix2 r c) = acc (ix2 r c) + ∑ k : Fin K, lhs (ix2 k r) * rhs (ix2 k c) := by
  rw [Ideal.matmul_apply, ← Equiv.sum_comp (rowOf K M N).symm]
  refine congrArg (acc (ix2 r c) + ·) (Finset.sum_congr rfl fun k _ => ?_)
  have hk : (((rowOf K M N).symm k) ⟨0, Nat.one_pos⟩).val = k.val := contrEquiv1_symm_val (rowsRows K M N) K rfl rfl k
  have el : (rowsRows K M N).lhsIdx (ix2 r c) ((rowOf K M N).symm k) = ix2 k r := by
    funext a; apply Fin.ext
    match a with
    | ⟨0, _⟩ => exact hk
    | ⟨1, _⟩ => rfl
  have er : (rowsRows K M N).rhsIdx (ix2 r c) ((rowOf K M N).symm k) = ix2 k c := by
    funext a; apply Fin.ext
    match a with
    | ⟨0, _⟩ => exact hk
    | ⟨1, _⟩ => rfl
  rw [el, er]

end Cert.Contract
-- ==== Proof.DownWeightKernel.lean ====
/-
The kernel that forms the gradient of a feed-forward's second weight.

Grid point (j, i) adds to a running 768 by 2048 sum the product of 1024 tokens of one shard of the hidden activation,
transposed, with the same tokens of the output's derivative; after the eight token blocks the sum's first 704 rows are the
shard's gradient. The module reads one step, the running sum, then the array.
-/
module

public import proofs.«01_k».proof.Proof.Shards
public import proofs.«01_k».proof.Proof.GateMath
public import proofs.«01_k».proof.Proof.Contract
public import proofs.«01_k».proof.Proof.Gen.Kernel2Ideal.Value
public import Idealize.ShloMosaic.Lib.Pipeline.ValueKit.Geometry
public import Idealize.ShloMosaic.Lib.Pipeline.ValueKit.Acc

@[expose] public section

set_option maxRecDepth 16384

noncomputable section

namespace Cert.DownWeightKernel

open Cert.Kernel2Ideal Cert.Kernel2Ideal.Gen Cert.Shards Cert.GateMath Cert.Contract
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The gate's pre-activation. -/
abbrev hg (c : Dev nD) : Hid.Idx → EReal := m ((c : Thread nD τ).loc main_arg0)
/-- The other factor. -/
abbrev hu (c : Dev nD) : Hid.Idx → EReal := m ((c : Thread nD τ).loc main_arg1)
/-- The derivative of the feed-forward's output. -/
abbrev df (c : Dev nD) : (⟨2, ![8192, 2048]⟩ : Shape).Idx → EReal := m ((c : Thread nD τ).loc main_arg2)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

/-- The hidden activation. -/
def act (g u : Hid.Idx → EReal) (i : Hid.Idx) : EReal := (g i * Ideal.logistic (g i)) * u i

/-- The host's hidden activation. -/
theorem act_host (g u : FVec Ideal S8192x5632 .f32) :
    (mulf (mulf g (Host.divf (broadcastInDim S8192x5632 ![] bcast_S_S8192x5632 (constant S_ .f32 0x3F800000#32))
      (addf (broadcastInDim S8192x5632 ![] bcast_S_S8192x5632 (constant S_ .f32 0x3F800000#32)) (Host.exp (Host.negf g))))) u
        : S8192x5632.Idx → EReal) = act g u := by
  funext i
  show (g i * Ideal.div (Ideal.ofBits .f32 0x3F800000#32) (Ideal.ofBits .f32 0x3F800000#32 + Ideal.exp (-g i))) * u i = _
  rw [one_word]
  rfl

theorem V_df (c : Dev nD) : V m c main_v6 = df m c := by
  simp only [V, hostOps0, hostOps0_1, hostOps0_2, hostOps0_3, List.flatten_cons, List.flatten_nil,
    List.append_nil, List.cons_append, List.nil_append, TRef.binary, TRef.nullary, TRef.unary, TRef.toBuf, TRef.ofBuf, cast_eq]
  after_results <;> rfl

theorem V_act (c : Dev nD) : V m c main_v5 = cols (act (hg m c) (hu m c)) := by
  rw [← act_host]
  refine Eq.trans ?_ (pad_cols _ (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, List.flatten_cons, List.flatten_nil,
    List.append_nil, List.cons_append, List.nil_append, TRef.binary, TRef.nullary, TRef.unary, TRef.toBuf, TRef.ofBuf, cast_eq]
  after_results <;> rfl

/-! ## One step -/

/-- A step adds the product of the two blocks to the running sum. -/
theorem step_apply (a : Vec Ideal S768x2048 .f32) (x : Vec Ideal S1x1024x768 .bf16) (d : Vec Ideal S1024x2048 .bf16) (y : S768x2048.Idx) :
    k0_pay2 a x d y = a y + ∑ k : Fin 1024, x (ix3 0 k (y 0)) * d (ix2 k (y 1)) := by
  obtain ⟨r, n, rfl⟩ : ∃ (r : Fin 768) (n : Fin 2048), y = ix2 r n := ⟨y 0, y 1, funext fun a => by fin_cases a <;> rfl⟩
  unfold k0_pay2
  rw [shapeCast_self, shapeCast_self]
  show _ + FloatOps.matmul (rowsRows 1024 768 2048) none _ _ _ (ix2 r n) = _
  rw [rowsRows_apply]
  show _ + (Ideal.ofBits .f32 0x00000000#32 + _) = _
  rw [Ideal.ofBits_zero_f32, zero_add]
  refine congrArg _ (Finset.sum_congr rfl fun k _ => congrArg (· * _) ?_)
  exact (shapeCast_dropUnit_apply _ x _ (ix2 k r)).trans (congrArg x (funext fun a => by fin_cases a <;> rfl))

/-- A run starts from zero. -/
theorem start_apply (y : S768x2048.Idx) : k0_pay1 (F := Ideal) y = 0 := by
  unfold k0_pay1
  rw [shapeCast_self]
  exact Ideal.ofBits_zero_f32

/-- The block written back is the first 704 rows of the sum. -/
theorem last_apply (a : Vec Ideal S704x2048 .f32) (y : S1x1x704x2048.Idx) : k0_pay3 a y = a (ix2 (y 2) (y 3)) := by
  unfold k0_pay3
  refine shapeCast_apply _ _ _ _ ?_
  have h0 : (y 0).val < 1 := (y 0).isLt
  have h1 : (y 1).val < 1 := (y 1).isLt
  rw [Shape.rowMajor_val_two, Shape.rowMajor_val_four]
  show (y 2).val * 2048 + (y 3).val = (((y 0).val * 1 + (y 1).val) * 704 + (y 2).val) * 2048 + (y 3).val
  omega

/-! ## Where the blocks lie -/

theorem at0 : ∀ t : Fin cfg0.N, win0_0.index t = ![t.val / 8, t.val % 8, 0] := (by decide +kernel : ∀ t : Fin grid0.N, _)
theorem at1 : ∀ t : Fin cfg0.N, win0_1.index t = ![t.val % 8, 0] := (by decide +kernel : ∀ t : Fin grid0.N, _)
theorem at2 : ∀ t : Fin cfg0.N, win0_2.index t = ![t.val / 8 % 2, t.val / 8 / 2, 0, 0] := (by decide +kernel : ∀ t : Fin grid0.N, _)

/-- Row `r` of the tokens at point `t`. -/
abbrev tok (t : Fin cfg0.N) (r : Fin 1024) : Fin 8192 := ⟨t.val % 8 * 1024 + r.val, by omega⟩
/-- The shard of point `t`. -/
abbrev shard (t : Fin cfg0.N) : Fin 8 := ⟨t.val / 8, by have : t.val < 64 := t.isLt; omega⟩

/-- The activation's block at a point. -/
abbrev lhs (c : Dev nD) (t : Fin cfg0.N) : Vec Ideal S1x1024x768 .bf16 := iblk m c 0 t
/-- The derivative's block at a point. -/
abbrev rhs (c : Dev nD) (t : Fin cfg0.N) : Vec Ideal S1024x2048 .bf16 := iblk m c 1 t

theorem in0 (c : Dev nD) (t : Fin cfg0.N) (r : Fin 1024) (u : Fin 768) :
    lhs m c t (ix3 0 r u) = cols (act (hg m c) (hu m c)) (ix3 (shard t) (tok t r) u) := by
  rw [← V_act m c]
  blk_simp [iblk]
  refine congrArg (V m c main_v5) ?_
  blk_ext [at0]

theorem in1 (c : Dev nD) (t : Fin cfg0.N) (r : Fin 1024) (k : Fin 2048) : rhs m c t (ix2 r k) = df m c (ix2 (tok t r) k) := by
  rw [← V_df m c]
  blk_simp [iblk]
  refine congrArg (V m c main_v6) ?_
  blk_ext [at1]

/-! ## The running sum -/

/-- The product of one point's blocks. -/
def part (c : Dev nD) (t : Fin cfg0.N) (y : S768x2048.Idx) : EReal :=
  ∑ k : Fin 1024, lhs m c t (ix3 0 k (y 0)) * rhs m c t (ix2 k (y 1))

/-- After the last point of a run the running sum holds the run's eight products. -/
theorem sum_eq (c : Dev nD) (t : Fin cfg0.N) (ht : t.val % 8 = 7) (y : S768x2048.Idx) :
    (outsAt0 m c t.val t.isLt).2 y
      = ∑ s : Fin 8, part m c ⟨8 * (t.val / 8) + s.val, by have : t.val < 64 := t.isLt; show _ < 64; omega⟩ y := by
  have h := Pipeline.eq_sum_fin_of_reset_step_apply_of_flush (fun n h => (outsAt0 m c n h).2) 8 (fun _ => (0 : EReal)) (part m c)
    (fun t h y => by
      show (outsAt0 m c t.val t.isLt).2 y = _
      rw [outsAt0_A m c t h (by omega)]
      frame_out
      rw [step_apply, start_apply]
      rfl)
    (fun t h y => by
      show (outsAt0 m c t.val t.isLt).2 y = _
      by_cases h7 : t.val % 8 = 7
      · rw [outsAt0_C m c t h h7]
        frame_out
        rw [step_apply]
        exact congrArg (· + part m c t y) (congrFun (Memref.IsWhole.read_unread _ _) y)
      · rw [outsAt0_B m c t h h7]
        frame_out
        rw [step_apply]
        exact congrArg (· + part m c t y) (congrFun (Memref.IsWhole.read_unread _ _) y)) t ht y
  rw [zero_add] at h
  exact h

/-- The block written back holds the sum's first 704 rows. -/
theorem out_eq (c : Dev nD) (t : Fin cfg0.N) (ht : t.val % 8 = 7) (y : S1x1x704x2048.Idx) :
    (outsAt0 m c t.val t.isLt).1 y = (outsAt0 m c t.val t.isLt).2 (ix2 ⟨(y 2).val, by have : (y 2).val < 704 := (y 2).isLt; omega⟩ (y 3)) := by
  rw [outsAt0_C m c t (by omega) ht]
  frame_out
  rw [last_apply, View.readCov_eq_canon_ld _ _ _ (fun y => ⟨_, List.mem_cons_self, by
    show y ∈ (Rect.unit (s := S768x2048) ![0, 0] S768x2048.size inb_S768x2048_S768x2048_0_0).set
    rw [Rect.mem_set_unit]
    intro a
    fin_cases a
    · exact ⟨Nat.zero_le _, (y 0).isLt.trans_eq (Nat.zero_add _).symm⟩
    · exact ⟨Nat.zero_le _, (y 1).isLt.trans_eq (Nat.zero_add _).symm⟩⟩), View.canon_cons_unit_zero (S := S768x2048) hz2]
  generalize k0_pay2 (F := Ideal) _ _ _ = w
  refine congrArg w (funext fun a => Fin.ext ?_)
  match a with
  | ⟨0, _⟩ => exact (Nat.zero_add _).trans (Nat.one_mul _)
  | ⟨1, _⟩ => exact (Nat.zero_add _).trans (Nat.one_mul _)

/-! ## The array -/

theorem out2 (t : Fin cfg0.N) (y : S1x1x704x2048.Idx) : ((cfg0.win 2).blk t).view.emb y
    = ix4 ⟨t.val / 8 % 2, by omega⟩ ⟨t.val / 8 / 2, by have : t.val < 64 := t.isLt; omega⟩ (y 2) (y 3) := by
  blk_ext [at2]

/-- The shard whose gradient lies at an index of the result. -/
abbrev shardAt (i : S2x4x704x2048.Idx) : Fin 8 :=
  ⟨2 * (i 1).val + (i 0).val, by have h0 : (i 0).val < 2 := (i 0).isLt; have h1 : (i 1).val < 4 := (i 1).isLt; omega⟩
/-- Its unit in the padded shard. -/
abbrev unitAt (i : S2x4x704x2048.Idx) : Fin 768 := ⟨(i 2).val, by have : (i 2).val < 704 := (i 2).isLt; omega⟩

/-- What the kernel leaves in its result. -/
def G (c : Dev nD) (i : S2x4x704x2048.Idx) : EReal :=
  ∑ s : Fin 8192, cols (act (hg m c) (hu m c)) (ix3 (shardAt i) s (unitAt i)) * df m c (ix2 s (i 3))

/-- A run's eight products are the sum over all tokens. -/
theorem run_sum (c : Dev nD) (t : Fin cfg0.N) (u : Fin 768) (n : Fin 2048) :
    ∑ s : Fin 8, part m c ⟨8 * (t.val / 8) + s.val, by have : t.val < 64 := t.isLt; show _ < 64; omega⟩ (ix2 u n)
      = ∑ s : Fin 8192, cols (act (hg m c) (hu m c)) (ix3 (shard t) s u) * df m c (ix2 s n) := by
  refine Fin.sum_mul_add_congr fun s k hl => ?_
  refine congrArg₂ (fun a b : EReal => a * b) ((in0 m c _ k u).trans (congrArg _ ?_)) ((in1 m c _ k n).trans (congrArg _ ?_))
  · funext a; apply Fin.ext
    have := s.isLt
    match a with
    | ⟨0, _⟩ => show (8 * (t.val / 8) + s.val) / 8 = t.val / 8; omega
    | ⟨1, _⟩ => show (8 * (t.val / 8) + s.val) % 8 * 1024 + k.val = s.val * 1024 + k.val; omega
    | ⟨2, _⟩ => rfl
  · funext a; apply Fin.ext
    have := s.isLt
    match a with
    | ⟨0, _⟩ => show (8 * (t.val / 8) + s.val) % 8 * 1024 + k.val = s.val * 1024 + k.val; omega
    | ⟨1, _⟩ => rfl

/-- The block written back is a block of the result. -/
theorem block_eq (c : Dev nD) (t : Fin cfg0.N) (ht : t.val % 8 = 7) (y : S1x1x704x2048.Idx) : (outsAt0 m c t.val t.isLt).1 y
    = G m c (ix4 ⟨t.val / 8 % 2, by omega⟩ ⟨t.val / 8 / 2, by have : t.val < 64 := t.isLt; omega⟩ (y 2) (y 3)) := by
  refine (out_eq m c t ht y).trans ((sum_eq m c t ht _).trans ((run_sum m c t _ _).trans ?_))
  unfold G
  refine Finset.sum_congr rfl fun s _ => congrArg (fun i => cols (act (hg m c) (hu m c)) i * df m c (ix2 s (y 3))) ?_
  funext a; apply Fin.ext
  match a with
  | ⟨0, _⟩ => show t.val / 8 = 2 * (t.val / 8 / 2) + t.val / 8 % 2; omega
  | ⟨1, _⟩ => rfl
  | ⟨2, _⟩ => rfl

/-- The result's array after the run. -/
theorem final (c : Dev nD) : (dats m 0 c).arrAt 2 cfg0.N = G m c := by
  refine (dats m 0 c).arrAt_eq_of_covers 2 _ (by decide +kernel) fun t hf y => ?_
  have ht : t.val % 8 = 7 := (flush0_2 t).mp hf
  blk_simp
  rw [after0_2]
  exact (block_eq m c t ht y).trans (congrArg (G m c) (out2 t y).symm)

end Cert.DownWeightKernel
-- ==== Proof.DownWeight.lean ====
/-
The gradient of a feed-forward's second weight: the kernel's array is the reference's.

The reference differentiates `(silu(h_gate) * h_up) @ w_down` in `w_down` and lays the result out by shard; both are one sum
over the 8192 tokens.
-/
module

public import proofs.«01_k».proof.Proof.DownWeightKernel
public import proofs.«01_k».proof.Proof.Gen.Reference2Ideal.Read
public import proofs.«01_k».proof.Defs

@[expose] public section

set_option maxRecDepth 16384

noncomputable section

namespace Cert.DownWeight

open Cert.Shards Cert.GateMath Cert.DownWeightKernel
open Idealize.ShloMosaic Idealize.ShloMosaic.TcCoe Idealize.SL.Sem Idealize.ShloMosaic.ValueIdx
open scoped BigOperators

/-- The reference's gradient at an index of the result. -/
theorem reference_apply (g u : Hid.Idx → EReal) (d : (⟨2, ![8192, 2048]⟩ : Shape).Idx → EReal) (i : Cert.Reference2Ideal.S2x4x704x2048.Idx)
    (h : 704 * (2 * (i 1).val + (i 0).val) + (i 2).val < 5632) :
    Cert.Reference2Ideal.Read.val_main_v8 (F := Ideal) g u d i
      = ∑ s : Fin 8192, d (ix2 s (i 3)) * act g u (ix2 s ⟨704 * (2 * (i 1).val + (i 0).val) + (i 2).val, h⟩) := by
  rw [Cert.Reference2Ideal.Read.val_main_v8_apply]
  show Cert.Reference2Ideal.Read.val_main_v7 (F := Ideal) g u d i = _
  rw [Cert.Reference2Ideal.Read.val_main_v7_apply, Cert.Reference2Ideal.Read.val_main_v6_apply,
    Cert.Reference2Ideal.Read.val_main_v5_apply, Cert.Reference2Ideal.Read.val_main_v4_apply]
  have h3 : (i 3).val < 2048 := (i 3).isLt
  refine Finset.sum_congr rfl fun s _ => congrArg₂ (· * ·) (congrArg d ?_)
    ((congrFun (act_host g u) _).trans (congrArg (act g u) ?_))
  · funext a; apply Fin.ext
    match a with
    | ⟨0, _⟩ => rfl
    | ⟨1, _⟩ => show ((((i 1).val * 2 + (i 0).val) * 704 + (i 2).val) * 2048 + (i 3).val) % 2048 = (i 3).val; omega
  · funext a; apply Fin.ext
    match a with
    | ⟨0, _⟩ => rfl
    | ⟨1, _⟩ =>
      show ((((i 1).val * 2 + (i 0).val) * 704 + (i 2).val) * 2048 + (i 3).val) / 2048 = 704 * (2 * (i 1).val + (i 0).val) + (i 2).val
      omega

/-- The kernel's array is the reference's. -/
theorem result (m : (ℓ : Loc Cert.Kernel2Ideal.nD Cert.Kernel2Ideal.τ Cert.Kernel2Ideal.sig) → Buf (Elt Ideal) ℓ) (c : Dev Cert.Kernel2Ideal.nD) :
    (G m c : Cert.Kernel2Ideal.S2x4x704x2048.Idx → EReal)
      = Cert.Reference2Ideal.Read.val_main_v8 (F := Ideal) (hg m c) (hu m c) (df m c) := by
  funext i
  have h0 : (i 0).val < 2 := (i 0).isLt
  have h1 : (i 1).val < 4 := (i 1).isLt
  have h2 : (i 2).val < 704 := (i 2).isLt
  refine Eq.trans ?_ (reference_apply (hg m c) (hu m c) (df m c) i (by omega)).symm
  unfold G
  refine Finset.sum_congr rfl fun s _ => ?_
  rw [cols_of_lt _ _ h2, mul_comm]

/-- The claim: the two programs leave the same array. -/
theorem equal : Cert.algebraic_Kernel2Ideal_Reference2Ideal := fun m g m' g' _ hag =>
  ⟨fun c => G m c,
    (θ_run _ _ _).mono (fun _ h c => ⟨(h c).1.trans (final m c), (h c).2⟩) (Cert.Kernel2Ideal.Value.run_blocks m g),
    (θ_run _ _ _).mono (fun _ h c => ⟨(h c).1.trans (by
        rw [Cert.Reference2Ideal.Read.val_main_v8_eq, (hag c).1, (hag c).2.1, (hag c).2.2]
        exact (result m c).symm), (h c).2⟩)
      (Cert.Reference2Ideal.Value.run m' g')⟩

end Cert.DownWeight
-- ==== Proof.InWeightKernel.lean ====
/-
The kernel that forms the gradients of a feed-forward's two input weights.

Grid point (j, k, i) adds to two running 768 by 1024 sums the products of 1024 tokens of one shard of the two hidden
derivatives, transposed, with half the columns of the same tokens of the normalised input; after the eight token blocks
the sums' first 704 rows are the shard's gradients. The module reads one step, the running sums, then the two arrays.
-/
module

public import proofs.«01_k».proof.Proof.Shards
public import proofs.«01_k».proof.Proof.GateMath
public import proofs.«01_k».proof.Proof.Contract
public import proofs.«01_k».proof.Proof.Gen.Kernel3Ideal.Value
public import Idealize.ShloMosaic.Lib.Pipeline.ValueKit.Geometry
public import Idealize.ShloMosaic.Lib.Pipeline.ValueKit.Acc

@[expose] public section

set_option maxRecDepth 16384

noncomputable section

namespace Cert.InWeightKernel

open Cert.Kernel3Ideal Cert.Kernel3Ideal.Gen Cert.Shards Cert.GateMath Cert.Contract
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The normalised input. -/
abbrev xn (c : Dev nD) : (⟨2, ![8192, 2048]⟩ : Shape).Idx → EReal := m ((c : Thread nD τ).loc main_arg0)
/-- The derivative at the gate's pre-activation. -/
abbrev dg (c : Dev nD) : Hid.Idx → EReal := m ((c : Thread nD τ).loc main_arg1)
/-- The derivative at the other factor. -/
abbrev du (c : Dev nD) : Hid.Idx → EReal := m ((c : Thread nD τ).loc main_arg2)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

theorem V_xn (c : Dev nD) : V m c main_v0 = xn m c := by
  simp only [V, hostOps0, hostOps0_1, hostOps0_2, hostOps0_3, List.flatten_cons, List.flatten_nil,
    List.append_nil, List.cons_append, List.nil_append, TRef.binary, TRef.nullary, TRef.unary, TRef.toBuf, TRef.ofBuf, cast_eq]
  after_results <;> rfl

theorem V_dg (c : Dev nD) : V m c main_v4 = cols (dg m c) := by
  refine Eq.trans ?_ (pad_cols (dg m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, List.flatten_cons, List.flatten_nil,
    List.append_nil, List.cons_append, List.nil_append, TRef.binary, TRef.nullary, TRef.unary, TRef.toBuf, TRef.ofBuf, cast_eq]
  after_results <;> rfl

theorem V_du (c : Dev nD) : V m c main_v8 = cols (du m c) := by
  refine Eq.trans ?_ (pad_cols (du m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, List.flatten_cons, List.flatten_nil,
    List.append_nil, List.cons_append, List.nil_append, TRef.binary, TRef.nullary, TRef.unary, TRef.toBuf, TRef.ofBuf, cast_eq]
  after_results <;> rfl

/-! ## One step -/

/-- A step adds the product of the first derivative's block with the input's. -/
theorem step0_apply (d : Vec Ideal S1024x1024 .bf16) (a : Vec Ideal S768x1024 .f32) (x : Vec Ideal S1x1024x768 .bf16) (y : S768x1024.Idx) :
    k0_pay4 d a x y = a y + ∑ k : Fin 1024, x (ix3 0 k (y 0)) * d (ix2 k (y 1)) := by
  obtain ⟨r, n, rfl⟩ : ∃ (r : Fin 768) (n : Fin 1024), y = ix2 r n := ⟨y 0, y 1, funext fun a => by fin_cases a <;> rfl⟩
  unfold k0_pay4 k0_pay3
  rw [shapeCast_self, shapeCast_self]
  show _ + FloatOps.matmul (rowsRows 1024 768 1024) none _ _ _ (ix2 r n) = _
  rw [rowsRows_apply]
  show _ + (Ideal.ofBits .f32 0x00000000#32 + _) = _
  rw [Ideal.ofBits_zero_f32, zero_add]
  refine congrArg _ (Finset.sum_congr rfl fun k _ => congrArg (· * _) ?_)
  exact (shapeCast_dropUnit_apply _ x _ (ix2 k r)).trans (congrArg x (funext fun a => by fin_cases a <;> rfl))

/-- The second sum's step is the first's. -/
theorem step1_apply (d : Vec Ideal S1024x1024 .bf16) (a : Vec Ideal S768x1024 .f32) (x : Vec Ideal S1x1024x768 .bf16) (y : S768x1024.Idx) :
    k0_pay5 d a x y = a y + ∑ k : Fin 1024, x (ix3 0 k (y 0)) * d (ix2 k (y 1)) := step0_apply d a x y

/-- A run starts from zero. -/
theorem start0_apply (y : S768x1024.Idx) : k0_pay1 (F := Ideal) y = 0 := by
  unfold k0_pay1
  rw [shapeCast_self]
  exact Ideal.ofBits_zero_f32
/-- So does the second sum's. -/
theorem start1_apply (y : S768x1024.Idx) : k0_pay2 (F := Ideal) y = 0 := start0_apply y

/-- The block written back is the first 704 rows of the sum. -/
theorem last0_apply (a : Vec Ideal S704x1024 .f32) (y : S1x1x704x1024.Idx) : k0_pay6 a y = a (ix2 (y 2) (y 3)) := by
  unfold k0_pay6
  refine shapeCast_apply _ _ _ _ ?_
  have h0 : (y 0).val < 1 := (y 0).isLt
  have h1 : (y 1).val < 1 := (y 1).isLt
  rw [Shape.rowMajor_val_two, Shape.rowMajor_val_four]
  show (y 2).val * 1024 + (y 3).val = (((y 0).val * 1 + (y 1).val) * 704 + (y 2).val) * 1024 + (y 3).val
  omega
/-- So is the second one. -/
theorem last1_apply (a : Vec Ideal S704x1024 .f32) (y : S1x1x704x1024.Idx) : k0_pay7 a y = a (ix2 (y 2) (y 3)) := last0_apply a y

/-! ## Where the blocks lie -/

theorem at0 : ∀ t : Fin cfg0.N, win0_0.index t = ![t.val % 8, t.val / 8 % 2] := (by decide +kernel : ∀ t : Fin grid0.N, _)
theorem at1 : ∀ t : Fin cfg0.N, win0_1.index t = ![t.val / 16, t.val % 8, 0] := (by decide +kernel : ∀ t : Fin grid0.N, _)
theorem at2 : ∀ t : Fin cfg0.N, win0_2.index t = ![t.val / 16, t.val % 8, 0] := (by decide +kernel : ∀ t : Fin grid0.N, _)
theorem at3 : ∀ t : Fin cfg0.N, win0_3.index t = ![t.val / 16 % 2, t.val / 16 / 2, 0, t.val / 8 % 2] :=
  (by decide +kernel : ∀ t : Fin grid0.N, _)
theorem at4 : ∀ t : Fin cfg0.N, win0_4.index t = ![t.val / 16 % 2, t.val / 16 / 2, 0, t.val / 8 % 2] :=
  (by decide +kernel : ∀ t : Fin grid0.N, _)

/-- Row `r` of the tokens at point `t`. -/
abbrev tok (t : Fin cfg0.N) (r : Fin 1024) : Fin 8192 := ⟨t.val % 8 * 1024 + r.val, by omega⟩
/-- Column `n` of the model width at point `t`. -/
abbrev col (t : Fin cfg0.N) (n : Fin 1024) : Fin 2048 := ⟨t.val / 8 % 2 * 1024 + n.val, by omega⟩
/-- The shard of point `t`. -/
abbrev shard (t : Fin cfg0.N) : Fin 8 := ⟨t.val / 16, by have : t.val < 128 := t.isLt; omega⟩

/-- The input's block at a point. -/
abbrev rhs (c : Dev nD) (t : Fin cfg0.N) : Vec Ideal S1024x1024 .bf16 := iblk m c 0 t
/-- The first derivative's block at a point. -/
abbrev lhs0 (c : Dev nD) (t : Fin cfg0.N) : Vec Ideal S1x1024x768 .bf16 := iblk m c 1 t
/-- The second derivative's block at a point. -/
abbrev lhs1 (c : Dev nD) (t : Fin cfg0.N) : Vec Ideal S1x1024x768 .bf16 := iblk m c 2 t

theorem in0 (c : Dev nD) (t : Fin cfg0.N) (r : Fin 1024) (n : Fin 1024) : rhs m c t (ix2 r n) = xn m c (ix2 (tok t r) (col t n)) := by
  rw [← V_xn m c]
  blk_simp [iblk]
  refine congrArg (V m c main_v0) ?_
  blk_ext [at0]

theorem in1 (c : Dev nD) (t : Fin cfg0.N) (r : Fin 1024) (u : Fin 768) :
    lhs0 m c t (ix3 0 r u) = cols (dg m c) (ix3 (shard t) (tok t r) u) := by
  rw [← V_dg m c]
  blk_simp [iblk]
  refine congrArg (V m c main_v4) ?_
  blk_ext [at1]

theorem in2 (c : Dev nD) (t : Fin cfg0.N) (r : Fin 1024) (u : Fin 768) :
    lhs1 m c t (ix3 0 r u) = cols (du m c) (ix3 (shard t) (tok t r) u) := by
  rw [← V_du m c]
  blk_simp [iblk]
  refine congrArg (V m c main_v8) ?_
  blk_ext [at2]

/-! ## The running sums -/

/-- The product of a derivative's block with one point's block of the input. -/
def part (x : Vec Ideal S1x1024x768 .bf16) (d : Vec Ideal S1024x1024 .bf16) (y : S768x1024.Idx) : EReal :=
  ∑ k : Fin 1024, x (ix3 0 k (y 0)) * d (ix2 k (y 1))

/-- Point `s` of the run of point `t`. -/
abbrev pt (t : Fin cfg0.N) (s : Fin 8) : Fin cfg0.N :=
  ⟨8 * (t.val / 8) + s.val, by have : t.val < 128 := t.isLt; show _ < 128; omega⟩

/-- After the last point of a run the first running sum holds the run's eight products. -/
theorem sum0_eq (c : Dev nD) (t : Fin cfg0.N) (ht : t.val % 8 = 7) (y : S768x1024.Idx) :
    (outsAt0 m c t.val t.isLt).2.2.1 y = ∑ s : Fin 8, part (lhs0 m c (pt t s)) (rhs m c (pt t s)) y := by
  have h := Pipeline.eq_sum_fin_of_reset_step_apply_of_flush (fun n h => (outsAt0 m c n h).2.2.1) 8 (fun _ => (0 : EReal))
    (fun t => part (lhs0 m c t) (rhs m c t))
    (fun t h y => by
      show (outsAt0 m c t.val t.isLt).2.2.1 y = _
      rw [outsAt0_A m c t h (by omega)]
      frame_out
      rw [step0_apply, start0_apply]
      rfl)
    (fun t h y => by
      show (outsAt0 m c t.val t.isLt).2.2.1 y = _
      by_cases h7 : t.val % 8 = 7
      · rw [outsAt0_C m c t h h7]
        frame_out
        rw [step0_apply]
        exact congrArg (· + part (lhs0 m c t) (rhs m c t) y) (congrFun (Memref.IsWhole.read_unread _ _) y)
      · rw [outsAt0_B m c t h h7]
        frame_out
        rw [step0_apply]
        exact congrArg (· + part (lhs0 m c t) (rhs m c t) y) (congrFun (Memref.IsWhole.read_unread _ _) y)) t ht y
  rw [zero_add] at h
  exact h

/-- After the last point of a run the second running sum holds the run's eight products. -/
theorem sum1_eq (c : Dev nD) (t : Fin cfg0.N) (ht : t.val % 8 = 7) (y : S768x1024.Idx) :
    (outsAt0 m c t.val t.isLt).2.2.2 y = ∑ s : Fin 8, part (lhs1 m c (pt t s)) (rhs m c (pt t s)) y := by
  have h := Pipeline.eq_sum_fin_of_reset_step_apply_of_flush (fun n h => (outsAt0 m c n h).2.2.2) 8 (fun _ => (0 : EReal))
    (fun t => part (lhs1 m c t) (rhs m c t))
    (fun t h y => by
      show (outsAt0 m c t.val t.isLt).2.2.2 y = _
      rw [outsAt0_A m c t h (by omega)]
      frame_out
      rw [step1_apply, start1_apply]
      rfl)
    (fun t h y => by
      show (outsAt0 m c t.val t.isLt).2.2.2 y = _
      by_cases h7 : t.val % 8 = 7
      · rw [outsAt0_C m c t h h7]
        frame_out
        rw [step1_apply]
        exact congrArg (· + part (lhs1 m c t) (rhs m c t) y) (congrFun (Memref.IsWhole.read_unread _ _) y)
      · rw [outsAt0_B m c t h h7]
        frame_out
        rw [step1_apply]
        exact congrArg (· + part (lhs1 m c t) (rhs m c t) y) (congrFun (Memref.IsWhole.read_unread _ _) y)) t ht y
  rw [zero_add] at h
  exact h

/-- The first 704 rows of a stored 768-row sum, read back. -/
theorem top_rows (v : View sig .tc .vmem S768x1024 .f32) (w : Vec Ideal S768x1024 .f32) (j : S704x1024.Idx) :
    v.readCov (Val := Elt Ideal) [⟨Rect.unit ![0, 0] S768x1024.size inb_S768x1024_S768x1024_0_0, w⟩]
      (Rect.unit (s := S768x1024) ![0, 0] ![704, 1024] inb_S768x1024_S704x1024_0_0).toLoadRect j
      = w (ix2 ⟨(j 0).val, by have : (j 0).val < 704 := (j 0).isLt; omega⟩ (j 1)) := by
  rw [View.readCov_eq_canon_ld _ _ _ (fun y => ⟨_, List.mem_cons_self, by
    show y ∈ (Rect.unit (s := S768x1024) ![0, 0] S768x1024.size inb_S768x1024_S768x1024_0_0).set
    rw [Rect.mem_set_unit]
    intro a
    fin_cases a
    · exact ⟨Nat.zero_le _, (y 0).isLt.trans_eq (Nat.zero_add _).symm⟩
    · exact ⟨Nat.zero_le _, (y 1).isLt.trans_eq (Nat.zero_add _).symm⟩⟩), View.canon_cons_unit_zero (S := S768x1024) hz2]
  refine congrArg w (funext fun a => Fin.ext ?_)
  match a with
  | ⟨0, _⟩ => exact (Nat.zero_add _).trans (Nat.one_mul _)
  | ⟨1, _⟩ => exact (Nat.zero_add _).trans (Nat.one_mul _)

/-- The block written back to the first result holds the first sum's first 704 rows. -/
theorem out0_eq (c : Dev nD) (t : Fin cfg0.N) (ht : t.val % 8 = 7) (y : S1x1x704x1024.Idx) :
    (outsAt0 m c t.val t.isLt).1 y
      = (outsAt0 m c t.val t.isLt).2.2.1 (ix2 ⟨(y 2).val, by have : (y 2).val < 704 := (y 2).isLt; omega⟩ (y 3)) := by
  rw [outsAt0_C m c t (by omega) ht]
  frame_out
  rw [last0_apply]
  exact top_rows _ _ _

/-- The block written back to the second result holds the second sum's first 704 rows. -/
theorem out1_eq (c : Dev nD) (t : Fin cfg0.N) (ht : t.val % 8 = 7) (y : S1x1x704x1024.Idx) :
    (outsAt0 m c t.val t.isLt).2.1 y
      = (outsAt0 m c t.val t.isLt).2.2.2 (ix2 ⟨(y 2).val, by have : (y 2).val < 704 := (y 2).isLt; omega⟩ (y 3)) := by
  rw [outsAt0_C m c t (by omega) ht]
  frame_out
  rw [last1_apply]
  exact top_rows _ _ _

/-! ## The arrays -/

/-- The shard whose gradient lies at an index of the result. -/
abbrev shardAt (i : S2x4x704x2048.Idx) : Fin 8 :=
  ⟨2 * (i 1).val + (i 0).val, by have h0 : (i 0).val < 2 := (i 0).isLt; have h1 : (i 1).val < 4 := (i 1).isLt; omega⟩
/-- Its unit in the padded shard. -/
abbrev unitAt (i : S2x4x704x2048.Idx) : Fin 768 := ⟨(i 2).val, by have : (i 2).val < 704 := (i 2).isLt; omega⟩

/-- What the kernel leaves in a result: a derivative, transposed, times the input. -/
def G (d : Hid.Idx → EReal) (x : (⟨2, ![8192, 2048]⟩ : Shape).Idx → EReal) (i : S2x4x704x2048.Idx) : EReal :=
  ∑ s : Fin 8192, cols d (ix3 (shardAt i) s (unitAt i)) * x (ix2 s (i 3))

/-- A run's eight products are the sum over all tokens. -/
theorem run_sum (c : Dev nD) (t : Fin cfg0.N) (d : Hid.Idx → EReal) (l : Fin cfg0.N → Vec Ideal S1x1024x768 .bf16)
    (hl : ∀ (t : Fin cfg0.N) (r : Fin 1024) (u : Fin 768), l t (ix3 0 r u) = cols d (ix3 (shard t) (tok t r) u))
    (u : Fin 768) (n : Fin 1024) :
    ∑ s : Fin 8, part (l (pt t s)) (rhs m c (pt t s)) (ix2 u n)
      = ∑ s : Fin 8192, cols d (ix3 (shard t) s u) * xn m c (ix2 s (col t n)) := by
  refine Fin.sum_mul_add_congr fun s k hs => ?_
  refine congrArg₂ (fun a b : EReal => a * b) ((hl _ k u).trans (congrArg _ ?_)) ((in0 m c _ k n).trans (congrArg _ ?_))
  · funext a; apply Fin.ext
    have := s.isLt
    match a with
    | ⟨0, _⟩ => show (8 * (t.val / 8) + s.val) / 16 = t.val / 16; omega
    | ⟨1, _⟩ => show (8 * (t.val / 8) + s.val) % 8 * 1024 + k.val = s.val * 1024 + k.val; omega
    | ⟨2, _⟩ => rfl
  · funext a; apply Fin.ext
    have := s.isLt
    match a with
    | ⟨0, _⟩ => show (8 * (t.val / 8) + s.val) % 8 * 1024 + k.val = s.val * 1024 + k.val; omega
    | ⟨1, _⟩ => show (8 * (t.val / 8) + s.val) / 8 % 2 * 1024 + n.val = t.val / 8 % 2 * 1024 + n.val; omega

/-- Where an index of the block of point `t` lies in a result. -/
abbrev place (t : Fin cfg0.N) (y : S1x1x704x1024.Idx) : S2x4x704x2048.Idx :=
  ix4 ⟨t.val / 16 % 2, by omega⟩ ⟨t.val / 16 / 2, by have : t.val < 128 := t.isLt; omega⟩ (y 2)
    ⟨t.val / 8 % 2 * 1024 + (y 3).val, by have : (y 3).val < 1024 := (y 3).isLt; omega⟩

theorem place3 (t : Fin cfg0.N) (y : S1x1x704x1024.Idx) : ((cfg0.win 3).blk t).view.emb y = place t y := by
  blk_ext [at3]
theorem place4 (t : Fin cfg0.N) (y : S1x1x704x1024.Idx) : ((cfg0.win 4).blk t).view.emb y = place t y := by
  blk_ext [at4]

/-- The sum over all tokens at a block's index is the result at its place. -/
theorem G_place (d : Hid.Idx → EReal) (x : (⟨2, ![8192, 2048]⟩ : Shape).Idx → EReal) (t : Fin cfg0.N) (y : S1x1x704x1024.Idx)
    (u : Fin 768) (hu : u.val = (y 2).val) :
    ∑ s : Fin 8192, cols d (ix3 (shard t) s u) * x (ix2 s (col t (y 3))) = G d x (place t y) := by
  unfold G
  refine Finset.sum_congr rfl fun s _ => congrArg (fun i => cols d i * x (ix2 s (col t (y 3)))) ?_
  funext a; apply Fin.ext
  match a with
  | ⟨0, _⟩ => show t.val / 16 = 2 * (t.val / 16 / 2) + t.val / 16 % 2; omega
  | ⟨1, _⟩ => rfl
  | ⟨2, _⟩ => exact hu

/-- The first result's array after the run. -/
theorem final3 (c : Dev nD) : (dats m 0 c).arrAt 3 cfg0.N = G (dg m c) (xn m c) := by
  refine (dats m 0 c).arrAt_eq_of_covers 3 _ (by decide +kernel) fun t hf y => ?_
  have ht : t.val % 8 = 7 := (flush0_3 t).mp hf
  blk_simp
  rw [after0_3]
  exact (out0_eq m c t ht y).trans ((sum0_eq m c t ht _).trans ((run_sum m c t (dg m c) (lhs0 m c) (in1 m c) _ _).trans
    ((G_place (dg m c) (xn m c) t y _ rfl).trans (congrArg (G (dg m c) (xn m c)) (place3 t y).symm))))

/-- The second result's array after the run. -/
theorem final4 (c : Dev nD) : (dats m 0 c).arrAt 4 cfg0.N = G (du m c) (xn m c) := by
  refine (dats m 0 c).arrAt_eq_of_covers 4 _ (by decide +kernel) fun t hf y => ?_
  have ht : t.val % 8 = 7 := (flush0_4 t).mp hf
  blk_simp
  rw [after0_4]
  exact (out1_eq m c t ht y).trans ((sum1_eq m c t ht _).trans ((run_sum m c t (du m c) (lhs1 m c) (in2 m c) _ _).trans
    ((G_place (du m c) (xn m c) t y _ rfl).trans (congrArg (G (du m c) (xn m c)) (place4 t y).symm))))

end Cert.InWeightKernel
-- ==== Proof.InWeight.lean ====
/-
The gradients of a feed-forward's two input weights: the kernel's arrays are the reference's.

The reference differentiates `xn @ w_gate` and `xn @ w_up` in the weights and lays the results out by shard; each is one sum
over the 8192 tokens.
-/
module

public import proofs.«01_k».proof.Proof.InWeightKernel
public import proofs.«01_k».proof.Proof.Gen.Reference3Ideal.Read
public import proofs.«01_k».proof.Defs

@[expose] public section

set_option maxRecDepth 16384

noncomputable section

namespace Cert.InWeight

open Cert.Shards Cert.GateMath Cert.InWeightKernel
open Idealize.ShloMosaic Idealize.ShloMosaic.TcCoe Idealize.SL.Sem Idealize.ShloMosaic.ValueIdx
open scoped BigOperators

/-- The reference's gradient of the gate's weight at an index of the result. -/
theorem reference0 (x : (⟨2, ![8192, 2048]⟩ : Shape).Idx → EReal) (d : Hid.Idx → EReal) (i : Cert.Reference3Ideal.S2x4x704x2048.Idx)
    (h : 704 * (2 * (i 1).val + (i 0).val) + (i 2).val < 5632) :
    Cert.Reference3Ideal.Read.val_main_v10 (F := Ideal) x d i
      = ∑ s : Fin 8192, d (ix2 s ⟨704 * (2 * (i 1).val + (i 0).val) + (i 2).val, h⟩) * x (ix2 s (i 3)) := by
  rw [Cert.Reference3Ideal.Read.val_main_v10_apply]
  show Cert.Reference3Ideal.Read.val_main_v9 (F := Ideal) x d i = _
  rw [Cert.Reference3Ideal.Read.val_main_v9_apply, Cert.Reference3Ideal.Read.val_main_v8_apply,
    Cert.Reference3Ideal.Read.val_main_v7_apply, Cert.Reference3Ideal.Read.val_main_v6_apply, Cert.Reference3Ideal.Read.val_main_v5_apply]
  have h3 : (i 3).val < 2048 := (i 3).isLt
  refine Finset.sum_congr rfl fun s _ => congrArg₂ (· * ·) (congrArg d ?_) (congrArg x ?_)
  · funext a; apply Fin.ext
    match a with
    | ⟨0, _⟩ => rfl
    | ⟨1, _⟩ =>
      show ((((i 1).val * 2 + (i 0).val) * 704 + (i 2).val) * 2048 + (i 3).val) / 2048 = 704 * (2 * (i 1).val + (i 0).val) + (i 2).val
      omega
  · funext a; apply Fin.ext
    match a with
    | ⟨0, _⟩ => rfl
    | ⟨1, _⟩ => show ((((i 1).val * 2 + (i 0).val) * 704 + (i 2).val) * 2048 + (i 3).val) % 2048 = (i 3).val; omega

/-- The reference's gradient of the other weight at an index of the result. -/
theorem reference1 (x : (⟨2, ![8192, 2048]⟩ : Shape).Idx → EReal) (d : Hid.Idx → EReal) (i : Cert.Reference3Ideal.S2x4x704x2048.Idx)
    (h : 704 * (2 * (i 1).val + (i 0).val) + (i 2).val < 5632) :
    Cert.Reference3Ideal.Read.val_main_v14 (F := Ideal) x d i
      = ∑ s : Fin 8192, d (ix2 s ⟨704 * (2 * (i 1).val + (i 0).val) + (i 2).val, h⟩) * x (ix2 s (i 3)) := by
  rw [Cert.Reference3Ideal.Read.val_main_v14_apply]
  show Cert.Reference3Ideal.Read.val_main_v13 (F := Ideal) x d i = _
  rw [Cert.Reference3Ideal.Read.val_main_v13_apply, Cert.Reference3Ideal.Read.val_main_v12_apply,
    Cert.Reference3Ideal.Read.val_main_v11_apply, Cert.Reference3Ideal.Read.val_main_v4_apply, Cert.Reference3Ideal.Read.val_main_v3_apply]
  have h3 : (i 3).val < 2048 := (i 3).isLt
  refine Finset.sum_congr rfl fun s _ => congrArg₂ (· * ·) (congrArg d ?_) (congrArg x ?_)
  · funext a; apply Fin.ext
    match a with
    | ⟨0, _⟩ => rfl
    | ⟨1, _⟩ =>
      show ((((i 1).val * 2 + (i 0).val) * 704 + (i 2).val) * 2048 + (i 3).val) / 2048 = 704 * (2 * (i 1).val + (i 0).val) + (i 2).val
      omega
  · funext a; apply Fin.ext
    match a with
    | ⟨0, _⟩ => rfl
    | ⟨1, _⟩ => show ((((i 1).val * 2 + (i 0).val) * 704 + (i 2).val) * 2048 + (i 3).val) % 2048 = (i 3).val; omega

/-- The kernel's array of a derivative, read through the shards. -/
theorem G_apply (d : Hid.Idx → EReal) (x : (⟨2, ![8192, 2048]⟩ : Shape).Idx → EReal) (i : Cert.Kernel3Ideal.S2x4x704x2048.Idx)
    (h : 704 * (2 * (i 1).val + (i 0).val) + (i 2).val < 5632) :
    G d x i = ∑ s : Fin 8192, d (ix2 s ⟨704 * (2 * (i 1).val + (i 0).val) + (i 2).val, h⟩) * x (ix2 s (i 3)) := by
  have h2 : (i 2).val < 704 := (i 2).isLt
  unfold G
  refine Finset.sum_congr rfl fun s _ => ?_
  rw [cols_of_lt _ _ h2]

theorem inside (i : Cert.Kernel3Ideal.S2x4x704x2048.Idx) : 704 * (2 * (i 1).val + (i 0).val) + (i 2).val < 5632 := by
  have h0 : (i 0).val < 2 := (i 0).isLt
  have h1 : (i 1).val < 4 := (i 1).isLt
  have h2 : (i 2).val < 704 := (i 2).isLt
  omega

/-- The claim: the two programs leave the same two arrays. -/
theorem equal : Cert.algebraic_Kernel3Ideal_Reference3Ideal := fun m g m' g' _ hag =>
  ⟨fun c => G (dg m c) (xn m c), fun c => G (du m c) (xn m c),
    (θ_run _ _ _).mono (fun _ h c => ⟨(h c).1.trans (final3 m c), (h c).2.1.trans (final4 m c), (h c).2.2⟩)
      (Cert.Kernel3Ideal.Value.run_blocks m g),
    (θ_run _ _ _).mono (fun _ h c => ⟨(h c).1.trans (by
        rw [Cert.Reference3Ideal.Read.val_main_v10_eq, (hag c).1, (hag c).2.1]
        exact funext fun i => (reference0 _ _ i (inside i)).trans (G_apply _ _ i (inside i)).symm), (h c).2.1.trans (by
        rw [Cert.Reference3Ideal.Read.val_main_v14_eq, (hag c).1, (hag c).2.2]
        exact funext fun i => (reference1 _ _ i (inside i)).trans (G_apply _ _ i (inside i)).symm), (h c).2.2⟩)
      (Cert.Reference3Ideal.Value.run m' g')⟩

end Cert.InWeight
-- ==== Proof.InputKernel.lean ====
/-
The kernel that carries a feed-forward's two hidden derivatives back to its normalised input.

Grid point (i, n, j) adds to a running 1024 by 1024 sum, for 1024 tokens and half the model width, the products of one
shard of the two derivatives with the same shard of the two weights; after the eight shards the sum is written back. The
padding units of a shard are zero, so they add nothing.
-/
module

public import proofs.«01_k».proof.Proof.Shards
public import proofs.«01_k».proof.Proof.GateMath
public import proofs.«01_k».proof.Proof.Gen.Kernel4Ideal.Value
public import Idealize.ShloMosaic.Lib.MatmulPlain
public import Idealize.ShloMosaic.Lib.Pipeline.ValueKit.Geometry
public import Idealize.ShloMosaic.Lib.Pipeline.ValueKit.Acc

@[expose] public section

set_option maxRecDepth 16384

noncomputable section

namespace Cert.InputKernel

open Cert.Kernel4Ideal Cert.Kernel4Ideal.Gen Cert.Shards Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The derivative at the gate's pre-activation. -/
abbrev dg (c : Dev nD) : Hid.Idx → EReal := m ((c : Thread nD τ).loc main_arg0)
/-- The derivative at the other factor. -/
abbrev du (c : Dev nD) : Hid.Idx → EReal := m ((c : Thread nD τ).loc main_arg1)
/-- The gate's weight, model width by hidden units. -/
abbrev wg (c : Dev nD) : (⟨2, ![2048, 5632]⟩ : Shape).Idx → EReal := m ((c : Thread nD τ).loc main_arg2)
/-- The other weight. -/
abbrev wu (c : Dev nD) : (⟨2, ![2048, 5632]⟩ : Shape).Idx → EReal := m ((c : Thread nD τ).loc main_arg3)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

theorem V_dg (c : Dev nD) : V m c main_v3 = cols (dg m c) := by
  refine Eq.trans ?_ (pad_cols (dg m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, hostOps0_4, hostOps0_5, hostOps0_6, hostOps0_7, List.flatten_cons,
    List.flatten_nil, List.append_nil, List.cons_append, List.nil_append, TRef.binary, TRef.nullary, TRef.unary, TRef.toBuf, TRef.ofBuf,
    cast_eq]
  after_results <;> rfl

theorem V_du (c : Dev nD) : V m c main_v7 = cols (du m c) := by
  refine Eq.trans ?_ (pad_cols (du m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, hostOps0_4, hostOps0_5, hostOps0_6, hostOps0_7, List.flatten_cons,
    List.flatten_nil, List.append_nil, List.cons_append, List.nil_append, TRef.binary, TRef.nullary, TRef.unary, TRef.toBuf, TRef.ofBuf,
    cast_eq]
  after_results <;> rfl

theorem V_wg (c : Dev nD) : V m c main_v11 = rows (flip (wg m c)) := by
  rw [← flip_host _ transposes_S2048x5632_S5632x2048_1_0]
  refine Eq.trans ?_ (pad_rows _ (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, hostOps0_4, hostOps0_5, hostOps0_6, hostOps0_7, List.flatten_cons,
    List.flatten_nil, List.append_nil, List.cons_append, List.nil_append, TRef.binary, TRef.nullary, TRef.unary, TRef.toBuf, TRef.ofBuf,
    cast_eq]
  after_results <;> rfl

theorem V_wu (c : Dev nD) : V m c main_v15 = rows (flip (wu m c)) := by
  rw [← flip_host _ transposes_S2048x5632_S5632x2048_1_0]
  refine Eq.trans ?_ (pad_rows _ (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, hostOps0_4, hostOps0_5, hostOps0_6, hostOps0_7, List.flatten_cons,
    List.flatten_nil, List.append_nil, List.cons_append, List.nil_append, TRef.binary, TRef.nullary, TRef.unary, TRef.toBuf, TRef.ofBuf,
    cast_eq]
  after_results <;> rfl

/-! ## One step -/

/-- What a step adds: the two products of the point's blocks. -/
def part (x : Vec Ideal S1x1024x768 .bf16) (w : Vec Ideal S1x768x1024 .bf16) (x' : Vec Ideal S1x1024x768 .bf16)
    (w' : Vec Ideal S1x768x1024 .bf16) (y : S1024x1024.Idx) : EReal :=
  ∑ k : Fin 768, x (ix3 0 (y 0) k) * w (ix3 0 k (y 1)) + ∑ k : Fin 768, x' (ix3 0 (y 0) k) * w' (ix3 0 k (y 1))

/-- One product of a step. -/
theorem product_apply (x : Vec Ideal S1x1024x768 .bf16) (w : Vec Ideal S1x768x1024 .bf16) (r n : Fin 1024) :
    matmul (F := Ideal) (φ₁ := .bf16) (φ₂ := .bf16) dot_S1024x768_S768x1024_S1024x1024_1_0_0_1_n_n none
        (shapeCast S1024x768 x shapeCasts_S1x1024x768_S1024x768 : FVec Ideal S1024x768 .bf16)
        (shapeCast S768x1024 w shapeCasts_S1x768x1024_S768x1024 : FVec Ideal S768x1024 .bf16)
        (constant (F := Ideal) S1024x1024 .f32 0x00000000#32) (ix2 r n)
      = ∑ k : Fin 768, x (ix3 0 r k) * w (ix3 0 k n) := by
  show FloatOps.matmul (DotDims.plain 1024 768 1024) none _ _ _ (ix2 r n) = _
  rw [Ideal.matmul_plain_apply]
  show Ideal.ofBits .f32 0x00000000#32 + _ = _
  rw [Ideal.ofBits_zero_f32, zero_add]
  refine Finset.sum_congr rfl fun k _ => congrArg₂ (· * ·) ?_ ?_
  · exact (shapeCast_dropUnit_apply _ x _ (ix2 r k)).trans (congrArg x (funext fun a => by fin_cases a <;> rfl))
  · exact (shapeCast_dropUnit_apply _ w _ (ix2 k n)).trans (congrArg w (funext fun a => by fin_cases a <;> rfl))

/-- A step adds the two products to the running sum. -/
theorem step_apply (a : Vec Ideal S1024x1024 .f32) (x : Vec Ideal S1x1024x768 .bf16) (w : Vec Ideal S1x768x1024 .bf16)
    (x' : Vec Ideal S1x1024x768 .bf16) (w' : Vec Ideal S1x768x1024 .bf16) (y : S1024x1024.Idx) :
    k0_pay2 a x w x' w' y = a y + part x w x' w' y := by
  obtain ⟨r, n, rfl⟩ : ∃ (r n : Fin 1024), y = ix2 r n := ⟨y 0, y 1, funext fun a => by fin_cases a <;> rfl⟩
  unfold k0_pay2 part
  rw [shapeCast_self]
  exact congrArg (a (ix2 r n) + ·) (congrArg₂ (fun a b : EReal => a + b) (product_apply x w r n) (product_apply x' w' r n))

/-- A run starts from zero. -/
theorem start_apply (y : S1024x1024.Idx) : k0_pay1 (F := Ideal) y = 0 := by
  unfold k0_pay1
  rw [shapeCast_self]
  exact Ideal.ofBits_zero_f32

/-! ## Where the blocks lie -/

theorem at0 : ∀ t : Fin cfg0.N, win0_0.index t = ![t.val % 8, t.val / 16, 0] := (by decide +kernel : ∀ t : Fin grid0.N, _)
theorem at1 : ∀ t : Fin cfg0.N, win0_1.index t = ![t.val % 8, t.val / 16, 0] := (by decide +kernel : ∀ t : Fin grid0.N, _)
theorem at2 : ∀ t : Fin cfg0.N, win0_2.index t = ![t.val % 8, 0, t.val / 8 % 2] := (by decide +kernel : ∀ t : Fin grid0.N, _)
theorem at3 : ∀ t : Fin cfg0.N, win0_3.index t = ![t.val % 8, 0, t.val / 8 % 2] := (by decide +kernel : ∀ t : Fin grid0.N, _)
theorem at4 : ∀ t : Fin cfg0.N, win0_4.index t = ![t.val / 16, t.val / 8 % 2] := (by decide +kernel : ∀ t : Fin grid0.N, _)

/-- Row `r` of the tokens at point `t`. -/
abbrev tok (t : Fin cfg0.N) (r : Fin 1024) : Fin 8192 := ⟨t.val / 16 * 1024 + r.val, by have : t.val < 128 := t.isLt; omega⟩
/-- Column `n` of the model width at point `t`. -/
abbrev col (t : Fin cfg0.N) (n : Fin 1024) : Fin 2048 := ⟨t.val / 8 % 2 * 1024 + n.val, by omega⟩
/-- The shard of point `t`. -/
abbrev shard (t : Fin cfg0.N) : Fin 8 := ⟨t.val % 8, by omega⟩

/-- The first derivative's block at a point. -/
abbrev lhs0 (c : Dev nD) (t : Fin cfg0.N) : Vec Ideal S1x1024x768 .bf16 := iblk m c 0 t
/-- The second derivative's block at a point. -/
abbrev lhs1 (c : Dev nD) (t : Fin cfg0.N) : Vec Ideal S1x1024x768 .bf16 := iblk m c 1 t
/-- The first weight's block at a point. -/
abbrev rhs0 (c : Dev nD) (t : Fin cfg0.N) : Vec Ideal S1x768x1024 .bf16 := iblk m c 2 t
/-- The second weight's block at a point. -/
abbrev rhs1 (c : Dev nD) (t : Fin cfg0.N) : Vec Ideal S1x768x1024 .bf16 := iblk m c 3 t

theorem in0 (c : Dev nD) (t : Fin cfg0.N) (r : Fin 1024) (u : Fin 768) :
    lhs0 m c t (ix3 0 r u) = cols (dg m c) (ix3 (shard t) (tok t r) u) := by
  rw [← V_dg m c]
  blk_simp [iblk]
  refine congrArg (V m c main_v3) ?_
  blk_ext [at0]

theorem in1 (c : Dev nD) (t : Fin cfg0.N) (r : Fin 1024) (u : Fin 768) :
    lhs1 m c t (ix3 0 r u) = cols (du m c) (ix3 (shard t) (tok t r) u) := by
  rw [← V_du m c]
  blk_simp [iblk]
  refine congrArg (V m c main_v7) ?_
  blk_ext [at1]

theorem in2 (c : Dev nD) (t : Fin cfg0.N) (u : Fin 768) (n : Fin 1024) :
    rhs0 m c t (ix3 0 u n) = rows (flip (wg m c)) (ix3 (shard t) u (col t n)) := by
  rw [← V_wg m c]
  blk_simp [iblk]
  refine congrArg (V m c main_v11) ?_
  blk_ext [at2]

theorem in3 (c : Dev nD) (t : Fin cfg0.N) (u : Fin 768) (n : Fin 1024) :
    rhs1 m c t (ix3 0 u n) = rows (flip (wu m c)) (ix3 (shard t) u (col t n)) := by
  rw [← V_wu m c]
  blk_simp [iblk]
  refine congrArg (V m c main_v15) ?_
  blk_ext [at3]

/-! ## The running sum -/

/-- Point `s` of the run of point `t`. -/
abbrev pt (t : Fin cfg0.N) (s : Fin 8) : Fin cfg0.N :=
  ⟨8 * (t.val / 8) + s.val, by have : t.val < 128 := t.isLt; show _ < 128; omega⟩

/-- What point `t` adds. -/
abbrev added (c : Dev nD) (t : Fin cfg0.N) (y : S1024x1024.Idx) : EReal := part (lhs0 m c t) (rhs0 m c t) (lhs1 m c t) (rhs1 m c t) y

/-- After the last point of a run the running sum holds what the run's eight points add. -/
theorem sum_eq (c : Dev nD) (t : Fin cfg0.N) (ht : t.val % 8 = 7) (y : S1024x1024.Idx) :
    (outsAt0 m c t.val t.isLt).2 y = ∑ s : Fin 8, added m c (pt t s) y := by
  have h := Pipeline.eq_sum_fin_of_reset_step_apply_of_flush (fun n h => (outsAt0 m c n h).2) 8 (fun _ => (0 : EReal))
    (fun t => added m c t)
    (fun t h y => by
      show (outsAt0 m c t.val t.isLt).2 y = _
      rw [outsAt0_A m c t h (by omega)]
      frame_out
      rw [step_apply, start_apply])
    (fun t h y => by
      show (outsAt0 m c t.val t.isLt).2 y = _
      by_cases h7 : t.val % 8 = 7
      · rw [outsAt0_C m c t h h7]
        frame_out
        rw [step_apply]
        exact congrArg (· + added m c t y) (congrFun (Memref.IsWhole.read_unread _ _) y)
      · rw [outsAt0_B m c t h h7]
        frame_out
        rw [step_apply]
        exact congrArg (· + added m c t y) (congrFun (Memref.IsWhole.read_unread _ _) y)) t ht y
  rw [zero_add] at h
  exact h

/-- The block written back is the sum. -/
theorem out_eq (c : Dev nD) (t : Fin cfg0.N) (ht : t.val % 8 = 7) (y : S1024x1024.Idx) :
    (outsAt0 m c t.val t.isLt).1 y = (outsAt0 m c t.val t.isLt).2 y := by
  rw [outsAt0_C m c t (by omega) ht]
  frame_out
  rfl

/-! ## The array -/

/-- One product over the hidden units, cut into padded shards. -/
def over (d : Hid.Idx → EReal) (w : (⟨2, ![2048, 5632]⟩ : Shape).Idx → EReal) (i : S8192x2048.Idx) : EReal :=
  ∑ s : Fin 8, ∑ k : Fin 768, cols d (ix3 s (i 0) k) * rows (flip w) (ix3 s k (i 1))

/-- What the kernel leaves in its result. -/
def G (c : Dev nD) (i : S8192x2048.Idx) : EReal := over (dg m c) (wg m c) i + over (du m c) (wu m c) i

/-- Where an index of the block of point `t` lies in the result. -/
abbrev place (t : Fin cfg0.N) (y : S1024x1024.Idx) : S8192x2048.Idx := ix2 (tok t (y 0)) (col t (y 1))

theorem place4 (t : Fin cfg0.N) (y : S1024x1024.Idx) : ((cfg0.win 4).blk t).view.emb y = place t y := by
  blk_ext [at4]

/-- Every point of a run lies at the same place, over its own shard. -/
theorem tok_pt (t : Fin cfg0.N) (s : Fin 8) (r : Fin 1024) : tok (pt t s) r = tok t r :=
  Fin.ext (by have := s.isLt; show (8 * (t.val / 8) + s.val) / 16 * 1024 + r.val = t.val / 16 * 1024 + r.val; omega)
theorem col_pt (t : Fin cfg0.N) (s : Fin 8) (n : Fin 1024) : col (pt t s) n = col t n :=
  Fin.ext (by have := s.isLt; show (8 * (t.val / 8) + s.val) / 8 % 2 * 1024 + n.val = t.val / 8 % 2 * 1024 + n.val; omega)
theorem shard_pt (t : Fin cfg0.N) (s : Fin 8) : shard (pt t s) = s :=
  Fin.ext (by have := s.isLt; show (8 * (t.val / 8) + s.val) % 8 = s.val; omega)

/-- What the eight points of a run add up to. -/
theorem run_sum (c : Dev nD) (t : Fin cfg0.N) (y : S1024x1024.Idx) : ∑ s : Fin 8, added m c (pt t s) y = G m c (place t y) := by
  unfold G over added part
  rw [Finset.sum_add_distrib]
  refine congrArg₂ (fun a b : EReal => a + b) (Finset.sum_congr rfl fun s _ => Finset.sum_congr rfl fun k _ => ?_)
    (Finset.sum_congr rfl fun s _ => Finset.sum_congr rfl fun k _ => ?_)
  · refine congrArg₂ (fun a b : EReal => a * b) ((in0 m c (pt t s) (y 0) k).trans ?_) ((in2 m c (pt t s) k (y 1)).trans ?_)
    · exact congrArg₂ (fun s r => cols (dg m c) (ix3 s r k)) (shard_pt t s) (tok_pt t s (y 0))
    · exact congrArg₂ (fun s n => rows (flip (wg m c)) (ix3 s k n)) (shard_pt t s) (col_pt t s (y 1))
  · refine congrArg₂ (fun a b : EReal => a * b) ((in1 m c (pt t s) (y 0) k).trans ?_) ((in3 m c (pt t s) k (y 1)).trans ?_)
    · exact congrArg₂ (fun s r => cols (du m c) (ix3 s r k)) (shard_pt t s) (tok_pt t s (y 0))
    · exact congrArg₂ (fun s n => rows (flip (wu m c)) (ix3 s k n)) (shard_pt t s) (col_pt t s (y 1))

/-- The result's array after the run. -/
theorem final (c : Dev nD) : (dats m 0 c).arrAt 4 cfg0.N = G m c := by
  refine (dats m 0 c).arrAt_eq_of_covers 4 _ (by decide +kernel) fun t hf y => ?_
  have ht : t.val % 8 = 7 := (flush0_4 t).mp hf
  blk_simp
  rw [after0_4]
  exact (out_eq m c t ht y).trans ((sum_eq m c t ht y).trans ((run_sum m c t y).trans (congrArg (G m c) (place4 t y).symm)))

end Cert.InputKernel
-- ==== Proof.Input.lean ====
/-
The derivative at a feed-forward's normalised input: the kernel's array is the reference's.

The reference differentiates `xn @ w_gate` and `xn @ w_up` in `xn` and adds the two; the kernel sums the same products shard
by shard, the padding units adding zero.
-/
module

public import proofs.«01_k».proof.Proof.InputKernel
public import proofs.«01_k».proof.Proof.Gen.Reference4Ideal.Read
public import proofs.«01_k».proof.Defs

@[expose] public section

set_option maxRecDepth 16384

noncomputable section

namespace Cert.Input

open Cert.Shards Cert.GateMath Cert.InputKernel
open Idealize.ShloMosaic Idealize.ShloMosaic.TcCoe Idealize.SL.Sem Idealize.ShloMosaic.ValueIdx
open scoped BigOperators

/-- One product over the padded shards is the product over the hidden units. -/
theorem over_apply (d : Hid.Idx → EReal) (w : (⟨2, ![2048, 5632]⟩ : Shape).Idx → EReal) (i : Cert.Kernel4Ideal.S8192x2048.Idx) :
    over d w i = ∑ l : Fin 5632, d (ix2 (i 0) l) * w (ix2 (i 1) l) := by
  refine Eq.trans ?_ (sum_units fun l => d (ix2 (i 0) l) * w (ix2 (i 1) l))
  unfold over
  refine Finset.sum_congr rfl fun s _ => Finset.sum_congr rfl fun k _ => ?_
  by_cases h : k.val < 704
  · rw [dif_pos h, cols_of_lt _ _ h, rows_of_lt _ _ h]
  · rw [dif_neg h, cols_of_not _ _ h, zero_mul]

/-- The reference's derivative at the normalised input. -/
theorem reference_apply (d u : Hid.Idx → EReal) (w w' : (⟨2, ![2048, 5632]⟩ : Shape).Idx → EReal) (i : Cert.Reference4Ideal.S8192x2048.Idx) :
    Cert.Reference4Ideal.Read.val_main_v6 (F := Ideal) d u w w' i
      = (∑ l : Fin 5632, u (ix2 (i 0) l) * w' (ix2 (i 1) l)) + ∑ l : Fin 5632, d (ix2 (i 0) l) * w (ix2 (i 1) l) := by
  rw [Cert.Reference4Ideal.Read.val_main_v6_apply]
  show Cert.Reference4Ideal.Read.val_main_v5 (F := Ideal) d u w w' i = _
  rw [Cert.Reference4Ideal.Read.val_main_v5_apply, Cert.Reference4Ideal.Read.val_main_v4_apply, Cert.Reference4Ideal.Read.val_main_v3_apply]
  refine congrArg₂ (fun a b : EReal => a + b) (Finset.sum_congr rfl fun l _ => congrArg₂ (· * ·) (congrArg u ?_) (congrArg w' ?_))
    (Finset.sum_congr rfl fun l _ => congrArg₂ (· * ·) (congrArg d ?_) (congrArg w ?_)) <;>
  exact funext fun a => by fin_cases a <;> rfl

/-- The kernel's array is the reference's. -/
theorem result (m : (ℓ : Loc Cert.Kernel4Ideal.nD Cert.Kernel4Ideal.τ Cert.Kernel4Ideal.sig) → Buf (Elt Ideal) ℓ) (c : Dev Cert.Kernel4Ideal.nD) :
    (G m c : Cert.Kernel4Ideal.S8192x2048.Idx → EReal)
      = Cert.Reference4Ideal.Read.val_main_v6 (F := Ideal) (dg m c) (du m c) (wg m c) (wu m c) := by
  funext i
  rw [reference_apply]
  unfold G
  rw [over_apply, over_apply, add_comm]

/-- The claim: the two programs leave the same array. -/
theorem equal : Cert.algebraic_Kernel4Ideal_Reference4Ideal := fun m g m' g' _ hag =>
  ⟨fun c => G m c,
    (θ_run _ _ _).mono (fun _ h c => ⟨(h c).1.trans (final m c), (h c).2⟩) (Cert.Kernel4Ideal.Value.run_blocks m g),
    (θ_run _ _ _).mono (fun _ h c => ⟨(h c).1.trans (by
        rw [Cert.Reference4Ideal.Read.val_main_v6_eq, (hag c).1, (hag c).2.1, (hag c).2.2.1, (hag c).2.2.2]
        exact (result m c).symm), (h c).2⟩)
      (Cert.Reference4Ideal.Value.run m' g')⟩

end Cert.Input
-- ==== Proof.RecurrenceMath.lean ====
module

public import Idealize.ShloMosaic.PureOps.Ideal.Laws
public import Idealize.ShloMosaic.Lib.ReduceAll

/-! # The recurrence of one head, on the real numbers

A head carries a log forget gate `lf t` and a log input gate `ig t` at each step. The weight with which the value of step `s`
reaches the output of step `t` is the exponential of `B t - B s + ig s - M t`, where `B` sums the forget gates and `M` is the
running maximum that keeps the exponentials small. Here that maximum is written `B t + N (t + 1)`, and `N` does not depend on
where the sums start: that is what lets the gradient be carried from chunk to chunk. -/

@[expose] public section

open scoped BigOperators

namespace Cert.Recurrence

variable (lf ig : ℕ → ℝ)

/-- The sum of the log forget gates of the first `n` steps. -/
def pre (n : ℕ) : ℝ := ∑ i ∈ Finset.range n, lf i

/-- The running maximum of `ig i - pre (i + 1)` over the first `n` steps, and of zero. -/
noncomputable def top : ℕ → ℝ
  | 0 => 0
  | n + 1 => max (top n) (ig n - pre lf (n + 1))

/-- The empty running sum. -/
theorem pre_zero : pre lf 0 = 0 := rfl

/-- The running maximum before the first step is zero. -/
theorem top_zero : top lf ig 0 = 0 := rfl

/-- One more step of the running sum. -/
theorem pre_succ (n : ℕ) : pre lf (n + 1) = pre lf n + lf n := Finset.sum_range_succ _ _

/-- The sum over `k` steps after the first `n`. -/
theorem pre_add (n k : ℕ) : pre lf (n + k) = pre lf n + ∑ i ∈ Finset.range k, lf (n + i) :=
  Finset.sum_range_add _ _ _

/-- The running maximum after `k` more steps is bounded by `x` when its start and each of the steps are. -/
theorem top_le_iff (b : ℝ) (n k : ℕ) (x : EReal) :
    ((b + top lf ig (n + k) : ℝ) : EReal) ≤ x
      ↔ ((b + top lf ig n : ℝ) : EReal) ≤ x ∧ ∀ i < k, ((b - pre lf (n + i + 1) + ig (n + i) : ℝ) : EReal) ≤ x := by
  induction k with
  | zero => simp
  | succ k ih =>
    have e : (b + top lf ig (n + (k + 1)) : ℝ)
        = max (b + top lf ig (n + k)) (b - pre lf (n + k + 1) + ig (n + k)) := by
      show b + max (top lf ig (n + k)) (ig (n + k) - pre lf (n + k + 1)) = _
      rw [← max_add_add_left]; congr 1; ring
    rw [e, EReal.coe_strictMono.monotone.map_max, max_le_iff, ih, and_assoc]
    refine and_congr_right fun _ => ⟨fun h i hi => ?_, fun h => ⟨fun i hi => h i (by omega), h k (by omega)⟩⟩
    rcases Nat.lt_succ_iff_lt_or_eq.mp hi with h' | h'
    · exact h.1 i h'
    · subst h'; exact h.2

/-- The maximum of the running one at step `n` and a fold of `max` over `L` lanes is the running one at `n + k`, when the
    lanes hold the terms of `k` further steps and `⊥` otherwise. -/
theorem max_fold_eq {L : ℕ} (b : ℝ) (n k : ℕ) (hk : k ≤ L) (f : Fin L → EReal) (c : EReal) (hc : c = ⊥)
    (hf : ∀ i : Fin L, f i = if i.val < k then ((b - pre lf (n + i.val + 1) + ig (n + i.val) : ℝ) : EReal) else ⊥) :
    max (((b + top lf ig n : ℝ) : EReal)) (Finset.univ.fold max c f) = ((b + top lf ig (n + k) : ℝ) : EReal) := by
  refine eq_of_forall_ge_iff fun x => ?_
  rw [max_le_iff, Finset.fold_max_le, top_le_iff, hc]
  refine and_congr_right fun _ => ⟨fun h i hi => ?_, fun h => ⟨bot_le, fun i _ => ?_⟩⟩
  · have := h.2 ⟨i, by omega⟩ (Finset.mem_univ _)
    rwa [hf, if_pos hi] at this
  · rw [hf]; split_ifs with hi
    · exact h _ hi
    · exact bot_le

variable (qk : ℕ → ℕ → ℝ) (u w : ℕ → ℝ)

/-- The weight of step `s` in the output of step `t`. -/
noncomputable def weight (t s : ℕ) : ℝ := Real.exp (ig s - pre lf (s + 1) - top lf ig (t + 1))

/-- What the steps from `n` on hand back to the state before them, for one value lane (`u`) and one key lane (`w`). -/
noncomputable def tail (L n : ℕ) : ℝ :=
  ∑ t ∈ Finset.Ico n L, Real.exp (top lf ig n - top lf ig (t + 1)) * u t * w t

/-- The state's gradient passes over `k` steps. -/
theorem tail_add (L n k : ℕ) (h : n + k ≤ L) :
    tail lf ig u w L n = Real.exp (top lf ig n - top lf ig (n + k)) * tail lf ig u w L (n + k)
      + ∑ i : Fin k, Real.exp (top lf ig n - top lf ig (n + i.val + 1)) * u (n + i.val) * w (n + i.val) := by
  unfold tail
  rw [← Finset.sum_Ico_consecutive _ (Nat.le_add_right n k) h, add_comm]
  congr 1
  · rw [Finset.mul_sum]
    refine Finset.sum_congr rfl fun t _ => ?_
    rw [← mul_assoc, ← mul_assoc, ← Real.exp_add]; congr 3; ring
  · rw [Finset.sum_Ico_eq_sum_range, Nat.add_sub_cancel_left,
      Finset.sum_range fun i => Real.exp (top lf ig n - top lf ig (n + i + 1)) * u (n + i) * w (n + i)]

/-- After the last step nothing remains. -/
theorem tail_end (L : ℕ) : tail lf ig u w L L = 0 := by simp [tail]

/-- The gradient of the value of step `n + j`, summed over all `L` steps, is the part of the own chunk of `k` steps and what
    the state after the chunk hands back. `key` is the step's key and `w` the queries, lane by lane. -/
theorem value_grad {D : Type*} [Fintype D] (L n k : ℕ) (h : n + k ≤ L) (j : Fin k) (q : ℕ → D → ℝ) (key : D → ℝ) :
    ∑ t : Fin L, (if n + j.val ≤ t.val then (∑ e, q t.val e * key e) * weight lf ig t.val (n + j.val) else 0) * u t.val
      = (∑ i : Fin k, (if j.val ≤ i.val then (∑ e, q (n + i.val) e * key e) * weight lf ig (n + i.val) (n + j.val) else 0)
            * u (n + i.val))
        + Real.exp (ig (n + j.val) - pre lf (n + j.val + 1) - top lf ig (n + k))
            * ∑ e, key e * tail lf ig u (fun t => q t e) L (n + k) := by
  set F : ℕ → ℝ := fun t =>
    (if n + j.val ≤ t then (∑ e, q t e * key e) * weight lf ig t (n + j.val) else 0) * u t with hF
  have e1 : ∑ t : Fin L, (if n + j.val ≤ t.val then (∑ e, q t.val e * key e) * weight lf ig t.val (n + j.val) else 0) * u t.val
      = ∑ t ∈ Finset.range L, F t := (Finset.sum_range F).symm
  rw [e1, Finset.range_eq_Ico, ← Finset.sum_Ico_consecutive F (Nat.zero_le n) (by omega : n ≤ L),
    ← Finset.sum_Ico_consecutive F (Nat.le_add_right n k) h]
  have z : ∑ t ∈ Finset.Ico 0 n, F t = 0 := Finset.sum_eq_zero fun t ht => by
    have := (Finset.mem_Ico.mp ht).2
    simp only [hF]; rw [if_neg (by omega), zero_mul]
  rw [z, zero_add]
  congr 1
  · rw [Finset.sum_Ico_eq_sum_range, Nat.add_sub_cancel_left, Finset.sum_range fun i => F (n + i)]
    refine Finset.sum_congr rfl fun i _ => ?_
    simp only [hF, Nat.add_le_add_iff_left]
  · unfold tail
    simp only [Finset.mul_sum]
    rw [Finset.sum_comm]
    refine Finset.sum_congr rfl fun t ht => ?_
    have := (Finset.mem_Ico.mp ht).1
    have hj := j.isLt
    simp only [hF]
    rw [if_pos (by omega), Finset.sum_mul, Finset.sum_mul]
    refine Finset.sum_congr rfl fun e _ => ?_
    have : weight lf ig t (n + j.val) = Real.exp (ig (n + j.val) - pre lf (n + j.val + 1) - top lf ig (n + k))
        * Real.exp (top lf ig (n + k) - top lf ig (t + 1)) := by
      unfold weight; rw [← Real.exp_add]; congr 1; ring
    rw [this]; ring

end Cert.Recurrence

end
-- ==== Proof.RecurrenceScan.lean ====
/-
Running sums by doubling, and masks by a comparison of positions.

A running sum over 128 steps is taken in seven rounds: round r adds to each entry the one 2^r places earlier, where there is
one. After the rounds every entry holds the sum of all entries up to it. The rounds read the earlier entry by a rotation and
a comparison of positions.
-/
module

public import Idealize.ShloMosaic.Lib.Pointwise
public import Idealize.ShloMosaic.PureOps.Ideal.Laws

@[expose] public section

noncomputable section

namespace Cert.RecurrenceScan

open Idealize.ShloMosaic
open scoped BigOperators

/-! ## Masks -/

/-- Where two positions are compared as 32-bit numbers, the comparison is that of the positions. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : ∀ n : ℕ, n < 2 ^ 31 → (BitVec.ofNat 32 n).toInt = (n : ℤ) := fun n hn => by
    rw [BitVec.toInt_eq_toNat_of_lt (by rw [BitVec.toNat_ofNat]; omega), BitVec.toNat_ofNat]; omega
  unfold IntOp.cmpi Scalar.select
  simp only [BitVec.sle_eq_decide, e a ha, e b hb, Nat.cast_le]
  by_cases h : a ≤ b <;> simp [h]

/-- A selection by a comparison of small words, as a condition on natural numbers. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y :=
  select_sle b a hb ha x y

/-! ## The running sum -/

/-- The sum of the `w` entries that end at `j`. -/
def window (f : ℕ → EReal) (w j : ℕ) : EReal := ∑ i ∈ Finset.range w, if i ≤ j then f (j - i) else 0

/-- A window of width one is its own entry. -/
theorem window_one (f : ℕ → EReal) (j : ℕ) : window f 1 j = f j := by simp [window]

/-- One round doubles the window. -/
theorem window_double (f : ℕ → EReal) (w j : ℕ) :
    window f w j + (if w ≤ j then window f w (j - w) else 0) = window f (w + w) j := by
  unfold window
  rw [Finset.sum_range_add]
  refine congrArg (_ + ·) ?_
  by_cases h : w ≤ j
  · rw [if_pos h]
    refine Finset.sum_congr rfl fun i _ => ?_
    by_cases h' : i ≤ j - w
    · rw [if_pos h', if_pos (by omega), Nat.sub_sub]
    · rw [if_neg h', if_neg (by omega)]
  · rw [if_neg h]
    exact (Finset.sum_eq_zero fun i _ => if_neg (by omega)).symm

/-- A window that reaches the first entry is the whole running sum. -/
theorem window_full (f : ℕ → EReal) (w j : ℕ) (h : j < w) : window f w j = ∑ i ∈ Finset.range (j + 1), f i := by
  unfold window
  rw [← Finset.sum_subset (Finset.range_mono (show j + 1 ≤ w from h)) fun i _ hi => if_neg (by
    have := Finset.mem_range.not.mp hi; omega), ← Finset.sum_range_reflect f (j + 1)]
  refine Finset.sum_congr rfl fun i hi => ?_
  have := Finset.mem_range.mp hi
  rw [if_pos (by omega)]; congr 1

/-! ## The rounds down a column of 128 rows -/

/-- A chunk by columns. -/
abbrev Sq : Shape := ⟨2, ![128, 128]⟩
/-- A chunk by rows. -/
abbrev Row : Shape := ⟨2, ![16, 128]⟩

/-- One round down the columns. -/
def stepCol (sb : BitVec 32) (hi : Sq.Iotas .tc 32 [0]) (hr : Sq.Rotates 0 none) (x : FVec Ideal Sq .f32) : FVec Ideal Sq .f32 :=
  addf x (select (cmpi .sge (iota .tc Sq 32 [0] hi) (broadcast Sq sb)) (dynamicRotate 0 sb none x hr)
    (broadcast Sq (Scalar.ofBits .f32 0x00000000#32)))

/-- One round along the rows. -/
def stepRow (sb : BitVec 32) (hi : Row.Iotas .tc 32 [1]) (hr : Row.Rotates 1 none) (x : FVec Ideal Row .f32) : FVec Ideal Row .f32 :=
  addf x (select (cmpi .sge (iota .tc Row 32 [1] hi) (broadcast Row sb)) (dynamicRotate 1 sb none x hr)
    (broadcast Row (Scalar.ofBits .f32 0x00000000#32)))

/-- One step of the scan by columns: each entry adds the one a width before it. -/
theorem stepCol_apply (w : ℕ) (hw : w < 128) (hi : Sq.Iotas .tc 32 [0]) (hr : Sq.Rotates 0 none) (x : FVec Ideal Sq .f32)
    (f : ℕ → EReal) (k : Fin 128) (hx : ∀ j : Fin 128, x (ix2 j k) = window f w j.val) (j : Fin 128) :
    stepCol (BitVec.ofNat 32 w) hi hr x (ix2 j k) = window f (w + w) j.val := by
  unfold stepCol
  simp only [pointwise]
  rw [← window_double, ← hx j]
  refine congrArg (x _ + ·) ((select_sge (0 * 128 + j.val) w (by omega) (by omega) _ _).trans ?_)
  by_cases h : w ≤ j.val
  · rw [if_pos (by omega), if_pos h]
    refine (congrArg x (?_ : _ = ix2 ⟨j.val - w, by omega⟩ k)).trans (hx ⟨j.val - w, by omega⟩)
    have hw' : (BitVec.ofNat 32 w).toNat = w := by rw [BitVec.toNat_ofNat]; omega
    refine congrArg (fun r => ix2 r k) (Fin.ext ?_)
    simp only [hw']
    show (j.val + 128 - (w + 0) % 128) % 128 = j.val - w
    omega
  · rw [if_neg (by omega), if_neg h]

/-- One step of the scan by rows: each entry adds the one a width before it. -/
theorem stepRow_apply (w : ℕ) (hw : w < 128) (hi : Row.Iotas .tc 32 [1]) (hr : Row.Rotates 1 none) (x : FVec Ideal Row .f32)
    (f : ℕ → EReal) (k : Fin 16) (hx : ∀ j : Fin 128, x (ix2 k j) = window f w j.val) (j : Fin 128) :
    stepRow (BitVec.ofNat 32 w) hi hr x (ix2 k j) = window f (w + w) j.val := by
  unfold stepRow
  simp only [pointwise]
  rw [← window_double, ← hx j]
  refine congrArg (x _ + ·) ((select_sge (0 * 128 + j.val) w (by omega) (by omega) _ _).trans ?_)
  by_cases h : w ≤ j.val
  · rw [if_pos (by omega), if_pos h]
    refine (congrArg x (?_ : _ = ix2 k ⟨j.val - w, by omega⟩)).trans (hx ⟨j.val - w, by omega⟩)
    have hw' : (BitVec.ofNat 32 w).toNat = w := by rw [BitVec.toNat_ofNat]; omega
    refine congrArg (fun r => ix2 k r) (Fin.ext ?_)
    simp only [hw']
    show (j.val + 128 - (w + 0) % 128) % 128 = j.val - w
    omega
  · rw [if_neg (by omega), if_neg h]

/-- The seven rounds down the columns. -/
def scanCol (hi : Sq.Iotas .tc 32 [0]) (hr : Sq.Rotates 0 none) (x : FVec Ideal Sq .f32) : FVec Ideal Sq .f32 :=
  stepCol 64#32 hi hr (stepCol 32#32 hi hr (stepCol 16#32 hi hr (stepCol 8#32 hi hr (stepCol 4#32 hi hr
    (stepCol 2#32 hi hr (stepCol 1#32 hi hr x))))))

/-- The seven rounds along the rows. -/
def scanRow (hi : Row.Iotas .tc 32 [1]) (hr : Row.Rotates 1 none) (x : FVec Ideal Row .f32) : FVec Ideal Row .f32 :=
  stepRow 64#32 hi hr (stepRow 32#32 hi hr (stepRow 16#32 hi hr (stepRow 8#32 hi hr (stepRow 4#32 hi hr
    (stepRow 2#32 hi hr (stepRow 1#32 hi hr x))))))

/-- The rounds down the columns leave the running sums of each column. -/
theorem scanCol_apply (hi : Sq.Iotas .tc 32 [0]) (hr : Sq.Rotates 0 none) (x : FVec Ideal Sq .f32) (f : ℕ → EReal) (k : Fin 128)
    (hx : ∀ j : Fin 128, x (ix2 j k) = f j.val) (j : Fin 128) :
    scanCol hi hr x (ix2 j k) = ∑ i ∈ Finset.range (j.val + 1), f i := by
  rw [← window_full f 128 j.val j.isLt]
  have go := fun w hw x hx => stepCol_apply w hw hi hr x f k hx
  exact go 64 (by omega) _ (go 32 (by omega) _ (go 16 (by omega) _ (go 8 (by omega) _ (go 4 (by omega) _ (go 2 (by omega) _
    (go 1 (by omega) _ fun j => (hx j).trans (window_one f j.val).symm)))))) j

/-- The rounds along the rows leave the running sums of each row. -/
theorem scanRow_apply (hi : Row.Iotas .tc 32 [1]) (hr : Row.Rotates 1 none) (x : FVec Ideal Row .f32) (f : ℕ → EReal) (k : Fin 16)
    (hx : ∀ j : Fin 128, x (ix2 k j) = f j.val) (j : Fin 128) :
    scanRow hi hr x (ix2 k j) = ∑ i ∈ Finset.range (j.val + 1), f i := by
  rw [← window_full f 128 j.val j.isLt]
  have go := fun w hw x hx => stepRow_apply w hw hi hr x f k hx
  exact go 64 (by omega) _ (go 32 (by omega) _ (go 16 (by omega) _ (go 8 (by omega) _ (go 4 (by omega) _ (go 2 (by omega) _
    (go 1 (by omega) _ fun j => (hx j).trans (window_one f j.val).symm)))))) j

end Cert.RecurrenceScan

end
end
-- ==== Proof.RecurrenceHead.lean ====
/-
What one head's share of the kernel's body computes for the value's gradient, as one function of its slices.

The body works through four heads with the same operations. They are stated here once: the log weights of a chunk, the
running maximum, the weights that carry a step to the end of the chunk, the gradient of the numerator, the value's gradient
and the gradient of the carried state.
-/
module

public import proofs.«01_k».proof.Proof.RecurrenceMath
public import proofs.«01_k».proof.Proof.RecurrenceScan
public import proofs.«01_k».proof.Proof.Gen.Kernel5Ideal.Value
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pipeline.ValueKit.Point
public import Idealize.ShloMosaic.Lib.Pointwise
public import Idealize.ShloMosaic.Lib.MatmulPlain

@[expose] public section

set_option maxRecDepth 16384

noncomputable section

namespace Cert.RecurrenceHead

open Cert.Kernel5Ideal Cert.Kernel5Ideal.Gen Cert.Recurrence Cert.RecurrenceScan
open Idealize.ShloMosaic Idealize.ShloMosaic.TcCoe Idealize.SL.Sem Idealize.ShloMosaic.StableHlo
open scoped BigOperators

/-- The log weights between the steps of a chunk, masked above the diagonal. -/
def logD (bcol : FVec Ideal S128x1 .f32) (brow irow : FVec Ideal S1x128 .f32) : FVec Ideal S128x128 .f32 :=
  select k0_pay12
    (addf (subf (broadcastTo S128x128 bcol broadcasts_S128x1_S128x128) (broadcastTo S128x128 brow broadcasts_S1x128_S128x128))
      (broadcastTo S128x128 irow broadcasts_S1x128_S128x128))
    (broadcast S128x128 (Named.named κ "mask" 0xF149F2CA#32))

/-- The running maximum at each step of the chunk. -/
def maxT (bcol : FVec Ideal S128x1 .f32) (brow irow : FVec Ideal S1x128 .f32) (m0 : FVec Ideal S1x1 .f32) :
    FVec Ideal S128x1 .f32 :=
  maximumf (addf bcol (broadcastTo S128x1 m0 broadcasts_S1x1_S128x1))
    (shapeCast S128x1 (multiReduction .maximumf [1] S128 (logD bcol brow irow) 0xFF800000#32 reduces_S128x128_S128 (.inl rfl) rfl)
      shapeCasts_S128_S128x1)

/-- The sum of the log forget gates over the whole chunk. -/
def last (brow : FVec Ideal S1x128 .f32) : FVec Ideal S1x1 .f32 :=
  extractStridedSlice S1x1 ![0, 127] brow slices_S1x128_o0_127_S1x1

/-- The running maximum at the end of the chunk. -/
def maxEnd (brow irow : FVec Ideal S1x128 .f32) (m0 : FVec Ideal S1x1 .f32) : FVec Ideal S1x1 .f32 :=
  maximumf (addf (last brow) m0)
    (shapeCast S1x1 (multiReduction .maximumf [1] S1
      (addf (subf (broadcastTo S1x128 (last brow) broadcasts_S1x1_S1x128) brow) irow) 0xFF800000#32 reduces_S1x128_S1 (.inl rfl) rfl)
      shapeCasts_S1_S1x1)

/-- The weight with which each step enters the state at the end of the chunk. -/
def carryIn (bcol icol : FVec Ideal S128x1 .f32) (brow irow : FVec Ideal S1x128 .f32) (m0 : FVec Ideal S1x1 .f32) :
    FVec Ideal S128x1 .f32 :=
  exp (subf (addf (subf (broadcastTo S128x1 (last brow) broadcasts_S1x1_S128x1) bcol) icol)
    (broadcastTo S128x1 (maxEnd brow irow m0) broadcasts_S1x1_S128x1))

/-- The reciprocal of the normaliser. -/
def recip (bcol : FVec Ideal S128x1 .f32) (brow irow : FVec Ideal S1x128 .f32) (m0 : FVec Ideal S1x1 .f32)
    (den : FVec Ideal S128x1 .f32) : FVec Ideal S128x1 .f32 :=
  divf (broadcast S128x1 (Scalar.ofBits .f32 0x3F800000#32))
    (maximumf (absf (shapeCast S128x1 den shapeCasts_S128x1_S128x1))
      (exp (subf (broadcast S128x1 (Scalar.ofBits .f32 0x00000000#32)) (maxT bcol brow irow m0))))

/-- The gradient of the numerator. -/
def numGrad (bcol : FVec Ideal S128x1 .f32) (brow irow : FVec Ideal S1x128 .f32) (m0 : FVec Ideal S1x1 .f32)
    (den : FVec Ideal S128x1 .f32) (dh : FVec Ideal S128x256 .f32) : FVec Ideal S128x256 .f32 :=
  mulf dh (broadcastTo S128x256 (recip bcol brow irow m0 den) broadcasts_S128x1_S128x256)

/-- The scaled key in the format the products take. -/
def keyOf (k : FVec Ideal S128x256 .f32) : FVec Ideal S128x256 .bf16 :=
  truncf .bf16 (mulf k (broadcast S128x256 (Scalar.ofBits .f32 0x3D800000#32))) bitsLt_bf16_f32

/-- The weighted products of the chunk's queries with its keys. -/
def score (bcol : FVec Ideal S128x1 .f32) (brow irow : FVec Ideal S1x128 .f32) (m0 : FVec Ideal S1x1 .f32)
    (q k : FVec Ideal S128x256 .f32) : FVec Ideal S128x128 .f32 :=
  mulf (matmul dot_S128x256_S128x256_S128x128_1_1_0_0_n_n none (truncf .bf16 q bitsLt_bf16_f32) (keyOf k)
      (constant S128x128 .f32 0x00000000#32))
    (exp (subf (logD bcol brow irow) (broadcastTo S128x128 (maxT bcol brow irow m0) broadcasts_S128x1_S128x128)))

/-- The value's gradient: the chunk's own part and what the state after the chunk hands back. -/
def valueGrad (bcol icol : FVec Ideal S128x1 .f32) (brow irow : FVec Ideal S1x128 .f32) (m0 : FVec Ideal S1x1 .f32)
    (q k : FVec Ideal S128x256 .f32) (den : FVec Ideal S128x1 .f32) (dh : FVec Ideal S128x256 .f32)
    (dC : FVec Ideal S1x256x256 .f32) : FVec Ideal S128x256 .f32 :=
  addf (matmul dot_S128x128_S128x256_S128x256_0_0_1_1_n_n none (truncf .bf16 (score bcol brow irow m0 q k) bitsLt_bf16_f32)
      (truncf .bf16 (numGrad bcol brow irow m0 den dh) bitsLt_bf16_f32) (constant S128x256 .f32 0x00000000#32))
    (mulf (broadcastTo S128x256 (carryIn bcol icol brow irow m0) broadcasts_S128x1_S128x256)
      (matmul dot_S128x256_S256x256_S128x256_1_1_0_0_n_n none (keyOf k)
        (truncf .bf16 (shapeCast S256x256 dC shapeCasts_S1x256x256_S256x256) bitsLt_bf16_f32) (constant S128x256 .f32 0x00000000#32)))

/-- The gradient of the state before the chunk. -/
def stateGrad (bcol : FVec Ideal S128x1 .f32) (brow irow : FVec Ideal S1x128 .f32) (m0 : FVec Ideal S1x1 .f32)
    (q : FVec Ideal S128x256 .f32) (den : FVec Ideal S128x1 .f32) (dh : FVec Ideal S128x256 .f32)
    (dC : FVec Ideal S1x256x256 .f32) : FVec Ideal S1x256x256 .f32 :=
  shapeCast S1x256x256
    (addf (mulf (broadcastTo S256x256 (exp (subf (addf (last brow) m0) (maxEnd brow irow m0))) broadcasts_S1x1_S256x256)
        (shapeCast S256x256 dC shapeCasts_S1x256x256_S256x256))
      (matmul dot_S128x256_S128x256_S256x256_0_0_1_1_n_n none
        (truncf .bf16 (mulf (broadcastTo S128x256
            (exp (subf (addf bcol (broadcastTo S128x1 m0 broadcasts_S1x1_S128x1)) (maxT bcol brow irow m0))) broadcasts_S128x1_S128x256)
          (numGrad bcol brow irow m0 den dh)) bitsLt_bf16_f32)
        (truncf .bf16 q bitsLt_bf16_f32) (constant S256x256 .f32 0x00000000#32)))
    shapeCasts_S256x256_S1x256x256

/-! ## The readings -/

/-- The word of the infinite negative literal denotes the least extended real. -/
theorem neg_inf : Ideal.ofBits .f32 0xFF800000#32 = (⊥ : EReal) := by simp [Ideal.ofBits, Ideal.ieee]

/-- The named mask denotes the least extended real. -/
theorem mask_bot : (Named.named (F := Ideal) κ "mask" (φ := .f32) 0xF149F2CA#32) = (⊥ : EReal) := rfl

/-- A finite sum of real numbers, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithmic weight inside a chunk, entry by entry. -/
theorem logD_apply (bcol : FVec Ideal S128x1 .f32) (brow irow : FVec Ideal S1x128 .f32) (t s : Fin 128) :
    logD bcol brow irow (ix2 t s)
      = if s.val ≤ t.val then bcol (ix2 t 0) - brow (ix2 0 s) + irow (ix2 0 s) else (⊥ : EReal) := by
  unfold logD
  simp only [pointwise, k0_pay12]
  refine (select_sle (0 * 128 + s.val) (0 * 128 + t.val) (by omega) (by omega) _ _).trans ?_
  simp only [Nat.zero_mul, Nat.zero_add]
  rfl

section Readings

variable (lf ig : ℕ → ℝ) (n : ℕ) (bcol icol : FVec Ideal S128x1 .f32) (brow irow : FVec Ideal S1x128 .f32) (m0 : FVec Ideal S1x1 .f32)
  (hb : ∀ j : Fin 128, bcol (ix2 j 0) = ((pre lf (n + j.val + 1) - pre lf n : ℝ) : EReal))
  (hr : ∀ j : Fin 128, brow (ix2 0 j) = ((pre lf (n + j.val + 1) - pre lf n : ℝ) : EReal))
  (hc : ∀ j : Fin 128, icol (ix2 j 0) = (ig (n + j.val) : EReal))
  (hi : ∀ j : Fin 128, irow (ix2 0 j) = (ig (n + j.val) : EReal))
  (hm : m0 (ix2 0 0) = ((pre lf n + top lf ig n : ℝ) : EReal))

include hb hr hi in
/-- The logarithmic weight inside a chunk, at real numbers. -/
theorem logD_real (t s : Fin 128) : logD bcol brow irow (ix2 t s)
    = if s.val < t.val + 1 then ((pre lf (n + t.val + 1) - pre lf (n + s.val + 1) + ig (n + s.val) : ℝ) : EReal) else ⊥ := by
  rw [logD_apply, hb, hr, hi]
  by_cases h : s.val ≤ t.val
  · rw [if_pos h, if_pos (by omega), ← EReal.coe_sub, ← EReal.coe_add]; congr 1; ring
  · rw [if_neg h, if_neg (by omega)]

include hb hr hi hm in
/-- The running maximum. -/
theorem maxT_real (t : Fin 128) : maxT bcol brow irow m0 (ix2 t 0)
    = ((pre lf (n + t.val + 1) + top lf ig (n + t.val + 1) : ℝ) : EReal) := by
  unfold maxT
  simp only [pointwise, neg_inf]
  refine Eq.trans (congrArg (max · _) ?_) (max_fold_eq lf ig (pre lf (n + t.val + 1)) n (t.val + 1) (by omega)
    (fun s => logD bcol brow irow (ix2 t s)) ⊥ rfl (logD_real lf ig n bcol brow irow hb hr hi t))
  rw [hb]
  refine (congrArg (_ + ·) hm).trans ?_
  rw [← EReal.coe_add]; congr 1; ring

include hr in
/-- The chunk's whole sum of the forget gates' logarithms. -/
theorem last_real : last brow (ix2 0 0) = ((pre lf (n + 128) - pre lf n : ℝ) : EReal) := by
  unfold last
  simp only [pointwise]
  exact hr 127

include hr hi hm in
/-- The running maximum after the chunk. -/
theorem maxEnd_real : maxEnd brow irow m0 (ix2 0 0) = ((pre lf (n + 128) + top lf ig (n + 128) : ℝ) : EReal) := by
  have hl := last_real lf n brow hr
  unfold maxEnd
  simp only [pointwise, neg_inf]
  rw [← max_fold_eq lf ig (pre lf (n + 128)) n 128 le_rfl (fun s => last brow (ix2 0 0) - brow (ix2 0 s) + irow (ix2 0 s)) ⊥ rfl
    fun s => by
      rw [if_pos s.isLt, hl, hr, hi, ← EReal.coe_sub, ← EReal.coe_add]; congr 1; ring]
  refine congrArg₂ max ?_ ?_
  · refine (congrArg₂ (· + ·) hl hm).trans ?_
    rw [← EReal.coe_add]; congr 1; ring
  · rfl

include hb hr hc hi hm in
/-- The weight of a step of the chunk in the state after it. -/
theorem carryIn_real (j : Fin 128) : carryIn bcol icol brow irow m0 (ix2 j 0)
    = ((Real.exp (ig (n + j.val) - pre lf (n + j.val + 1) - top lf ig (n + 128)) : ℝ) : EReal) := by
  have hl := last_real lf n brow hr
  have he := maxEnd_real lf ig n brow irow m0 hr hi hm
  unfold carryIn
  simp only [pointwise]
  refine Eq.trans (b := Ideal.exp (last brow (ix2 0 0) - bcol (ix2 j 0) + icol (ix2 j 0) - maxEnd brow irow m0 (ix2 0 0))) rfl ?_
  rw [hl, he, hb, hc, ← EReal.coe_sub, ← EReal.coe_add, ← EReal.coe_sub, Ideal.exp_coe]
  congr 2; ring

variable (Dn : ℕ → ℝ) (DH : ℕ → ℕ → ℝ) (den : FVec Ideal S128x1 .f32) (dh : FVec Ideal S128x256 .f32)
  (hd : ∀ j : Fin 128, den (ix2 j 0) = (Dn (n + j.val) : EReal))
  (hh : ∀ (j : Fin 128) (d : Fin 256), dh (ix2 j d) = (DH (n + j.val) d.val : EReal))

/-- The gradient of the numerator at a step, as a real number. -/
def num (t d : ℕ) : ℝ := DH t d * (1 / max |Dn t| (Real.exp (-(pre lf (t + 1) + top lf ig (t + 1)))))

/-- The normaliser is positive. -/
theorem norm_pos (t : ℕ) : 0 < max |Dn t| (Real.exp (-(pre lf (t + 1) + top lf ig (t + 1)))) :=
  lt_max_of_lt_right (Real.exp_pos _)

include hb hr hi hm hd hh in
/-- The derivative that reaches the numerator. -/
theorem numGrad_real (j : Fin 128) (d : Fin 256) : numGrad bcol brow irow m0 den dh (ix2 j d)
    = (num lf ig Dn DH (n + j.val) d.val : EReal) := by
  have ht := maxT_real lf ig n bcol brow irow m0 hb hr hi hm j
  unfold numGrad recip
  simp only [pointwise]
  refine Eq.trans (b := dh (ix2 j d) * Ideal.div 1 (max (max (den (ix2 j 0)) (-(den (ix2 j 0))))
    (Ideal.exp (0 - maxT bcol brow irow m0 (ix2 j 0))))) ?_ ?_
  · rfl
  · have hp := norm_pos lf ig Dn (n + j.val)
    rw [ht, hd, hh, zero_sub, ← EReal.coe_neg, ← EReal.coe_neg, Ideal.exp_coe, ← EReal.coe_strictMono.monotone.map_max,
      ← EReal.coe_strictMono.monotone.map_max, ← abs_eq_max_neg, Ideal.div_coe hp.ne', one_mul, ← EReal.coe_mul]
    rfl

variable (Q K : ℕ → ℕ → ℝ) (σ : ℝ) (q k : FVec Ideal S128x256 .f32)
  (hσ : Ideal.ofBits .f32 0x3D800000#32 = (σ : EReal))
  (hq : ∀ (j : Fin 128) (e : Fin 256), q (ix2 j e) = (Q (n + j.val) e.val : EReal))
  (hk : ∀ (j : Fin 128) (e : Fin 256), k (ix2 j e) = (K (n + j.val) e.val : EReal))

include hσ hk in
/-- The scaled keys. -/
theorem keyOf_real (j : Fin 128) (e : Fin 256) : keyOf k (ix2 j e) = ((K (n + j.val) e.val * σ : ℝ) : EReal) := by
  unfold keyOf
  simp only [pointwise]
  rw [hk, hσ, ← EReal.coe_mul]

include hb hr hi hm hσ hq hk in
/-- The weighted scores inside a chunk. -/
theorem score_real (t s : Fin 128) : score bcol brow irow m0 q k (ix2 t s)
    = ((if s.val ≤ t.val then (∑ e : Fin 256, Q (n + t.val) e.val * (K (n + s.val) e.val * σ))
        * weight lf ig (n + t.val) (n + s.val) else 0 : ℝ) : EReal) := by
  have ht := maxT_real lf ig n bcol brow irow m0 hb hr hi hm t
  have hl := logD_real lf ig n bcol brow irow hb hr hi t s
  unfold score
  simp only [pointwise]
  refine Eq.trans (b := (0 + ∑ e : Fin 256, q (ix2 t e) * keyOf k (ix2 s e))
    * Ideal.exp (logD bcol brow irow (ix2 t s) - maxT bcol brow irow m0 (ix2 t 0))) rfl ?_
  have hs : (0 + ∑ e : Fin 256, q (ix2 t e) * keyOf k (ix2 s e))
      = ((∑ e : Fin 256, Q (n + t.val) e.val * (K (n + s.val) e.val * σ) : ℝ) : EReal) := by
    rw [zero_add, coe_sum]
    exact Finset.sum_congr rfl fun e _ => by rw [hq, keyOf_real n K σ k hσ hk, ← EReal.coe_mul]
  rw [hs, hl, ht]
  by_cases h : s.val ≤ t.val
  · rw [if_pos (by omega), if_pos h, ← EReal.coe_sub, Ideal.exp_coe, ← EReal.coe_mul]
    unfold weight
    congr 3; ring
  · rw [if_neg (by omega), if_neg h, EReal.bot_sub, Ideal.exp_bot, mul_zero]; rfl

variable (L : ℕ) (hL : n + 128 ≤ L) (dC : FVec Ideal S1x256x256 .f32)
  (hC : ∀ d e : Fin 256, dC (ix3 0 d e)
    = (tail lf ig (fun t => num lf ig Dn DH t d.val) (fun t => Q t e.val) L (n + 128) : EReal))

include hb hr hc hi hm hd hh hσ hq hk hL hC in
/-- The value's gradient at a step is the sum over all steps. -/
theorem valueGrad_real (j : Fin 128) (d : Fin 256) : valueGrad bcol icol brow irow m0 q k den dh dC (ix2 j d)
    = ((∑ t : Fin L, (if n + j.val ≤ t.val then (∑ e : Fin 256, Q t.val e.val * (K (n + j.val) e.val * σ))
        * weight lf ig t.val (n + j.val) else 0) * num lf ig Dn DH t.val d.val : ℝ) : EReal) := by
  have hs := fun t => score_real lf ig n bcol brow irow m0 hb hr hi hm Q K σ q k hσ hq hk t j
  have hn := fun t => numGrad_real lf ig n bcol brow irow m0 hb hr hi hm Dn DH den dh hd hh t d
  have hw := carryIn_real lf ig n bcol icol brow irow m0 hb hr hc hi hm j
  have hkey := fun e => keyOf_real n K σ k hσ hk j e
  unfold valueGrad
  simp only [pointwise]
  refine Eq.trans (b := (0 + ∑ t : Fin 128, score bcol brow irow m0 q k (ix2 t j) * numGrad bcol brow irow m0 den dh (ix2 t d))
    + carryIn bcol icol brow irow m0 (ix2 j 0) * (0 + ∑ e : Fin 256, keyOf k (ix2 j e) * dC (ix3 0 d e))) rfl ?_
  rw [value_grad lf ig (fun t => num lf ig Dn DH t d.val) L n 128 hL j (fun t (e : Fin 256) => Q t e.val)
    (fun e : Fin 256 => K (n + j.val) e.val * σ), EReal.coe_add, EReal.coe_mul, zero_add, zero_add, coe_sum, coe_sum, hw]
  refine congrArg₂ (· + ·) (Finset.sum_congr rfl fun t _ => ?_) (congrArg _ (Finset.sum_congr rfl fun e _ => ?_))
  · rw [hs, hn, ← EReal.coe_mul]
  · rw [hkey, hC, ← EReal.coe_mul]

include hb hr hi hm hd hh hq hL hC in
/-- The state's gradient before the chunk. -/
theorem stateGrad_real (d e : Fin 256) : stateGrad bcol brow irow m0 q den dh dC (ix3 0 d e)
    = (tail lf ig (fun t => num lf ig Dn DH t d.val) (fun t => Q t e.val) L n : EReal) := by
  have hl := last_real lf n brow hr
  have he := maxEnd_real lf ig n brow irow m0 hr hi hm
  have ht := fun t => maxT_real lf ig n bcol brow irow m0 hb hr hi hm t
  have hn := fun t => numGrad_real lf ig n bcol brow irow m0 hb hr hi hm Dn DH den dh hd hh t d
  unfold stateGrad
  simp only [pointwise]
  refine Eq.trans (b := Ideal.exp (last brow (ix2 0 0) + m0 (ix2 0 0) - maxEnd brow irow m0 (ix2 0 0)) * dC (ix3 0 d e)
    + (0 + ∑ t : Fin 128, Ideal.exp (bcol (ix2 t 0) + m0 (ix2 0 0) - maxT bcol brow irow m0 (ix2 t 0))
        * numGrad bcol brow irow m0 den dh (ix2 t d) * q (ix2 t e))) rfl ?_
  rw [tail_add lf ig (fun t => num lf ig Dn DH t d.val) (fun t => Q t e.val) L n 128 hL, EReal.coe_add, EReal.coe_mul, zero_add,
    coe_sum, hl, hm, he, hC, ← EReal.coe_add, ← EReal.coe_sub, Ideal.exp_coe]
  refine congrArg₂ (· + ·) (congrArg (· * _) ?_) (Finset.sum_congr rfl fun t _ => ?_)
  · congr 2; ring
  · rw [hb, ht, hn, hq, ← EReal.coe_add, ← EReal.coe_sub, Ideal.exp_coe, ← EReal.coe_mul, ← EReal.coe_mul]
    congr 4; ring

end Readings

end Cert.RecurrenceHead
end
end
-- ==== Proof.RecurrenceChunk.lean ====
/-
One chunk of the kernel's body, read on the real numbers.

The body takes blocks of 128 steps: queries and keys, gates laid out both ways, the normaliser's sums, the running maximum
before the chunk, the output's derivative and the state's gradient after the chunk. When the blocks hold real numbers, each of
the four heads writes the value's gradient of its 128 steps and the state's gradient before them.
-/
module

public import proofs.«01_k».proof.Proof.RecurrenceHead

@[expose] public section

set_option maxRecDepth 16384

noncomputable section

namespace Cert.RecurrenceChunk

open Cert.Kernel5Ideal Cert.Kernel5Ideal.Gen Cert.Recurrence Cert.RecurrenceScan Cert.RecurrenceHead
open Idealize.ShloMosaic Idealize.ShloMosaic.TcCoe Idealize.SL.Sem Idealize.ShloMosaic.StableHlo
open scoped BigOperators

/-! ## The log forget gate -/

/-- The logarithm of the logistic function. -/
def lsig (r : ℝ) : ℝ := min r 0 - Real.log (1 + Real.exp (-|r|))

/-- The same, as the body computes it. -/
def logSig {s : Shape} (x : FVec Ideal s .f32) : FVec Ideal s .f32 :=
  subf (minimumf x (broadcast s (Scalar.ofBits .f32 0x00000000#32)))
    (log (addf (broadcast s (Scalar.ofBits .f32 0x3F800000#32))
      (exp (subf (broadcast s (Scalar.ofBits .f32 0x00000000#32)) (absf x)))))

/-- The word of the literal one denotes one. -/
theorem one_word : Ideal.ofBits .f32 0x3F800000#32 = 1 := by
  simp [Ideal.ofBits, Ideal.ieee]
  rw [← EReal.coe_mul]
  norm_num

/-- The log forget gate of a real number. -/
theorem lsig_word (r : ℝ) : min (r : EReal) 0 - Ideal.log (1 + Ideal.exp (0 - max (r : EReal) (-(r : EReal)))) = (lsig r : EReal) := by
  have hp : (0 : ℝ) < 1 + Real.exp (-|r|) := by positivity
  rw [← EReal.coe_neg, ← EReal.coe_strictMono.monotone.map_max, ← abs_eq_max_neg, zero_sub, ← EReal.coe_neg, Ideal.exp_coe,
    ← EReal.coe_one, ← EReal.coe_add, Ideal.log_coe, if_neg (not_le.mpr hp), ← EReal.coe_zero,
    ← EReal.coe_strictMono.monotone.map_min, ← EReal.coe_sub]
  rfl

/-- The logarithm of the logistic function, at a real number. -/
theorem logSig_real {s : Shape} (x : FVec Ideal s .f32) (i : s.Idx) (r : ℝ) (h : x i = (r : EReal)) : logSig x i = (lsig r : EReal) := by
  rw [← lsig_word, ← h, ← Ideal.ofBits_zero_f32, ← one_word]
  rfl

/-! ## The chunk's gates -/

/-- The running sums of the log gates down the chunk's steps. -/
def sumsCol (x2 : FVec Ideal S128x128 .f32) (x4 : FVec Ideal S1x128 .f32) : FVec Ideal S128x128 .f32 :=
  k0_pay8 (iota .tc S128x128 32 [0] iota_S128x128_d0_w32) (k0_pay6 x2 x4) k0_pay7

/-- The same along the rows. -/
def sumsRow (x3 : FVec Ideal S16x128 .f32) (x5 : FVec Ideal S16x1 .f32) : FVec Ideal S16x128 .f32 :=
  k0_pay11 (k0_pay9 (k0_pay5 x3 x5)) (iota .tc S16x128 32 [1] iota_S16x128_d1_w32) k0_pay10

/-- The running sums by columns are the rotate-and-add scan of the forget gates' logarithms. -/
theorem sumsCol_eq (x2 : FVec Ideal S128x128 .f32) (x4 : FVec Ideal S1x128 .f32) :
    sumsCol x2 x4 = scanCol iota_S128x128_d0_w32 rotates_S128x128_d0 (logSig (k0_pay4 x2 x4)) := rfl

/-- The running sums by rows are the rotate-and-add scan of the forget gates' logarithms. -/
theorem sumsRow_eq (x3 : FVec Ideal S16x128 .f32) (x5 : FVec Ideal S16x1 .f32) :
    sumsRow x3 x5 = scanRow iota_S16x128_d1_w32 rotates_S16x128_d1 (logSig (k0_pay5 x3 x5)) := rfl

section Chunk

/- The gates' pre-activations, the queries and keys, the normaliser's sums and the output's derivative, as real numbers. -/
variable (G QK Dn DH : ℕ → ℕ → ℝ)

/-- The log forget gate of a head. -/
def lf (h t : ℕ) : ℝ := lsig (G t (8 + h))
/-- The log input gate of a head. -/
def ig (h t : ℕ) : ℝ := G t h
/-- The gradient of a head's numerator. -/
def hnum (h t d : ℕ) : ℝ := num (lf G h) (ig G h) (fun t => Dn t h) (fun t d => DH t (256 * h + d)) t d
/-- The gradient of a head's state after `n` steps. -/
def hstate (L h n d e : ℕ) : ℝ := tail (lf G h) (ig G h) (fun t => hnum G Dn DH h t d) (fun t => QK t (256 * h + e)) L n
/-- The value's gradient of a head at step `s`. -/
def hvalue (σ : ℝ) (L h s d : ℕ) : ℝ :=
  ∑ t : Fin L, (if s ≤ t.val then (∑ e : Fin 256, QK t.val (256 * h + e.val) * (QK s (1024 + 256 * h + e.val) * σ))
    * weight (lf G h) (ig G h) t.val s else 0) * hnum G Dn DH h t.val d

variable (n : ℕ) (x0 : FVec Ideal S128x2048 .f32) (x2 : FVec Ideal S128x128 .f32) (x4 : FVec Ideal S1x128 .f32)
  (x3 : FVec Ideal S16x128 .f32) (x5 : FVec Ideal S16x1 .f32) (x7 : FVec Ideal S128x128 .f32)
  (x9 : FVec Ideal S1x4x2x256 .f32) (x10 : FVec Ideal S128x1024 .f32)

/-- The blocks of the chunk that starts at step `n` hold these numbers. -/
structure Holds : Prop where
  gcol : ∀ (j : Fin 128) (k : Fin 128), k.val < 16 → k0_pay4 (F := Ideal) x2 x4 (ix2 j k) = (G (n + j.val) k.val : EReal)
  grow : ∀ (k : Fin 16) (j : Fin 128), k0_pay5 (F := Ideal) x3 x5 (ix2 k j) = (G (n + j.val) k.val : EReal)
  qk : ∀ (j : Fin 128) (k : Fin 2048), x0 (ix2 j k) = (QK (n + j.val) k.val : EReal)
  den : ∀ (j : Fin 128) (k : Fin 128), k.val < 4 → x7 (ix2 j k) = (Dn (n + j.val) k.val : EReal)
  start : ∀ h : Fin 4, x9 (ix4 0 h 1 0) = ((pre (lf G h.val) n + top (lf G h.val) (ig G h.val) n : ℝ) : EReal)
  dh : ∀ (j : Fin 128) (k : Fin 1024), x10 (ix2 j k) = (DH (n + j.val) k.val : EReal)

variable {G QK Dn DH n x0 x2 x4 x3 x5 x7 x9 x10}
variable (H : Holds G QK Dn DH n x0 x2 x4 x3 x5 x7 x9 x10)
include H

/-- The running sum by columns, at a head and a step of the chunk. -/
theorem sumsCol_real (h : ℕ) (hh : h < 4) (j : Fin 128) : sumsCol x2 x4 (ix2 j ⟨8 + h, by omega⟩)
    = ((pre (lf G h) (n + j.val + 1) - pre (lf G h) n : ℝ) : EReal) := by
  rw [sumsCol_eq, scanCol_apply _ _ _ (fun i => (lf G h (n + i) : EReal)) _
    fun j => logSig_real _ _ _ (H.gcol j ⟨8 + h, by omega⟩ (by show 8 + h < 16; omega)), ← coe_sum, Nat.add_assoc, pre_add]
  congr 1; ring

/-- The running sum by rows, at a head and a step of the chunk. -/
theorem sumsRow_real (h : ℕ) (hh : h < 4) (j : Fin 128) : sumsRow x3 x5 (ix2 ⟨8 + h, by omega⟩ j)
    = ((pre (lf G h) (n + j.val + 1) - pre (lf G h) n : ℝ) : EReal) := by
  rw [sumsRow_eq, scanRow_apply _ _ _ (fun i => (lf G h (n + i) : EReal)) _
    fun j => logSig_real _ _ _ (H.grow ⟨8 + h, by omega⟩ j), ← coe_sum, Nat.add_assoc, pre_add]
  congr 1; ring

variable (σ : ℝ) (hσ : Ideal.ofBits .f32 0x3D800000#32 = (σ : EReal)) (L : ℕ) (hL : n + 128 ≤ L)
  (h : ℕ) (hh : h < 4)
  (s0 : S128x128.Slices ![0, 8 + h] S128x1) (s1 : S128x128.Slices ![0, h] S128x1)
  (s2 : S16x128.Slices ![8 + h, 0] S1x128) (s3 : S16x128.Slices ![h, 0] S1x128)
  (i9 : ∀ a, (![0, h, 1, 0] : Fin 4 → Nat) a + S1x1x1x1.size a ≤ S1x4x2x256.size a)
  (iq : ∀ a, (![0, 256 * h] : Fin 2 → Nat) a + S128x256.size a ≤ S128x2048.size a)
  (ik : ∀ a, (![0, 1024 + 256 * h] : Fin 2 → Nat) a + S128x256.size a ≤ S128x2048.size a)
  (i7 : ∀ a, (![0, h] : Fin 2 → Nat) a + S128x1.size a ≤ S128x128.size a)
  (i10 : ∀ a, (![0, 256 * h] : Fin 2 → Nat) a + S128x256.size a ≤ S128x1024.size a)
  (dC : FVec Ideal S1x256x256 .f32)
  (hC : ∀ d e : Fin 256, dC (ix3 0 d e) = (hstate G QK Dn DH L h (n + 128) d.val e.val : EReal))

/-- The running maximum that a head reads. -/
theorem start_real (hm : h < 4) : shapeCast S1x1 (View.ld (Val := Elt Ideal) (e' := .f32) x9 (Rect.unit (s := S1x4x2x256) ![0, h, 1, 0] S1x1x1x1.size i9)) shapeCasts_S1x1x1x1_S1x1
    (ix2 0 0) = ((pre (lf G h) n + top (lf G h) (ig G h) n : ℝ) : EReal) := by
  refine Eq.trans ?_ (H.start ⟨h, hm⟩)
  simp only [pointwise]
  refine congrArg x9 (funext fun a => Fin.ext ?_)
  fin_cases a <;> rfl

include hh in
/-- The column of running sums that a head reads. -/
theorem bcol_real (j : Fin 128) : extractStridedSlice S128x1 ![0, 8 + h] (sumsCol x2 x4) s0 (ix2 j 0)
    = ((pre (lf G h) (n + j.val + 1) - pre (lf G h) n : ℝ) : EReal) := by
  refine Eq.trans ?_ (sumsCol_real H h hh j)
  simp only [pointwise]
  refine congrArg _ (funext fun a => Fin.ext ?_)
  fin_cases a <;> simp [ix2]

include hh in
/-- The row of running sums that a head reads. -/
theorem brow_real (j : Fin 128) : extractStridedSlice S1x128 ![8 + h, 0] (sumsRow x3 x5) s2 (ix2 0 j)
    = ((pre (lf G h) (n + j.val + 1) - pre (lf G h) n : ℝ) : EReal) := by
  refine Eq.trans ?_ (sumsRow_real H h hh j)
  simp only [pointwise]
  refine congrArg _ (funext fun a => Fin.ext ?_)
  fin_cases a <;> simp [ix2]

include hh in
/-- The column of input gates that a head reads. -/
theorem icol_real (j : Fin 128) : extractStridedSlice S128x1 ![0, h] (k0_pay4 (F := Ideal) x2 x4) s1 (ix2 j 0)
    = (ig G h (n + j.val) : EReal) := by
  refine Eq.trans ?_ (H.gcol j ⟨h, by omega⟩ (by show h < 16; omega))
  simp only [pointwise]
  refine congrArg _ (funext fun a => Fin.ext ?_)
  fin_cases a <;> simp [ix2]

include hh in
/-- The row of input gates that a head reads. -/
theorem irow_real (j : Fin 128) : extractStridedSlice S1x128 ![h, 0] (k0_pay5 (F := Ideal) x3 x5) s3 (ix2 0 j)
    = (ig G h (n + j.val) : EReal) := by
  refine Eq.trans ?_ (H.grow ⟨h, by omega⟩ j)
  simp only [pointwise]
  refine congrArg _ (funext fun a => Fin.ext ?_)
  fin_cases a <;> simp [ix2]

include hh in
/-- The saved normaliser that a head reads. -/
theorem den_real (j : Fin 128) : View.ld (Val := Elt Ideal) (e' := .f32) x7 (Rect.unit (s := S128x128) ![0, h] S128x1.size i7) (ix2 j 0)
    = (Dn (n + j.val) h : EReal) := by
  refine Eq.trans ?_ (H.den j ⟨h, by omega⟩ hh)
  refine congrArg x7 (funext fun a => Fin.ext ?_)
  fin_cases a <;> simp [ix2]

include hh in
/-- The arriving derivative that a head reads. -/
theorem dh_real (j : Fin 128) (d : Fin 256) :
    View.ld (Val := Elt Ideal) (e' := .f32) x10 (Rect.unit (s := S128x1024) ![0, 256 * h] S128x256.size i10) (ix2 j d)
      = (DH (n + j.val) (256 * h + d.val) : EReal) := by
  refine Eq.trans ?_ (H.dh j ⟨256 * h + d.val, by omega⟩)
  refine congrArg x10 (funext fun a => Fin.ext ?_)
  fin_cases a <;> simp [ix2]

/-- The queries or keys that a head reads. -/
theorem qk_real (o : ℕ) (ho : o + 256 ≤ 2048) (i : ∀ a, (![0, o] : Fin 2 → Nat) a + S128x256.size a ≤ S128x2048.size a) (j : Fin 128) (d : Fin 256) :
    View.ld (Val := Elt Ideal) (e' := .f32) x0 (Rect.unit (s := S128x2048) ![0, o] S128x256.size i) (ix2 j d)
      = (QK (n + j.val) (o + d.val) : EReal) := by
  refine Eq.trans ?_ (H.qk j ⟨o + d.val, by omega⟩)
  refine congrArg x0 (funext fun a => Fin.ext ?_)
  fin_cases a <;> simp [ix2]

include hσ hL hh hC in
/-- A head's share of the value's gradient. -/
theorem value_real (j : Fin 128) (d : Fin 256) :
    valueGrad (extractStridedSlice S128x1 ![0, 8 + h] (sumsCol x2 x4) s0) (extractStridedSlice S128x1 ![0, h] (k0_pay4 x2 x4) s1)
      (extractStridedSlice S1x128 ![8 + h, 0] (sumsRow x3 x5) s2) (extractStridedSlice S1x128 ![h, 0] (k0_pay5 x3 x5) s3)
      (shapeCast S1x1 (View.ld (Val := Elt Ideal) (e' := .f32) x9 (Rect.unit (s := S1x4x2x256) ![0, h, 1, 0] S1x1x1x1.size i9)) shapeCasts_S1x1x1x1_S1x1)
      (View.ld (Val := Elt Ideal) (e' := .f32) x0 (Rect.unit (s := S128x2048) ![0, 256 * h] S128x256.size iq))
      (View.ld (Val := Elt Ideal) (e' := .f32) x0 (Rect.unit (s := S128x2048) ![0, 1024 + 256 * h] S128x256.size ik))
      (View.ld (Val := Elt Ideal) (e' := .f32) x7 (Rect.unit (s := S128x128) ![0, h] S128x1.size i7))
      (View.ld (Val := Elt Ideal) (e' := .f32) x10 (Rect.unit (s := S128x1024) ![0, 256 * h] S128x256.size i10)) dC (ix2 j d)
      = (hvalue G QK Dn DH σ L h (n + j.val) d.val : EReal) :=
  valueGrad_real (lf G h) (ig G h) n _ _ _ _ _ (bcol_real H h hh s0) (brow_real H h hh s2) (icol_real H h hh s1) (irow_real H h hh s3)
    (start_real H h i9 hh) (fun t => Dn t h) (fun t d => DH t (256 * h + d)) _ _ (den_real H h hh i7) (dh_real H h hh i10)
    (fun t e => QK t (256 * h + e)) (fun t e => QK t (1024 + 256 * h + e)) σ _ _ hσ (qk_real H _ (by omega) iq)
    (qk_real H _ (by omega) ik) L hL _ hC j d

include hL hh hC in
/-- A head's share of the gradient of the state before the chunk. -/
theorem state_real (d e : Fin 256) :
    stateGrad (extractStridedSlice S128x1 ![0, 8 + h] (sumsCol x2 x4) s0)
      (extractStridedSlice S1x128 ![8 + h, 0] (sumsRow x3 x5) s2) (extractStridedSlice S1x128 ![h, 0] (k0_pay5 x3 x5) s3)
      (shapeCast S1x1 (View.ld (Val := Elt Ideal) (e' := .f32) x9 (Rect.unit (s := S1x4x2x256) ![0, h, 1, 0] S1x1x1x1.size i9)) shapeCasts_S1x1x1x1_S1x1)
      (View.ld (Val := Elt Ideal) (e' := .f32) x0 (Rect.unit (s := S128x2048) ![0, 256 * h] S128x256.size iq))
      (View.ld (Val := Elt Ideal) (e' := .f32) x7 (Rect.unit (s := S128x128) ![0, h] S128x1.size i7))
      (View.ld (Val := Elt Ideal) (e' := .f32) x10 (Rect.unit (s := S128x1024) ![0, 256 * h] S128x256.size i10)) dC (ix3 0 d e)
      = (hstate G QK Dn DH L h n d.val e.val : EReal) :=
  stateGrad_real (lf G h) (ig G h) n _ _ _ _ (bcol_real H h hh s0) (brow_real H h hh s2) (irow_real H h hh s3)
    (start_real H h i9 hh) (fun t => Dn t h) (fun t d => DH t (256 * h + d)) _ _ (den_real H h hh i7) (dh_real H h hh i10)
    (fun t e => QK t (256 * h + e)) _ (qk_real H _ (by omega) iq) L hL _ hC d e

/-- The gradient of the four heads' states after `n` steps, as an array. -/
def stateArr (G QK Dn DH : ℕ → ℕ → ℝ) (L n : ℕ) (y : S4x256x256.Idx) : EReal :=
  (hstate G QK Dn DH L (y 0).val n (y 1).val (y 2).val : EReal)

/-- The value's gradient of 128 steps from step `n`, as a block. -/
def valueArr (G QK Dn DH : ℕ → ℕ → ℝ) (σ : ℝ) (L n : ℕ) (y : S128x1024.Idx) : EReal :=
  (hvalue G QK Dn DH σ L ((y 1).val / 256) (n + (y 0).val) ((y 1).val % 256) : EReal)

include hL hh hC in
/-- A head's piece of the gradient of the state. -/
theorem state_piece (i : ∀ a, (![h, 0, 0] : Fin 3 → Nat) a + S1x256x256.size a ≤ S4x256x256.size a) (x : S1x256x256.Idx) :
    stateGrad (extractStridedSlice S128x1 ![0, 8 + h] (sumsCol x2 x4) s0)
      (extractStridedSlice S1x128 ![8 + h, 0] (sumsRow x3 x5) s2) (extractStridedSlice S1x128 ![h, 0] (k0_pay5 x3 x5) s3)
      (shapeCast S1x1 (View.ld (Val := Elt Ideal) (e' := .f32) x9 (Rect.unit (s := S1x4x2x256) ![0, h, 1, 0] S1x1x1x1.size i9)) shapeCasts_S1x1x1x1_S1x1)
      (View.ld (Val := Elt Ideal) (e' := .f32) x0 (Rect.unit (s := S128x2048) ![0, 256 * h] S128x256.size iq))
      (View.ld (Val := Elt Ideal) (e' := .f32) x7 (Rect.unit (s := S128x128) ![0, h] S128x1.size i7))
      (View.ld (Val := Elt Ideal) (e' := .f32) x10 (Rect.unit (s := S128x1024) ![0, 256 * h] S128x256.size i10)) dC x
      = stateArr G QK Dn DH L n ((Rect.unit (s := S4x256x256) ![h, 0, 0] S1x256x256.size i).emb x) := by
  obtain ⟨d, e, rfl⟩ : ∃ (d : Fin 256) (e : Fin 256), x = ix3 0 d e :=
    ⟨x 1, x 2, funext fun a => by fin_cases a; exact (Fin.eq_zero (show Fin 1 from x 0)); all_goals rfl⟩
  rw [state_real H L hL h hh s0 s2 s3 i9 iq i7 i10 dC hC d e]
  have e0 : (((Rect.unit (s := S4x256x256) ![h, 0, 0] S1x256x256.size i).emb (ix3 0 d e)) 0).val = h := by show h + 1 * 0 = h; omega
  have e1 : (((Rect.unit (s := S4x256x256) ![h, 0, 0] S1x256x256.size i).emb (ix3 0 d e)) 1).val = d.val := by show 0 + 1 * d.val = _; omega
  have e2 : (((Rect.unit (s := S4x256x256) ![h, 0, 0] S1x256x256.size i).emb (ix3 0 d e)) 2).val = e.val := by show 0 + 1 * e.val = _; omega
  rw [stateArr, e0, e1, e2]

include hσ hL hh hC in
/-- A head's piece of the value's gradient. -/
theorem value_piece (i : ∀ a, (![0, 256 * h] : Fin 2 → Nat) a + S128x256.size a ≤ S128x1024.size a) (x : S128x256.Idx) :
    valueGrad (extractStridedSlice S128x1 ![0, 8 + h] (sumsCol x2 x4) s0) (extractStridedSlice S128x1 ![0, h] (k0_pay4 x2 x4) s1)
      (extractStridedSlice S1x128 ![8 + h, 0] (sumsRow x3 x5) s2) (extractStridedSlice S1x128 ![h, 0] (k0_pay5 x3 x5) s3)
      (shapeCast S1x1 (View.ld (Val := Elt Ideal) (e' := .f32) x9 (Rect.unit (s := S1x4x2x256) ![0, h, 1, 0] S1x1x1x1.size i9)) shapeCasts_S1x1x1x1_S1x1)
      (View.ld (Val := Elt Ideal) (e' := .f32) x0 (Rect.unit (s := S128x2048) ![0, 256 * h] S128x256.size iq))
      (View.ld (Val := Elt Ideal) (e' := .f32) x0 (Rect.unit (s := S128x2048) ![0, 1024 + 256 * h] S128x256.size ik))
      (View.ld (Val := Elt Ideal) (e' := .f32) x7 (Rect.unit (s := S128x128) ![0, h] S128x1.size i7))
      (View.ld (Val := Elt Ideal) (e' := .f32) x10 (Rect.unit (s := S128x1024) ![0, 256 * h] S128x256.size i10)) dC x
      = valueArr G QK Dn DH σ L n ((Rect.unit (s := S128x1024) ![0, 256 * h] S128x256.size i).emb x) := by
  obtain ⟨j, d, rfl⟩ : ∃ (j : Fin 128) (d : Fin 256), x = ix2 j d := ⟨x 0, x 1, funext fun a => by fin_cases a <;> rfl⟩
  rw [value_real H σ hσ L hL h hh s0 s1 s2 s3 i9 iq ik i7 i10 dC hC j d]
  have e0 : (((Rect.unit (s := S128x1024) ![0, 256 * h] S128x256.size i).emb (ix2 j d)) 0).val = j.val := by show 0 + 1 * j.val = _; omega
  have e1 : (((Rect.unit (s := S128x1024) ![0, 256 * h] S128x256.size i).emb (ix2 j d)) 1).val = 256 * h + d.val := by
    show 256 * h + 1 * d.val = _; omega
  rw [valueArr, e0, e1, show (256 * h + d.val) / 256 = h by omega, show (256 * h + d.val) % 256 = d.val by omega]

end Chunk

end Cert.RecurrenceChunk
end
end
-- ==== Proof.RecurrenceKernel.lean ====
/-
The kernel's grid, read on the real numbers.

Grid point `t` handles the chunk that starts at step 128 (63 - t): the grid runs the sequence backwards and carries the gradient
of the state. Here: given that every point's blocks hold real numbers, the gradient of the state after each point, and the
block of the value's gradient each point writes.
-/
module

public import proofs.«01_k».proof.Proof.RecurrenceChunk
public import Idealize.ShloMosaic.Lib.Pipeline.ReadBack

@[expose] public section

set_option maxRecDepth 16384

noncomputable section

namespace Cert.RecurrenceKernel

open Cert.Kernel5Ideal Cert.Kernel5Ideal.Gen Cert.Recurrence Cert.RecurrenceHead Cert.RecurrenceChunk
open Idealize.ShloMosaic Idealize.ShloMosaic.TcCoe Idealize.SL.Sem Idealize.ShloMosaic.StableHlo
open Idealize.ShloMosaic.Pipeline (Dat)
open scoped BigOperators

variable (m : (ℓ : Loc nD τ sig) → Buf (Elt Ideal) ℓ)

/-- The first step of a point's chunk. -/
abbrev first (t : ℕ) : ℕ := 128 * (63 - t)

/-- Every point's blocks hold the numbers. -/
def Blocks (c : Dev nD) (G QK Dn DH : ℕ → ℕ → ℝ) : Prop :=
  ∀ t : Fin cfg0.N, Holds G QK Dn DH (first t.val) (iblk m c 0 t) (iblk m c 2 t) (iblk m c 4 t) (iblk m c 3 t) (iblk m c 5 t)
    (iblk m c 7 t) (iblk m c 9 t) (iblk m c 10 t)

variable {m} {c : Dev nD} {G QK Dn DH : ℕ → ℕ → ℝ} (H : Blocks m c G QK Dn DH)

/-- An index of the four states lies in the piece of its head. -/
theorem covered (y : S4x256x256.Idx) : ∀ h : ℕ, (y 0).val = h → ∀ i : ∀ a, (![h, 0, 0] : Fin 3 → Nat) a + S1x256x256.size a ≤ S4x256x256.size a,
    y ∈ (Rect.unit (s := S4x256x256) ![h, 0, 0] S1x256x256.size i).set := by
  intro h hy i
  rw [Rect.mem_set_unit]
  intro a
  fin_cases a
  · exact ⟨by show h ≤ (y 0).val; omega, by show (y 0).val < h + 1; omega⟩
  · exact ⟨Nat.zero_le _, by have : (y 1).val < 256 := (y 1).isLt; show (y 1).val < 0 + 256; omega⟩
  · exact ⟨Nat.zero_le _, by have : (y 2).val < 256 := (y 2).isLt; show (y 2).val < 0 + 256; omega⟩

/-- The cleared state is the gradient after the last step. -/
theorem cleared (h d e : ℕ) : (0 : EReal) = (hstate G QK Dn DH 8192 h (128 * (63 - 0) + 128) d e : EReal) := by
  rw [hstate, show 128 * (63 - 0) + 128 = 8192 from rfl, tail_end]; rfl

/-- The state's derivative starts from zero. -/
theorem k0_pay2_zero (y : S4x256x256.Idx) : k0_pay2 (F := Ideal) y = 0 := by
  unfold k0_pay2
  rw [shapeCast_self]
  exact Ideal.ofBits_zero_f32

/-- What a point after the first loads of the state's gradient. -/
theorem load_later (t : ℕ) (ht : t < 64) (h0 : ¬ t % 64 = 0) (D : FVec Ideal S4x256x256 .f32)
    (hp : ∀ y, D y = stateArr G QK Dn DH 8192 (first (t - 1)) y) (h : ℕ)
    (i : ∀ a, (![h, 0, 0] : Fin 3 → Nat) a + S1x256x256.size a ≤ S4x256x256.size a) (d e : Fin 256) :
    View.ld (Val := Elt Ideal) (e' := .f32) D (Rect.unit (s := S4x256x256) ![h, 0, 0] S1x256x256.size i) (ix3 0 d e)
      = (hstate G QK Dn DH 8192 h (first t + 128) d.val e.val : EReal) := by
  refine (hp _).trans ?_
  have e0 : (((Rect.unit (s := S4x256x256) ![h, 0, 0] S1x256x256.size i).emb (ix3 0 d e)) 0).val = h := by show h + 1 * 0 = h; omega
  have e1 : (((Rect.unit (s := S4x256x256) ![h, 0, 0] S1x256x256.size i).emb (ix3 0 d e)) 1).val = d.val := by show 0 + 1 * d.val = _; omega
  have e2 : (((Rect.unit (s := S4x256x256) ![h, 0, 0] S1x256x256.size i).emb (ix3 0 d e)) 2).val = e.val := by show 0 + 1 * e.val = _; omega
  show stateArr G QK Dn DH 8192 (first (t - 1)) ((Rect.unit (s := S4x256x256) ![h, 0, 0] S1x256x256.size i).emb (ix3 0 d e)) = _
  rw [stateArr, e0, e1, e2, show first (t - 1) = first t + 128 by show 128 * (63 - (t - 1)) = 128 * (63 - t) + 128; omega]

/-- A list of stores that cleared the state first and has since written only other heads. -/
def Clear (v : View sig .tc .vmem S4x256x256 .f32) (L : List (View.Piece (Elt Ideal) S4x256x256 .f32)) (h : ℕ)
    (i : ∀ a, (![h, 0, 0] : Fin 3 → Nat) a + S1x256x256.size a ≤ S4x256x256.size a) : Prop :=
  v.readCov L (Rect.unit (s := S4x256x256) ![h, 0, 0] S1x256x256.size i).toLoadRect
    = View.ld (Val := Elt Ideal) (e' := .f32) (k0_pay2 (F := Ideal)) (Rect.unit (s := S4x256x256) ![h, 0, 0] S1x256x256.size i)

/-- Reading a head of the cleared state gives zero. -/
theorem clear_nil (v : View sig .tc .vmem S4x256x256 .f32) (h : ℕ)
    (i : ∀ a, (![h, 0, 0] : Fin 3 → Nat) a + S1x256x256.size a ≤ S4x256x256.size a) :
    Clear v [⟨Rect.unit ![0, 0, 0] ![4, 256, 256] inb_S4x256x256_S4x256x256_0_0_0, k0_pay2 (F := Ideal)⟩] h i :=
  View.readCov_fill (Val := Elt Ideal) (e := .f32) v inb_S4x256x256_S4x256x256_0_0_0 (k0_pay2 (F := Ideal)) [] _
    (fun a => by fin_cases a <;> rfl)

/-- What the first point loads of the state's gradient. -/
theorem load_first (t : ℕ) (ht : t = 0) (v : View sig .tc .vmem S4x256x256 .f32) (L : List (View.Piece (Elt Ideal) S4x256x256 .f32)) (h : ℕ)
    (i : ∀ a, (![h, 0, 0] : Fin 3 → Nat) a + S1x256x256.size a ≤ S4x256x256.size a) (hc : Clear v L h i) (d e : Fin 256) :
    v.readCov L (Rect.unit (s := S4x256x256) ![h, 0, 0] S1x256x256.size i).toLoadRect (ix3 0 d e)
      = (hstate G QK Dn DH 8192 h (first t + 128) d.val e.val : EReal) := by
  subst ht
  rw [hc]
  exact (k0_pay2_zero _).trans (cleared h d.val e.val)

include H in
/-- The first point. -/
theorem state_first (t : Fin cfg0.N) (h0 : t.val % 64 = 0) (y : S4x256x256.Idx) :
    (outsAt0 m c t.val t.isLt).2.2.2.2.1 y = stateArr G QK Dn DH 8192 (first t.val) y := by
  have ht : t.val = 0 := by have : t.val < 64 := t.isLt; omega
  have hL : first t.val + 128 ≤ 8192 := by show 128 * (63 - t.val) + 128 ≤ _; omega
  have Ht := H t
  rw [outsAt0_A m c t h0]
  frame_out
  refine View.canon_append_of_piecesOf (Val := Elt Ideal) (e := .f32) (stateArr G QK Dn DH 8192 (first t.val)) [_] [_, _, _, _] ⟨fun _ => ?_, fun _ => ?_, fun _ => ?_, fun _ => ?_, trivial⟩ y ?_
  · exact state_piece Ht 8192 hL 3 (by omega) slices_S128x128_o0_11_S128x1 slices_S16x128_o11_0_S1x128 slices_S16x128_o3_0_S1x128
      inb_S1x4x2x256_S1x1x1x1_0_3_1_0 inb_S128x2048_S128x256_0_768 inb_S128x128_S128x1_0_3 inb_S128x1024_S128x256_0_768 _
      (load_first t.val ht _ _ 3 inb_S4x256x256_S1x256x256_3_0_0 ((View.readCov_skip _ _ _ _ _ rfl).trans <| (View.readCov_skip _ _ _ _ _ rfl).trans <| (View.readCov_skip _ _ _ _ _ rfl).trans <| clear_nil _ 3 _)) inb_S4x256x256_S1x256x256_3_0_0 _
  · exact state_piece Ht 8192 hL 2 (by omega) slices_S128x128_o0_10_S128x1 slices_S16x128_o10_0_S1x128 slices_S16x128_o2_0_S1x128
      inb_S1x4x2x256_S1x1x1x1_0_2_1_0 inb_S128x2048_S128x256_0_512 inb_S128x128_S128x1_0_2 inb_S128x1024_S128x256_0_512 _
      (load_first t.val ht _ _ 2 inb_S4x256x256_S1x256x256_2_0_0 ((View.readCov_skip _ _ _ _ _ rfl).trans <| (View.readCov_skip _ _ _ _ _ rfl).trans <| clear_nil _ 2 _)) inb_S4x256x256_S1x256x256_2_0_0 _
  · exact state_piece Ht 8192 hL 1 (by omega) slices_S128x128_o0_9_S128x1 slices_S16x128_o9_0_S1x128 slices_S16x128_o1_0_S1x128
      inb_S1x4x2x256_S1x1x1x1_0_1_1_0 inb_S128x2048_S128x256_0_256 inb_S128x128_S128x1_0_1 inb_S128x1024_S128x256_0_256 _
      (load_first t.val ht _ _ 1 inb_S4x256x256_S1x256x256_1_0_0 ((View.readCov_skip _ _ _ _ _ rfl).trans <| clear_nil _ 1 _)) inb_S4x256x256_S1x256x256_1_0_0 _
  · exact state_piece Ht 8192 hL 0 (by omega) slices_S128x128_o0_8_S128x1 slices_S16x128_o8_0_S1x128 slices_S16x128_o0_0_S1x128
      inb_S1x4x2x256_S1x1x1x1_0_0_1_0 inb_S128x2048_S128x256_0_0 inb_S128x128_S128x1_0_0 inb_S128x1024_S128x256_0_0 _
      (load_first t.val ht _ _ 0 inb_S4x256x256_S1x256x256_0_0_0 (clear_nil _ 0 _)) inb_S4x256x256_S1x256x256_0_0_0 _
  · have hy : (y 0).val < 4 := (y 0).isLt
    rcases (by omega : (y 0).val = 3 ∨ (y 0).val = 2 ∨ (y 0).val = 1 ∨ (y 0).val = 0) with h | h | h | h
    · exact ⟨_, .head _, covered y 3 h inb_S4x256x256_S1x256x256_3_0_0⟩
    · exact ⟨_, .tail _ (.head _), covered y 2 h inb_S4x256x256_S1x256x256_2_0_0⟩
    · exact ⟨_, .tail _ (.tail _ (.head _)), covered y 1 h inb_S4x256x256_S1x256x256_1_0_0⟩
    · exact ⟨_, .tail _ (.tail _ (.tail _ (.head _))), covered y 0 h inb_S4x256x256_S1x256x256_0_0_0⟩

include H in
/-- A later point. -/
theorem state_later (t : Fin cfg0.N) (h0 : ¬ t.val % 64 = 0)
    (hp : ∀ y, (outsAt0 m c (t.val - 1) (by omega)).2.2.2.2.1 y = stateArr G QK Dn DH 8192 (first (t.val - 1)) y) (y : S4x256x256.Idx) :
    (outsAt0 m c t.val t.isLt).2.2.2.2.1 y = stateArr G QK Dn DH 8192 (first t.val) y := by
  have Ht := H t
  rw [outsAt0_B m c t h0]
  frame_out
  simp only [read_unread_whole]
  generalize (outsAt0 m c (t.val - 1) _).2.2.2.2.1 = D at hp ⊢
  have hL : first t.val + 128 ≤ 8192 := by show 128 * (63 - t.val) + 128 ≤ _; omega
  refine View.canon_append_of_piecesOf (Val := Elt Ideal) (e := .f32) (stateArr G QK Dn DH 8192 (first t.val)) [] [_, _, _, _] ⟨fun _ => ?_, fun _ => ?_, fun _ => ?_, fun _ => ?_, trivial⟩ y ?_
  · exact state_piece Ht 8192 hL 3 (by omega) slices_S128x128_o0_11_S128x1 slices_S16x128_o11_0_S1x128 slices_S16x128_o3_0_S1x128
      inb_S1x4x2x256_S1x1x1x1_0_3_1_0 inb_S128x2048_S128x256_0_768 inb_S128x128_S128x1_0_3 inb_S128x1024_S128x256_0_768 _
      (load_later t.val t.isLt h0 D hp 3 inb_S4x256x256_S1x256x256_3_0_0) inb_S4x256x256_S1x256x256_3_0_0 _
  · exact state_piece Ht 8192 hL 2 (by omega) slices_S128x128_o0_10_S128x1 slices_S16x128_o10_0_S1x128 slices_S16x128_o2_0_S1x128
      inb_S1x4x2x256_S1x1x1x1_0_2_1_0 inb_S128x2048_S128x256_0_512 inb_S128x128_S128x1_0_2 inb_S128x1024_S128x256_0_512 _
      (load_later t.val t.isLt h0 D hp 2 inb_S4x256x256_S1x256x256_2_0_0) inb_S4x256x256_S1x256x256_2_0_0 _
  · exact state_piece Ht 8192 hL 1 (by omega) slices_S128x128_o0_9_S128x1 slices_S16x128_o9_0_S1x128 slices_S16x128_o1_0_S1x128
      inb_S1x4x2x256_S1x1x1x1_0_1_1_0 inb_S128x2048_S128x256_0_256 inb_S128x128_S128x1_0_1 inb_S128x1024_S128x256_0_256 _
      (load_later t.val t.isLt h0 D hp 1 inb_S4x256x256_S1x256x256_1_0_0) inb_S4x256x256_S1x256x256_1_0_0 _
  · exact state_piece Ht 8192 hL 0 (by omega) slices_S128x128_o0_8_S128x1 slices_S16x128_o8_0_S1x128 slices_S16x128_o0_0_S1x128
      inb_S1x4x2x256_S1x1x1x1_0_0_1_0 inb_S128x2048_S128x256_0_0 inb_S128x128_S128x1_0_0 inb_S128x1024_S128x256_0_0 _
      (load_later t.val t.isLt h0 D hp 0 inb_S4x256x256_S1x256x256_0_0_0) inb_S4x256x256_S1x256x256_0_0_0 _
  · have hy : (y 0).val < 4 := (y 0).isLt
    rcases (by omega : (y 0).val = 3 ∨ (y 0).val = 2 ∨ (y 0).val = 1 ∨ (y 0).val = 0) with h | h | h | h
    · exact ⟨_, .head _, covered y 3 h inb_S4x256x256_S1x256x256_3_0_0⟩
    · exact ⟨_, .tail _ (.head _), covered y 2 h inb_S4x256x256_S1x256x256_2_0_0⟩
    · exact ⟨_, .tail _ (.tail _ (.head _)), covered y 1 h inb_S4x256x256_S1x256x256_1_0_0⟩
    · exact ⟨_, .tail _ (.tail _ (.tail _ (.head _))), covered y 0 h inb_S4x256x256_S1x256x256_0_0_0⟩

include H in
/-- The gradient of the state after every point. -/
theorem state_all : ∀ (n : ℕ) (hn : n < cfg0.N) (y : S4x256x256.Idx),
    (outsAt0 m c n hn).2.2.2.2.1 y = stateArr G QK Dn DH 8192 (first n) y
  | 0, hn, y => state_first H ⟨0, hn⟩ rfl y
  | n + 1, hn, y => state_later H ⟨n + 1, hn⟩ (by have : n + 1 < 64 := hn; show ¬ (n + 1) % 64 = 0; omega)
      (fun y => state_all n (Nat.lt_of_succ_lt hn) y) y

/-- An index of the value's block lies in the piece of its head. -/
theorem coveredV (y : S128x1024.Idx) : ∀ h : ℕ, (y 1).val / 256 = h → ∀ i : ∀ a, (![0, 256 * h] : Fin 2 → Nat) a + S128x256.size a ≤ S128x1024.size a,
    y ∈ (Rect.unit (s := S128x1024) ![0, 256 * h] S128x256.size i).set := by
  intro h hy i
  rw [Rect.mem_set_unit]
  intro a
  fin_cases a
  · exact ⟨Nat.zero_le _, by have : (y 0).val < 128 := (y 0).isLt; show (y 0).val < 0 + 128; omega⟩
  · exact ⟨by show 256 * h ≤ (y 1).val; omega, by show (y 1).val < 256 * h + 256; omega⟩

variable (σ : ℝ) (hσ : Ideal.ofBits .f32 0x3D800000#32 = (σ : EReal))

include H hσ in
/-- The block of the value's gradient every point writes. -/
theorem value_all (t : Fin cfg0.N) (y : S128x1024.Idx) :
    (outsAt0 m c t.val t.isLt).2.1 y = valueArr G QK Dn DH σ 8192 (first t.val) y := by
  have Ht := H t
  have hL : first t.val + 128 ≤ 8192 := by show 128 * (63 - t.val) + 128 ≤ _; omega
  by_cases h0 : t.val % 64 = 0
  · have ht : t.val = 0 := by have : t.val < 64 := t.isLt; omega
    rw [outsAt0_A m c t h0]
    frame_out
    refine View.canon_append_of_piecesOf (Val := Elt Ideal) (e := .f32) (valueArr G QK Dn DH σ 8192 (first t.val)) [] [_, _, _, _] ⟨fun _ => ?_, fun _ => ?_, fun _ => ?_, fun _ => ?_, trivial⟩ y ?_
    · exact value_piece Ht σ hσ 8192 hL 3 (by omega) slices_S128x128_o0_11_S128x1 slices_S128x128_o0_3_S128x1 slices_S16x128_o11_0_S1x128
        slices_S16x128_o3_0_S1x128 inb_S1x4x2x256_S1x1x1x1_0_3_1_0 inb_S128x2048_S128x256_0_768 inb_S128x2048_S128x256_0_1792
        inb_S128x128_S128x1_0_3 inb_S128x1024_S128x256_0_768 _ (load_first t.val ht _ _ 3 inb_S4x256x256_S1x256x256_3_0_0 ((View.readCov_skip _ _ _ _ _ rfl).trans <| (View.readCov_skip _ _ _ _ _ rfl).trans <| (View.readCov_skip _ _ _ _ _ rfl).trans <| clear_nil _ 3 _)) inb_S128x1024_S128x256_0_768 _
    · exact value_piece Ht σ hσ 8192 hL 2 (by omega) slices_S128x128_o0_10_S128x1 slices_S128x128_o0_2_S128x1 slices_S16x128_o10_0_S1x128
        slices_S16x128_o2_0_S1x128 inb_S1x4x2x256_S1x1x1x1_0_2_1_0 inb_S128x2048_S128x256_0_512 inb_S128x2048_S128x256_0_1536
        inb_S128x128_S128x1_0_2 inb_S128x1024_S128x256_0_512 _ (load_first t.val ht _ _ 2 inb_S4x256x256_S1x256x256_2_0_0 ((View.readCov_skip _ _ _ _ _ rfl).trans <| (View.readCov_skip _ _ _ _ _ rfl).trans <| clear_nil _ 2 _)) inb_S128x1024_S128x256_0_512 _
    · exact value_piece Ht σ hσ 8192 hL 1 (by omega) slices_S128x128_o0_9_S128x1 slices_S128x128_o0_1_S128x1 slices_S16x128_o9_0_S1x128
        slices_S16x128_o1_0_S1x128 inb_S1x4x2x256_S1x1x1x1_0_1_1_0 inb_S128x2048_S128x256_0_256 inb_S128x2048_S128x256_0_1280
        inb_S128x128_S128x1_0_1 inb_S128x1024_S128x256_0_256 _ (load_first t.val ht _ _ 1 inb_S4x256x256_S1x256x256_1_0_0 ((View.readCov_skip _ _ _ _ _ rfl).trans <| clear_nil _ 1 _)) inb_S128x1024_S128x256_0_256 _
    · exact value_piece Ht σ hσ 8192 hL 0 (by omega) slices_S128x128_o0_8_S128x1 slices_S128x128_o0_0_S128x1 slices_S16x128_o8_0_S1x128
        slices_S16x128_o0_0_S1x128 inb_S1x4x2x256_S1x1x1x1_0_0_1_0 inb_S128x2048_S128x256_0_0 inb_S128x2048_S128x256_0_1024
        inb_S128x128_S128x1_0_0 inb_S128x1024_S128x256_0_0 _ (load_first t.val ht _ _ 0 inb_S4x256x256_S1x256x256_0_0_0 (clear_nil _ 0 _)) inb_S128x1024_S128x256_0_0 _
    · have hy : (y 1).val < 1024 := (y 1).isLt
      rcases (by omega : (y 1).val / 256 = 3 ∨ (y 1).val / 256 = 2 ∨ (y 1).val / 256 = 1 ∨ (y 1).val / 256 = 0) with h | h | h | h
      · exact ⟨_, .head _, coveredV y 3 h inb_S128x1024_S128x256_0_768⟩
      · exact ⟨_, .tail _ (.head _), coveredV y 2 h inb_S128x1024_S128x256_0_512⟩
      · exact ⟨_, .tail _ (.tail _ (.head _)), coveredV y 1 h inb_S128x1024_S128x256_0_256⟩
      · exact ⟨_, .tail _ (.tail _ (.tail _ (.head _))), coveredV y 0 h inb_S128x1024_S128x256_0_0⟩
  · have hp := state_all H (t.val - 1) (by omega)
    rw [outsAt0_B m c t h0]
    frame_out
    simp only [read_unread_whole]
    generalize (outsAt0 m c (t.val - 1) _).2.2.2.2.1 = D at hp ⊢
    refine View.canon_append_of_piecesOf (Val := Elt Ideal) (e := .f32) (valueArr G QK Dn DH σ 8192 (first t.val)) [] [_, _, _, _] ⟨fun _ => ?_, fun _ => ?_, fun _ => ?_, fun _ => ?_, trivial⟩ y ?_
    · exact value_piece Ht σ hσ 8192 hL 3 (by omega) slices_S128x128_o0_11_S128x1 slices_S128x128_o0_3_S128x1 slices_S16x128_o11_0_S1x128
        slices_S16x128_o3_0_S1x128 inb_S1x4x2x256_S1x1x1x1_0_3_1_0 inb_S128x2048_S128x256_0_768 inb_S128x2048_S128x256_0_1792
        inb_S128x128_S128x1_0_3 inb_S128x1024_S128x256_0_768 _ (load_later t.val t.isLt h0 D hp 3 inb_S4x256x256_S1x256x256_3_0_0) inb_S128x1024_S128x256_0_768 _
    · exact value_piece Ht σ hσ 8192 hL 2 (by omega) slices_S128x128_o0_10_S128x1 slices_S128x128_o0_2_S128x1 slices_S16x128_o10_0_S1x128
        slices_S16x128_o2_0_S1x128 inb_S1x4x2x256_S1x1x1x1_0_2_1_0 inb_S128x2048_S128x256_0_512 inb_S128x2048_S128x256_0_1536
        inb_S128x128_S128x1_0_2 inb_S128x1024_S128x256_0_512 _ (load_later t.val t.isLt h0 D hp 2 inb_S4x256x256_S1x256x256_2_0_0) inb_S128x1024_S128x256_0_512 _
    · exact value_piece Ht σ hσ 8192 hL 1 (by omega) slices_S128x128_o0_9_S128x1 slices_S128x128_o0_1_S128x1 slices_S16x128_o9_0_S1x128
        slices_S16x128_o1_0_S1x128 inb_S1x4x2x256_S1x1x1x1_0_1_1_0 inb_S128x2048_S128x256_0_256 inb_S128x2048_S128x256_0_1280
        inb_S128x128_S128x1_0_1 inb_S128x1024_S128x256_0_256 _ (load_later t.val t.isLt h0 D hp 1 inb_S4x256x256_S1x256x256_1_0_0) inb_S128x1024_S128x256_0_256 _
    · exact value_piece Ht σ hσ 8192 hL 0 (by omega) slices_S128x128_o0_8_S128x1 slices_S128x128_o0_0_S128x1 slices_S16x128_o8_0_S1x128
        slices_S16x128_o0_0_S1x128 inb_S1x4x2x256_S1x1x1x1_0_0_1_0 inb_S128x2048_S128x256_0_0 inb_S128x2048_S128x256_0_1024
        inb_S128x128_S128x1_0_0 inb_S128x1024_S128x256_0_0 _ (load_later t.val t.isLt h0 D hp 0 inb_S4x256x256_S1x256x256_0_0_0) inb_S128x1024_S128x256_0_0 _
    · have hy : (y 1).val < 1024 := (y 1).isLt
      rcases (by omega : (y 1).val / 256 = 3 ∨ (y 1).val / 256 = 2 ∨ (y 1).val / 256 = 1 ∨ (y 1).val / 256 = 0) with h | h | h | h
      · exact ⟨_, .head _, coveredV y 3 h inb_S128x1024_S128x256_0_768⟩
      · exact ⟨_, .tail _ (.head _), coveredV y 2 h inb_S128x1024_S128x256_0_512⟩
      · exact ⟨_, .tail _ (.tail _ (.head _)), coveredV y 1 h inb_S128x1024_S128x256_0_256⟩
      · exact ⟨_, .tail _ (.tail _ (.tail _ (.head _))), coveredV y 0 h inb_S128x1024_S128x256_0_0⟩

end Cert.RecurrenceKernel
end
end
-- ==== Proof.RecurrenceSums.lean ====
/-
Running sums and maxima along a row.

The running sum of a row is written as a window that reaches from the row's start to each step: the steps before the start
count zero. The maximum along the last axis is a fold over that axis.
-/
module

public import proofs.«01_k».proof.Proof.RecurrenceChunk
public import Idealize.ShloMosaic.Lib.Routing.OpsOne

@[expose] public section

noncomputable section

namespace Cert.RecurrenceSums

open Cert.Recurrence Cert.RecurrenceHead
open Idealize.ShloMosaic Idealize.ShloMosaic.StableHlo
open Idealize.ShloMosaic.Routing (shape2)
open scoped BigOperators

/-- A fold of additions is the start and a sum. -/
theorem foldl_sum {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- Of a window of `w + 1` places ending at step `j`, the places before the row's start are empty. -/
theorem sum_reach (f : ℕ → ℝ) (w j : ℕ) (h : j ≤ w) :
    ∑ n ∈ Finset.range (w + 1), (if w ≤ j + n then f (j + n - w) else 0) = ∑ i ∈ Finset.range (j + 1), f i := by
  obtain ⟨d, rfl⟩ := Nat.exists_eq_add_of_le h
  rw [show j + d + 1 = d + (j + 1) by omega, Finset.sum_range_add,
    Finset.sum_eq_zero fun n hn => if_neg (by have := Finset.mem_range.mp hn; omega), zero_add]
  refine Finset.sum_congr rfl fun n _ => ?_
  rw [if_pos (by omega), show j + (d + n) - (j + d) = n by omega]

/-- The running sum along the rows of a matrix of real numbers. -/
theorem running_sum {A B w : ℕ} (hB : w + 1 = B) (x : (shape2 A B).Idx → EReal) (f : ℕ → ℕ → ℝ)
    (hx : ∀ (a : Fin A) (b : Fin B), x (ix2 a b) = (f a.val b.val : EReal))
    (h : (shape2 A B).ReduceWindows (![1, B] : Fin 2 → ℕ) ![1, 1] ![0, w] ![0, 0] (shape2 A B)) (a : Fin A) (j : Fin B) :
    Ideal.hostReduceWindowAdd ![1, B] ![1, 1] ![0, w] ![0, 0] h x 0 (ix2 a j) = ((∑ i ∈ Finset.range (j.val + 1), f a.val i : ℝ) : EReal) := by
  subst hB
  have hj := j.isLt
  have ha := a.isLt
  unfold Ideal.hostReduceWindowAdd Host.reduceWindow
  dsimp only
  rw [foldl_sum, zero_add, ← sum_reach _ w j.val (by omega), coe_sum]
  refine (congrArg List.sum (List.map_congr_left (g := fun n =>
    ((if w ≤ j.val + n.val then f a.val (j.val + n.val - w) else 0 : ℝ) : EReal)) fun n _ => ?_)).trans ?_
  · have p0 : ((shape2 1 (w + 1)).rowMajor.symm n 0).val = 0 := by rw [Routing.symm2]; rfl
    have p1 : ((shape2 1 (w + 1)).rowMajor.symm n 1).val = n.val := by rw [Routing.symm2]; rfl
    have hn : n.val < w + 1 := (n.cast (Routing.numel2 _)).isLt
    split
    · next hin =>
      have h1 := hin 1
      change w ≤ j.val * 1 + ((shape2 1 (w + 1)).rowMajor.symm n 1).val ∧ _ at h1
      rw [p1] at h1
      rw [if_pos (by omega)]
      refine (congrArg x (funext fun c => Fin.ext ?_)).trans (hx a ⟨j.val + n.val - w, by omega⟩)
      match c with
      | ⟨0, _⟩ =>
        show a.val * 1 + ((shape2 1 (w + 1)).rowMajor.symm n 0).val - 0 = a.val
        rw [p0]; omega
      | ⟨1, _⟩ =>
        show j.val * 1 + ((shape2 1 (w + 1)).rowMajor.symm n 1).val - w = j.val + n.val - w
        rw [p1]; omega
    · next hin =>
      rw [if_neg fun hle => hin fun c => by
        match c with
        | ⟨0, _⟩ =>
          show 0 ≤ a.val * 1 + ((shape2 1 (w + 1)).rowMajor.symm n 0).val
            ∧ a.val * 1 + ((shape2 1 (w + 1)).rowMajor.symm n 0).val - 0 < A
          rw [p0]; omega
        | ⟨1, _⟩ =>
          show w ≤ j.val * 1 + ((shape2 1 (w + 1)).rowMajor.symm n 1).val
            ∧ j.val * 1 + ((shape2 1 (w + 1)).rowMajor.symm n 1).val - w < w + 1
          rw [p1]; omega]
      rfl
  · rw [← List.ofFn_eq_map, List.sum_ofFn, Fin.sum_univ_eq_sum_range (fun n => ((if w ≤ j.val + n then f a.val (j.val + n - w) else 0 : ℝ) : EReal)),
    Routing.numel2]

end Cert.RecurrenceSums
end
-- ==== Proof.RecurrenceForward.lean ====
/-
The reference's forward lines, read on the real numbers.

When the arguments hold real numbers the gates, the sums of the log forget gates, the running maximum, the weighted scores and
the normaliser's sums are the real functions that the recurrence is described by.
-/
module

public import proofs.«01_k».proof.Proof.RecurrenceSums
public import proofs.«01_k».proof.Proof.Gen.Reference5Ideal.Read

@[expose] public section

set_option maxRecDepth 16384

noncomputable section

namespace Cert.RecurrenceForward

open Cert.Reference5Ideal Cert.Reference5Ideal.Gen Cert.Reference5Ideal.Read
open Cert.Recurrence Cert.RecurrenceScan Cert.RecurrenceHead Cert.RecurrenceChunk Cert.RecurrenceSums
open Idealize.ShloMosaic Idealize.ShloMosaic.TcCoe Idealize.SL.Sem Idealize.ShloMosaic.StableHlo
open scoped BigOperators

/-- The projection's column of a gate. -/
def column (k : Fin 16) : Fin 6144 := ⟨5632 + k.val, by omega⟩

variable {x0 : FVec Ideal S8192x2048 .f32} {x1 : FVec Ideal S8192x6144 .f32} {x2 : FVec Ideal S16 .f32}
  {QK PR : ℕ → ℕ → ℝ} {BG : ℕ → ℝ}
  (h0 : ∀ i, x0 i = (QK (i 0).val (i 1).val : EReal)) (h1 : ∀ t (k : Fin 16), x1 (ix2 t (column k)) = (PR t.val (5632 + k.val) : EReal))
  (h2 : ∀ i, x2 i = (BG (i 0).val : EReal))

/-- The gates: columns of the projection and their biases. -/
def gate (PR : ℕ → ℕ → ℝ) (BG : ℕ → ℝ) (t k : ℕ) : ℝ := PR t (5632 + k) + BG k

/-- The word of the literal zero denotes zero. -/
theorem zero_word : Ideal.ofBits .f32 0x00000000#32 = 0 := by
  simp [Ideal.ofBits, Ideal.ieee]

/-- The word of the infinite negative literal denotes the least extended real. -/
theorem below_word : Ideal.ofBits .f32 0xFF800000#32 = ⊥ := by
  simp [Ideal.ofBits, Ideal.ieee]

include h1 h2

/-- The reference's gates: the projection's column plus the bias. -/
theorem gates_real (i : S16x8192.Idx) : val_main_v13 (F := Ideal) x1 x2 i = (gate PR BG (i 1).val (i 0).val : EReal) := by
  rw [val_main_v13_apply, val_main_v12_apply, val_main_v9_apply, val_main_v11_apply, val_main_v10_apply, h2]
  refine Eq.trans (congrArg (· + _) (Eq.trans (congrArg x1 ?_) (h1 (i 1) (i 0)))) (EReal.coe_add _ _).symm
  funext a
  exact Fin.ext (by match a with | ⟨0, _⟩ => rfl | ⟨1, _⟩ => rfl)

/-- The reference's input gates. -/
theorem input_real (i : S4x8192.Idx) : val_main_v14 (F := Ideal) x1 x2 i = (ig (gate PR BG) (i 0).val (i 1).val : EReal) := by
  rw [val_main_v14_apply, gates_real h1 h2]
  rfl

omit h1 h2 in
/-- The reference's logarithm of the logistic function, at a real number. -/
theorem softplus_word (r : ℝ) :
    -(Scalar.select (FloatOps.cmpf (F := Ideal) (φ := .f32) .une (-(r : EReal) - 0) (-(r : EReal) - 0)) (-(r : EReal) + 0)
      (max (-(r : EReal)) 0 + Ideal.log (1 + Ideal.exp (-max (-(r : EReal) - 0) (-(-(r : EReal) - 0)))))) = (lsig r : EReal) := by
  have c : FloatOps.cmpf (F := Ideal) (φ := .f32) .une (-(r : EReal) - 0) (-(r : EReal) - 0) = 0#1 := by
    simp [FloatOps.cmpf, Ideal.cmp]
  have n : max (-(r : EReal)) 0 = ((-min r 0 : ℝ) : EReal) := by
    rw [← EReal.coe_neg, ← EReal.coe_zero, ← EReal.coe_strictMono.monotone.map_max]
    congr 1
    rw [← neg_zero, max_neg_neg, neg_zero]
  have a : max (-(r : EReal)) (- -(r : EReal)) = ((|r| : ℝ) : EReal) := by
    rw [neg_neg, ← EReal.coe_neg, ← EReal.coe_strictMono.monotone.map_max, max_comm]
    rfl
  have p : ¬ (1 + Real.exp (-|r|) ≤ 0) := by have := Real.exp_pos (-|r|); linarith
  rw [c, sub_zero, a, n, ← EReal.coe_neg |r|, Ideal.exp_coe, ← EReal.coe_one, ← EReal.coe_add, Ideal.log_coe, if_neg p]
  show -((-min r 0 : ℝ) + (Real.log (1 + Real.exp (-|r|)) : EReal)) = _
  rw [← EReal.coe_add, ← EReal.coe_neg]
  congr 1
  unfold lsig
  ring

/-- The reference's forget gates, in logarithms. -/
theorem forget_real (i : S4x8192.Idx) : val_main_v16 (F := Ideal) x1 x2 i = (lf (gate PR BG) (i 0).val (i 1).val : EReal) := by
  have e : val_main_v15 (F := Ideal) x1 x2 i = (gate PR BG (i 1).val (8 + (i 0).val) : EReal) := by
    rw [val_main_v15_apply, gates_real h1 h2]
  refine Eq.trans ?_ (softplus_word (gate PR BG (i 1).val (8 + (i 0).val)))
  rw [val_main_v16_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v3_apply, val_main_call0_call0_v6_apply, val_main_call0_call0_v1_apply, val_main_call0_call0_v0_apply,
    val_main_call0_call0_v2_apply, val_main_call0_call0_v5_apply, val_main_call0_v0_apply, e]
  have z : ∀ i, val_main_call0_call0_cst (F := Ideal) i = (0 : EReal) := fun i => by
    rw [val_main_call0_call0_cst_apply]; exact zero_word
  simp only [z]
  rfl

/-- The reference's running sums of the forget gates' logarithms. -/
theorem sums_real (i : S4x8192.Idx) :
    val_main_v17 (F := Ideal) x1 x2 i = (pre (lf (gate PR BG) (i 0).val) ((i 1).val + 1) : EReal) := by
  have z : val_main_call1_call0_v0 (F := Ideal) (Shape.Idx.first h_S_) = (0 : EReal) := by
    rw [val_main_call1_call0_v0_apply, val_main_call1_call0_cst_apply]; exact zero_word
  rw [eq_ix2 i]
  unfold val_main_v17 Host.reduceWindowAdd
  rw [z]
  exact running_sum (by decide) _ (fun a b => lf (gate PR BG) a b) (fun a b => forget_real h1 h2 _) _ (i 0) (i 1)

/-- The reference's logarithmic weight of step s at step t: a real number up to t, the least extended real after it. -/
theorem lane_real (i : S4x8192x8192.Idx) : val_main_v29 (F := Ideal) x1 x2 i
    = if (i 2).val ≤ (i 1).val then ((pre (lf (gate PR BG) (i 0).val) ((i 1).val + 1) - pre (lf (gate PR BG) (i 0).val) ((i 2).val + 1)
        + ig (gate PR BG) (i 0).val (i 2).val : ℝ) : EReal) else ⊥ := by
  have eb : val_main_call2_v2 (F := Ideal) i = ⊥ := by
    rw [val_main_call2_v2_apply, val_main_call2_v0_apply, val_main_cst_0_apply]; exact below_word
  have e1 : val_main_v25 (F := Ideal) x1 x2 i = ((pre (lf (gate PR BG) (i 0).val) ((i 1).val + 1)
      - pre (lf (gate PR BG) (i 0).val) ((i 2).val + 1) : ℝ) : EReal) := by
    rw [val_main_v25_apply, val_main_v23_apply, val_main_v21_apply, val_main_v24_apply, val_main_v22_apply,
      sums_real h1 h2, sums_real h1 h2, EReal.coe_sub]
    rfl
  have e2 : val_main_v27 (F := Ideal) x1 x2 i = (ig (gate PR BG) (i 0).val (i 2).val : EReal) := by
    rw [val_main_v27_apply, val_main_v26_apply, input_real h1 h2]
  have t : (i 1).val < 8192 := (i 1).isLt
  have s : (i 2).val < 8192 := (i 2).isLt
  rw [val_main_v29_apply, eb, val_main_v28_apply, e1, e2, val_main_call2_v1_apply, val_main_v20_apply, val_main_v18_apply, val_main_v19_apply,
    EReal.coe_add]
  exact select_sle (i 2).val (i 1).val (by omega) (by omega) _ _

omit h1 h2 in
/-- The greatest logarithmic weight of a row, as a fold. -/
theorem greatest_fold (y : FVec Ideal S4x8192x8192 .f32) (h : Fin 4) (t : Fin 8192) :
    Host.reduce FloatOps.maximumf y (val_main_cst_1 (F := Ideal)) reducesTo_S4x8192x8192_S4x8192_d2 h_S_ (ix2 h t)
      = Finset.univ.fold max (⊥ : EReal) fun s : Fin 8192 => y (ix3 h t s) := by
  simp only [pointwise]
  rw [show val_main_cst_1 (F := Ideal) (Shape.Idx.first h_S_) = ⊥ from (val_main_cst_1_apply _).trans below_word]

/-- The reference's stabiliser at a step: the running maximum after it. -/
theorem greatest_real (i : S4x8192.Idx) : val_main_v31 (F := Ideal) x1 x2 i
    = ((pre (lf (gate PR BG) (i 0).val) ((i 1).val + 1) + top (lf (gate PR BG) (i 0).val) (ig (gate PR BG) (i 0).val) ((i 1).val + 1) : ℝ) : EReal) := by
  have := max_fold_eq (lf (gate PR BG) (i 0).val) (ig (gate PR BG) (i 0).val) (pre (lf (gate PR BG) (i 0).val) ((i 1).val + 1)) 0 ((i 1).val + 1)
    (L := 8192) (i 1).isLt (fun s : Fin 8192 => val_main_v29 (F := Ideal) x1 x2 (ix3 (i 0) (i 1) s)) ⊥ rfl
    (fun s => by rw [lane_real h1 h2, Nat.zero_add]; exact if_congr Nat.lt_succ_iff.symm rfl rfl)
  rw [top_zero, add_zero, Nat.zero_add] at this
  rw [val_main_v31_apply, sums_real h1 h2, ← this]
  refine congrArg (max _) ?_
  rw [eq_ix2 i]
  exact greatest_fold _ _ _

end Cert.RecurrenceForward
end
-- ==== Proof.RecurrenceReference.lean ====
/-
The reference's gradient of the values, read on the real numbers.

The weighted scores are the product of a query and a scaled key times the weight of the recurrence. Their sums along a row are
the normaliser, and the transposed product of the scores with the normalised derivative is the gradient of the values.
-/
module

public import proofs.«01_k».proof.Proof.RecurrenceForward

@[expose] public section

set_option maxRecDepth 16384

noncomputable section

namespace Cert.RecurrenceReference

open Cert.Reference5Ideal Cert.Reference5Ideal.Gen Cert.Reference5Ideal.Read
open Cert.Recurrence Cert.RecurrenceHead Cert.RecurrenceChunk Cert.RecurrenceForward
open Idealize.ShloMosaic Idealize.ShloMosaic.TcCoe Idealize.SL.Sem Idealize.ShloMosaic.StableHlo
open scoped BigOperators

variable {x0 : FVec Ideal S8192x2048 .f32} {x1 : FVec Ideal S8192x6144 .f32} {x2 : FVec Ideal S16 .f32}
  {x3 : FVec Ideal S8192x1024 .f32} {QK PR DH : ℕ → ℕ → ℝ} {BG : ℕ → ℝ}
  (h0 : ∀ i, x0 i = (QK (i 0).val (i 1).val : EReal)) (h1 : ∀ t (k : Fin 16), x1 (ix2 t (column k)) = (PR t.val (5632 + k.val) : EReal))
  (h2 : ∀ i, x2 i = (BG (i 0).val : EReal)) (h3 : ∀ i, x3 i = (DH (i 0).val (i 1).val : EReal))

/-- The scale of the keys: one over the square root of a head's width. -/
theorem scale_word : Ideal.ofBits .f32 0x3D800000#32 = ((1 / 16 : ℝ) : EReal) := by
  simp [Ideal.ofBits, Ideal.ieee]
  rw [← EReal.coe_mul]
  norm_num

/-- The weighted score of step `t`'s query and step `s`'s key in head `h`. -/
def score (G QK : ℕ → ℕ → ℝ) (h t s : ℕ) : ℝ :=
  if s ≤ t then (∑ e : Fin 256, QK t (256 * h + e.val) * (QK s (1024 + 256 * h + e.val) * (1 / 16))) * weight (lf G h) (ig G h) t s else 0

/-- The sum of a step's weighted scores. -/
def total (G QK : ℕ → ℕ → ℝ) (t h : ℕ) : ℝ := ∑ s : Fin 8192, score G QK h t s.val

include h0 in
/-- The reference's queries, by heads. -/
theorem query_real (i : S4x8192x256.Idx) : val_main_v3 (F := Ideal) x0 i = (QK (i 1).val (256 * (i 0).val + (i 2).val) : EReal) := by
  have a0 : (i 0).val < 4 := (i 0).isLt
  have a2 : (i 2).val < 256 := (i 2).isLt
  rw [val_main_v3_apply, val_main_v2_apply, val_main_v1_apply, h0]
  refine congrArg Real.toEReal (congrArg₂ QK ?_ ?_)
  · show (((i 1).val * 4 + (i 0).val) * 256 + (i 2).val) / 1024 = (i 1).val; omega
  · show (((i 1).val * 4 + (i 0).val) * 256 + (i 2).val) % 1024 = 256 * (i 0).val + (i 2).val; omega

include h0 in
/-- The reference's scaled keys, by heads. -/
theorem key_real (i : S4x8192x256.Idx) : val_main_v8 (F := Ideal) x0 i = ((QK (i 1).val (1024 + 256 * (i 0).val + (i 2).val) * (1 / 16) : ℝ) : EReal) := by
  have a0 : (i 0).val < 4 := (i 0).isLt
  have a2 : (i 2).val < 256 := (i 2).isLt
  have c : val_main_v7 (F := Ideal) i = ((1 / 16 : ℝ) : EReal) := by rw [val_main_v7_apply, val_main_cst_apply]; exact scale_word
  rw [val_main_v8_apply, c, val_main_v6_apply, val_main_v5_apply, val_main_v4_apply, h0, EReal.coe_mul]
  refine congrArg (· * ((1 / 16 : ℝ) : EReal)) (congrArg Real.toEReal (congrArg₂ QK ?_ ?_))
  · show (((i 1).val * 4 + (i 0).val) * 256 + (i 2).val) / 1024 = (i 1).val; omega
  · show 1024 + (((i 1).val * 4 + (i 0).val) * 256 + (i 2).val) % 1024 = 1024 + 256 * (i 0).val + (i 2).val; omega

include h0 h1 h2 in
/-- The reference's weighted scores. -/
theorem score_real (i : S4x8192x8192.Idx) :
    val_main_v37 (F := Ideal) x0 x1 x2 i = (score (gate PR BG) QK (i 0).val (i 1).val (i 2).val : EReal) := by
  have e : val_main_v36 (F := Ideal) x1 x2 i
      = ((if (i 2).val ≤ (i 1).val then weight (lf (gate PR BG) (i 0).val) (ig (gate PR BG) (i 0).val) (i 1).val (i 2).val else 0 : ℝ) : EReal) := by
    rw [val_main_v36_apply, val_main_v35_apply, lane_real h1 h2, val_main_v34_apply, val_main_v33_apply, greatest_real h1 h2]
    show Ideal.exp (_ - _) = _
    split
    · rw [← EReal.coe_sub, Ideal.exp_coe]
      refine congrArg Real.toEReal (congrArg Real.exp ?_)
      show _ - (pre (lf (gate PR BG) (i 0).val) ((i 1).val + 1) + top (lf (gate PR BG) (i 0).val) (ig (gate PR BG) (i 0).val) ((i 1).val + 1)) = _
      ring
    · rw [EReal.bot_sub, Ideal.exp_bot, EReal.coe_zero]
  have d : val_main_v32 (F := Ideal) x0 i = ((∑ e : Fin 256, QK (i 1).val (256 * (i 0).val + e.val)
      * (QK (i 2).val (1024 + 256 * (i 0).val + e.val) * (1 / 16)) : ℝ) : EReal) := by
    rw [val_main_v32_apply, coe_sum]
    refine Finset.sum_congr rfl fun k _ => ?_
    rw [query_real h0, key_real h0, ← EReal.coe_mul]
  rw [val_main_v37_apply, d, e]
  refine (EReal.coe_mul _ _).symm.trans (congrArg Real.toEReal ?_)
  unfold score
  rw [mul_ite, mul_zero]

include h0 h1 h2 in
/-- The reference's row sums of the weighted scores. -/
theorem total_real (i : S4x8192.Idx) : val_main_v41 (F := Ideal) x0 x1 x2 i = (total (gate PR BG) QK (i 1).val (i 0).val : EReal) := by
  have z : ∀ j, val_main_cst_2 (F := Ideal) j = (0 : EReal) := fun j => by rw [val_main_cst_2_apply]; exact zero_word
  rw [val_main_v41_apply, z, zero_add]
  refine Eq.trans ?_ (coe_sum _ _).symm
  refine Finset.sum_congr rfl fun k _ => ?_
  rw [score_real h0 h1 h2]

include h0 h1 h2 h3 in
/-- The reference's derivative that reaches the numerator. -/
theorem num_real (i : S4x8192x256.Idx) : val_main_v54 (F := Ideal) x0 x1 x2 x3 i
    = (hnum (gate PR BG) (total (gate PR BG) QK) DH (i 0).val (i 1).val (i 2).val : EReal) := by
  have a0 : (i 0).val < 4 := (i 0).isLt
  have a2 : (i 2).val < 256 := (i 2).isLt
  have e : val_main_v52 (F := Ideal) x3 i = (DH (i 1).val (256 * (i 0).val + (i 2).val) : EReal) := by
    rw [val_main_v52_apply, val_main_v51_apply, h3]
    refine congrArg Real.toEReal (congrArg₂ DH ?_ ?_)
    · show (((i 1).val * 4 + (i 0).val) * 256 + (i 2).val) / 1024 = (i 1).val; omega
    · show (((i 1).val * 4 + (i 0).val) * 256 + (i 2).val) % 1024 = 256 * (i 0).val + (i 2).val; omega
  rw [val_main_v54_apply, e, val_main_v53_apply, val_main_v46_apply, val_main_v45_apply, val_main_v42_apply, total_real h0 h1 h2,
    val_main_v44_apply, val_main_v43_apply, greatest_real h1 h2]
  show Ideal.div _ (max (max (total (gate PR BG) QK (i 1).val (i 0).val : EReal) (-(total (gate PR BG) QK (i 1).val (i 0).val : EReal)))
    (Ideal.exp (-((pre (lf (gate PR BG) (i 0).val) ((i 1).val + 1) + top (lf (gate PR BG) (i 0).val) (ig (gate PR BG) (i 0).val) ((i 1).val + 1) : ℝ) : EReal)))) = _
  rw [← EReal.coe_neg, ← EReal.coe_strictMono.monotone.map_max, ← EReal.coe_neg, Ideal.exp_coe, ← EReal.coe_strictMono.monotone.map_max,
    Ideal.div_coe (lt_of_lt_of_le (Real.exp_pos _) (le_max_right _ _)).ne', ← EReal.coe_mul]
  rfl

include h0 h1 h2 h3 in
/-- The reference's result: the gradient of the values, as one sum over the whole sequence. -/
theorem result_real (i : S8192x1024.Idx) : val_main_v58 (F := Ideal) x0 x1 x2 x3 i
    = (hvalue (gate PR BG) QK (total (gate PR BG) QK) DH (1 / 16) 8192 ((i 1).val / 256) (i 0).val ((i 1).val % 256) : EReal) := by
  have a1 : (i 1).val < 1024 := (i 1).isLt
  rw [val_main_v58_apply, val_main_v57_apply, val_main_v56_apply, val_main_v55_apply]
  unfold hvalue
  rw [coe_sum]
  refine Finset.sum_congr rfl fun t _ => ?_
  rw [num_real h0 h1 h2 h3, score_real h0 h1 h2, ← EReal.coe_mul, mul_comm]
  have p0 : ((i 0).val * 1024 + (i 1).val) / 1024 = (i 0).val := by omega
  have p1 : ((i 0).val * 1024 + (i 1).val) / 256 % 4 = (i 1).val / 256 := by omega
  have p2 : ((i 0).val * 1024 + (i 1).val) % 256 = (i 1).val % 256 := by omega
  refine congrArg Real.toEReal ?_
  show score (gate PR BG) QK (((i 0).val * 1024 + (i 1).val) / 256 % 4) t.val (((i 0).val * 1024 + (i 1).val) / 1024)
    * hnum (gate PR BG) (total (gate PR BG) QK) DH (((i 0).val * 1024 + (i 1).val) / 256 % 4) t.val (((i 0).val * 1024 + (i 1).val) % 256) = _
  rw [p0, p1, p2]
  rfl

end Cert.RecurrenceReference
end
-- ==== Proof.RecurrenceArrays.lean ====
/-
What the host hands to the kernel of the recurrence's backward pass.

The gates come twice, as columns of the projection and transposed; the normaliser's sums and the running maximum before each
chunk are what the forward pass saved, which the host forms with the forward lines.
-/
module

public import proofs.«01_k».proof.Proof.RecurrenceKernel
public import proofs.«01_k».proof.Proof.RecurrenceReference

@[expose] public section

set_option maxRecDepth 16384

noncomputable section

namespace Cert.RecurrenceArrays

open Cert.Kernel5Ideal Cert.Kernel5Ideal.Gen Cert.Kernel5Ideal.Value
open Cert.Recurrence Cert.RecurrenceChunk Cert.RecurrenceForward Cert.RecurrenceReference
open Idealize.ShloMosaic Idealize.ShloMosaic.TcCoe Idealize.SL.Sem Idealize.ShloMosaic.StableHlo
open Idealize.ShloMosaic.Pipeline (Dat)
open scoped BigOperators

/-- The maximum before each chunk, from the maximum at each step: zero before the first chunk, else that of the last step of
    the chunk before. -/
def before (x : FVec Ideal S4x8192 .f32) : FVec Ideal S4x64 .f32 :=
  concatenate S4x64 1 [⟨S4x1, broadcastInDim S4x1 ![] bcast_S_S4x1 (constant S_ .f32 0x00000000#32)⟩,
    ⟨S4x63, shapeCast S4x63 (extractStridedSlice S4x63x1 ![0, 0, 127] (shapeCast S4x64x128 x shapeCasts_S4x8192_S4x64x128)
      slices_S4x64x128_S4x63x1_0_0_127) shapeCasts_S4x63x1_S4x63⟩] concatenates_S4x1_S4x63_S4x64_d1

/-- Before the first chunk there is nothing: zero. -/
theorem before_zero (x : FVec Ideal S4x8192 .f32) (h : Fin 4) : before x (ix2 h 0) = 0 := by
  unfold before
  simp only [pointwise]
  exact dif_pos (by decide)

/-- Before every later chunk: the entry at the last step of the chunk that precedes it. -/
theorem before_succ (x : FVec Ideal S4x8192 .f32) (h : Fin 4) (k : ℕ) (hk : k + 1 < 64) :
    before x (ix2 h ⟨k + 1, hk⟩) = x (ix2 h ⟨128 * k + 127, by omega⟩) := by
  unfold before
  simp only [pointwise]
  refine (dif_neg (by omega)).trans (congrArg x (funext fun a => Fin.ext ?_))
  match a with
  | ⟨0, _⟩ => show 0 + h.val = h.val; omega
  | ⟨1, _⟩ => show (0 + (k + 1 - 1)) * 128 + 127 = 128 * k + 127; omega

variable (m : (ℓ : Loc nD τ sig) → Buf (Elt Ideal) ℓ)

/-- Queries and keys. -/
abbrev qk (c : Dev nD) : FVec Ideal S8192x2048 .f32 := m ((c : Thread nD τ).loc main_arg0)
/-- The projection. -/
abbrev proj (c : Dev nD) : FVec Ideal S8192x6144 .f32 := m ((c : Thread nD τ).loc main_arg1)
/-- The gates' biases. -/
abbrev bias (c : Dev nD) : FVec Ideal S16 .f32 := m ((c : Thread nD τ).loc main_arg2)
/-- The output's derivative. -/
abbrev dout (c : Dev nD) : FVec Ideal S8192x1024 .f32 := m ((c : Thread nD τ).loc main_arg3)

/-- The gates by rows are sixteen columns of the projection, transposed. -/
theorem V_rows (c : Dev nD) : V m c main_v98
    = transpose S16x8192 [1, 0] (extractStridedSlice S8192x16 ![0, 5632] (proj m c) slices_S8192x6144_S8192x16_0_5632) transposes_S8192x16_S16x8192_1_0 := by
  simp only [V, hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, TRef.binary, TRef.nullary, TRef.unary, TRef.ternary, TRef.toBuf, TRef.ofBuf, cast_eq]
  after_results <;> rfl

/-- The bias by columns is the bias, padded to the lanes and laid as a row. -/
theorem V_biasRow (c : Dev nD) : V m c main_v95
    = shapeCast S1x128 (pad S128 ![0] ![112] ![0] (bias m c) (sitofp (F := Ideal) .f32 (constantI S_ 32 0#32)) pads_S16_S128_01120 h_S_) shapeCasts_S128_S1x128 := by
  simp only [V, hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, TRef.binary, TRef.nullary, TRef.unary, TRef.ternary, TRef.toBuf, TRef.ofBuf, cast_eq]
  after_results <;> rfl

/-- The bias by rows is the bias laid as a column. -/
theorem V_biasCol (c : Dev nD) : V m c main_v96 = shapeCast S16x1 (bias m c) shapeCasts_S16_S16x1 := by
  simp only [V, hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, TRef.binary, TRef.nullary, TRef.unary, TRef.ternary, TRef.toBuf, TRef.ofBuf, cast_eq]
  after_results <;> rfl

/-- The saved normaliser is the reference's row sum of the scores, transposed and padded to the lanes. -/
theorem V_den (c : Dev nD) : V m c main_v93 = pad S8192x128 ![0, 0] ![0, 124] ![0, 0]
    (transpose S8192x4 [1, 0] (Cert.Reference5Ideal.Read.val_main_v41 (F := Ideal) (qk m c) (proj m c) (bias m c)) transposes_S4x8192_S8192x4_1_0)
    (sitofp (F := Ideal) .f32 (constantI S_ 32 0#32)) pads_S8192x4_S8192x128_000_01240 h_S_ := by
  simp only [V, hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, TRef.binary, TRef.nullary, TRef.unary, TRef.ternary, TRef.toBuf, TRef.ofBuf, cast_eq]
  after_results <;> rfl

/-- The saved state packs the normaliser's state and the running maximum before each chunk. -/
theorem V_start (c : Dev nD) : V m c main_v91
    = concatenate S64x4x2x256 2 [⟨S64x4x1x256, V m c main_v89⟩, ⟨S64x4x1x256, broadcastInDim S64x4x1x256 ![0, 1, 3] bcast_S64x4x256_S64x4x1x256_0_1_3
     (broadcastInDim S64x4x256 ![0, 1, 2] bcast_S64x4x1_S64x4x256_0_1_2 (broadcastInDim S64x4x1 ![0, 1] bcast_S64x4_S64x4x1_0_1
       (transpose S64x4 [1, 0] (before (Cert.Reference5Ideal.Read.val_main_v31 (F := Ideal) (proj m c) (bias m c))) transposes_S4x64_S64x4_1_0)))⟩]
       concatenates_S64x4x1x256_S64x4x1x256_S64x4x2x256_d2 := by
  simp only [V, hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, TRef.binary, TRef.nullary, TRef.unary, TRef.ternary, TRef.toBuf, TRef.ofBuf, cast_eq]
  after_results <;> rfl

/-! ## Their entries -/

/-- A gate by rows, at a step: the projection's entry. -/
theorem rows_apply (c : Dev nD) (k : Fin 16) (s : Fin 8192) :
    V m c main_v98 (ix2 k s) = proj m c (ix2 s ⟨5632 + k.val, by omega⟩) := by
  rw [V_rows]
  simp only [pointwise]
  refine congrArg (proj m c) (funext fun a => Fin.ext ?_)
  match a with
  | ⟨0, _⟩ => show 0 + s.val = s.val; omega
  | ⟨1, _⟩ => rfl

/-- The bias by columns, at a gate. -/
theorem biasRow_apply (c : Dev nD) (k : Fin 128) (hk : k.val < 16) : V m c main_v95 (ix2 0 k) = bias m c (ix1 ⟨k.val, hk⟩) := by
  rw [V_biasRow]
  simp only [pointwise]
  refine (dif_pos fun a => ?_).trans (congrArg (bias m c) (funext fun a => Fin.ext ?_))
  · match a with
    | ⟨0, _⟩ => exact ⟨Nat.zero_le _, Nat.mod_one _, by show (k.val - 0) / (0 + 1) < 16; omega⟩
  · match a with
    | ⟨0, _⟩ => show (k.val - 0) / (0 + 1) = k.val; omega

/-- The bias by rows, at a gate. -/
theorem biasCol_apply (c : Dev nD) (k : Fin 16) : V m c main_v96 (ix2 k 0) = bias m c (ix1 k) := by
  rw [V_biasCol]
  simp only [pointwise]

/-- The saved normaliser, at a step and a head: the reference's row sum. -/
theorem den_apply (c : Dev nD) (s : Fin 8192) (k : Fin 128) (hk : k.val < 4) :
    V m c main_v93 (ix2 s k) = Cert.Reference5Ideal.Read.val_main_v41 (F := Ideal) (qk m c) (proj m c) (bias m c) (ix2 ⟨k.val, hk⟩ s) := by
  rw [V_den]
  simp only [pointwise]
  refine (dif_pos fun a => ?_).trans (congrArg _ (funext fun a => Fin.ext ?_))
  · match a with
    | ⟨0, _⟩ => exact ⟨Nat.zero_le _, Nat.mod_one _, by show (s.val - 0) / (0 + 1) < 8192; omega⟩
    | ⟨1, _⟩ => exact ⟨Nat.zero_le _, Nat.mod_one _, by show (k.val - 0) / (0 + 1) < 4; omega⟩
  · match a with
    | ⟨0, _⟩ => show (k.val - 0) / (0 + 1) = k.val; omega
    | ⟨1, _⟩ => show (s.val - 0) / (0 + 1) = s.val; omega

/-- The second row of the packed state is the running maximum. -/
theorem second (N : FVec Ideal S64x4x1x256 .f32) (y : FVec Ideal S4x64 .f32) (k : Fin 64) (h : Fin 4) :
    concatenate S64x4x2x256 2 [⟨S64x4x1x256, N⟩, ⟨S64x4x1x256, broadcastInDim S64x4x1x256 ![0, 1, 3] bcast_S64x4x256_S64x4x1x256_0_1_3
     (broadcastInDim S64x4x256 ![0, 1, 2] bcast_S64x4x1_S64x4x256_0_1_2 (broadcastInDim S64x4x1 ![0, 1] bcast_S64x4_S64x4x1_0_1
       (transpose S64x4 [1, 0] y transposes_S4x64_S64x4_1_0)))⟩] concatenates_S64x4x1x256_S64x4x1x256_S64x4x2x256_d2 (ix4 k h 1 0) = y (ix2 h k) := by
  refine (concatenate_pair_apply_right (t := S64x4x2x256) (s₁ := S64x4x1x256) (s₂ := S64x4x1x256) 2 _ _ _ (ix4 k h 1 0) rfl rfl (ix4 k h 0 0) (fun b hb => ?_) rfl).trans ?_
  · fin_cases b <;> first | rfl | exact absurd rfl hb
  · simp only [pointwise]
    rfl

/-- The running maximum before a chunk, at a head. -/
theorem start_apply (c : Dev nD) (k : Fin 64) (h : Fin 4) : V m c main_v91 (ix4 k h 1 0)
    = before (Cert.Reference5Ideal.Read.val_main_v31 (F := Ideal) (proj m c) (bias m c)) (ix2 h k) := by
  rw [V_start]
  exact second _ _ k h

end Cert.RecurrenceArrays
end
-- ==== Proof.RecurrenceBlocks.lean ====
/-
The blocks of the recurrence's backward kernel, and the array it leaves.

Grid point t takes the chunk of 128 steps that starts at 128 (63 - t). Its blocks hold the real numbers that the recurrence is
described by, so every point writes its steps' gradients of the values; together they fill the array.
-/
module

public import proofs.«01_k».proof.Proof.RecurrenceArrays
public import Idealize.ShloMosaic.Lib.Pipeline.ValueKit.Geometry

@[expose] public section

set_option maxRecDepth 16384

noncomputable section

namespace Cert.RecurrenceBlocks

open Cert.Kernel5Ideal Cert.Kernel5Ideal.Gen Cert.Kernel5Ideal.Value
open Cert.Recurrence Cert.RecurrenceChunk Cert.RecurrenceForward Cert.RecurrenceReference Cert.RecurrenceArrays Cert.RecurrenceKernel
open Idealize.ShloMosaic Idealize.ShloMosaic.TcCoe Idealize.SL.Sem Idealize.ShloMosaic.StableHlo
open Idealize.ShloMosaic.Pipeline (Dat)
open scoped BigOperators

variable (m : (ℓ : Loc nD τ sig) → Buf (Elt Ideal) ℓ)

/-! ## Where the blocks lie -/

/-- Where the block of queries and keys lies. -/
theorem at0 : ∀ t : Fin cfg0.N, win0_0.index t = ![63 - t.val, 0] := (by decide +kernel : ∀ t : Fin grid0.N, _)
/-- Where the block of gates by columns lies. -/
theorem at2 : ∀ t : Fin cfg0.N, win0_2.index t = ![63 - t.val, 44] := (by decide +kernel : ∀ t : Fin grid0.N, _)
/-- Where the block of gates by rows lies. -/
theorem at3 : ∀ t : Fin cfg0.N, win0_3.index t = ![0, 63 - t.val] := (by decide +kernel : ∀ t : Fin grid0.N, _)
/-- Where the bias by columns lies. -/
theorem at4 : ∀ t : Fin cfg0.N, win0_4.index t = ![0, 0] := (by decide +kernel : ∀ t : Fin grid0.N, _)
/-- Where the bias by rows lies. -/
theorem at5 : ∀ t : Fin cfg0.N, win0_5.index t = ![0, 0] := (by decide +kernel : ∀ t : Fin grid0.N, _)
/-- Where the block of the saved normaliser lies. -/
theorem at7 : ∀ t : Fin cfg0.N, win0_7.index t = ![63 - t.val, 0] := (by decide +kernel : ∀ t : Fin grid0.N, _)
/-- Where the block of the saved state lies. -/
theorem at9 : ∀ t : Fin cfg0.N, win0_9.index t = ![63 - t.val, 0, 0, 0] := (by decide +kernel : ∀ t : Fin grid0.N, _)
/-- Where the block of the arriving derivative lies. -/
theorem at10 : ∀ t : Fin cfg0.N, win0_10.index t = ![63 - t.val, 0] := (by decide +kernel : ∀ t : Fin grid0.N, _)
/-- Where the block of the values' gradient lies. -/
theorem at12 : ∀ t : Fin cfg0.N, win0_12.index t = ![63 - t.val, 0] := (by decide +kernel : ∀ t : Fin grid0.N, _)

/-- Step `j` of point `t`'s chunk. -/
abbrev step (t : Fin cfg0.N) (j : Fin 128) : Fin 8192 := ⟨(63 - t.val) * 128 + j.val, by omega⟩
/-- The chunk of point `t`. -/
abbrev chunk (t : Fin cfg0.N) : Fin 64 := ⟨63 - t.val, by omega⟩

/-- The block of queries and keys holds the rows of its chunk. -/
theorem in0 (c : Dev nD) (t : Fin cfg0.N) (j : Fin 128) (k : Fin 2048) :
    (iblk m c 0 t : Vec Ideal S128x2048 .f32) (ix2 j k) = qk m c (ix2 (step t j) k) := by
  refine Eq.trans ?_ (congrFun (V_main_arg0 m c) _)
  blk_simp [iblk]
  refine congrArg (V m c main_arg0) ?_
  blk_ext [at0]

/-- The block of gates by columns holds the gates of its chunk. -/
theorem in2 (c : Dev nD) (t : Fin cfg0.N) (j k : Fin 128) :
    (iblk m c 2 t : Vec Ideal S128x128 .f32) (ix2 j k) = proj m c (ix2 (step t j) ⟨5632 + k.val, by omega⟩) := by
  refine Eq.trans ?_ (congrFun (V_main_arg1 m c) _)
  blk_simp [iblk]
  refine congrArg (V m c main_arg1) ?_
  blk_ext [at2]

/-- The block of gates by rows holds the gates of its chunk. -/
theorem in3 (c : Dev nD) (t : Fin cfg0.N) (k : Fin 16) (j : Fin 128) :
    (iblk m c 3 t : Vec Ideal S16x128 .f32) (ix2 k j) = proj m c (ix2 (step t j) ⟨5632 + k.val, by omega⟩) := by
  rw [← rows_apply m c k (step t j)]
  blk_simp [iblk]
  refine congrArg (V m c main_v98) ?_
  blk_ext [at3]

/-- The bias by columns, at a gate. -/
theorem in4 (c : Dev nD) (t : Fin cfg0.N) (k : Fin 128) (hk : k.val < 16) :
    (iblk m c 4 t : Vec Ideal S1x128 .f32) (ix2 0 k) = bias m c (ix1 ⟨k.val, hk⟩) := by
  rw [← biasRow_apply m c k hk]
  blk_simp [iblk]
  refine congrArg (V m c main_v95) ?_
  blk_ext [at4]

/-- The bias by rows, at a gate. -/
theorem in5 (c : Dev nD) (t : Fin cfg0.N) (k : Fin 16) :
    (iblk m c 5 t : Vec Ideal S16x1 .f32) (ix2 k 0) = bias m c (ix1 k) := by
  rw [← biasCol_apply m c k]
  blk_simp [iblk]
  refine congrArg (V m c main_v96) ?_
  blk_ext [at5]

/-- The block of the saved normaliser holds the reference's row sums of its chunk. -/
theorem in7 (c : Dev nD) (t : Fin cfg0.N) (j k : Fin 128) (hk : k.val < 4) : (iblk m c 7 t : Vec Ideal S128x128 .f32) (ix2 j k)
    = Cert.Reference5Ideal.Read.val_main_v41 (F := Ideal) (qk m c) (proj m c) (bias m c) (ix2 ⟨k.val, hk⟩ (step t j)) := by
  rw [← den_apply m c (step t j) k hk]
  blk_simp [iblk]
  refine congrArg (V m c main_v93) ?_
  blk_ext [at7]

/-- The block of the saved state holds the running maximum before its chunk. -/
theorem in9 (c : Dev nD) (t : Fin cfg0.N) (h : Fin 4) : (iblk m c 9 t : Vec Ideal S1x4x2x256 .f32) (ix4 0 h 1 0)
    = before (Cert.Reference5Ideal.Read.val_main_v31 (F := Ideal) (proj m c) (bias m c)) (ix2 h (chunk t)) := by
  rw [← start_apply m c (chunk t) h]
  blk_simp [iblk]
  refine congrArg (V m c main_v91) ?_
  blk_ext [at9]

/-- The block of the arriving derivative holds the rows of its chunk. -/
theorem in10 (c : Dev nD) (t : Fin cfg0.N) (j : Fin 128) (k : Fin 1024) :
    (iblk m c 10 t : Vec Ideal S128x1024 .f32) (ix2 j k) = dout m c (ix2 (step t j) k) := by
  refine Eq.trans ?_ (congrFun (V_main_arg3 m c) _)
  blk_simp [iblk]
  refine congrArg (V m c main_arg3) ?_
  blk_ext [at10]

/-- Where an entry of a point's output block lies in the whole array. -/
theorem out12 (t : Fin cfg0.N) (y : S128x1024.Idx) : ((cfg0.win 12).blk t).view.emb y = ix2 (step t (y 0)) (y 1) := by
  blk_ext [at12]

/-! ## What they hold -/

variable {m} {c : Dev nD} {QK PR DH : ℕ → ℕ → ℝ} {BG : ℕ → ℝ}
  (hq : ∀ i, qk m c i = (QK (i 0).val (i 1).val : EReal)) (hp : ∀ t (k : Fin 16), proj m c (ix2 t (column k)) = (PR t.val (5632 + k.val) : EReal))
  (hb : ∀ i, bias m c i = (BG (i 0).val : EReal)) (hd : ∀ i, dout m c i = (DH (i 0).val (i 1).val : EReal))

include hq hp hb hd in
/-- At every point the blocks hold the real numbers that the recurrence is described by. -/
theorem blocks : Blocks m c (gate PR BG) QK (total (gate PR BG) QK) DH := by
  intro t
  have e : ∀ j : Fin 128, (step t j).val = first t.val + j.val := fun j => by
    show (63 - t.val) * 128 + j.val = 128 * (63 - t.val) + j.val; omega
  refine ⟨fun j k hk => ?_, fun k j => ?_, fun j k => ?_, fun j k hk => ?_, fun h => ?_, fun j k => ?_⟩
  · unfold k0_pay4
    simp only [pointwise]
    refine (congrArg₂ (fun a b : EReal => a + b) ((in2 m c t j k).trans (hp (step t j) ⟨k.val, hk⟩)) ((in4 m c t k hk).trans (hb _))).trans ?_
    rw [← e]
    exact (EReal.coe_add _ _).symm
  · unfold k0_pay5
    simp only [pointwise]
    refine (congrArg₂ (fun a b : EReal => a + b) ((in3 m c t k j).trans (hp (step t j) k)) ((in5 m c t k).trans (hb _))).trans ?_
    rw [← e]
    exact (EReal.coe_add _ _).symm
  · rw [in0, hq, ← e]; rfl
  · rw [in7 m c t j k hk, total_real hq hp hb, ← e]; rfl
  · rw [in9]
    by_cases h0 : t.val = 63
    · have : chunk t = 0 := Fin.ext (by show 63 - t.val = 0; omega)
      rw [this, before_zero]
      have z : first t.val = 0 := by show 128 * (63 - t.val) = 0; omega
      rw [z, pre_zero, top_zero, add_zero, EReal.coe_zero]
    · have : chunk t = ⟨(62 - t.val) + 1, by omega⟩ := Fin.ext (by show 63 - t.val = 62 - t.val + 1; have : t.val < 64 := t.isLt; omega)
      rw [this, before_succ, greatest_real hp hb]
      have z : 128 * (62 - t.val) + 127 + 1 = first t.val := by show _ = 128 * (63 - t.val); have : t.val < 64 := t.isLt; omega
      show ((pre _ (128 * (62 - t.val) + 127 + 1) + top _ _ (128 * (62 - t.val) + 127 + 1) : ℝ) : EReal) = _
      rw [z]
      rfl
  · rw [in10, hd, ← e]; rfl

/-- The gradient of the values. -/
def values (QK PR DH : ℕ → ℕ → ℝ) (BG : ℕ → ℝ) (y : S8192x1024.Idx) : EReal :=
  (hvalue (gate PR BG) QK (total (gate PR BG) QK) DH (1 / 16) 8192 ((y 1).val / 256) (y 0).val ((y 1).val % 256) : EReal)

include hq hp hb hd in
/-- The array the points leave. -/
theorem final : (dats m 0 c).arrAt 12 cfg0.N = values QK PR DH BG := by
  refine (dats m 0 c).arrAt_eq_of_covers 12 _ (by decide +kernel) fun t hf y => ?_
  blk_simp
  rw [after0_12, out12]
  refine (value_all (blocks hq hp hb hd) (1 / 16) scale_word t y).trans ?_
  have e : (step t (y 0)).val = first t.val + (y 0).val := by
    show (63 - t.val) * 128 + (y 0).val = 128 * (63 - t.val) + (y 0).val; omega
  unfold valueArr values
  rw [← e]
  rfl

end Cert.RecurrenceBlocks
end
-- ==== Proof.Recurrence.lean ====
/-
The gradient of the mLSTM's values: the kernel's array is the reference's, whenever queries and keys, gates, biases
and the arriving derivative are finite. The values themselves may be infinite.
-/
module

public import proofs.«01_k».proof.Proof.Gate
public import proofs.«01_k».proof.Proof.RecurrenceBlocks
public import proofs.«01_k».proof.Proof.RecurrenceReference
public import proofs.«01_k».proof.Proof.Gen.Pre_finite5
public import proofs.«01_k».proof.Proof.Gen.Reference5Ideal.Run
public import proofs.«01_k».proof.Defs

@[expose] public section

set_option maxRecDepth 16384

noncomputable section

namespace Cert.Recurrence

open Cert.GateMath Cert.RecurrenceHead Cert.RecurrenceForward Cert.RecurrenceReference Cert.RecurrenceArrays Cert.RecurrenceBlocks
open Idealize.ShloMosaic Idealize.ShloMosaic.TcCoe Idealize.SL.Sem

instance : Subsingleton Cert.Pre_finite5.S_.Idx := ⟨fun a b => funext fun i => i.elim0⟩

/-- The real numbers that a finite matrix holds, at natural numbers; zero outside the matrix. -/
def real2 {n k : ℕ} (x : (⟨2, ![n, k]⟩ : Shape).Idx → EReal) (a b : ℕ) : ℝ :=
  if h : a < n ∧ b < k then (x (ix2 (n0 := n) (n1 := k) ⟨a, h.1⟩ ⟨b, h.2⟩)).toReal else 0

/-- The real numbers that a finite vector holds, at natural numbers; zero outside the vector. -/
def real1 {n : ℕ} (x : (⟨1, ![n]⟩ : Shape).Idx → EReal) (a : ℕ) : ℝ :=
  if h : a < n then (x (ix1 (n0 := n) ⟨a, h⟩)).toReal else 0

/-- A finite matrix is the matrix of its real numbers. -/
theorem eq_real2 {n k : ℕ} (x : (⟨2, ![n, k]⟩ : Shape).Idx → EReal) (hx : ∀ i, Fin' (x i)) (i : (⟨2, ![n, k]⟩ : Shape).Idx) :
    x i = (real2 x (i 0).val (i 1).val : EReal) := by
  have h : (i 0).val < n ∧ (i 1).val < k := ⟨(i 0).isLt, (i 1).isLt⟩
  have e : ix2 (n0 := n) (n1 := k) ⟨(i 0).val, h.1⟩ ⟨(i 1).val, h.2⟩ = i := by
    funext a; refine Fin.cases rfl (fun b => Fin.cases rfl (fun b => b.elim0) b) a
  unfold real2
  rw [dif_pos h, e]
  obtain ⟨r, hr⟩ := hx i
  rw [hr, EReal.toReal_coe]

/-- A finite vector is the vector of its real numbers. -/
theorem eq_real1 {n : ℕ} (x : (⟨1, ![n]⟩ : Shape).Idx → EReal) (hx : ∀ i, Fin' (x i)) (i : (⟨1, ![n]⟩ : Shape).Idx) :
    x i = (real1 x (i 0).val : EReal) := by
  have h : (i 0).val < n := (i 0).isLt
  have e : ix1 (n0 := n) ⟨(i 0).val, h⟩ = i := by
    funext a; refine Fin.cases rfl (fun b => b.elim0) a
  unfold real1
  rw [dif_pos h, e]
  obtain ⟨r, hr⟩ := hx i
  rw [hr, EReal.toReal_coe]

variable (m : (ℓ : Loc Cert.Kernel5Ideal.nD Cert.Kernel5Ideal.τ Cert.Kernel5Ideal.sig) → Buf (Elt Ideal) ℓ)
  (hp : Cert.Pre_Kernel5Ideal_finite5 m) (c : Dev Cert.Kernel5Ideal.nD)

/-- The projection's columns that hold the gates. -/
def gates : Cert.Pre_finite5.S8192x16.Idx → EReal := fun i => proj m c (ix2 (i 0) ⟨5632 + (i 1).val, by have : (i 1).val < 16 := (i 1).isLt; omega⟩)

include hp in
/-- The precondition, read: queries and keys, gates, biases and the arriving derivative are finite at every index. -/
theorem finite : (∀ i, Fin' (qk m c i)) ∧ (∀ i, Fin' (gates m c i)) ∧ (∀ i, Fin' (bias m c i)) ∧ (∀ i, Fin' (dout m c i)) := by
  have h := congrFun (hp c) (fun a => a.elim0)
  unfold Cert.Pre_finite5.fn Cert.Pre_finite5.fn_part1 at h
  dsimp only at h
  have h1 := IntOp.andi_eq_one.mp h
  have h2 := IntOp.andi_eq_one.mp h1.1
  have h3 := IntOp.andi_eq_one.mp h2.1
  refine ⟨Cert.Gate.finite_of _ _ _ _ _ _ (fun _ => inf_word) h3.1, fun i => ?_,
    Cert.Gate.finite_of _ _ _ _ _ _ (fun _ => inf_word) h2.2, Cert.Gate.finite_of _ _ _ _ _ _ (fun _ => inf_word) h1.2⟩
  obtain ⟨r, hr⟩ := Cert.Gate.finite_of _ _ _ _ _ _ (fun _ => inf_word) h3.2 i
  refine ⟨r, hr.symm.trans (congrArg (proj m c) (funext fun a => Fin.ext ?_)) |>.symm⟩
  match a with
  | ⟨0, _⟩ => show 0 + (i 0).val = (i 0).val; omega
  | ⟨1, _⟩ => rfl

/-- The gradient of the values, at the arguments' real numbers. -/
def gradient : Cert.Kernel5Ideal.S8192x1024.Idx → EReal :=
  values (real2 (qk m c)) (fun t k => real2 (gates m c) t (k - 5632)) (real2 (dout m c)) (real1 (bias m c))

include hp in
/-- The gates' columns of the projection hold their real numbers. -/
theorem gates_eq (t : Fin 8192) (k : Fin 16) :
    proj m c (ix2 t (column k)) = ((real2 (gates m c) t.val (5632 + k.val - 5632) : ℝ) : EReal) := by
  rw [show 5632 + k.val - 5632 = k.val by omega]
  exact eq_real2 (gates m c) (finite m hp c).2.1 (ix2 t k)

include hp in
/-- The array the kernel leaves is the gradient. -/
theorem kernel_eq : (Cert.Kernel5Ideal.Gen.dats m 0 c).arrAt 12 Cert.Kernel5Ideal.cfg0.N = gradient m c :=
  have h := finite m hp c
  final (PR := fun t k => real2 (gates m c) t (k - 5632)) (eq_real2 _ h.1) (gates_eq m hp c) (eq_real1 _ h.2.2.1) (eq_real2 _ h.2.2.2)

include hp in
/-- The array the reference leaves is the gradient. -/
theorem reference_eq : Cert.Reference5Ideal.Read.val_main_v58 (F := Ideal) (qk m c) (proj m c) (bias m c) (dout m c) = gradient m c :=
  have h := finite m hp c
  funext fun i => result_real (PR := fun t k => real2 (gates m c) t (k - 5632)) (eq_real2 _ h.1) (gates_eq m hp c) (eq_real1 _ h.2.2.1) (eq_real2 _ h.2.2.2) i

/-- The claim: the two programs leave the same array. -/
theorem equal : Cert.algebraic_Kernel5Ideal_Reference5Ideal_pre_finite5 := fun m g m' g' hp hag =>
  ⟨fun c => gradient m c,
    (θ_run _ _ _).mono (fun _ h c => ⟨(h c).2.1.trans (kernel_eq m hp c), (h c).2.2.2.2⟩)
      (Cert.Kernel5Ideal.Value.run_blocks m g),
    (θ_run _ _ _).mono (fun _ h c => ⟨(h c).1.trans (by
        rw [Cert.Reference5Ideal.Read.val_main_v58_eq, (hag c).1, (hag c).2.1, (hag c).2.2.1, (hag c).2.2.2]
        exact reference_eq m hp c), (h c).2⟩)
      (Cert.Reference5Ideal.Value.run m' g')⟩

end Cert.Recurrence
end
-- ==== Proof.HiddenKernel.lean ====
/-
The kernel that computes a feed-forward's hidden layer.

Grid point (i, j) holds 1024 normalised tokens and one shard of 768 padded units. It multiplies the tokens by the two weights'
shards, transposed, and leaves the two products and the gated product of the two. The module computes one block, then the
three arrays, as functions of the arguments.
-/
module

public import proofs.«01_k».proof.Proof.Shards
public import proofs.«01_k».proof.Proof.GateMath
public import proofs.«01_k».proof.Proof.Gen.Kernel6Ideal.Value
public import Idealize.ShloMosaic.Lib.MatmulPlain
public import Idealize.ShloMosaic.Lib.Pipeline.ValueKit.Geometry
public import Idealize.ShloMosaic.Lib.Pipeline.ValueKit.Acc

@[expose] public section

set_option maxRecDepth 16384

noncomputable section

namespace Cert.HiddenKernel

open Cert.Kernel6Ideal Cert.Kernel6Ideal.Gen Cert.Shards Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The normalised input. -/
abbrev xn (c : Dev nD) : (⟨2, ![8192, 2048]⟩ : Shape).Idx → EReal := m ((c : Thread nD τ).loc main_arg0)
/-- The gate's weight, model width by hidden units. -/
abbrev wg (c : Dev nD) : (⟨2, ![2048, 5632]⟩ : Shape).Idx → EReal := m ((c : Thread nD τ).loc main_arg1)
/-- The other weight. -/
abbrev wu (c : Dev nD) : (⟨2, ![2048, 5632]⟩ : Shape).Idx → EReal := m ((c : Thread nD τ).loc main_arg2)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

theorem V_xn (c : Dev nD) : V m c main_v0 = xn m c := by
  simp only [V, hostOps0, hostOps0_1, hostOps0_2, hostOps0_3, List.flatten_cons, List.flatten_nil, List.append_nil,
    List.cons_append, List.nil_append, TRef.binary, TRef.nullary, TRef.unary, TRef.toBuf, TRef.ofBuf, cast_eq]
  after_results <;> rfl

theorem V_wg (c : Dev nD) : V m c main_v4 = rows (flip (wg m c)) := by
  rw [← flip_host _ transposes_S2048x5632_S5632x2048_1_0]
  refine Eq.trans ?_ (pad_rows _ (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, List.flatten_cons, List.flatten_nil, List.append_nil,
    List.cons_append, List.nil_append, TRef.binary, TRef.nullary, TRef.unary, TRef.toBuf, TRef.ofBuf, cast_eq]
  after_results <;> rfl

theorem V_wu (c : Dev nD) : V m c main_v8 = rows (flip (wu m c)) := by
  rw [← flip_host _ transposes_S2048x5632_S5632x2048_1_0]
  refine Eq.trans ?_ (pad_rows _ (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, List.flatten_cons, List.flatten_nil, List.append_nil,
    List.cons_append, List.nil_append, TRef.binary, TRef.nullary, TRef.unary, TRef.toBuf, TRef.ofBuf, cast_eq]
  after_results <;> rfl

/-! ## One block -/

/-- A block's product: 1024 tokens against the 768 rows of a weight's shard. -/
def dotRow (x : Vec Ideal S1024x2048 .bf16) (w : Vec Ideal S1x768x2048 .bf16) (r : Fin 1024) (u : Fin 768) : EReal :=
  ∑ k : Fin 2048, x (ix2 r k) * w (ix3 0 u k)

theorem product_apply (x : Vec Ideal S1024x2048 .bf16) (w : Vec Ideal S1x768x2048 .bf16) (r : Fin 1024) (u : Fin 768) :
    k0_pay2 x w (ix2 r u) = dotRow x w r u := by
  unfold k0_pay2 k0_pay1 dotRow
  rw [shapeCast_self]
  show FloatOps.matmul (DotDims.transposedRhs 1024 2048 768) none _ _ _ (ix2 r u) = _
  rw [Ideal.matmul_transposedRhs_apply]
  show Ideal.ofBits .f32 0x00000000#32 + _ = _
  rw [Ideal.ofBits_zero_f32, zero_add]
  refine Finset.sum_congr rfl fun k _ => congrArg _ ?_
  exact (shapeCast_dropUnit_apply _ w _ (ix2 u k)).trans (congrArg w (funext fun a => by fin_cases a <;> rfl))

/-- Both products of a block are the same function of its two operands. -/
theorem product_same : (k0_pay3 (F := Ideal)) = k0_pay2 := rfl

/-- The hidden layer's gate: `silu h * u`. -/
def gated (h u : EReal) : EReal := h * Ideal.logistic h * u

theorem word_one : (Scalar.ofBits .f32 0x3F800000#32 : Ideal .f32) = (1 : EReal) := one_word
theorem word_zero : (Scalar.ofBits .f32 0x00000000#32 : Ideal .f32) = (0 : EReal) := Ideal.ofBits_zero_f32

/-- A block of the first result. -/
theorem block3 (x : Vec Ideal S1024x2048 .bf16) (w : Vec Ideal S1x768x2048 .bf16) (y : S1x1024x768.Idx) :
    Value.E3 x w y = dotRow x w (y 1) (y 2) :=
  (congrArg (k0_pay2 x w) (a₂ := ix2 (y 1) (y 2)) (funext fun a => by fin_cases a <;> rfl)).trans (product_apply x w (y 1) (y 2))

/-- A block of the second result. -/
theorem block4 (x : Vec Ideal S1024x2048 .bf16) (w : Vec Ideal S1x768x2048 .bf16) (y : S1x1024x768.Idx) :
    Value.E4 x w y = dotRow x w (y 1) (y 2) :=
  (congrArg (k0_pay2 x w) (a₂ := ix2 (y 1) (y 2)) (funext fun a => by fin_cases a <;> rfl)).trans (product_apply x w (y 1) (y 2))

/-- A block of the third result. -/
theorem block5 (x : Vec Ideal S1024x2048 .bf16) (w w' : Vec Ideal S1x768x2048 .bf16) (y : S1x1024x768.Idx) :
    Value.E5 x w w' y = gated (dotRow x w (y 1) (y 2)) (dotRow x w' (y 1) (y 2)) := by
  refine Eq.trans ?_ (congrArg₂ gated (product_apply x w (y 1) (y 2)) (product_apply x w' (y 1) (y 2)))
  have e0 : Value.ix5_0 y = ix2 (y 1) (y 2) := funext fun a => by fin_cases a <;> rfl
  have e1 : Value.ix5_1 y = ix2 (y 1) (y 2) := funext fun a => by fin_cases a <;> rfl
  have e2 : Value.ix5_2 y = ix2 (y 1) (y 2) := funext fun a => by fin_cases a <;> rfl
  unfold Value.E5
  rw [e0, e1, e2, product_same]
  simp only [Ideal.truncf_def, Ideal.mulf_def, Ideal.addf_def, Ideal.subf_def, Ideal.divf_def, Ideal.exp_def, word_one, word_zero,
    zero_sub]
  rfl

/-! ## Where the blocks lie -/

theorem at0 : ∀ t : Fin cfg0.N, win0_0.index t = ![t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![t.val % 8, 0, 0] := (by decide +kernel : ∀ t : Fin grid0.N, _)
theorem at3 : ∀ t : Fin cfg0.N, win0_3.index t = ![t.val % 8, t.val / 8, 0] := (by decide +kernel : ∀ t : Fin grid0.N, _)
theorem at4 : ∀ t : Fin cfg0.N, win0_4.index t = ![t.val % 8, t.val / 8, 0] := (by decide +kernel : ∀ t : Fin grid0.N, _)
theorem at5 : ∀ t : Fin cfg0.N, win0_5.index t = ![t.val % 8, t.val / 8, 0] := (by decide +kernel : ∀ t : Fin grid0.N, _)

/-- Row `r` of the tokens at point `t`. -/
abbrev tok (t : Fin cfg0.N) (r : Fin 1024) : Fin 8192 := ⟨t.val / 8 * 1024 + r.val, by have : t.val < 64 := t.isLt; omega⟩
/-- The shard of point `t`. -/
abbrev shard (t : Fin cfg0.N) : Fin 8 := ⟨t.val % 8, by omega⟩

/-- The tokens' block at a point. -/
abbrev lhs (c : Dev nD) (t : Fin cfg0.N) : Vec Ideal S1024x2048 .bf16 := iblk m c 0 t
/-- The first weight's block at a point. -/
abbrev rhs0 (c : Dev nD) (t : Fin cfg0.N) : Vec Ideal S1x768x2048 .bf16 := iblk m c 1 t
/-- The second weight's block at a point. -/
abbrev rhs1 (c : Dev nD) (t : Fin cfg0.N) : Vec Ideal S1x768x2048 .bf16 := iblk m c 2 t

theorem in0 (c : Dev nD) (t : Fin cfg0.N) (r : Fin 1024) (k : Fin 2048) : lhs m c t (ix2 r k) = xn m c (ix2 (tok t r) k) := by
  rw [← V_xn m c]
  blk_simp [iblk]
  refine congrArg (V m c main_v0) ?_
  blk_ext [at0]

theorem in1 (c : Dev nD) (t : Fin cfg0.N) (u : Fin 768) (k : Fin 2048) :
    rhs0 m c t (ix3 0 u k) = rows (flip (wg m c)) (ix3 (shard t) u k) := by
  rw [← V_wg m c]
  blk_simp [iblk]
  refine congrArg (V m c main_v4) ?_
  blk_ext [at1]

theorem in2 (c : Dev nD) (t : Fin cfg0.N) (u : Fin 768) (k : Fin 2048) :
    rhs1 m c t (ix3 0 u k) = rows (flip (wu m c)) (ix3 (shard t) u k) := by
  rw [← V_wu m c]
  blk_simp [iblk]
  refine congrArg (V m c main_v8) ?_
  blk_ext [at2]

/-- Where an index of the block of point `t` lies in a result. -/
abbrev place (t : Fin cfg0.N) (y : S1x1024x768.Idx) : HidSh.Idx := ix3 (shard t) (tok t (y 1)) (y 2)

theorem place3 (t : Fin cfg0.N) (y : S1x1024x768.Idx) : ((View.whole main_v9_0).slice (win0_3.rect t)).emb y = place t y := by
  blk_ext [at3]
theorem place4 (t : Fin cfg0.N) (y : S1x1024x768.Idx) : ((View.whole main_v9_1).slice (win0_4.rect t)).emb y = place t y := by
  blk_ext [at4]
theorem place5 (t : Fin cfg0.N) (y : S1x1024x768.Idx) : ((View.whole main_v9_2).slice (win0_5.rect t)).emb y = place t y := by
  blk_ext [at5]

/-! ## The three arrays -/

/-- A product of the normalised input with a weight, in padded shards. -/
def hidden (x : (⟨2, ![8192, 2048]⟩ : Shape).Idx → EReal) (w : (⟨2, ![2048, 5632]⟩ : Shape).Idx → EReal) (i : HidSh.Idx) : EReal :=
  ∑ k : Fin 2048, x (ix2 (i 1) k) * rows (flip w) (ix3 (i 0) (i 2) k)

/-- The gate's preactivation, as the kernel leaves it. -/
def G3 (c : Dev nD) (i : HidSh.Idx) : EReal := hidden (xn m c) (wg m c) i
/-- The other factor, as the kernel leaves it. -/
def G4 (c : Dev nD) (i : HidSh.Idx) : EReal := hidden (xn m c) (wu m c) i
/-- The gated product, as the kernel leaves it. -/
def G5 (c : Dev nD) (i : HidSh.Idx) : EReal := gated (G3 m c i) (G4 m c i)

/-- The first product of a point's blocks. -/
theorem sum3 (c : Dev nD) (t : Fin cfg0.N) (y : S1x1024x768.Idx) : dotRow (lhs m c t) (rhs0 m c t) (y 1) (y 2) = G3 m c (place t y) :=
  Finset.sum_congr rfl fun k _ => congrArg₂ (fun a b : EReal => a * b) (in0 m c t (y 1) k) (in1 m c t (y 2) k)
/-- The second product of a point's blocks. -/
theorem sum4 (c : Dev nD) (t : Fin cfg0.N) (y : S1x1024x768.Idx) : dotRow (lhs m c t) (rhs1 m c t) (y 1) (y 2) = G4 m c (place t y) :=
  Finset.sum_congr rfl fun k _ => congrArg₂ (fun a b : EReal => a * b) (in0 m c t (y 1) k) (in2 m c t (y 2) k)

/-- The first result's array after the run. -/
theorem final3 (c : Dev nD) : (dats m 0 c).arrAt 3 cfg0.N = G3 m c := by
  refine (dats m 0 c).arrAt_eq_of_covers 3 _ (by decide +kernel) fun t hf y => ?_
  blk_simp
  rw [after0_3]
  unfold out0_3
  rw [View.ld_unit_zero (S := S1024x2048) hz2, View.ld_unit_zero (S := S1x768x2048) hz3, Value.canon3_eq, block3, place3 t y]
  exact sum3 m c t y

/-- The second result's array after the run. -/
theorem final4 (c : Dev nD) : (dats m 0 c).arrAt 4 cfg0.N = G4 m c := by
  refine (dats m 0 c).arrAt_eq_of_covers 4 _ (by decide +kernel) fun t hf y => ?_
  blk_simp
  rw [after0_4]
  unfold out0_4
  rw [View.ld_unit_zero (S := S1024x2048) hz2, View.ld_unit_zero (S := S1x768x2048) hz3, Value.canon4_eq, block4, place4 t y]
  exact sum4 m c t y

/-- The third result's array after the run. -/
theorem final5 (c : Dev nD) : (dats m 0 c).arrAt 5 cfg0.N = G5 m c := by
  refine (dats m 0 c).arrAt_eq_of_covers 5 _ (by decide +kernel) fun t hf y => ?_
  blk_simp
  rw [after0_5]
  unfold out0_5
  rw [View.ld_unit_zero (S := S1024x2048) hz2, View.ld_unit_zero (S := S1x768x2048) hz3, View.ld_unit_zero (S := S1x768x2048) hz3,
    Value.canon5_eq, block5, place5 t y]
  exact congrArg₂ gated (sum3 m c t y) (sum4 m c t y)

end Cert.HiddenKernel
-- ==== Proof.Hidden.lean ====
/-
A feed-forward's hidden layer: the kernel's three arrays are the reference's, with no condition on the arguments.
-/
module

public import proofs.«01_k».proof.Proof.HiddenKernel
public import proofs.«01_k».proof.Proof.Gen.Reference6Ideal.Read
public import proofs.«01_k».proof.Defs

@[expose] public section

set_option maxRecDepth 16384

noncomputable section

namespace Cert.Hidden

open Cert.Shards Cert.GateMath Cert.HiddenKernel Cert.Reference6Ideal Cert.Reference6Ideal.Gen Cert.Reference6Ideal.Read
open Idealize.ShloMosaic Idealize.ShloMosaic.TcCoe Idealize.SL.Sem Idealize.ShloMosaic.ValueIdx
open scoped BigOperators

variable (x : (⟨2, ![8192, 2048]⟩ : Shape).Idx → EReal) (w w' : (⟨2, ![2048, 5632]⟩ : Shape).Idx → EReal)

/-- The reference's first product. -/
theorem first_apply (i : Hid.Idx) : val_main_v0 (F := Ideal) x w i = ∑ k : Fin 2048, x (ix2 (i 0) k) * w (ix2 k (i 1)) := by
  rw [val_main_v0_apply]
  refine Finset.sum_congr rfl fun k _ => congrArg₂ (· * ·) (congrArg x ?_) (congrArg w ?_) <;>
  exact funext fun a => by fin_cases a <;> rfl

/-- The reference's second product. -/
theorem second_apply (i : Hid.Idx) : val_main_v1 (F := Ideal) x w i = ∑ k : Fin 2048, x (ix2 (i 0) k) * w (ix2 k (i 1)) := by
  rw [val_main_v1_apply]
  refine Finset.sum_congr rfl fun k _ => congrArg₂ (· * ·) (congrArg x ?_) (congrArg w ?_) <;>
  exact funext fun a => by fin_cases a <;> rfl

/-- The reference's gated product. -/
theorem gated_apply (i : Hid.Idx) : val_main_v11 (F := Ideal) x w w' i
    = gated (val_main_v0 (F := Ideal) x w i) (val_main_v1 (F := Ideal) x w' i) := by
  rw [val_main_v11_apply, val_main_v10_apply, val_main_call2_v5_apply, val_main_call2_v4_apply, val_main_call2_cst_0_apply,
    val_main_call2_v3_apply, val_main_call2_v2_apply, val_main_call2_cst_apply, val_main_call2_v1_apply, val_main_call2_v0_apply]
  show _ * Ideal.div (Ideal.ofBits .f32 0x3F800000#32) (Ideal.ofBits .f32 0x3F800000#32 + Ideal.exp (-_)) * _ = _
  rw [one_word]
  rfl

/-- The padding word converts to zero. -/
theorem padding : (val_main_call0_v0 (F := Ideal) : S_.Idx → EReal) (Shape.Idx.first h_S_) = 0 := by
  show FloatOps.sitofp (F := Ideal) .f32 (0#32 : BitVec 32) = 0
  simp [FloatOps.sitofp]

/-- The reference's results are its arrays in shards. -/
theorem result3 : (val_main_v5 (F := Ideal) x w : HidSh.Idx → EReal) = cols (val_main_v0 (F := Ideal) x w) :=
  pad_cols (val_main_v0 (F := Ideal) x w) (val_main_call0_v0 (F := Ideal)) shapeCasts_S8192x5632_S8192x8x704
    transposes_S8192x8x704_S8x8192x704_1_0_2 pads_S8x8192x704_S8x8192x768_000_000_0640 h_S_ padding
theorem result4 : (val_main_v9 (F := Ideal) x w : HidSh.Idx → EReal) = cols (val_main_v1 (F := Ideal) x w) :=
  pad_cols (val_main_v1 (F := Ideal) x w) (val_main_call0_v0 (F := Ideal)) shapeCasts_S8192x5632_S8192x8x704
    transposes_S8192x8x704_S8x8192x704_1_0_2 pads_S8x8192x704_S8x8192x768_000_000_0640 h_S_ padding
theorem result5 : (val_main_v15 (F := Ideal) x w w' : HidSh.Idx → EReal) = cols (val_main_v11 (F := Ideal) x w w') :=
  pad_cols (val_main_v11 (F := Ideal) x w w') (val_main_call0_v0 (F := Ideal)) shapeCasts_S8192x5632_S8192x8x704
    transposes_S8192x8x704_S8x8192x704_1_0_2 pads_S8x8192x704_S8x8192x768_000_000_0640 h_S_ padding

/-- The kernel's product on a true unit … -/
theorem hidden_of_lt (i : HidSh.Idx) (h : (i 2).val < 704) :
    hidden x w i = ∑ k : Fin 2048, x (ix2 (i 1) k) * w (ix2 k (unit (i 0) (i 2) h)) :=
  Finset.sum_congr rfl fun k _ => by rw [rows_of_lt _ _ h]
/-- … and on a padding unit, where it is zero. -/
theorem hidden_of_not (i : HidSh.Idx) (h : ¬(i 2).val < 704) : hidden x w i = 0 :=
  Finset.sum_eq_zero fun k _ => by rw [rows_of_not _ _ h, mul_zero]

/-- The first two results are the reference's. -/
theorem equal3 : (hidden x w : HidSh.Idx → EReal) = val_main_v5 (F := Ideal) x w := by
  rw [result3]
  funext i
  by_cases h : (i 2).val < 704
  · rw [hidden_of_lt _ _ _ h, cols_of_lt _ _ h, first_apply]
  · rw [hidden_of_not _ _ _ h, cols_of_not _ _ h]
theorem equal4 : (hidden x w : HidSh.Idx → EReal) = val_main_v9 (F := Ideal) x w := by
  rw [result4]
  funext i
  by_cases h : (i 2).val < 704
  · rw [hidden_of_lt _ _ _ h, cols_of_lt _ _ h, second_apply]
  · rw [hidden_of_not _ _ _ h, cols_of_not _ _ h]

/-- The third result, the gated product, is the reference's. -/
theorem equal5 : (fun i : HidSh.Idx => gated (hidden x w i) (hidden x w' i)) = val_main_v15 (F := Ideal) x w w' := by
  rw [result5]
  funext i
  by_cases h : (i 2).val < 704
  · rw [hidden_of_lt _ _ _ h, hidden_of_lt _ _ _ h, cols_of_lt _ _ h, gated_apply, first_apply, second_apply]
  · rw [hidden_of_not _ _ _ h, hidden_of_not _ _ _ h, cols_of_not _ _ h]
    unfold gated
    rw [zero_mul, zero_mul]

/-- The claim: the two programs leave the same three arrays. -/
theorem equal : Cert.algebraic_Kernel6Ideal_Reference6Ideal := fun m g m' g' _ hag =>
  ⟨fun c => G3 m c, fun c => G4 m c, fun c => G5 m c,
    (θ_run _ _ _).mono (fun _ h c => ⟨(h c).1.trans (final3 m c), (h c).2.1.trans (final4 m c), (h c).2.2.1.trans (final5 m c),
      (h c).2.2.2⟩) (Cert.Kernel6Ideal.Value.run_blocks m g),
    (θ_run _ _ _).mono (fun _ h c => ⟨(h c).1.trans (by
        rw [val_main_v5_eq, (hag c).1, (hag c).2.1]
        exact (equal3 (xn m c) (wg m c)).symm), (h c).2.1.trans (by
        rw [val_main_v9_eq, (hag c).1, (hag c).2.2]
        exact (equal4 (xn m c) (wu m c)).symm), (h c).2.2.1.trans (by
        rw [val_main_v15_eq, (hag c).1, (hag c).2.1, (hag c).2.2]
        exact (equal5 (xn m c) (wg m c) (wu m c)).symm), (h c).2.2.2⟩)
      (Cert.Reference6Ideal.Value.run m' g')⟩

end Cert.Hidden
-- ==== Proof.OutputKernel.lean ====
/-
The kernel that computes a feed-forward's output.

Grid point (i, 0, j) adds to a running 1024 by 2048 sum, for 1024 tokens, the product of one shard of the hidden layer with
the same shard of the second weight; after the eight shards the sum is written back. The padding units of a shard are zero,
so they add nothing.
-/
module

public import proofs.«01_k».proof.Proof.Shards
public import proofs.«01_k».proof.Proof.GateMath
public import proofs.«01_k».proof.Proof.Gen.Kernel7Ideal.Value
public import Idealize.ShloMosaic.Lib.MatmulPlain
public import Idealize.ShloMosaic.Lib.Pipeline.ValueKit.Geometry
public import Idealize.ShloMosaic.Lib.Pipeline.ValueKit.Acc

@[expose] public section

set_option maxRecDepth 16384

noncomputable section

namespace Cert.OutputKernel

open Cert.Kernel7Ideal Cert.Kernel7Ideal.Gen Cert.Shards Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-! ## What the host hands to the kernel -/

/-- The hidden layer. -/
abbrev act (c : Dev nD) : Hid.Idx → EReal := m ((c : Thread nD τ).loc main_arg0)
/-- The second weight. -/
abbrev wd (c : Dev nD) : Wgt.Idx → EReal := m ((c : Thread nD τ).loc main_arg1)

/-- The padding word converts to zero. -/
theorem padding : (sitofp (F := Ideal) .bf16 (constantI S_ 32 0#32) : S_.Idx → EReal) (Shape.Idx.first h_S_) = 0 := by
  show FloatOps.sitofp (F := Ideal) .bf16 (0#32 : BitVec 32) = 0
  simp [FloatOps.sitofp]

theorem V_act (c : Dev nD) : V m c main_v3 = cols (act m c) := by
  refine Eq.trans ?_ (pad_cols (act m c) (sitofp (F := Ideal) .bf16 (constantI S_ 32 0#32)) shapeCasts_S8192x5632_S8192x8x704
    transposes_S8192x8x704_S8x8192x704_1_0_2 pads_S8x8192x704_S8x8192x768_000_000_0640 h_S_ padding)
  simp only [V, hostOps0, hostOps0_1, hostOps0_2, hostOps0_3, List.flatten_cons, List.flatten_nil, List.append_nil,
    List.cons_append, List.nil_append, TRef.binary, TRef.nullary, TRef.unary, TRef.toBuf, TRef.ofBuf, cast_eq]
  after_results <;> rfl

theorem V_wd (c : Dev nD) : V m c main_v6 = rows (wd m c) := by
  refine Eq.trans ?_ (pad_rows _ (sitofp (F := Ideal) .bf16 (constantI S_ 32 0#32)) shapeCasts_S5632x2048_S8x704x2048
    pads_S8x704x2048_S8x768x2048_000_0640_000 h_S_ padding)
  simp only [V, hostOps0, hostOps0_1, hostOps0_2, hostOps0_3, List.flatten_cons, List.flatten_nil, List.append_nil,
    List.cons_append, List.nil_append, TRef.binary, TRef.nullary, TRef.unary, TRef.toBuf, TRef.ofBuf, cast_eq]
  after_results <;> rfl

/-! ## One step -/

/-- What a step adds: the product of the point's blocks. -/
def part (x : Vec Ideal S1x1024x768 .bf16) (w : Vec Ideal S1x768x2048 .bf16) (y : S1024x2048.Idx) : EReal :=
  ∑ k : Fin 768, x (ix3 0 (y 0) k) * w (ix3 0 k (y 1))

/-- A step adds the product to the running sum. -/
theorem step_apply (a : Vec Ideal S1024x2048 .f32) (x : Vec Ideal S1x1024x768 .bf16) (w : Vec Ideal S1x768x2048 .bf16)
    (y : S1024x2048.Idx) : k0_pay2 a x w y = a y + part x w y := by
  obtain ⟨r, n, rfl⟩ : ∃ (r : Fin 1024) (n : Fin 2048), y = ix2 r n := ⟨y 0, y 1, funext fun a => by fin_cases a <;> rfl⟩
  unfold k0_pay2 part
  rw [shapeCast_self]
  refine congrArg (a (ix2 r n) + ·) ?_
  show FloatOps.matmul (DotDims.plain 1024 768 2048) none _ _ _ (ix2 r n) = _
  rw [Ideal.matmul_plain_apply]
  show Ideal.ofBits .f32 0x00000000#32 + _ = _
  rw [Ideal.ofBits_zero_f32, zero_add]
  refine Finset.sum_congr rfl fun k _ => congrArg₂ (· * ·) ?_ ?_
  · exact (shapeCast_dropUnit_apply _ x _ (ix2 r k)).trans (congrArg x (funext fun a => by fin_cases a <;> rfl))
  · exact (shapeCast_dropUnit_apply _ w _ (ix2 k n)).trans (congrArg w (funext fun a => by fin_cases a <;> rfl))

/-- A run starts from zero. -/
theorem start_apply (y : S1024x2048.Idx) : k0_pay1 (F := Ideal) y = 0 := by
  unfold k0_pay1
  rw [shapeCast_self]
  exact Ideal.ofBits_zero_f32

/-! ## Where the blocks lie -/

theorem at0 : ∀ t : Fin cfg0.N, win0_0.index t = ![t.val % 8, t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![t.val / 8, 0] := (by decide +kernel : ∀ t : Fin grid0.N, _)

/-- Row `r` of the tokens at point `t`. -/
abbrev tok (t : Fin cfg0.N) (r : Fin 1024) : Fin 8192 := ⟨t.val / 8 * 1024 + r.val, by have : t.val < 64 := t.isLt; omega⟩
/-- The shard of point `t`. -/
abbrev shard (t : Fin cfg0.N) : Fin 8 := ⟨t.val % 8, by omega⟩

/-- The hidden layer's block at a point. -/
abbrev lhs (c : Dev nD) (t : Fin cfg0.N) : Vec Ideal S1x1024x768 .bf16 := iblk m c 0 t
/-- The weight's block at a point. -/
abbrev rhs (c : Dev nD) (t : Fin cfg0.N) : Vec Ideal S1x768x2048 .bf16 := iblk m c 1 t

theorem in0 (c : Dev nD) (t : Fin cfg0.N) (r : Fin 1024) (u : Fin 768) :
    lhs m c t (ix3 0 r u) = cols (act m c) (ix3 (shard t) (tok t r) u) := by
  rw [← V_act m c]
  blk_simp [iblk]
  refine congrArg (V m c main_v3) ?_
  blk_ext [at0]

theorem in1 (c : Dev nD) (t : Fin cfg0.N) (u : Fin 768) (n : Fin 2048) :
    rhs m c t (ix3 0 u n) = rows (wd m c) (ix3 (shard t) u n) := by
  rw [← V_wd m c]
  blk_simp [iblk]
  refine congrArg (V m c main_v6) ?_
  blk_ext [at1]

/-! ## The running sum -/

/-- Point `s` of the run of point `t`. -/
abbrev pt (t : Fin cfg0.N) (s : Fin 8) : Fin cfg0.N :=
  ⟨8 * (t.val / 8) + s.val, by have : t.val < 64 := t.isLt; show _ < 64; omega⟩

/-- What point `t` adds. -/
abbrev added (c : Dev nD) (t : Fin cfg0.N) (y : S1024x2048.Idx) : EReal := part (lhs m c t) (rhs m c t) y

/-- After the last point of a run the running sum holds what the run's eight points add. -/
theorem sum_eq (c : Dev nD) (t : Fin cfg0.N) (ht : t.val % 8 = 7) (y : S1024x2048.Idx) :
    (outsAt0 m c t.val t.isLt).2 y = ∑ s : Fin 8, added m c (pt t s) y := by
  have h := Pipeline.eq_sum_fin_of_reset_step_apply_of_flush (fun n h => (outsAt0 m c n h).2) 8 (fun _ => (0 : EReal))
    (fun t => added m c t)
    (fun t h y => by
      show (outsAt0 m c t.val t.isLt).2 y = _
      rw [outsAt0_A m c t h (by omega)]
      frame_out
      rw [step_apply, start_apply])
    (fun t h y => by
      show (outsAt0 m c t.val t.isLt).2 y = _
      by_cases h7 : t.val % 8 = 7
      · rw [outsAt0_C m c t h h7]
        frame_out
        rw [step_apply]
        exact congrArg (· + added m c t y) (congrFun (Memref.IsWhole.read_unread _ _) y)
      · rw [outsAt0_B m c t h h7]
        frame_out
        rw [step_apply]
        exact congrArg (· + added m c t y) (congrFun (Memref.IsWhole.read_unread _ _) y)) t ht y
  rw [zero_add] at h
  exact h

/-- The block written back is the sum. -/
theorem out_eq (c : Dev nD) (t : Fin cfg0.N) (ht : t.val % 8 = 7) (y : S1024x2048.Idx) :
    (outsAt0 m c t.val t.isLt).1 y = (outsAt0 m c t.val t.isLt).2 y := by
  rw [outsAt0_C m c t (by omega) ht]
  frame_out
  rfl

/-! ## The array -/

/-- What the kernel leaves in its result. -/
def G (c : Dev nD) (i : S8192x2048.Idx) : EReal :=
  ∑ s : Fin 8, ∑ k : Fin 768, cols (act m c) (ix3 s (i 0) k) * rows (wd m c) (ix3 s k (i 1))

/-- Where an index of the block of point `t` lies in the result. -/
abbrev place (t : Fin cfg0.N) (y : S1024x2048.Idx) : S8192x2048.Idx := ix2 (tok t (y 0)) (y 1)

theorem place2 (t : Fin cfg0.N) (y : S1024x2048.Idx) : ((cfg0.win 2).blk t).view.emb y = place t y := by
  blk_ext [at2]

/-- Every point of a run lies at the same place, over its own shard. -/
theorem tok_pt (t : Fin cfg0.N) (s : Fin 8) (r : Fin 1024) : tok (pt t s) r = tok t r :=
  Fin.ext (by have := s.isLt; show (8 * (t.val / 8) + s.val) / 8 * 1024 + r.val = t.val / 8 * 1024 + r.val; omega)
theorem shard_pt (t : Fin cfg0.N) (s : Fin 8) : shard (pt t s) = s :=
  Fin.ext (by have := s.isLt; show (8 * (t.val / 8) + s.val) % 8 = s.val; omega)

/-- What the eight points of a run add up to. -/
theorem run_sum (c : Dev nD) (t : Fin cfg0.N) (y : S1024x2048.Idx) : ∑ s : Fin 8, added m c (pt t s) y = G m c (place t y) := by
  unfold G added part
  refine Finset.sum_congr rfl fun s _ => Finset.sum_congr rfl fun k _ => ?_
  refine congrArg₂ (fun a b : EReal => a * b) ((in0 m c (pt t s) (y 0) k).trans ?_) ((in1 m c (pt t s) k (y 1)).trans ?_)
  · exact congrArg₂ (fun s r => cols (act m c) (ix3 s r k)) (shard_pt t s) (tok_pt t s (y 0))
  · exact congrArg (fun s => rows (wd m c) (ix3 s k (y 1))) (shard_pt t s)

/-- The result's array after the run. -/
theorem final (c : Dev nD) : (dats m 0 c).arrAt 2 cfg0.N = G m c := by
  refine (dats m 0 c).arrAt_eq_of_covers 2 _ (by decide +kernel) fun t hf y => ?_
  have ht : t.val % 8 = 7 := (flush0_2 t).mp hf
  blk_simp
  rw [after0_2]
  exact (out_eq m c t ht y).trans ((sum_eq m c t ht y).trans ((run_sum m c t y).trans (congrArg (G m c) (place2 t y).symm)))

end Cert.OutputKernel
-- ==== Proof.Output.lean ====
/-
A feed-forward's output: the kernel's array is the reference's. The kernel sums the product of the hidden layer and the second
weight shard by shard, the padding units adding zero.
-/
module

public import proofs.«01_k».proof.Proof.OutputKernel
public import proofs.«01_k».proof.Proof.Gen.Reference7Ideal.Read
public import proofs.«01_k».proof.Defs

@[expose] public section

set_option maxRecDepth 16384

noncomputable section

namespace Cert.Output

open Cert.Shards Cert.OutputKernel
open Idealize.ShloMosaic Idealize.ShloMosaic.TcCoe Idealize.SL.Sem Idealize.ShloMosaic.ValueIdx
open scoped BigOperators

/-- The sum over the padded shards is the reference's product. -/
theorem result (m : (ℓ : Loc Cert.Kernel7Ideal.nD Cert.Kernel7Ideal.τ Cert.Kernel7Ideal.sig) → Buf (Elt Ideal) ℓ) (c : Dev Cert.Kernel7Ideal.nD) :
    (G m c : Cert.Kernel7Ideal.S8192x2048.Idx → EReal) = Cert.Reference7Ideal.Read.val_main_v1 (F := Ideal) (act m c) (wd m c) := by
  funext i
  rw [Cert.Reference7Ideal.Read.val_main_v1_apply]
  show _ = Cert.Reference7Ideal.Read.val_main_v0 (F := Ideal) (act m c) (wd m c) i
  rw [Cert.Reference7Ideal.Read.val_main_v0_apply]
  refine Eq.trans ?_ ((sum_units fun l => act m c (ix2 (i 0) l) * wd m c (ix2 l (i 1))).trans (Finset.sum_congr rfl fun l _ =>
    congrArg₂ (· * ·) (congrArg (act m c) (funext fun a => by fin_cases a <;> rfl))
      (congrArg (wd m c) (funext fun a => by fin_cases a <;> rfl))))
  unfold G
  refine Finset.sum_congr rfl fun s _ => Finset.sum_congr rfl fun k _ => ?_
  by_cases h : k.val < 704
  · rw [dif_pos h, cols_of_lt _ _ h, rows_of_lt _ _ h]
  · rw [dif_neg h, cols_of_not _ _ h, zero_mul]

/-- The claim: the two programs leave the same array. -/
theorem equal : Cert.algebraic_Kernel7Ideal_Reference7Ideal := fun m g m' g' _ hag =>
  ⟨fun c => G m c,
    (θ_run _ _ _).mono (fun _ h c => ⟨(h c).1.trans (final m c), (h c).2⟩) (Cert.Kernel7Ideal.Value.run_blocks m g),
    (θ_run _ _ _).mono (fun _ h c => ⟨(h c).1.trans (by
        rw [Cert.Reference7Ideal.Read.val_main_v1_eq, (hag c).1, (hag c).2]
        exact (result m c).symm), (h c).2⟩)
      (Cert.Reference7Ideal.Value.run m' g')⟩

end Cert.Output
-- ==== Proof.Products.lean ====
/-
A step of a blocked product: a running sum, plus the product of two blocks, in the three forms the projections use.
-/
module

public import proofs.«01_k».proof.Proof.Contract
public import Idealize.ShloMosaic.Lib.MatmulPlain
public import Idealize.ShloMosaic.Lib.Pipeline.ValueKit.Geometry

@[expose] public section

set_option maxRecDepth 16384

noncomputable section

namespace Cert.Products

open Cert.Contract
open Idealize.ShloMosaic Idealize.ShloMosaic.ValueIdx
open scoped BigOperators

variable {M K N : ℕ} (a : FVec Ideal ⟨2, ![M, N]⟩ .f32)

/-- An array of zeros is zero. -/
theorem zero_word (S : Shape) (y : S.Idx) : (constant S .f32 0x00000000#32 : FVec Ideal S .f32) y = 0 := Ideal.ofBits_zero_f32

/-- The product of two blocks. -/
theorem plain_step (x : FVec Ideal ⟨2, ![M, K]⟩ .bf16) (w : FVec Ideal ⟨2, ![K, N]⟩ .bf16) (r : Fin M) (n : Fin N) :
    addf a (FloatOps.matmul (DotDims.plain M K N) none x w (constant ⟨2, ![M, N]⟩ .f32 0x00000000#32)) (ix2 r n)
      = a (ix2 r n) + ∑ k : Fin K, x (ix2 r k) * w (ix2 k n) := by
  show a (ix2 r n) + FloatOps.matmul (DotDims.plain M K N) none x w _ (ix2 r n) = _
  rw [Ideal.matmul_plain_apply, zero_word, zero_add]

/-- The product of a block with a transposed block. -/
theorem transposed_step (x : FVec Ideal ⟨2, ![M, K]⟩ .bf16) (w : FVec Ideal ⟨2, ![N, K]⟩ .bf16) (r : Fin M) (n : Fin N) :
    addf a (FloatOps.matmul (DotDims.transposedRhs M K N) none x w (constant ⟨2, ![M, N]⟩ .f32 0x00000000#32)) (ix2 r n)
      = a (ix2 r n) + ∑ k : Fin K, x (ix2 r k) * w (ix2 n k) := by
  show a (ix2 r n) + FloatOps.matmul (DotDims.transposedRhs M K N) none x w _ (ix2 r n) = _
  rw [Ideal.matmul_transposedRhs_apply, zero_word, zero_add]

/-- The product of a transposed block with a block. -/
theorem rows_step (x : FVec Ideal ⟨2, ![K, M]⟩ .bf16) (w : FVec Ideal ⟨2, ![K, N]⟩ .bf16) (r : Fin M) (n : Fin N) :
    addf a (FloatOps.matmul (rowsRows K M N) none x w (constant ⟨2, ![M, N]⟩ .f32 0x00000000#32)) (ix2 r n)
      = a (ix2 r n) + ∑ k : Fin K, x (ix2 k r) * w (ix2 k n) := by
  show a (ix2 r n) + FloatOps.matmul (rowsRows K M N) none x w _ (ix2 r n) = _
  rw [rowsRows_apply, zero_word, zero_add]

/-- An index of a matrix is a row and a column. -/
theorem ix2_eta (y : (⟨2, ![M, N]⟩ : Shape).Idx) : y = ix2 (y 0) (y 1) := funext fun b => by fin_cases b <;> rfl

end Cert.Products
-- ==== Proof.NormMath.lean ====
/-
The gradient of a norm by the root of the mean square, over the extended reals.

The derivative of a row is formed by the kernel from the normalised row, and by differentiation from the derivative of the
reciprocal root. The two are equal on all extended reals: an infinite element makes the reciprocal root zero, and a finite
row has a positive real reciprocal root, which distributes over sums.
-/
module

public import Idealize.ShloMosaic.PureOps.Ideal.Laws

@[expose] public section

noncomputable section

namespace Cert.NormMath

open Idealize.ShloMosaic
open scoped BigOperators

/-- The word of the row's length. -/
abbrev W : EReal := Ideal.ofBits .f32 0x45000000#32
/-- The word of the small constant under the root. -/
abbrev E : EReal := Ideal.ofBits .f32 0x358637BD#32
/-- The word of minus one half. -/
abbrev H : EReal := Ideal.ofBits .f32 0xBF000000#32

theorem W_eq : W = ((2048 : ℝ) : EReal) := by
  simp [W, Ideal.ofBits, Ideal.ieee]
  rw [← EReal.coe_mul]
  norm_num

theorem H_eq : H = ((-(1 / 2) : ℝ) : EReal) := by
  simp [H, Ideal.ofBits, Ideal.ieee]
  rw [← EReal.coe_mul]
  norm_num

theorem E_pos : ∃ e : ℝ, 0 < e ∧ E = (e : EReal) := by
  simp [E, Ideal.ofBits, Ideal.ieee]
  exact ⟨_, by positivity, (EReal.coe_mul _ _).symm⟩

/-- The mean of a row's squares, from their sum, and the constant. -/
def var (q : EReal) : EReal := Ideal.div q W + E
/-- What the row is scaled by. -/
def scale (q : EReal) : EReal := Ideal.rsqrt (var q)

theorem div_W (x : EReal) : Ideal.div x W = x * ((1 / 2048 : ℝ) : EReal) := by
  rw [W_eq, Ideal.div_coe (by norm_num)]

/-- Under the root is a positive real number, or the greatest extended real. -/
theorem scale_cases (q : EReal) (h : 0 ≤ q) :
    (var q = ⊤ ∧ scale q = 0) ∨ ∃ v r : ℝ, var q = (v : EReal) ∧ scale q = (r : EReal) ∧ 0 < r ∧ v ≠ 0 ∧ r * r = 1 / v := by
  obtain ⟨e, he, hE⟩ := E_pos
  induction q using EReal.rec with
  | bot => simp at h
  | top =>
    have : var ⊤ = ⊤ := by
      unfold var
      rw [div_W, hE, EReal.top_mul_coe_of_pos (by norm_num), EReal.top_add_coe]
    exact .inl ⟨this, by unfold scale; rw [this]; rfl⟩
  | coe a =>
    have ha : 0 ≤ a := by exact_mod_cast h
    have hv : 0 < a * (1 / 2048) + e := by positivity
    have e1 : var (a : EReal) = ((a * (1 / 2048) + e : ℝ) : EReal) := by
      unfold var
      rw [div_W, hE, EReal.coe_add, EReal.coe_mul]
    refine .inr ⟨_, (Real.sqrt (a * (1 / 2048) + e))⁻¹, e1, ?_, by positivity, hv.ne', ?_⟩
    · unfold scale
      rw [e1, Ideal.rsqrt_coe, if_neg (not_lt.mpr hv.le), if_neg hv.ne']
    · rw [← mul_inv, Real.mul_self_sqrt hv.le]
      exact (one_div _).symm

/-- A sum of products with a positive real number is the product of the sum. -/
theorem sum_mul_coe {ι : Type} (s : Finset ι) (f : ι → EReal) (r : ℝ) (hr : 0 < r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr.le) (EReal.coe_ne_top r)]

/-- Twice a product with a negative real number. -/
theorem double (z : EReal) (c : ℝ) (hc : c < 0) : z * (c : EReal) + z * (c : EReal) = z * ((2 * c : ℝ) : EReal) := by
  have h2 : 2 * c < 0 := by linarith
  induction z using EReal.rec with
  | bot => rw [EReal.bot_mul_coe_of_neg hc, EReal.bot_mul_coe_of_neg h2]; rfl
  | top => rw [EReal.top_mul_coe_of_neg hc, EReal.top_mul_coe_of_neg h2]; rfl
  | coe a => rw [← EReal.coe_mul, ← EReal.coe_mul, ← EReal.coe_add]; congr 1; ring

/-- A row's element of the gradient, as the kernel forms it: `a` is the derivative times the gain, `t` the row's sum. -/
def dNorm (q x a t res : EReal) : EReal := scale q * (a - (x * scale q) * Ideal.div t W) + res

/-- What the derivative of the root adds to each factor of the square. -/
def dRoot (q s : EReal) : EReal := Ideal.div (s * (H * Ideal.div (scale q) (var q))) W

/-- The two forms of the gradient are equal. -/
theorem dNorm_eq {n : ℕ} (q : EReal) (hq : 0 ≤ q) (x a : Fin n → EReal) (j : Fin n) (res : EReal) :
    dNorm q (x j) (a j) (∑ k, a k * (x k * scale q)) res
      = res + a j * scale q + x j * dRoot q (∑ k, x k * a k) + dRoot q (∑ k, x k * a k) * x j := by
  rcases scale_cases q hq with ⟨hv, hs⟩ | ⟨v, r, hv, hs, hr, hv0, hrr⟩
  · have : dRoot q (∑ k, x k * a k) = 0 := by
      unfold dRoot
      rw [hv, hs, div_W]
      simp [Ideal.div]
    unfold dNorm
    rw [this, hs]
    simp
  · have e1 : ∑ k, a k * (x k * scale q) = (∑ k, x k * a k) * (r : EReal) := by
      rw [hs, ← sum_mul_coe _ _ _ hr]
      exact Finset.sum_congr rfl fun k _ => by rw [← mul_assoc, mul_comm (a k)]
    have e2 : dRoot q (∑ k, x k * a k) = (∑ k, x k * a k) * ((-(1 / 2) * (r * (1 / v)) * (1 / 2048) : ℝ) : EReal) := by
      unfold dRoot
      rw [hs, hv, H_eq, div_W, Ideal.div_coe hv0, mul_assoc, ← EReal.coe_mul, ← EReal.coe_mul, ← EReal.coe_mul]
    generalize ∑ k, x k * a k = s at e1 e2
    have hc : (-(1 / 2) * (r * (1 / v)) * (1 / 2048) : ℝ) < 0 := by
      have : 0 < r * (1 / v) := by rw [← hrr]; positivity
      nlinarith
    have e3 : x j * (s * ((-(1 / 2) * (r * (1 / v)) * (1 / 2048) : ℝ) : EReal))
        + s * ((-(1 / 2) * (r * (1 / v)) * (1 / 2048) : ℝ) : EReal) * x j = (x j * s) * ((-(r * (r * r) * (1 / 2048)) : ℝ) : EReal) := by
      rw [mul_comm (s * _) (x j), ← mul_assoc, double _ _ hc]
      refine congrArg (fun c : ℝ => x j * s * (c : EReal)) ?_
      rw [← hrr]; ring
    have e4 : (r : EReal) * -((x j * (r : EReal)) * (s * (r : EReal) * ((1 / 2048 : ℝ) : EReal)))
        = (x j * s) * ((-(r * (r * r) * (1 / 2048)) : ℝ) : EReal) := by
      rw [EReal.coe_neg, EReal.coe_mul, EReal.coe_mul, EReal.coe_mul, mul_neg, mul_neg]
      refine congrArg Neg.neg ?_
      ac_rfl
    unfold dNorm
    rw [e1, e2, hs, div_W, sub_eq_add_neg, EReal.left_distrib_of_nonneg_of_ne_top (by exact_mod_cast hr.le) (EReal.coe_ne_top r), e4,
      add_assoc _ (x j * _), e3, mul_comm (r : EReal) (a j), add_comm _ res, add_assoc]

/-- A sum of squares is at least zero. -/
theorem sum_sq_nonneg {n : ℕ} (x : Fin n → EReal) : 0 ≤ ∑ k, x k * x k :=
  Finset.sum_nonneg fun k _ => by
    rcases le_total 0 (x k) with h | h
    · exact mul_nonneg h h
    · exact EReal.mul_nonneg_iff.mpr (.inr ⟨h, h⟩)

end Cert.NormMath
-- ==== Proof.Norm.lean ====
/-
The gradient of the norm before a block: of the row it normalises, with the derivative that passes the block by, and of its gain.

Grid point t holds 512 tokens. It writes the gradient of its rows, and adds to a running sum over the tokens the derivative times
the normalised row. The two arrays are those of differentiation, on all extended reals.
-/
module

public import proofs.«01_k».proof.Proof.Products
public import proofs.«01_k».proof.Proof.GateMath
public import proofs.«01_k».proof.Proof.NormMath
public import proofs.«01_k».proof.Proof.Gen.Kernel8Ideal.Value
public import proofs.«01_k».proof.Proof.Gen.Reference8Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.Norm

open Cert.Kernel8Ideal Cert.Kernel8Ideal.Gen Cert.Products Cert.GateMath Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The derivative of the normalised row. -/
abbrev dy (c : Dev nD) : S8192x2048.Idx → EReal := m ((c : Thread nD τ).loc main_arg0)
/-- The row. -/
abbrev xx (c : Dev nD) : S8192x2048.Idx → EReal := m ((c : Thread nD τ).loc main_arg1)
/-- The gain. -/
abbrev gn (c : Dev nD) : S2048.Idx → EReal := m ((c : Thread nD τ).loc main_arg2)
/-- The derivative that passes the block by. -/
abbrev dr (c : Dev nD) : S8192x2048.Idx → EReal := m ((c : Thread nD τ).loc main_arg3)

theorem V_dy (c : Dev nD) : V m c main_v0 = dy m c := by
  simp only [V, hostOps0, List.flatten_cons, List.flatten_nil, List.append_nil, List.cons_append, List.nil_append,
    TRef.binary, TRef.nullary, TRef.unary, TRef.toBuf, TRef.ofBuf, cast_eq]
  after_results <;> rfl

theorem V_gn (c : Dev nD) : V m c main_v1 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- A row's sum of squares. -/
def sq (x : Vec Ideal S512x2048 .f32) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- What the kernel scales a row by. -/
theorem scale_apply (x : Vec Ideal S512x2048 .f32) (r : Fin 512) : k0_pay4 x (ix2 r 0) = scale (sq x r) := by
  unfold k0_pay4
  exact congrArg (fun b : EReal => Ideal.rsqrt (Ideal.div b W + E)) (rowSum_apply (mulf x x) r)

/-- The normalised row. -/
theorem normal_apply (x : Vec Ideal S512x2048 .f32) (r : Fin 512) (n : Fin 2048) : k0_pay5 x (ix2 r n) = x (ix2 r n) * scale (sq x r) := by
  unfold k0_pay5
  show x (ix2 r n) * broadcastTo S512x2048 (k0_pay4 x) broadcasts_S512x1_S512x2048 (ix2 r n) = _
  rw [spread_apply, scale_apply]

/-- The derivative times the gain. -/
theorem gained_apply (d : Vec Ideal S512x2048 .bf16) (g : Vec Ideal S1x2048 .f32) (r : Fin 512) (n : Fin 2048) :
    mulf (k0_pay3 d) (broadcastTo S512x2048 (shapeCast S1x2048 g shapeCasts_S1x2048_S1x2048) broadcasts_S1x2048_S512x2048) (ix2 r n)
      = d (ix2 r n) * g (ix2 0 n) := by
  unfold k0_pay3
  rw [shapeCast_self, shapeCast_self]
  exact congrArg (fun b : EReal => d (ix2 r n) * b) (congrArg g (funext fun a => by fin_cases a <;> rfl))

/-- The gradient of a row, but for the derivative that passes by. -/
theorem grad_apply (x : Vec Ideal S512x2048 .f32) (d : Vec Ideal S512x2048 .bf16) (g : Vec Ideal S1x2048 .f32) (e : Vec Ideal S512x2048 .f32)
    (r : Fin 512) (n : Fin 2048) :
    k0_pay1 (k0_pay7 x d g) e (ix2 r n)
      = dNorm (sq x r) (x (ix2 r n)) (d (ix2 r n) * g (ix2 0 n))
          (∑ k : Fin 2048, d (ix2 r k) * g (ix2 0 k) * (x (ix2 r k) * scale (sq x r))) (e (ix2 r n)) := by
  unfold k0_pay1 k0_pay7 dNorm
  dsimp only
  refine congrArg (fun b : EReal => b + e (ix2 r n)) ?_
  refine congrArg₂ (fun a b : EReal => a * b) ((spread_apply _ r n).trans (scale_apply x r)) ?_
  refine congrArg₂ (fun a b : EReal => a - b) (gained_apply d g r n) (congrArg₂ (fun a b : EReal => a * b) (normal_apply x r n) ?_)
  refine (spread_apply _ r n).trans (congrArg (fun b : EReal => Ideal.div b W) ((rowSum_apply _ r).trans ?_))
  exact Finset.sum_congr rfl fun k _ => congrArg₂ (fun a b : EReal => a * b) (gained_apply d g r k) (normal_apply x r k)

/-- What a point adds to the gain's gradient. -/
def part (x : Vec Ideal S512x2048 .f32) (d : Vec Ideal S512x2048 .bf16) (n : Fin 2048) : EReal :=
  ∑ r : Fin 512, d (ix2 r n) * (x (ix2 r n) * scale (sq x r))

/-- A point adds to the running sum. -/
theorem step_apply (x : Vec Ideal S512x2048 .f32) (d : Vec Ideal S512x2048 .bf16) (a : Vec Ideal S1x2048 .f32) (n : Fin 2048) :
    k0_pay6 x d a (ix2 0 n) = a (ix2 0 n) + part x d n := by
  unfold k0_pay6
  rw [shapeCast_self]
  refine congrArg (fun b : EReal => a (ix2 0 n) + b) ?_
  refine (shapeCast_apply _ _ _ (ix1 n) ?_).trans ((Ideal.multiReduction_add_single _ _ _ _ _ _).trans ?_)
  · rw [Shape.rowMajor_val_one, Shape.rowMajor_val_two]
    show n.val = 0 * 2048 + n.val
    omega
  · refine Finset.sum_congr rfl fun r _ => ?_
    have e : reduces_S512x2048_S2048.lift (ix1 n) r = ix2 r n := funext fun a => by fin_cases a <;> rfl
    rw [e]
    refine congrArg₂ (fun a b : EReal => a * b) ?_ (normal_apply x r n)
    unfold k0_pay3
    rw [shapeCast_self]
    rfl

/-- The sum starts from zero. -/
theorem start_apply (y : S1x2048.Idx) : k0_pay2 (F := Ideal) y = 0 := Ideal.ofBits_zero_f32

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point: the derivative, the rows, the gain and the derivative that passes by. -/
abbrev b0 (c : Dev nD) (t : Fin cfg0.N) : Vec Ideal S512x2048 .bf16 := iblk m c 0 t
abbrev b1 (c : Dev nD) (t : Fin cfg0.N) : Vec Ideal S512x2048 .f32 := iblk m c 1 t
abbrev b2 (c : Dev nD) (t : Fin cfg0.N) : Vec Ideal S1x2048 .f32 := iblk m c 2 t
abbrev b3 (c : Dev nD) (t : Fin cfg0.N) : Vec Ideal S512x2048 .f32 := iblk m c 3 t

theorem in0 (c : Dev nD) (t : Fin cfg0.N) (r : Fin 512) (n : Fin 2048) : b0 m c t (ix2 r n) = dy m c (ix2 (tok t r) n) := by
  rw [← V_dy m c]
  blk_simp [iblk]
  refine congrArg (V m c main_v0) ?_
  blk_ext [at0]

theorem in1 (c : Dev nD) (t : Fin cfg0.N) (r : Fin 512) (n : Fin 2048) : b1 m c t (ix2 r n) = xx m c (ix2 (tok t r) n) := by
  rw [show xx m c = V m c main_arg1 from (V_main_arg1 m c).symm]
  blk_simp [iblk]
  refine congrArg (V m c main_arg1) ?_
  blk_ext [at1]

theorem in2 (c : Dev nD) (t : Fin cfg0.N) (n : Fin 2048) : b2 m c t (ix2 0 n) = gn m c (ix1 n) := by
  have e : V m c main_v1 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v1) ?_
  blk_ext [at2]

theorem in3 (c : Dev nD) (t : Fin cfg0.N) (r : Fin 512) (n : Fin 2048) : b3 m c t (ix2 r n) = dr m c (ix2 (tok t r) n) := by
  rw [show dr m c = V m c main_arg3 from (V_main_arg3 m c).symm]
  blk_simp [iblk]
  refine congrArg (V m c main_arg3) ?_
  blk_ext [at3]

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b1 m c t) r = sqs (xx m c) (tok t r) :=
  Finset.sum_congr rfl fun k _ => congrArg₂ (fun a b : EReal => a * b) (in1 m c t r k) (in1 m c t r k)

/-! ## The first result -/

/-- What the kernel leaves in its first result, at a token and a column. -/
def grad (c : Dev nD) (s : Fin 8192) (n : Fin 2048) : EReal :=
  dNorm (sqs (xx m c) s) (xx m c (ix2 s n)) (dy m c (ix2 s n) * gn m c (ix1 n))
    (∑ k : Fin 2048, dy m c (ix2 s k) * gn m c (ix1 k) * (xx m c (ix2 s k) * scale (sqs (xx m c) s))) (dr m c (ix2 s n))
/-- What the kernel leaves in its first result. -/
def G4 (c : Dev nD) (i : S8192x2048.Idx) : EReal := grad m c (i 0) (i 1)

theorem place4 (t : Fin cfg0.N) (y : S512x2048.Idx) : ((cfg0.win 4).blk t).view.emb y = ix2 (tok t (y 0)) (y 1) := by
  blk_ext [at4]

theorem out4 (c : Dev nD) (t : Fin cfg0.N) : (outsAt0 m c t.val t.isLt).1 = k0_pay1 (k0_pay7 (b1 m c t) (b0 m c t) (b2 m c t)) (b3 m c t) := by
  by_cases h : t.val % 16 = 0
  · rw [outsAt0_A m c t h]
    frame_out
  · rw [outsAt0_B m c t h]
    frame_out

/-- The sum over a row of the derivative times the gain times the normalised row. -/
theorem rowDot_eq (c : Dev nD) (t : Fin cfg0.N) (r : Fin 512) :
    ∑ k : Fin 2048, b0 m c t (ix2 r k) * b2 m c t (ix2 0 k) * (b1 m c t (ix2 r k) * scale (sq (b1 m c t) r))
      = ∑ k : Fin 2048, dy m c (ix2 (tok t r) k) * gn m c (ix1 k) * (xx m c (ix2 (tok t r) k) * scale (sqs (xx m c) (tok t r))) :=
  Finset.sum_congr rfl fun k _ => congrArg₂ (fun a b : EReal => a * b)
    (congrArg₂ (fun a b : EReal => a * b) (in0 m c t r k) (in2 m c t k))
    (congrArg₂ (fun a b : EReal => a * scale b) (in1 m c t r k) (sq_eq m c t r))

theorem block4 (c : Dev nD) (t : Fin cfg0.N) (r : Fin 512) (n : Fin 2048) :
    (outsAt0 m c t.val t.isLt).1 (ix2 r n) = grad m c (tok t r) n := by
  refine (congrFun (out4 m c t) (ix2 r n)).trans ((grad_apply _ _ _ _ r n).trans ?_)
  unfold grad
  rw [rowDot_eq, sq_eq, in0, in1, in2, in3]

theorem final4 (c : Dev nD) : (dats m 0 c).arrAt 4 cfg0.N = G4 m c := by
  refine (dats m 0 c).arrAt_eq_of_covers 4 _ (by decide +kernel) fun t hf y => ?_
  blk_simp
  rw [after0_4]
  refine Eq.trans ?_ (congrArg (G4 m c) (place4 t y).symm)
  exact (congrArg (outsAt0 m c t.val t.isLt).1 (ix2_eta y)).trans (block4 m c t (y 0) (y 1))

/-! ## The second result -/

/-- Point `s` of the run. -/
abbrev pt (s : Fin 16) : Fin cfg0.N := ⟨s.val, s.isLt⟩

/-- After the last point the running sum holds what all points added. -/
theorem sum_eq (c : Dev nD) (t : Fin cfg0.N) (ht : t.val % 16 = 15) (n : Fin 2048) :
    (outsAt0 m c t.val t.isLt).2 (ix2 0 n) = ∑ s : Fin 16, part (b1 m c (pt s)) (b0 m c (pt s)) n := by
  have h := Pipeline.eq_sum_fin_of_reset_step_apply_of_flush (fun n h k => (outsAt0 m c n h).2 (ix2 0 k)) 16 (fun _ => (0 : EReal))
    (fun t n => part (b1 m c t) (b0 m c t) n)
    (fun t h n => by
      show (outsAt0 m c t.val t.isLt).2 (ix2 0 n) = _
      rw [outsAt0_A m c t h]
      frame_out
      rw [step_apply, start_apply])
    (fun t h n => by
      show (outsAt0 m c t.val t.isLt).2 (ix2 0 n) = _
      rw [outsAt0_B m c t h]
      frame_out
      rw [step_apply]) t ht n
  rw [zero_add] at h
  refine h.trans (Finset.sum_congr rfl fun s _ => ?_)
  have e : (⟨16 * (t.val / 16) + s.val, Pipeline.run_point_lt_of_flush t ht s⟩ : Fin cfg0.N) = pt s :=
    Fin.ext (by have : t.val < 16 := t.isLt; show 16 * (t.val / 16) + s.val = s.val; omega)
  exact congrArg (fun t => part (b1 m c t) (b0 m c t) n) e

/-- What the kernel leaves in its second result. -/
def G5 (c : Dev nD) (i : S1x2048.Idx) : EReal :=
  ∑ s : Fin 8192, dy m c (ix2 s (i 1)) * (xx m c (ix2 s (i 1)) * scale (sqs (xx m c) s))

theorem run_sum (c : Dev nD) (n : Fin 2048) :
    ∑ s : Fin 16, part (b1 m c (pt s)) (b0 m c (pt s)) n
      = ∑ s : Fin 8192, dy m c (ix2 s n) * (xx m c (ix2 s n) * scale (sqs (xx m c) s)) := by
  refine Fin.sum_mul_add_congr fun s k hl => ?_
  show b0 m c (pt s) (ix2 k n) * (b1 m c (pt s) (ix2 k n) * scale (sq (b1 m c (pt s)) k)) = _
  rw [in0, in1, sq_eq]

theorem place5 (t : Fin cfg0.N) (y : S1x2048.Idx) : ((cfg0.win 5).blk t).view.emb y = y := by
  blk_ext [at5]

theorem final5 (c : Dev nD) : (dats m 0 c).arrAt 5 cfg0.N = G5 m c := by
  refine (dats m 0 c).arrAt_eq_of_covers 5 _ (by decide +kernel) fun t hf y => ?_
  have ht : t.val % 16 = 15 := (flush0_5 t).mp hf
  blk_simp
  rw [after0_5]
  refine Eq.trans ?_ (congrArg (G5 m c) (place5 t y).symm)
  have h0 : y = ix2 0 (y 1) := funext fun a => Fin.ext (by
    match a with
    | ⟨0, _⟩ => have : (y 0).val < 1 := (y 0).isLt; show (y 0).val = 0; omega
    | ⟨1, _⟩ => rfl)
  exact (congrArg (outsAt0 m c t.val t.isLt).2 h0).trans ((sum_eq m c t ht (y 1)).trans (run_sum m c (y 1)))

/-! ## The reference -/

section
open Cert.Reference8Ideal.Read
variable (d x e : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference8Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

theorem dot_apply (s : Fin 8192) : val_main_v24 (F := Ideal) d x g (ix2 s 0)
    = ∑ k : Fin 2048, x (ix2 s k) * (d (ix2 s k) * g (ix1 k)) := by
  rw [val_main_v24_apply, val_main_v23_apply]
  refine (congrArg (fun b : EReal => b + _) Ideal.ofBits_zero_f32).trans ((zero_add _).trans (Finset.sum_congr rfl fun k _ => ?_))
  have h : idx_main_v23 (idx_main_v24 (ix2 s 0)) k = ix2 s k := funext fun a => Fin.ext (by
    match a with
    | ⟨0, _⟩ => show s.val * 1 + 0 = s.val; omega
    | ⟨1, _⟩ => rfl)
  rw [h, val_main_v22_apply, val_main_v20_apply, val_main_v19_apply, val_main_v13_apply]
  exact congrArg (fun b : EReal => x (ix2 s k) * (d (ix2 s k) * b)) (congrArg g (funext fun a => by fin_cases a <;> rfl))

theorem dRoot_apply (s : Fin 8192) (n : Fin 2048) : val_main_v32 (F := Ideal) d x g (ix2 s n)
    = dRoot (sqs x s) (∑ k : Fin 2048, x (ix2 s k) * (d (ix2 s k) * g (ix1 k))) := by
  rw [val_main_v32_apply, val_main_v31_apply]
  refine (congrArg (fun b : EReal => b + _) Ideal.ofBits_zero_f32).trans ((zero_add _).trans ((Fin.sum_univ_one _).trans ?_))
  have h : idx_main_v31 (idx_main_v32 (ix2 s n)) 0 = ix2 s 0 := funext fun a => by fin_cases a <;> rfl
  rw [h, val_main_v30_apply, val_main_v28_apply, dot_apply, val_main_v10_apply, val_main_v8_apply, root_apply, var_apply, val_main_v9_apply,
    val_main_v29_apply]
  rfl

/-- The reference's gradient of the row. -/
theorem reference4_apply (s : Fin 8192) (n : Fin 2048) : val_main_v36 (F := Ideal) d x g e (ix2 s n)
    = e (ix2 s n) + d (ix2 s n) * g (ix1 n) * scale (sqs x s)
      + x (ix2 s n) * dRoot (sqs x s) (∑ k : Fin 2048, x (ix2 s k) * (d (ix2 s k) * g (ix1 k)))
      + dRoot (sqs x s) (∑ k : Fin 2048, x (ix2 s k) * (d (ix2 s k) * g (ix1 k))) * x (ix2 s n) := by
  have h1 : idx_main_v25 (ix2 s n) = ix2 s 0 := funext fun a => by fin_cases a <;> rfl
  have h2 : idx_main_v13 (idx_main_v19 (ix2 s n)) = ix1 n := funext fun a => by fin_cases a <;> rfl
  rw [val_main_v36_apply, val_main_v34_apply, val_main_v27_apply, val_main_v26_apply, val_main_v33_apply, val_main_v35_apply, dRoot_apply,
    val_main_v25_apply, h1, root_apply, val_main_v20_apply, val_main_v19_apply, val_main_v13_apply, h2]
  rfl

/-- The reference's gradient of the gain. -/
theorem reference5_apply (n : Fin 2048) : val_main_v37 (F := Ideal) d x (ix2 0 n)
    = ∑ s : Fin 8192, x (ix2 s n) * scale (sqs x s) * d (ix2 s n) := by
  rw [val_main_v37_apply, val_main_v21_apply]
  refine (congrArg (fun b : EReal => b + _) Ideal.ofBits_zero_f32).trans ((zero_add _).trans ((Fin.sum_univ_one _).trans ?_))
  rw [val_main_v18_apply, val_main_v17_apply]
  refine (congrArg (fun b : EReal => b + _) Ideal.ofBits_zero_f32).trans ((zero_add _).trans (Finset.sum_congr rfl fun s _ => ?_))
  have h : idx_main_v17 (idx_main_v18 (idx_main_v21 (idx_main_v37 (ix2 0 n)) 0)) s = ix2 s n := funext fun a => Fin.ext (by
    match a with
    | ⟨0, _⟩ => rfl
    | ⟨1, _⟩ => show 0 * 2048 + (0 * 2048 + n.val) = n.val; omega)
  have h1 : idx_main_v11 (ix2 s n) = ix2 s 0 := funext fun a => by fin_cases a <;> rfl
  rw [h, val_main_v16_apply, val_main_v12_apply, val_main_v11_apply, h1, root_apply]
  rfl
end

/-- The two first arrays are equal. -/
theorem result4 (c : Dev nD) :
    (G4 m c : S8192x2048.Idx → EReal) = Cert.Reference8Ideal.Read.val_main_v36 (F := Ideal) (dy m c) (xx m c) (gn m c) (dr m c) := by
  funext i
  obtain ⟨s, n, rfl⟩ : ∃ s n, i = ix2 s n := ⟨i 0, i 1, ix2_eta i⟩
  refine Eq.trans ?_ (reference4_apply (dy m c) (xx m c) (dr m c) (gn m c) s n).symm
  exact dNorm_eq (sqs (xx m c) s) (sum_sq_nonneg fun k => xx m c (ix2 s k)) (fun k => xx m c (ix2 s k))
    (fun k => dy m c (ix2 s k) * gn m c (ix1 k)) n (dr m c (ix2 s n))

/-- The two second arrays are equal. -/
theorem result5 (c : Dev nD) :
    (G5 m c : S1x2048.Idx → EReal) = Cert.Reference8Ideal.Read.val_main_v37 (F := Ideal) (dy m c) (xx m c) := by
  funext i
  have h0 : i = ix2 0 (i 1) := funext fun a => Fin.ext (by
    match a with
    | ⟨0, _⟩ => have : (i 0).val < 1 := (i 0).isLt; show (i 0).val = 0; omega
    | ⟨1, _⟩ => rfl)
  refine Eq.trans ?_ ((congrArg (Cert.Reference8Ideal.Read.val_main_v37 (F := Ideal) (dy m c) (xx m c)) h0).trans
    (reference5_apply (dy m c) (xx m c) (i 1))).symm
  exact Finset.sum_congr rfl fun s _ => mul_comm _ _

/-- The claim: the two programs leave the same two arrays. -/
theorem equal : Cert.algebraic_Kernel8Ideal_Reference8Ideal := fun m g m' g' _ hag =>
  ⟨fun c => G4 m c, fun c => G5 m c,
    (θ_run _ _ _).mono (fun _ h c => ⟨(h c).1.trans (final4 m c), (h c).2.1.trans (final5 m c), (h c).2.2⟩)
      (Cert.Kernel8Ideal.Value.run_blocks m g),
    (θ_run _ _ _).mono (fun _ h c => ⟨(h c).1.trans (by
        rw [Cert.Reference8Ideal.Read.val_main_v36_eq, (hag c).1, (hag c).2.1, (hag c).2.2.1, (hag c).2.2.2]
        exact (result4 m c).symm), (h c).2.1.trans (by
        rw [Cert.Reference8Ideal.Read.val_main_v37_eq, (hag c).1, (hag c).2.1]
        exact (result5 m c).symm), (h c).2.2⟩)
      (Cert.Reference8Ideal.Value.run m' g')⟩

end Cert.Norm
-- ==== Proof.Columns.lean ====
/-
The columns of the mixer's input projection.

The host lays the projection's 5648 columns out in another order, with 496 columns of zeros after them. `spread` is that
layout as a function; a sum over its 6144 columns is a sum over the 5648.
-/
module

public import Idealize.ShloMosaic.Lib.Pipeline.Value
public import Idealize.ShloMosaic.Lib.KernelVsHost
public import Idealize.ShloMosaic.Lib.ValueIdx
public import Idealize.ShloMosaic.PureOps.Ideal.Laws
public import Idealize.ShloMosaic.Lib.Pipeline.ValueKit.Acc
public import Idealize.ShloMosaic.Lib.Pipeline.ValueKit.Geometry

@[expose] public section

set_option maxRecDepth 16384

noncomputable section

namespace Cert.Columns

open Idealize.ShloMosaic Idealize.ShloMosaic.ValueIdx
open scoped BigOperators

/-- The column of the projection that lies at column `j` of the layout. -/
def source (j : ℕ) : ℕ :=
  if j < 2048 then j + 1536 else if j < 3072 then j - 2048 else if j < 5120 then j + 512 else if j < 5632 then j - 4096 else j

theorem source_lt (j : ℕ) (h : j < 5648) : source j < 5648 := by unfold source; split_ifs <;> omega

/-- Two columns of the layout hold two columns of the projection. -/
theorem source_inj (j k : ℕ) (hj : j < 5648) (hk : k < 5648) (h : source j = source k) : j = k := by
  unfold source at h
  split_ifs at h <;> omega

/-- Column `j` of the projection, as an index. -/
abbrev at' (j : ℕ) (h : j < 5648) : Fin 5648 := ⟨source j, source_lt j h⟩

variable {R : ℕ}

/-- A matrix with its columns laid out, and zeros after them. -/
def spread (w : (⟨2, ![R, 5648]⟩ : Shape).Idx → EReal) (i : (⟨2, ![R, 6144]⟩ : Shape).Idx) : EReal :=
  if h : (i 1).val < 5648 then w (ix2 (i 0) (at' (i 1).val h)) else 0

theorem spread_of_lt (w : (⟨2, ![R, 5648]⟩ : Shape).Idx → EReal) (i : (⟨2, ![R, 6144]⟩ : Shape).Idx) (h : (i 1).val < 5648) :
    spread w i = w (ix2 (i 0) (at' (i 1).val h)) := dif_pos h
theorem spread_of_not (w : (⟨2, ![R, 5648]⟩ : Shape).Idx → EReal) (i : (⟨2, ![R, 6144]⟩ : Shape).Idx) (h : ¬(i 1).val < 5648) :
    spread w i = 0 := dif_neg h

/-- A sum over the layout's columns, zero after the 5648th, is a sum over the projection's. -/
theorem sum_source (f : Fin 5648 → EReal) : (∑ j : Fin 6144, if h : j.val < 5648 then f (at' j.val h) else 0) = ∑ l : Fin 5648, f l := by
  rw [show (6144 : ℕ) = 5648 + 496 from rfl, Fin.sum_univ_add]
  have e : ∀ j : Fin 496, (if h : (Fin.natAdd 5648 j).val < 5648 then f (at' (Fin.natAdd 5648 j).val h) else 0) = 0 :=
    fun j => dif_neg (by show ¬(5648 + j.val < 5648); omega)
  rw [Finset.sum_congr rfl fun j _ => e j, Finset.sum_const_zero, add_zero]
  have inj : Function.Injective fun j : Fin 5648 => at' j.val j.isLt := fun j k h =>
    Fin.ext (source_inj _ _ j.isLt k.isLt (congrArg Fin.val h))
  refine Eq.trans (Finset.sum_congr rfl fun j _ => dif_pos j.isLt) ?_
  exact (Finite.injective_iff_bijective.mp inj).sum_comp f

/-- The host's half-precision zeros are zero. -/
theorem zero_half {S : Shape} (h : (⟨0, ![]⟩ : Shape).BroadcastsInDim S ![]) (i : S.Idx) :
    broadcastInDim S ![] h (constant (F := Ideal) ⟨0, ![]⟩ .bf16 0x0000#16) i = 0 := by
  show Ideal.ofBits .bf16 0x0000#16 = 0
  simp [Ideal.ofBits, Ideal.ieee]

/-- One slice of the layout: the columns from `off` on, at `pre`. -/
theorem slice_apply {α : Type} (w : (⟨2, ![R, 5648]⟩ : Shape).Idx → α) (xs : List ((s : Shape) × (s.Idx → α))) (n off pre k : ℕ)
    (hs : (⟨2, ![R, 5648]⟩ : Shape).Slices ![0, off] ⟨2, ![R, n]⟩) (h : Shape.Concatenates (xs.map (·.1)) ⟨2, ![R, 6144]⟩ 1)
    (hk : k < xs.length) (hx : xs[k] = ⟨⟨2, ![R, n]⟩, extractStridedSlice ⟨2, ![R, n]⟩ ![0, off] w hs⟩)
    (hpre : (((xs.take k).map (·.1)).map fun s => if h : s.rank = 2 then s.size ((1 : Fin 2).cast h.symm) else 0).sum = pre)
    (i : (⟨2, ![R, 6144]⟩ : Shape).Idx) (lo : pre ≤ (i 1).val) (hi : (i 1).val < pre + n) (l : Fin 5648)
    (hl : l.val = off + ((i 1).val - pre)) : concatenate ⟨2, ![R, 6144]⟩ 1 xs h i = w (ix2 (i 0) l) := by
  refine (concatenate_apply_piece 1 xs h i k hk _ _ hx rfl pre hpre (ix2 (i 0) ⟨(i 1).val - pre, by omega⟩) ?_ ?_).trans ?_
  · intro b hb
    match b with
    | ⟨0, _⟩ => rfl
    | ⟨1, _⟩ => exact absurd rfl hb
  · show pre + ((i 1).val - pre) = (i 1).val
    omega
  · refine extractStridedSlice_apply _ _ _ _ _ fun a => ?_
    match a with
    | ⟨0, _⟩ => exact (Nat.zero_add _).symm
    | ⟨1, _⟩ => exact hl

/-- The host's layout: eight slices, and zeros. -/
theorem spread_host (w : (⟨2, ![R, 5648]⟩ : Shape).Idx → EReal) (z : (⟨2, ![R, 496]⟩ : Shape).Idx → EReal) (hz : ∀ i, z i = 0)
    (s0 : (⟨2, ![R, 5648]⟩ : Shape).Slices ![0, 1536] ⟨2, ![R, 1024]⟩)
    (s1 : (⟨2, ![R, 5648]⟩ : Shape).Slices ![0, 2560] ⟨2, ![R, 1024]⟩)
    (s2 : (⟨2, ![R, 5648]⟩ : Shape).Slices ![0, 0] ⟨2, ![R, 1024]⟩)
    (s3 : (⟨2, ![R, 5648]⟩ : Shape).Slices ![0, 3584] ⟨2, ![R, 1024]⟩)
    (s4 : (⟨2, ![R, 5648]⟩ : Shape).Slices ![0, 4608] ⟨2, ![R, 1024]⟩)
    (s5 : (⟨2, ![R, 5648]⟩ : Shape).Slices ![0, 1024] ⟨2, ![R, 256]⟩)
    (s6 : (⟨2, ![R, 5648]⟩ : Shape).Slices ![0, 1280] ⟨2, ![R, 256]⟩)
    (s7 : (⟨2, ![R, 5648]⟩ : Shape).Slices ![0, 5632] ⟨2, ![R, 16]⟩)
    (h : Shape.Concatenates [⟨2, ![R, 1024]⟩, ⟨2, ![R, 1024]⟩, ⟨2, ![R, 1024]⟩, ⟨2, ![R, 1024]⟩, ⟨2, ![R, 1024]⟩, ⟨2, ![R, 256]⟩,
      ⟨2, ![R, 256]⟩, ⟨2, ![R, 16]⟩, ⟨2, ![R, 496]⟩] ⟨2, ![R, 6144]⟩ 1) :
    concatenate ⟨2, ![R, 6144]⟩ 1 [⟨⟨2, ![R, 1024]⟩, extractStridedSlice ⟨2, ![R, 1024]⟩ ![0, 1536] w s0⟩,
      ⟨⟨2, ![R, 1024]⟩, extractStridedSlice ⟨2, ![R, 1024]⟩ ![0, 2560] w s1⟩,
      ⟨⟨2, ![R, 1024]⟩, extractStridedSlice ⟨2, ![R, 1024]⟩ ![0, 0] w s2⟩,
      ⟨⟨2, ![R, 1024]⟩, extractStridedSlice ⟨2, ![R, 1024]⟩ ![0, 3584] w s3⟩,
      ⟨⟨2, ![R, 1024]⟩, extractStridedSlice ⟨2, ![R, 1024]⟩ ![0, 4608] w s4⟩,
      ⟨⟨2, ![R, 256]⟩, extractStridedSlice ⟨2, ![R, 256]⟩ ![0, 1024] w s5⟩,
      ⟨⟨2, ![R, 256]⟩, extractStridedSlice ⟨2, ![R, 256]⟩ ![0, 1280] w s6⟩,
      ⟨⟨2, ![R, 16]⟩, extractStridedSlice ⟨2, ![R, 16]⟩ ![0, 5632] w s7⟩,
      ⟨⟨2, ![R, 496]⟩, z⟩] h = spread w := by
  funext i
  by_cases hi : (i 1).val < 5648
  · rw [spread_of_lt w i hi]
    by_cases c0 : (i 1).val < 1024
    · exact slice_apply w _ 1024 1536 0 0 s0 _ (by show 0 < 9; decide) rfl rfl i (by omega) c0 _ (by show source _ = _; unfold source; split_ifs <;> omega)
    by_cases c1 : (i 1).val < 2048
    · exact slice_apply w _ 1024 2560 1024 1 s1 _ (by show 1 < 9; decide) rfl rfl i (by omega) c1 _ (by show source _ = _; unfold source; split_ifs <;> omega)
    by_cases c2 : (i 1).val < 3072
    · exact slice_apply w _ 1024 0 2048 2 s2 _ (by show 2 < 9; decide) rfl rfl i (by omega) c2 _ (by show source _ = _; unfold source; split_ifs <;> omega)
    by_cases c3 : (i 1).val < 4096
    · exact slice_apply w _ 1024 3584 3072 3 s3 _ (by show 3 < 9; decide) rfl rfl i (by omega) c3 _ (by show source _ = _; unfold source; split_ifs <;> omega)
    by_cases c4 : (i 1).val < 5120
    · exact slice_apply w _ 1024 4608 4096 4 s4 _ (by show 4 < 9; decide) rfl rfl i (by omega) c4 _ (by show source _ = _; unfold source; split_ifs <;> omega)
    by_cases c5 : (i 1).val < 5376
    · exact slice_apply w _ 256 1024 5120 5 s5 _ (by show 5 < 9; decide) rfl rfl i (by omega) c5 _ (by show source _ = _; unfold source; split_ifs <;> omega)
    by_cases c6 : (i 1).val < 5632
    · exact slice_apply w _ 256 1280 5376 6 s6 _ (by show 6 < 9; decide) rfl rfl i (by omega) c6 _ (by show source _ = _; unfold source; split_ifs <;> omega)
    by_cases c7 : (i 1).val < 5648
    · exact slice_apply w _ 16 5632 5632 7 s7 _ (by show 7 < 9; decide) rfl rfl i (by omega) c7 _ (by show source _ = _; unfold source; split_ifs <;> omega)
    · omega
  · rw [spread_of_not w i hi]
    have h6 : (i 1).val < 6144 := (i 1).isLt
    refine (concatenate_apply_piece 1 _ _ i 8 (by show 8 < 9; decide) ⟨2, ![R, 496]⟩ z rfl rfl 5648 rfl
      (ix2 (i 0) ⟨(i 1).val - 5648, by omega⟩) ?_ ?_).trans (hz _)
    · intro b hb
      match b with
      | ⟨0, _⟩ => rfl
      | ⟨1, _⟩ => exact absurd rfl hb
    · exact Nat.add_sub_cancel' (Nat.le_of_not_lt hi)

end Cert.Columns
-- ==== Proof.ProjectWeight.lean ====
/-
The gradient of the mixer's input projection in its weight: the normalised input, transposed, times the derivative of the
projection.

Grid point (i, j, s) adds to a running 1024 by 1024 sum the product of 1024 tokens of the input, transposed, with the same
tokens of the derivative, whose columns the host has laid out. After the eight token blocks the sum is written back. The
reference's gradient has its columns laid out the same way; no condition is put on the arguments.
-/
module

public import proofs.«01_k».proof.Proof.Products
public import proofs.«01_k».proof.Proof.Columns
public import proofs.«01_k».proof.Proof.GateMath
public import proofs.«01_k».proof.Proof.Gen.Kernel9Ideal.Value
public import proofs.«01_k».proof.Proof.Gen.Reference9Ideal.Read
public import proofs.«01_k».proof.Defs
public import Idealize.ShloMosaic.Lib.Pipeline.ValueKit.Acc

@[expose] public section

set_option maxRecDepth 16384

noncomputable section

namespace Cert.ProjectWeight

open Cert.Kernel9Ideal Cert.Kernel9Ideal.Gen Cert.Products Cert.Columns Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The normalised input. -/
abbrev xn (c : Dev nD) : S8192x2048.Idx → EReal := m ((c : Thread nD τ).loc main_arg0)
/-- The derivative of the projection. -/
abbrev dp (c : Dev nD) : (⟨2, ![8192, 5648]⟩ : Shape).Idx → EReal := m ((c : Thread nD τ).loc main_arg1)

theorem V_xn (c : Dev nD) : V m c main_v0 = xn m c := by
  simp only [V, hostOps0, List.flatten_cons, List.flatten_nil, List.append_nil, List.cons_append, List.nil_append,
    TRef.binary, TRef.nullary, TRef.unary, TRef.toBuf, TRef.ofBuf, cast_eq]
  after_results <;> rfl

theorem V_dp (c : Dev nD) : V m c main_v11 = spread (dp m c) := by
  refine Eq.trans ?_ (spread_host (dp m c) (broadcastInDim S8192x496 ![] bcast_S_S8192x496 (constant (F := Ideal) S_ .bf16 0x0000#16))
    (zero_half bcast_S_S8192x496) slices_S8192x5648_S8192x1024_0_1536 slices_S8192x5648_S8192x1024_0_2560 slices_S8192x5648_S8192x1024_0_0
    slices_S8192x5648_S8192x1024_0_3584 slices_S8192x5648_S8192x1024_0_4608 slices_S8192x5648_S8192x256_0_1024 slices_S8192x5648_S8192x256_0_1280
    slices_S8192x5648_S8192x16_0_5632 concatenates_S8192x1024_S8192x1024_S8192x1024_S8192x1024_S8192x1024_S8192x256_S8192x256_S8192x16_S8192x496_S8192x6144_d1)
  simp only [V, hostOps0, List.flatten_cons, List.flatten_nil, List.append_nil, List.cons_append, List.nil_append,
    TRef.binary, TRef.nullary, TRef.unary, TRef.toBuf, TRef.ofBuf, cast_eq]
  after_results <;> rfl

/-- What a step adds: the product of the point's blocks. -/
def part (x : Vec Ideal S1024x1024 .bf16) (w : Vec Ideal S1024x1024 .bf16) (y : S1024x1024.Idx) : EReal :=
  ∑ k : Fin 1024, x (ix2 k (y 0)) * w (ix2 k (y 1))

/-- A step adds the product to the running sum. -/
theorem step_apply (a : Vec Ideal S1024x1024 .f32) (x : Vec Ideal S1024x1024 .bf16) (w : Vec Ideal S1024x1024 .bf16)
    (y : S1024x1024.Idx) : k0_pay2 a x w y = a y + part x w y := by
  rw [ix2_eta y]
  unfold k0_pay2 part
  rw [shapeCast_self, shapeCast_self, shapeCast_self]
  exact rows_step a x w _ _

/-- A run starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val % 8, t.val / 48] := (by decide +kernel : ∀ t : Fin grid0.N, _)
theorem at1 : ∀ t : Fin cfg0.N, win0_1.index t = ![t.val % 8, t.val / 8 % 6] := (by decide +kernel : ∀ t : Fin grid0.N, _)
theorem at2 : ∀ t : Fin cfg0.N, win0_2.index t = ![t.val / 48, t.val / 8 % 6] := (by decide +kernel : ∀ t : Fin grid0.N, _)

/-- Token `k` of point `t`. -/
abbrev tok (t : Fin cfg0.N) (k : Fin 1024) : Fin 8192 := ⟨t.val % 8 * 1024 + k.val, by omega⟩
/-- Row `r` of the result at point `t`. -/
abbrev row (t : Fin cfg0.N) (r : Fin 1024) : Fin 2048 := ⟨t.val / 48 * 1024 + r.val, by have : t.val < 96 := t.isLt; omega⟩
/-- Column `n` of the result at point `t`. -/
abbrev col (t : Fin cfg0.N) (n : Fin 1024) : Fin 6144 := ⟨t.val / 8 % 6 * 1024 + n.val, by omega⟩

/-- The first operand's block at a point. -/
abbrev lhs (c : Dev nD) (t : Fin cfg0.N) : Vec Ideal S1024x1024 .bf16 := iblk m c 0 t
/-- The second operand's block at a point. -/
abbrev rhs (c : Dev nD) (t : Fin cfg0.N) : Vec Ideal S1024x1024 .bf16 := iblk m c 1 t

theorem in0 (c : Dev nD) (t : Fin cfg0.N) (k r : Fin 1024) : lhs m c t (ix2 k r) = xn m c (ix2 (tok t k) (row t r)) := by
  rw [← V_xn m c]
  blk_simp [iblk]
  refine congrArg (V m c main_v0) ?_
  blk_ext [at0]

theorem in1 (c : Dev nD) (t : Fin cfg0.N) (k n : Fin 1024) :
    rhs m c t (ix2 k n) = spread (dp m c) (ix2 (tok t k) (col t n)) := by
  rw [← V_dp m c]
  blk_simp [iblk]
  refine congrArg (V m c main_v11) ?_
  blk_ext [at1]

/-- Point `s` of the run of point `t`. -/
abbrev pt (t : Fin cfg0.N) (s : Fin 8) : Fin cfg0.N :=
  ⟨8 * (t.val / 8) + s.val, by have : t.val < 96 := t.isLt; show _ < 96; omega⟩

/-- What point `t` adds. -/
abbrev added (c : Dev nD) (t : Fin cfg0.N) (y : S1024x1024.Idx) : EReal := part (lhs m c t) (rhs m c t) y

/-- After the last point of a run the running sum holds what its points added. -/
theorem sum_eq (c : Dev nD) (t : Fin cfg0.N) (ht : t.val % 8 = 7) (y : S1024x1024.Idx) :
    (outsAt0 m c t.val t.isLt).2 y = ∑ s : Fin 8, added m c (pt t s) y := by
  have h := Pipeline.eq_sum_fin_of_reset_step_apply_of_flush (fun n h => (outsAt0 m c n h).2) 8 (fun _ => (0 : EReal)) (added m c)
    (fun t h y => by
      show (outsAt0 m c t.val t.isLt).2 y = _
      rw [outsAt0_A m c t h (by omega)]
      frame_out
      rw [step_apply, start_apply])
    (fun t h y => by
      show (outsAt0 m c t.val t.isLt).2 y = _
      by_cases h7 : t.val % 8 = 7
      · rw [outsAt0_C m c t h h7]
        frame_out
        rw [step_apply]
        exact congrArg (· + added m c t y) (congrFun (Memref.IsWhole.read_unread _ _) y)
      · rw [outsAt0_B m c t h h7]
        frame_out
        rw [step_apply]
        exact congrArg (· + added m c t y) (congrFun (Memref.IsWhole.read_unread _ _) y)) t ht y
  rw [zero_add] at h
  exact h

/-- The block written back is the sum. -/
theorem out_eq (c : Dev nD) (t : Fin cfg0.N) (ht : t.val % 8 = 7) (y : S1024x1024.Idx) :
    (outsAt0 m c t.val t.isLt).1 y = (outsAt0 m c t.val t.isLt).2 y := by
  rw [outsAt0_C m c t (by omega) ht]
  frame_out

/-- What the kernel leaves in its result. -/
def G (c : Dev nD) (i : S2048x6144.Idx) : EReal := ∑ s : Fin 8192, xn m c (ix2 s (i 0)) * spread (dp m c) (ix2 s (i 1))

/-- Where an index of the block of point `t` lies in the result. -/
abbrev place (t : Fin cfg0.N) (y : S1024x1024.Idx) : S2048x6144.Idx := ix2 (row t (y 0)) (col t (y 1))

theorem place2 (t : Fin cfg0.N) (y : S1024x1024.Idx) : ((cfg0.win 2).blk t).view.emb y = place t y := by
  blk_ext [at2]

/-- Every point of a run lies at the same place, over its own tokens. -/
theorem row_pt (t : Fin cfg0.N) (s : Fin 8) (r : Fin 1024) : row (pt t s) r = row t r :=
  Fin.ext (by have := s.isLt; show (8 * (t.val / 8) + s.val) / 48 * 1024 + r.val = t.val / 48 * 1024 + r.val; omega)
theorem col_pt (t : Fin cfg0.N) (s : Fin 8) (n : Fin 1024) : col (pt t s) n = col t n :=
  Fin.ext (by have := s.isLt; show (8 * (t.val / 8) + s.val) / 8 % 6 * 1024 + n.val = t.val / 8 % 6 * 1024 + n.val; omega)
theorem tok_pt (t : Fin cfg0.N) (s : Fin 8) (k : Fin 1024) (h : s.val * 1024 + k.val < 8192) : tok (pt t s) k = ⟨s.val * 1024 + k.val, h⟩ :=
  Fin.ext (by have := s.isLt; show (8 * (t.val / 8) + s.val) % 8 * 1024 + k.val = s.val * 1024 + k.val; omega)

/-- What the eight points of a run add up to. -/
theorem run_sum (c : Dev nD) (t : Fin cfg0.N) (y : S1024x1024.Idx) : ∑ s : Fin 8, added m c (pt t s) y = G m c (place t y) := by
  refine Fin.sum_mul_add_congr fun s k hl => ?_
  refine congrArg₂ (fun a b : EReal => a * b) ((in0 m c (pt t s) k (y 0)).trans ?_) ((in1 m c (pt t s) k (y 1)).trans ?_)
  · exact congrArg₂ (fun s r => xn m c (ix2 s r)) (tok_pt t s k hl) (row_pt t s (y 0))
  · exact congrArg₂ (fun s n => spread (dp m c) (ix2 s n)) (tok_pt t s k hl) (col_pt t s (y 1))

/-- The result's array after the run. -/
theorem final (c : Dev nD) : (dats m 0 c).arrAt 2 cfg0.N = G m c := by
  refine (dats m 0 c).arrAt_eq_of_covers 2 _ (by decide +kernel) fun t hf y => ?_
  have ht : t.val % 8 = 7 := (flush0_2 t).mp hf
  blk_simp
  rw [after0_2]
  exact (out_eq m c t ht y).trans ((sum_eq m c t ht y).trans ((run_sum m c t y).trans (congrArg (G m c) (place2 t y).symm)))

/-- The reference's gradient, before its columns are laid out. -/
theorem gradient_apply (x : S8192x2048.Idx → EReal) (d : (⟨2, ![8192, 5648]⟩ : Shape).Idx → EReal) (r : Fin 2048) (l : Fin 5648) :
    Cert.Reference9Ideal.Read.val_main_v3 (F := Ideal) x d (ix2 r l) = ∑ s : Fin 8192, d (ix2 s l) * x (ix2 s r) := by
  rw [Cert.Reference9Ideal.Read.val_main_v3_apply, Cert.Reference9Ideal.Read.val_main_v2_apply]
  refine Finset.sum_congr rfl fun k _ => congrArg₂ (· * ·) (congrArg d ?_) (congrArg x ?_) <;>
  exact funext fun a => by fin_cases a <;> rfl

/-- The reference lays out its gradient's columns. -/
theorem reference_spread (x : S8192x2048.Idx → EReal) (d : (⟨2, ![8192, 5648]⟩ : Shape).Idx → EReal) :
    (Cert.Reference9Ideal.Read.val_main_v13 (F := Ideal) x d : S2048x6144.Idx → EReal) = spread (Cert.Reference9Ideal.Read.val_main_v3 (F := Ideal) x d) :=
  spread_host (Cert.Reference9Ideal.Read.val_main_v3 (F := Ideal) x d) (Cert.Reference9Ideal.Read.val_main_v12 (F := Ideal)) (fun _ => Ideal.ofBits_zero_f32)
    _ _ _ _ _ _ _ _ _

/-- The kernel's array is the reference's. -/
theorem result (c : Dev nD) : (G m c : S2048x6144.Idx → EReal) = Cert.Reference9Ideal.Read.val_main_v13 (F := Ideal) (xn m c) (dp m c) := by
  rw [reference_spread]
  funext i
  obtain ⟨r, n, rfl⟩ : ∃ (r : Fin 2048) (n : Fin 6144), i = ix2 r n := ⟨i 0, i 1, ix2_eta i⟩
  by_cases h : n.val < 5648
  · refine Eq.trans ?_ ((spread_of_lt _ (ix2 r n) h).trans (gradient_apply (xn m c) (dp m c) r (at' n.val h))).symm
    exact Finset.sum_congr rfl fun s _ => (congrArg (xn m c (ix2 s r) * ·) (spread_of_lt (dp m c) (ix2 s n) h)).trans (mul_comm _ _)
  · refine Eq.trans ?_ (spread_of_not _ (ix2 r n) h).symm
    exact Finset.sum_eq_zero fun s _ => (congrArg (xn m c (ix2 s r) * ·) (spread_of_not (dp m c) (ix2 s n) h)).trans (mul_zero _)

/-- The claim: the two programs leave the same array. -/
theorem equal : Cert.algebraic_Kernel9Ideal_Reference9Ideal := fun m g m' g' _ hag =>
  ⟨fun c => G m c,
    (θ_run _ _ _).mono (fun _ h c => ⟨(h c).1.trans (final m c), (h c).2⟩) (Cert.Kernel9Ideal.Value.run_blocks m g),
    (θ_run _ _ _).mono (fun _ h c => ⟨(h c).1.trans (by
        rw [Cert.Reference9Ideal.Read.val_main_v13_eq, (hag c).1, (hag c).2]
        exact (result m c).symm), (h c).2⟩)
      (Cert.Reference9Ideal.Value.run m' g')⟩

end Cert.ProjectWeight
-- ==== Proof.ProjectInput.lean ====
/-
The gradient of the mixer's input projection in its argument: the derivative of the projection times the weight, transposed.

The host lays the columns of both out alike and puts columns of zeros after them. Grid point (i, j, s) adds to a running 1024
by 1024 sum the product of 2048 of these columns; after the three column blocks the sum is written back. The kernel's array is
the reference's, with no condition on the arguments.
-/
module

public import proofs.«01_k».proof.Proof.Products
public import proofs.«01_k».proof.Proof.Columns
public import proofs.«01_k».proof.Proof.GateMath
public import proofs.«01_k».proof.Proof.Gen.Kernel10Ideal.Value
public import proofs.«01_k».proof.Proof.Gen.Reference10Ideal.Read
public import proofs.«01_k».proof.Defs
public import Idealize.ShloMosaic.Lib.Pipeline.ValueKit.Acc

@[expose] public section

set_option maxRecDepth 16384

noncomputable section

namespace Cert.ProjectInput

open Cert.Kernel10Ideal Cert.Kernel10Ideal.Gen Cert.Products Cert.Columns Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The derivative of the projection. -/
abbrev dp (c : Dev nD) : (⟨2, ![8192, 5648]⟩ : Shape).Idx → EReal := m ((c : Thread nD τ).loc main_arg0)
/-- The projection's weight. -/
abbrev wi (c : Dev nD) : (⟨2, ![2048, 5648]⟩ : Shape).Idx → EReal := m ((c : Thread nD τ).loc main_arg1)

theorem V_dp (c : Dev nD) : V m c main_v10 = spread (dp m c) := by
  refine Eq.trans ?_ (spread_host (dp m c) (broadcastInDim S8192x496 ![] bcast_S_S8192x496 (constant (F := Ideal) S_ .bf16 0x0000#16))
    (zero_half bcast_S_S8192x496) slices_S8192x5648_S8192x1024_0_1536 slices_S8192x5648_S8192x1024_0_2560 slices_S8192x5648_S8192x1024_0_0
    slices_S8192x5648_S8192x1024_0_3584 slices_S8192x5648_S8192x1024_0_4608 slices_S8192x5648_S8192x256_0_1024 slices_S8192x5648_S8192x256_0_1280
    slices_S8192x5648_S8192x16_0_5632 concatenates_S8192x1024_S8192x1024_S8192x1024_S8192x1024_S8192x1024_S8192x256_S8192x256_S8192x16_S8192x496_S8192x6144_d1)
  simp only [V, hostOps0, List.flatten_cons, List.flatten_nil, List.append_nil, List.cons_append, List.nil_append,
    TRef.binary, TRef.nullary, TRef.unary, TRef.toBuf, TRef.ofBuf, cast_eq]
  after_results <;> rfl

theorem V_wi (c : Dev nD) : V m c main_v21 = spread (wi m c) := by
  refine Eq.trans ?_ (spread_host (wi m c) (broadcastInDim S2048x496 ![] bcast_S_S2048x496 (constant (F := Ideal) S_ .bf16 0x0000#16))
    (zero_half bcast_S_S2048x496) slices_S2048x5648_S2048x1024_0_1536 slices_S2048x5648_S2048x1024_0_2560 slices_S2048x5648_S2048x1024_0_0
    slices_S2048x5648_S2048x1024_0_3584 slices_S2048x5648_S2048x1024_0_4608 slices_S2048x5648_S2048x256_0_1024 slices_S2048x5648_S2048x256_0_1280
    slices_S2048x5648_S2048x16_0_5632 concatenates_S2048x1024_S2048x1024_S2048x1024_S2048x1024_S2048x1024_S2048x256_S2048x256_S2048x16_S2048x496_S2048x6144_d1)
  simp only [V, hostOps0, List.flatten_cons, List.flatten_nil, List.append_nil, List.cons_append, List.nil_append,
    TRef.binary, TRef.nullary, TRef.unary, TRef.toBuf, TRef.ofBuf, cast_eq]
  after_results <;> rfl

/-- What a step adds: the product of the point's blocks. -/
def part (x : Vec Ideal S1024x2048 .bf16) (w : Vec Ideal S1024x2048 .bf16) (y : S1024x1024.Idx) : EReal :=
  ∑ k : Fin 2048, x (ix2 (y 0) k) * w (ix2 (y 1) k)

/-- A step adds the product to the running sum. -/
theorem step_apply (a : Vec Ideal S1024x1024 .f32) (x : Vec Ideal S1024x2048 .bf16) (w : Vec Ideal S1024x2048 .bf16)
    (y : S1024x1024.Idx) : k0_pay2 a x w y = a y + part x w y := by
  rw [ix2_eta y]
  unfold k0_pay2 part
  rw [shapeCast_self, shapeCast_self, shapeCast_self]
  exact transposed_step a x w _ _

/-- A run starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val / 6, t.val % 3] := (by decide +kernel : ∀ t : Fin grid0.N, _)
theorem at1 : ∀ t : Fin cfg0.N, win0_1.index t = ![t.val / 3 % 2, t.val % 3] := (by decide +kernel : ∀ t : Fin grid0.N, _)
theorem at2 : ∀ t : Fin cfg0.N, win0_2.index t = ![t.val / 6, t.val / 3 % 2] := (by decide +kernel : ∀ t : Fin grid0.N, _)

/-- Row `r` of the tokens at point `t`. -/
abbrev tok (t : Fin cfg0.N) (r : Fin 1024) : Fin 8192 := ⟨t.val / 6 * 1024 + r.val, by have : t.val < 48 := t.isLt; omega⟩
/-- Column `n` of the result at point `t`. -/
abbrev col (t : Fin cfg0.N) (n : Fin 1024) : Fin 2048 := ⟨t.val / 3 % 2 * 1024 + n.val, by omega⟩
/-- Column `k` of the layout at point `t`. -/
abbrev lay (t : Fin cfg0.N) (k : Fin 2048) : Fin 6144 := ⟨t.val % 3 * 2048 + k.val, by omega⟩

/-- The first operand's block at a point. -/
abbrev lhs (c : Dev nD) (t : Fin cfg0.N) : Vec Ideal S1024x2048 .bf16 := iblk m c 0 t
/-- The second operand's block at a point. -/
abbrev rhs (c : Dev nD) (t : Fin cfg0.N) : Vec Ideal S1024x2048 .bf16 := iblk m c 1 t

theorem in0 (c : Dev nD) (t : Fin cfg0.N) (r : Fin 1024) (k : Fin 2048) :
    lhs m c t (ix2 r k) = spread (dp m c) (ix2 (tok t r) (lay t k)) := by
  rw [← V_dp m c]
  blk_simp [iblk]
  refine congrArg (V m c main_v10) ?_
  blk_ext [at0]

theorem in1 (c : Dev nD) (t : Fin cfg0.N) (n : Fin 1024) (k : Fin 2048) :
    rhs m c t (ix2 n k) = spread (wi m c) (ix2 (col t n) (lay t k)) := by
  rw [← V_wi m c]
  blk_simp [iblk]
  refine congrArg (V m c main_v21) ?_
  blk_ext [at1]

/-- Point `s` of the run of point `t`. -/
abbrev pt (t : Fin cfg0.N) (s : Fin 3) : Fin cfg0.N :=
  ⟨3 * (t.val / 3) + s.val, by have : t.val < 48 := t.isLt; show _ < 48; omega⟩

/-- What point `t` adds. -/
abbrev added (c : Dev nD) (t : Fin cfg0.N) (y : S1024x1024.Idx) : EReal := part (lhs m c t) (rhs m c t) y

/-- After the last point of a run the running sum holds what its points added. -/
theorem sum_eq (c : Dev nD) (t : Fin cfg0.N) (ht : t.val % 3 = 2) (y : S1024x1024.Idx) :
    (outsAt0 m c t.val t.isLt).2 y = ∑ s : Fin 3, added m c (pt t s) y := by
  have h := Pipeline.eq_sum_fin_of_reset_step_apply_of_flush (fun n h => (outsAt0 m c n h).2) 3 (fun _ => (0 : EReal)) (added m c)
    (fun t h y => by
      show (outsAt0 m c t.val t.isLt).2 y = _
      rw [outsAt0_A m c t h (by omega)]
      frame_out
      rw [step_apply, start_apply])
    (fun t h y => by
      show (outsAt0 m c t.val t.isLt).2 y = _
      by_cases h7 : t.val % 3 = 2
      · rw [outsAt0_C m c t h h7]
        frame_out
        rw [step_apply]
        exact congrArg (· + added m c t y) (congrFun (Memref.IsWhole.read_unread _ _) y)
      · rw [outsAt0_B m c t h h7]
        frame_out
        rw [step_apply]
        exact congrArg (· + added m c t y) (congrFun (Memref.IsWhole.read_unread _ _) y)) t ht y
  rw [zero_add] at h
  exact h

/-- The block written back is the sum. -/
theorem out_eq (c : Dev nD) (t : Fin cfg0.N) (ht : t.val % 3 = 2) (y : S1024x1024.Idx) :
    (outsAt0 m c t.val t.isLt).1 y = (outsAt0 m c t.val t.isLt).2 y := by
  rw [outsAt0_C m c t (by omega) ht]
  frame_out
  rfl

/-- What the kernel leaves in its result. -/
def G (c : Dev nD) (i : S8192x2048.Idx) : EReal :=
  ∑ j : Fin 6144, spread (dp m c) (ix2 (i 0) j) * spread (wi m c) (ix2 (i 1) j)

/-- Where an index of the block of point `t` lies in the result. -/
abbrev place (t : Fin cfg0.N) (y : S1024x1024.Idx) : S8192x2048.Idx := ix2 (tok t (y 0)) (col t (y 1))

theorem place2 (t : Fin cfg0.N) (y : S1024x1024.Idx) : ((cfg0.win 2).blk t).view.emb y = place t y := by
  blk_ext [at2]

/-- Every point of a run lies at the same place, over its own columns. -/
theorem tok_pt (t : Fin cfg0.N) (s : Fin 3) (r : Fin 1024) : tok (pt t s) r = tok t r :=
  Fin.ext (by have := s.isLt; show (3 * (t.val / 3) + s.val) / 6 * 1024 + r.val = t.val / 6 * 1024 + r.val; omega)
theorem col_pt (t : Fin cfg0.N) (s : Fin 3) (n : Fin 1024) : col (pt t s) n = col t n :=
  Fin.ext (by have := s.isLt; show (3 * (t.val / 3) + s.val) / 3 % 2 * 1024 + n.val = t.val / 3 % 2 * 1024 + n.val; omega)
theorem lay_pt (t : Fin cfg0.N) (s : Fin 3) (k : Fin 2048) (h : s.val * 2048 + k.val < 6144) : lay (pt t s) k = ⟨s.val * 2048 + k.val, h⟩ :=
  Fin.ext (by have := s.isLt; show (3 * (t.val / 3) + s.val) % 3 * 2048 + k.val = s.val * 2048 + k.val; omega)

/-- What the three points of a run add up to. -/
theorem run_sum (c : Dev nD) (t : Fin cfg0.N) (y : S1024x1024.Idx) : ∑ s : Fin 3, added m c (pt t s) y = G m c (place t y) := by
  refine Fin.sum_mul_add_congr fun s k hl => ?_
  refine congrArg₂ (fun a b : EReal => a * b) ((in0 m c (pt t s) (y 0) k).trans ?_) ((in1 m c (pt t s) (y 1) k).trans ?_)
  · exact congrArg₂ (fun r j => spread (dp m c) (ix2 r j)) (tok_pt t s (y 0)) (lay_pt t s k hl)
  · exact congrArg₂ (fun n j => spread (wi m c) (ix2 n j)) (col_pt t s (y 1)) (lay_pt t s k hl)

/-- The result's array after the run. -/
theorem final (c : Dev nD) : (dats m 0 c).arrAt 2 cfg0.N = G m c := by
  refine (dats m 0 c).arrAt_eq_of_covers 2 _ (by decide +kernel) fun t hf y => ?_
  have ht : t.val % 3 = 2 := (flush0_2 t).mp hf
  blk_simp
  rw [after0_2]
  exact (out_eq m c t ht y).trans ((sum_eq m c t ht y).trans ((run_sum m c t y).trans (congrArg (G m c) (place2 t y).symm)))

/-- The product of two laid out rows: zero after the projection's columns. -/
theorem laid_out {A B : ℕ} (d : (⟨2, ![A, 5648]⟩ : Shape).Idx → EReal) (w : (⟨2, ![B, 5648]⟩ : Shape).Idx → EReal) (a : Fin A) (b : Fin B) :
    ∑ j : Fin 6144, spread d (ix2 a j) * spread w (ix2 b j) = ∑ l : Fin 5648, d (ix2 a l) * w (ix2 b l) := by
  refine Eq.trans (Finset.sum_congr rfl fun j _ => ?_) (sum_source fun l => d (ix2 a l) * w (ix2 b l))
  by_cases h : j.val < 5648
  · rw [dif_pos h]
    exact congrArg₂ (· * ·) (spread_of_lt d (ix2 a j) h) (spread_of_lt w (ix2 b j) h)
  · rw [dif_neg h]
    exact (congrArg (· * _) (spread_of_not d (ix2 a j) h)).trans (zero_mul _)

/-- The kernel's array is the reference's. -/
theorem result (c : Dev nD) : (G m c : S8192x2048.Idx → EReal) = Cert.Reference10Ideal.Read.val_main_v3 (F := Ideal) (dp m c) (wi m c) := by
  funext i
  rw [Cert.Reference10Ideal.Read.val_main_v3_apply]
  show _ = Cert.Reference10Ideal.Read.val_main_v2 (F := Ideal) (dp m c) (wi m c) i
  rw [Cert.Reference10Ideal.Read.val_main_v2_apply]
  refine (laid_out (dp m c) (wi m c) (i 0) (i 1)).trans (Finset.sum_congr rfl fun l _ => congrArg₂ (· * ·) (congrArg (dp m c) ?_)
    (congrArg (wi m c) ?_)) <;>
  exact funext fun a => by fin_cases a <;> rfl

/-- The claim: the two programs leave the same array. -/
theorem equal : Cert.algebraic_Kernel10Ideal_Reference10Ideal := fun m g m' g' _ hag =>
  ⟨fun c => G m c,
    (θ_run _ _ _).mono (fun _ h c => ⟨(h c).1.trans (final m c), (h c).2⟩) (Cert.Kernel10Ideal.Value.run_blocks m g),
    (θ_run _ _ _).mono (fun _ h c => ⟨(h c).1.trans (by
        rw [Cert.Reference10Ideal.Read.val_main_v3_eq, (hag c).1, (hag c).2]
        exact (result m c).symm), (h c).2⟩)
      (Cert.Reference10Ideal.Value.run m' g')⟩

end Cert.ProjectInput
-- ==== Proof.MixWeight.lean ====
/-
The gradient of the mixer's output projection in its weight: the merged heads, transposed, times the derivative of the result.

Grid point (i, j, s) adds to a running 1024 by 1024 sum the product of 1024 tokens of the heads, transposed, with the same
tokens of the derivative. After the eight token blocks the sum's rows are written back in four pieces of 256, one for each of
the devices that own them. The kernel's array is the reference's, with no condition on the arguments.
-/
module

public import proofs.«01_k».proof.Proof.Products
public import proofs.«01_k».proof.Proof.GateMath
public import proofs.«01_k».proof.Proof.Gen.Kernel11Ideal.Value
public import proofs.«01_k».proof.Proof.Gen.Reference11Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.MixWeight

open Cert.Kernel11Ideal Cert.Kernel11Ideal.Gen Cert.Products Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The merged heads. -/
abbrev hd (c : Dev nD) : S8192x2048.Idx → EReal := m ((c : Thread nD τ).loc main_arg0)
/-- The derivative of the projection's result. -/
abbrev dm (c : Dev nD) : S8192x2048.Idx → EReal := m ((c : Thread nD τ).loc main_arg1)

theorem V_hd (c : Dev nD) : V m c main_v0 = hd m c := by
  simp only [V, hostOps0, List.flatten_cons, List.flatten_nil, List.append_nil, List.cons_append, List.nil_append,
    TRef.binary, TRef.nullary, TRef.unary, TRef.toBuf, TRef.ofBuf, cast_eq]
  after_results <;> rfl

theorem V_dm (c : Dev nD) : V m c main_v1 = dm m c := by
  simp only [V, hostOps0, List.flatten_cons, List.flatten_nil, List.append_nil, List.cons_append, List.nil_append,
    TRef.binary, TRef.nullary, TRef.unary, TRef.toBuf, TRef.ofBuf, cast_eq]
  after_results <;> rfl

/-- What a step adds: the product of the point's blocks. -/
def part (x : Vec Ideal S1024x1024 .bf16) (w : Vec Ideal S1024x1024 .bf16) (y : S1024x1024.Idx) : EReal :=
  ∑ k : Fin 1024, x (ix2 k (y 0)) * w (ix2 k (y 1))

/-- A step adds the product to the running sum. -/
theorem step_apply (a : Vec Ideal S1024x1024 .f32) (x : Vec Ideal S1024x1024 .bf16) (w : Vec Ideal S1024x1024 .bf16)
    (y : S1024x1024.Idx) : k0_pay2 a x w y = a y + part x w y := by
  rw [ix2_eta y]
  unfold k0_pay2 part
  rw [shapeCast_self, shapeCast_self, shapeCast_self]
  exact rows_step a x w _ _

/-- A run starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val % 8, t.val / 16] := (by decide +kernel : ∀ t : Fin grid0.N, _)
theorem at1 : ∀ t : Fin cfg0.N, win0_1.index t = ![t.val % 8, t.val / 8 % 2] := (by decide +kernel : ∀ t : Fin grid0.N, _)
theorem at2 : ∀ t : Fin cfg0.N, win0_2.index t = ![0, t.val / 16, 0, t.val / 8 % 2] := (by decide +kernel : ∀ t : Fin grid0.N, _)

/-- Token `k` of point `t`. -/
abbrev tok (t : Fin cfg0.N) (k : Fin 1024) : Fin 8192 := ⟨t.val % 8 * 1024 + k.val, by omega⟩
/-- Row `r` of the result at point `t`. -/
abbrev row (t : Fin cfg0.N) (r : Fin 1024) : Fin 2048 := ⟨t.val / 16 * 1024 + r.val, by have : t.val < 32 := t.isLt; omega⟩
/-- Column `n` of the result at point `t`. -/
abbrev col (t : Fin cfg0.N) (n : Fin 1024) : Fin 2048 := ⟨t.val / 8 % 2 * 1024 + n.val, by omega⟩

/-- The first operand's block at a point. -/
abbrev lhs (c : Dev nD) (t : Fin cfg0.N) : Vec Ideal S1024x1024 .bf16 := iblk m c 0 t
/-- The second operand's block at a point. -/
abbrev rhs (c : Dev nD) (t : Fin cfg0.N) : Vec Ideal S1024x1024 .bf16 := iblk m c 1 t

theorem in0 (c : Dev nD) (t : Fin cfg0.N) (k r : Fin 1024) : lhs m c t (ix2 k r) = hd m c (ix2 (tok t k) (row t r)) := by
  rw [← V_hd m c]
  blk_simp [iblk]
  refine congrArg (V m c main_v0) ?_
  blk_ext [at0]

theorem in1 (c : Dev nD) (t : Fin cfg0.N) (k n : Fin 1024) :
    rhs m c t (ix2 k n) = dm m c (ix2 (tok t k) (col t n)) := by
  rw [← V_dm m c]
  blk_simp [iblk]
  refine congrArg (V m c main_v1) ?_
  blk_ext [at1]

/-- Point `s` of the run of point `t`. -/
abbrev pt (t : Fin cfg0.N) (s : Fin 8) : Fin cfg0.N :=
  ⟨8 * (t.val / 8) + s.val, by have : t.val < 32 := t.isLt; show _ < 32; omega⟩

/-- What point `t` adds. -/
abbrev added (c : Dev nD) (t : Fin cfg0.N) (y : S1024x1024.Idx) : EReal := part (lhs m c t) (rhs m c t) y

/-- After the last point of a run the running sum holds what its points added. -/
theorem sum_eq (c : Dev nD) (t : Fin cfg0.N) (ht : t.val % 8 = 7) (y : S1024x1024.Idx) :
    (outsAt0 m c t.val t.isLt).2 y = ∑ s : Fin 8, added m c (pt t s) y := by
  have h := Pipeline.eq_sum_fin_of_reset_step_apply_of_flush (fun n h => (outsAt0 m c n h).2) 8 (fun _ => (0 : EReal)) (added m c)
    (fun t h y => by
      show (outsAt0 m c t.val t.isLt).2 y = _
      rw [outsAt0_A m c t h (by omega)]
      frame_out
      rw [step_apply, start_apply])
    (fun t h y => by
      show (outsAt0 m c t.val t.isLt).2 y = _
      by_cases h7 : t.val % 8 = 7
      · rw [outsAt0_C m c t h h7]
        frame_out
        rw [step_apply]
        exact congrArg (· + added m c t y) (congrFun (Memref.IsWhole.read_unread _ _) y)
      · rw [outsAt0_B m c t h h7]
        frame_out
        rw [step_apply]
        exact congrArg (· + added m c t y) (congrFun (Memref.IsWhole.read_unread _ _) y)) t ht y
  rw [zero_add] at h
  exact h

/-- A piece written back holds 256 rows of the sum. -/
theorem piece_apply (a : Vec Ideal S256x1024 .f32) (y : S1x1x256x1024.Idx) : k0_pay3 a y = a (ix2 (y 2) (y 3)) := by
  unfold k0_pay3
  refine shapeCast_apply _ _ _ _ ?_
  have h0 : (y 0).val < 1 := (y 0).isLt
  have h1 : (y 1).val < 1 := (y 1).isLt
  rw [Shape.rowMajor_val_two, Shape.rowMajor_val_four]
  show (y 2).val * 1024 + (y 3).val = (((y 0).val * 1 + (y 1).val) * 256 + (y 2).val) * 1024 + (y 3).val
  omega

/-- Rows read back from the sum. -/
theorem rows_apply (w : Vec Ideal S1024x1024 .f32) (o : ℕ) (ho : o < 4)
    (i0 : ∀ a, (![0, 0] : Fin 2 → ℕ) a + S1024x1024.size a ≤ S1024x1024.size a)
    (i1 : ∀ a, (![256 * o, 0] : Fin 2 → ℕ) a + S256x1024.size a ≤ S1024x1024.size a) (r : Fin 256) (n : Fin 1024) :
    (View.whole cc0_scratch0).readCov [(⟨Rect.unit (s := S1024x1024) ![0, 0] S1024x1024.size i0, w⟩ : View.Piece (Elt Ideal) S1024x1024 .f32)]
      (Rect.unit (s := S1024x1024) ![256 * o, 0] S256x1024.size i1).toLoadRect (ix2 r n) = w (ix2 ⟨256 * o + r.val, by omega⟩ n) := by
  rw [View.readCov_eq_canon_ld _ _ _ (fun y => ⟨_, List.mem_cons_self, by
    rw [Rect.mem_set_unit]
    intro a
    fin_cases a
    · exact ⟨Nat.zero_le _, (y 0).isLt.trans_eq (Nat.zero_add _).symm⟩
    · exact ⟨Nat.zero_le _, (y 1).isLt.trans_eq (Nat.zero_add _).symm⟩⟩), View.canon_cons_unit_zero (S := S1024x1024) hz2]
  refine congrArg w (funext fun a => Fin.ext ?_)
  match a with
  | ⟨0, _⟩ => exact congrArg (256 * o + ·) (Nat.one_mul _)
  | ⟨1, _⟩ => exact (Nat.zero_add _).trans (Nat.one_mul _)

/-- The index of the sum that an index of the block written back is. -/
abbrev sumAt (y : S2x2x256x1024.Idx) : S1024x1024.Idx := ix2 ⟨256 * (2 * (y 1).val + (y 0).val) + (y 2).val, by
  have h0 : (y 0).val < 2 := (y 0).isLt; have h1 : (y 1).val < 2 := (y 1).isLt; have h2 : (y 2).val < 256 := (y 2).isLt; omega⟩ (y 3)

/-- One owner's piece holds its rows of the sum. -/
theorem owner_apply (w : Vec Ideal S1024x1024 .f32) (p q : ℕ) (hp : p < 2) (hq : q < 2)
    (i0 : ∀ a, (![0, 0] : Fin 2 → ℕ) a + S1024x1024.size a ≤ S1024x1024.size a)
    (i1 : ∀ a, (![256 * (2 * q + p), 0] : Fin 2 → ℕ) a + S256x1024.size a ≤ S1024x1024.size a)
    (i2 : ∀ a, (![p, q, 0, 0] : Fin 4 → ℕ) a + S1x1x256x1024.size a ≤ S2x2x256x1024.size a) (y : S1x1x256x1024.Idx) :
    k0_pay3 ((View.whole cc0_scratch0).readCov [(⟨Rect.unit (s := S1024x1024) ![0, 0] S1024x1024.size i0, w⟩ : View.Piece (Elt Ideal) S1024x1024 .f32)]
      (Rect.unit (s := S1024x1024) ![256 * (2 * q + p), 0] S256x1024.size i1).toLoadRect) y
      = w (sumAt ((Rect.unit (s := S2x2x256x1024) ![p, q, 0, 0] S1x1x256x1024.size i2).emb y)) := by
  rw [piece_apply]
  refine (rows_apply w (2 * q + p) (by omega) i0 i1 (y 2) (y 3)).trans (congrArg w (funext fun a => Fin.ext ?_))
  have h0 : (y 0).val < 1 := (y 0).isLt
  have h1 : (y 1).val < 1 := (y 1).isLt
  match a with
  | ⟨0, _⟩ =>
    show 256 * (2 * q + p) + (y 2).val = 256 * (2 * (q + 1 * (y 1).val) + (p + 1 * (y 0).val)) + (0 + 1 * (y 2).val)
    omega
  | ⟨1, _⟩ => show (y 3).val = 0 + 1 * (y 3).val; omega

/-- An index of the block lies in the piece of its owner. -/
theorem owner_mem (y : S2x2x256x1024.Idx) (p q : ℕ) (hp : (y 0).val = p) (hq : (y 1).val = q)
    (i2 : ∀ a, (![p, q, 0, 0] : Fin 4 → ℕ) a + S1x1x256x1024.size a ≤ S2x2x256x1024.size a) :
    y ∈ (Rect.unit (s := S2x2x256x1024) ![p, q, 0, 0] S1x1x256x1024.size i2).set := by
  rw [Rect.mem_set_unit]
  intro a
  have h2 : (y 2).val < 256 := (y 2).isLt
  have h3 : (y 3).val < 1024 := (y 3).isLt
  fin_cases a
  · show p ≤ (y 0).val ∧ (y 0).val < p + 1; omega
  · show q ≤ (y 1).val ∧ (y 1).val < q + 1; omega
  · show 0 ≤ (y 2).val ∧ (y 2).val < 0 + 256; omega
  · show 0 ≤ (y 3).val ∧ (y 3).val < 0 + 1024; omega

/-- The block written back holds the sum's rows. -/
theorem out_eq (c : Dev nD) (t : Fin cfg0.N) (ht : t.val % 8 = 7) (y : S2x2x256x1024.Idx) :
    (outsAt0 m c t.val t.isLt).1 y = (outsAt0 m c t.val t.isLt).2 (sumAt y) := by
  rw [outsAt0_C m c t (by omega) ht]
  frame_out
  generalize k0_pay2 (F := Ideal) _ _ _ = w
  refine View.canon_append_of_piecesOf (Val := Elt Ideal) (e := .bf16) (fun y => w (sumAt y)) [] [_, _, _, _]
    ⟨fun x => ?_, fun x => ?_, fun x => ?_, fun x => ?_, trivial⟩ y ?_
  · exact owner_apply w 1 1 (by omega) (by omega) _ _ inb_S2x2x256x1024_S1x1x256x1024_1_1_0_0 x
  · exact owner_apply w 0 1 (by omega) (by omega) _ _ inb_S2x2x256x1024_S1x1x256x1024_0_1_0_0 x
  · exact owner_apply w 1 0 (by omega) (by omega) _ _ inb_S2x2x256x1024_S1x1x256x1024_1_0_0_0 x
  · exact owner_apply w 0 0 (by omega) (by omega) _ _ inb_S2x2x256x1024_S1x1x256x1024_0_0_0_0 x
  · have h0 : (y 0).val < 2 := (y 0).isLt
    have h1 : (y 1).val < 2 := (y 1).isLt
    rcases (by omega : (y 1).val = 1 ∨ (y 1).val = 0) with q | q <;> rcases (by omega : (y 0).val = 1 ∨ (y 0).val = 0) with p | p
    · exact ⟨_, .head _, owner_mem y 1 1 p q inb_S2x2x256x1024_S1x1x256x1024_1_1_0_0⟩
    · exact ⟨_, .tail _ (.head _), owner_mem y 0 1 p q inb_S2x2x256x1024_S1x1x256x1024_0_1_0_0⟩
    · exact ⟨_, .tail _ (.tail _ (.head _)), owner_mem y 1 0 p q inb_S2x2x256x1024_S1x1x256x1024_1_0_0_0⟩
    · exact ⟨_, .tail _ (.tail _ (.tail _ (.head _))), owner_mem y 0 0 p q inb_S2x2x256x1024_S1x1x256x1024_0_0_0_0⟩

/-- The row of the gradient at an index of the result. -/
abbrev rowAt (i : S2x4x256x2048.Idx) : Fin 2048 := ⟨256 * (2 * (i 1).val + (i 0).val) + (i 2).val, by
  have h0 : (i 0).val < 2 := (i 0).isLt; have h1 : (i 1).val < 4 := (i 1).isLt; have h2 : (i 2).val < 256 := (i 2).isLt; omega⟩

/-- What the kernel leaves in its result. -/
def G (c : Dev nD) (i : S2x4x256x2048.Idx) : EReal := ∑ s : Fin 8192, hd m c (ix2 s (rowAt i)) * dm m c (ix2 s (i 3))

/-- Where an index of the block of point `t` lies in the result. -/
abbrev place (t : Fin cfg0.N) (y : S2x2x256x1024.Idx) : S2x4x256x2048.Idx :=
  ix4 (y 0) ⟨t.val / 16 * 2 + (y 1).val, by have : t.val < 32 := t.isLt; have h1 : (y 1).val < 2 := (y 1).isLt; omega⟩ (y 2) (col t (y 3))

theorem place2 (t : Fin cfg0.N) (y : S2x2x256x1024.Idx) : ((cfg0.win 2).blk t).view.emb y = place t y := by
  blk_ext [at2]

/-- Every point of a run lies at the same place, over its own tokens. -/
theorem row_pt (t : Fin cfg0.N) (s : Fin 8) (r : Fin 1024) : row (pt t s) r = row t r :=
  Fin.ext (by have := s.isLt; show (8 * (t.val / 8) + s.val) / 16 * 1024 + r.val = t.val / 16 * 1024 + r.val; omega)
theorem col_pt (t : Fin cfg0.N) (s : Fin 8) (n : Fin 1024) : col (pt t s) n = col t n :=
  Fin.ext (by have := s.isLt; show (8 * (t.val / 8) + s.val) / 8 % 2 * 1024 + n.val = t.val / 8 % 2 * 1024 + n.val; omega)
theorem tok_pt (t : Fin cfg0.N) (s : Fin 8) (k : Fin 1024) (h : s.val * 1024 + k.val < 8192) : tok (pt t s) k = ⟨s.val * 1024 + k.val, h⟩ :=
  Fin.ext (by have := s.isLt; show (8 * (t.val / 8) + s.val) % 8 * 1024 + k.val = s.val * 1024 + k.val; omega)

/-- What the eight points of a run add up to. -/
theorem run_sum (c : Dev nD) (t : Fin cfg0.N) (r n : Fin 1024) :
    ∑ s : Fin 8, added m c (pt t s) (ix2 r n) = ∑ s : Fin 8192, hd m c (ix2 s (row t r)) * dm m c (ix2 s (col t n)) := by
  refine Fin.sum_mul_add_congr fun s k hl => ?_
  refine congrArg₂ (fun a b : EReal => a * b) ((in0 m c (pt t s) k r).trans ?_) ((in1 m c (pt t s) k n).trans ?_)
  · exact congrArg₂ (fun s r => hd m c (ix2 s r)) (tok_pt t s k hl) (row_pt t s r)
  · exact congrArg₂ (fun s n => dm m c (ix2 s n)) (tok_pt t s k hl) (col_pt t s n)

/-- The block written back is a block of the result. -/
theorem block_eq (c : Dev nD) (t : Fin cfg0.N) (ht : t.val % 8 = 7) (y : S2x2x256x1024.Idx) :
    (outsAt0 m c t.val t.isLt).1 y = G m c (place t y) := by
  refine (out_eq m c t ht y).trans ((sum_eq m c t ht (sumAt y)).trans ((run_sum m c t _ _).trans ?_))
  unfold G
  refine Finset.sum_congr rfl fun s _ => congrArg (fun r => hd m c (ix2 s r) * dm m c (ix2 s (col t (y 3)))) (Fin.ext ?_)
  show t.val / 16 * 1024 + (256 * (2 * (y 1).val + (y 0).val) + (y 2).val) = 256 * (2 * (t.val / 16 * 2 + (y 1).val) + (y 0).val) + (y 2).val
  omega

/-- The result's array after the run. -/
theorem final (c : Dev nD) : (dats m 0 c).arrAt 2 cfg0.N = G m c := by
  refine (dats m 0 c).arrAt_eq_of_covers 2 _ (by decide +kernel) fun t hf y => ?_
  have ht : t.val % 8 = 7 := (flush0_2 t).mp hf
  blk_simp
  rw [after0_2]
  exact (block_eq m c t ht y).trans (congrArg (G m c) (place2 t y).symm)

/-- The reference's gradient at an index of the result. -/
theorem reference_apply (x d : S8192x2048.Idx → EReal) (i : S2x4x256x2048.Idx) :
    Cert.Reference11Ideal.Read.val_main_v6 (F := Ideal) x d i = ∑ s : Fin 8192, d (ix2 s (i 3)) * x (ix2 s (rowAt i)) := by
  rw [Cert.Reference11Ideal.Read.val_main_v6_apply]
  show Cert.Reference11Ideal.Read.val_main_v5 (F := Ideal) x d i = _
  rw [Cert.Reference11Ideal.Read.val_main_v5_apply, Cert.Reference11Ideal.Read.val_main_v4_apply,
    Cert.Reference11Ideal.Read.val_main_v3_apply, Cert.Reference11Ideal.Read.val_main_v2_apply]
  have h3 : (i 3).val < 2048 := (i 3).isLt
  refine Finset.sum_congr rfl fun s _ => congrArg₂ (· * ·) (congrArg d ?_) (congrArg x ?_)
  · funext a; apply Fin.ext
    match a with
    | ⟨0, _⟩ => rfl
    | ⟨1, _⟩ => show ((((i 1).val * 2 + (i 0).val) * 256 + (i 2).val) * 2048 + (i 3).val) % 2048 = (i 3).val; omega
  · funext a; apply Fin.ext
    match a with
    | ⟨0, _⟩ => rfl
    | ⟨1, _⟩ =>
      show ((((i 1).val * 2 + (i 0).val) * 256 + (i 2).val) * 2048 + (i 3).val) / 2048 = 256 * (2 * (i 1).val + (i 0).val) + (i 2).val
      omega

/-- The kernel's array is the reference's. -/
theorem result (c : Dev nD) :
    (G m c : S2x4x256x2048.Idx → EReal) = Cert.Reference11Ideal.Read.val_main_v6 (F := Ideal) (hd m c) (dm m c) := by
  funext i
  refine Eq.trans ?_ (reference_apply (hd m c) (dm m c) i).symm
  exact Finset.sum_congr rfl fun s _ => mul_comm _ _

/-- The claim: the two programs leave the same array. -/
theorem equal : Cert.algebraic_Kernel11Ideal_Reference11Ideal := fun m g m' g' _ hag =>
  ⟨fun c => G m c,
    (θ_run _ _ _).mono (fun _ h c => ⟨(h c).1.trans (final m c), (h c).2⟩) (Cert.Kernel11Ideal.Value.run_blocks m g),
    (θ_run _ _ _).mono (fun _ h c => ⟨(h c).1.trans (by
        rw [Cert.Reference11Ideal.Read.val_main_v6_eq, (hag c).1, (hag c).2]
        exact (result m c).symm), (h c).2⟩)
      (Cert.Reference11Ideal.Value.run m' g')⟩

end Cert.MixWeight
-- ==== Proof.Heads.lean ====
/-
The gradient of the merged heads: the derivative of the output projection's result times the projection's weight, transposed.

Grid point (i, j, 0) holds 1024 tokens and 1024 rows of the weight and leaves their product; the kernel's array is the
reference's, with no condition on the arguments.
-/
module

public import proofs.«01_k».proof.Proof.Products
public import proofs.«01_k».proof.Proof.GateMath
public import proofs.«01_k».proof.Proof.Gen.Kernel12Ideal.Value
public import proofs.«01_k».proof.Proof.Gen.Reference12Ideal.Read
public import proofs.«01_k».proof.Defs
public import Idealize.ShloMosaic.Lib.Pipeline.ValueKit.Acc

@[expose] public section

set_option maxRecDepth 16384

noncomputable section

namespace Cert.Heads

open Cert.Kernel12Ideal Cert.Kernel12Ideal.Gen Cert.Products Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The derivative of the projection's result. -/
abbrev dm (c : Dev nD) : S8192x2048.Idx → EReal := m ((c : Thread nD τ).loc main_arg0)
/-- The projection's weight. -/
abbrev wo (c : Dev nD) : S2048x2048.Idx → EReal := m ((c : Thread nD τ).loc main_arg1)

theorem V_dm (c : Dev nD) : V m c main_v0 = dm m c := by
  simp only [V, hostOps0, List.flatten_cons, List.flatten_nil, List.append_nil, List.cons_append, List.nil_append,
    TRef.binary, TRef.nullary, TRef.unary, TRef.toBuf, TRef.ofBuf, cast_eq]
  after_results <;> rfl

theorem V_wo (c : Dev nD) : V m c main_v1 = wo m c := by
  simp only [V, hostOps0, List.flatten_cons, List.flatten_nil, List.append_nil, List.cons_append, List.nil_append,
    TRef.binary, TRef.nullary, TRef.unary, TRef.toBuf, TRef.ofBuf, cast_eq]
  after_results <;> rfl

/-- A step adds the product of the two blocks. -/
theorem step_apply (a : Vec Ideal S1024x1024 .f32) (x w : Vec Ideal S1024x2048 .bf16) (y : S1024x1024.Idx) :
    k0_pay2 a x w y = a y + ∑ k : Fin 2048, x (ix2 (y 0) k) * w (ix2 (y 1) k) := by
  rw [ix2_eta y]
  unfold k0_pay2
  rw [shapeCast_self, shapeCast_self, shapeCast_self]
  exact transposed_step a x w _ _

/-- The sum starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

/-- Row `r` of the tokens at point `t`. -/
abbrev tok (t : Fin cfg0.N) (r : Fin 1024) : Fin 8192 := ⟨t.val / 2 * 1024 + r.val, by have : t.val < 16 := t.isLt; omega⟩
/-- Column `n` of the result at point `t`. -/
abbrev col (t : Fin cfg0.N) (n : Fin 1024) : Fin 2048 := ⟨t.val % 2 * 1024 + n.val, by omega⟩

/-- The derivative's block at a point. -/
abbrev lhs (c : Dev nD) (t : Fin cfg0.N) : Vec Ideal S1024x2048 .bf16 := iblk m c 0 t
/-- The weight's block at a point. -/
abbrev rhs (c : Dev nD) (t : Fin cfg0.N) : Vec Ideal S1024x2048 .bf16 := iblk m c 1 t

theorem in0 (c : Dev nD) (t : Fin cfg0.N) (r : Fin 1024) (k : Fin 2048) : lhs m c t (ix2 r k) = dm m c (ix2 (tok t r) k) := by
  rw [← V_dm m c]
  blk_simp [iblk]
  refine congrArg (V m c main_v0) ?_
  blk_ext [at0]

theorem in1 (c : Dev nD) (t : Fin cfg0.N) (n : Fin 1024) (k : Fin 2048) : rhs m c t (ix2 n k) = wo m c (ix2 (col t n) k) := by
  rw [← V_wo m c]
  blk_simp [iblk]
  refine congrArg (V m c main_v1) ?_
  blk_ext [at1]

/-- What the kernel leaves in its result. -/
def G (c : Dev nD) (i : S8192x2048.Idx) : EReal := ∑ k : Fin 2048, dm m c (ix2 (i 0) k) * wo m c (ix2 (i 1) k)

/-- Where an index of the block of point `t` lies in the result. -/
abbrev place (t : Fin cfg0.N) (y : S1024x1024.Idx) : S8192x2048.Idx := ix2 (tok t (y 0)) (col t (y 1))

theorem place2 (t : Fin cfg0.N) (y : S1024x1024.Idx) : ((cfg0.win 2).blk t).view.emb y = place t y := by
  blk_ext [at2]

/-- The block a point leaves. -/
theorem out_eq (c : Dev nD) (t : Fin cfg0.N) (y : S1024x1024.Idx) : outsAt0 m c t y = G m c (place t y) := by
  unfold outsAt0
  frame_out
  rw [step_apply, start_apply, zero_add]
  exact Finset.sum_congr rfl fun k _ => congrArg₂ (fun a b : EReal => a * b) (in0 m c t (y 0) k) (in1 m c t (y 1) k)

/-- The result's array after the run. -/
theorem final (c : Dev nD) : (dats m 0 c).arrAt 2 cfg0.N = G m c := by
  refine (dats m 0 c).arrAt_eq_of_covers 2 _ (by decide +kernel) fun t hf y => ?_
  blk_simp
  rw [after0_2]
  exact (out_eq m c t y).trans (congrArg (G m c) (place2 t y).symm)

/-- The kernel's array is the reference's. -/
theorem result (c : Dev nD) : (G m c : S8192x2048.Idx → EReal) = Cert.Reference12Ideal.Read.val_main_v2 (F := Ideal) (dm m c) (wo m c) := by
  funext i
  rw [Cert.Reference12Ideal.Read.val_main_v2_apply]
  refine Finset.sum_congr rfl fun k _ => congrArg₂ (· * ·) (congrArg (dm m c) ?_) (congrArg (wo m c) ?_) <;>
  exact funext fun a => by fin_cases a <;> rfl

/-- The claim: the two programs leave the same array. -/
theorem equal : Cert.algebraic_Kernel12Ideal_Reference12Ideal := fun m g m' g' _ hag =>
  ⟨fun c => G m c,
    (θ_run _ _ _).mono (fun _ h c => ⟨(h c).1.trans (final m c), (h c).2⟩) (Cert.Kernel12Ideal.Value.run_blocks m g),
    (θ_run _ _ _).mono (fun _ h c => ⟨(h c).1.trans (by
        rw [Cert.Reference12Ideal.Read.val_main_v2_eq, (hag c).1, (hag c).2]
        exact (result m c).symm), (h c).2⟩)
      (Cert.Reference12Ideal.Value.run m' g')⟩

end Cert.Heads
-- ==== Proof.Project.lean ====
/-
The mixer's input projection: the normalised input times the projection's weight.

Grid point (i, j, 0) holds 1024 tokens and 1024 columns of the weight, laid out by the host, and leaves their product. The
kernel's array is the reference's product with its columns laid out the same way, with no condition on the arguments.
-/
module

public import proofs.«01_k».proof.Proof.Products
public import proofs.«01_k».proof.Proof.Columns
public import proofs.«01_k».proof.Proof.GateMath
public import proofs.«01_k».proof.Proof.Gen.Kernel13Ideal.Value
public import proofs.«01_k».proof.Proof.Gen.Reference13Ideal.Read
public import proofs.«01_k».proof.Defs
public import Idealize.ShloMosaic.Lib.Pipeline.ValueKit.Acc

@[expose] public section

set_option maxRecDepth 16384

noncomputable section

namespace Cert.Project

open Cert.Kernel13Ideal Cert.Kernel13Ideal.Gen Cert.Products Cert.Columns Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The normalised input. -/
abbrev xn (c : Dev nD) : S8192x2048.Idx → EReal := m ((c : Thread nD τ).loc main_arg0)
/-- The projection's weight. -/
abbrev wi (c : Dev nD) : (⟨2, ![2048, 5648]⟩ : Shape).Idx → EReal := m ((c : Thread nD τ).loc main_arg1)

theorem V_xn (c : Dev nD) : V m c main_v0 = xn m c := by
  simp only [V, hostOps0, List.flatten_cons, List.flatten_nil, List.append_nil, List.cons_append, List.nil_append,
    TRef.binary, TRef.nullary, TRef.unary, TRef.toBuf, TRef.ofBuf, cast_eq]
  after_results <;> rfl

theorem V_wi (c : Dev nD) : V m c main_v11 = spread (wi m c) := by
  refine Eq.trans ?_ (spread_host (wi m c) (broadcastInDim S2048x496 ![] bcast_S_S2048x496 (constant (F := Ideal) S_ .bf16 0x0000#16))
    (zero_half bcast_S_S2048x496) slices_S2048x5648_S2048x1024_0_1536 slices_S2048x5648_S2048x1024_0_2560 slices_S2048x5648_S2048x1024_0_0
    slices_S2048x5648_S2048x1024_0_3584 slices_S2048x5648_S2048x1024_0_4608 slices_S2048x5648_S2048x256_0_1024 slices_S2048x5648_S2048x256_0_1280
    slices_S2048x5648_S2048x16_0_5632 concatenates_S2048x1024_S2048x1024_S2048x1024_S2048x1024_S2048x1024_S2048x256_S2048x256_S2048x16_S2048x496_S2048x6144_d1)
  simp only [V, hostOps0, List.flatten_cons, List.flatten_nil, List.append_nil, List.cons_append, List.nil_append,
    TRef.binary, TRef.nullary, TRef.unary, TRef.toBuf, TRef.ofBuf, cast_eq]
  after_results <;> rfl

/-- A step adds the product of the twi blocks. -/
theorem step_apply (a : Vec Ideal S1024x1024 .f32) (x : Vec Ideal S1024x2048 .bf16) (w : Vec Ideal S2048x1024 .bf16)
    (y : S1024x1024.Idx) :
    k0_pay2 a x w y = a y + ∑ k : Fin 2048, x (ix2 (y 0) k) * w (ix2 k (y 1)) := by
  rw [ix2_eta y]
  unfold k0_pay2
  rw [shapeCast_self, shapeCast_self, shapeCast_self]
  exact plain_step a x w _ _

/-- The sum starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val / 6, 0] := (by decide +kernel : ∀ t : Fin grid0.N, _)
theorem at1 : ∀ t : Fin cfg0.N, win0_1.index t = ![0, t.val % 6] := (by decide +kernel : ∀ t : Fin grid0.N, _)
theorem at2 : ∀ t : Fin cfg0.N, win0_2.index t = ![t.val / 6, t.val % 6] := (by decide +kernel : ∀ t : Fin grid0.N, _)

/-- Row `r` of the tokens at point `t`. -/
abbrev tok (t : Fin cfg0.N) (r : Fin 1024) : Fin 8192 := ⟨t.val / 6 * 1024 + r.val, by have : t.val < 48 := t.isLt; omega⟩
/-- Column `n` of the result at point `t`. -/
abbrev col (t : Fin cfg0.N) (n : Fin 1024) : Fin 6144 := ⟨t.val % 6 * 1024 + n.val, by omega⟩

/-- The input's block at a point. -/
abbrev lhs (c : Dev nD) (t : Fin cfg0.N) : Vec Ideal S1024x2048 .bf16 := iblk m c 0 t
/-- The weight's block at a point. -/
abbrev rhs (c : Dev nD) (t : Fin cfg0.N) : Vec Ideal S2048x1024 .bf16 := iblk m c 1 t

theorem in0 (c : Dev nD) (t : Fin cfg0.N) (r : Fin 1024) (k : Fin 2048) : lhs m c t (ix2 r k) = xn m c (ix2 (tok t r) k) := by
  rw [← V_xn m c]
  blk_simp [iblk]
  refine congrArg (V m c main_v0) ?_
  blk_ext [at0]

theorem in1 (c : Dev nD) (t : Fin cfg0.N) (n : Fin 1024) (k : Fin 2048) : rhs m c t (ix2 k n) = spread (wi m c) (ix2 k (col t n)) := by
  rw [← V_wi m c]
  blk_simp [iblk]
  refine congrArg (V m c main_v11) ?_
  blk_ext [at1]

/-- What the kernel leaves in its result. -/
def G (c : Dev nD) (i : S8192x6144.Idx) : EReal := ∑ k : Fin 2048, xn m c (ix2 (i 0) k) * spread (wi m c) (ix2 k (i 1))

/-- Where an index of the block of point `t` lies in the result. -/
abbrev place (t : Fin cfg0.N) (y : S1024x1024.Idx) : S8192x6144.Idx := ix2 (tok t (y 0)) (col t (y 1))

theorem place2 (t : Fin cfg0.N) (y : S1024x1024.Idx) : ((cfg0.win 2).blk t).view.emb y = place t y := by
  blk_ext [at2]

/-- The block a point leaves. -/
theorem out_eq (c : Dev nD) (t : Fin cfg0.N) (y : S1024x1024.Idx) : outsAt0 m c t y = G m c (place t y) := by
  unfold outsAt0
  frame_out
  rw [step_apply, start_apply, zero_add]
  exact Finset.sum_congr rfl fun k _ => congrArg₂ (fun a b : EReal => a * b) (in0 m c t (y 0) k) (in1 m c t (y 1) k)

/-- The result's array after the run. -/
theorem final (c : Dev nD) : (dats m 0 c).arrAt 2 cfg0.N = G m c := by
  refine (dats m 0 c).arrAt_eq_of_covers 2 _ (by decide +kernel) fun t hf y => ?_
  blk_simp
  rw [after0_2]
  exact (out_eq m c t y).trans (congrArg (G m c) (place2 t y).symm)

/-- The reference lays out its product's columns. -/
theorem reference_spread (x : S8192x2048.Idx → EReal) (w : (⟨2, ![2048, 5648]⟩ : Shape).Idx → EReal) :
    (Cert.Reference13Ideal.Read.val_main_v10 (F := Ideal) x w : S8192x6144.Idx → EReal) = spread (Cert.Reference13Ideal.Read.val_main_v0 (F := Ideal) x w) :=
  spread_host (Cert.Reference13Ideal.Read.val_main_v0 (F := Ideal) x w) (Cert.Reference13Ideal.Read.val_main_v9 (F := Ideal)) (fun _ => Ideal.ofBits_zero_f32)
    _ _ _ _ _ _ _ _ _

/-- The kernel's array is the reference's. -/
theorem result (c : Dev nD) : (G m c : S8192x6144.Idx → EReal) = Cert.Reference13Ideal.Read.val_main_v10 (F := Ideal) (xn m c) (wi m c) := by
  rw [reference_spread]
  funext i
  obtain ⟨r, n, rfl⟩ : ∃ (r : Fin 8192) (n : Fin 6144), i = ix2 r n := ⟨i 0, i 1, ix2_eta i⟩
  by_cases h : n.val < 5648
  · refine Eq.trans ?_ (spread_of_lt _ (ix2 r n) h).symm
    rw [Cert.Reference13Ideal.Read.val_main_v0_apply]
    refine Finset.sum_congr rfl fun k _ => congrArg₂ (· * ·) (congrArg (xn m c) ?_)
      ((spread_of_lt (wi m c) (ix2 k n) h).trans (congrArg (wi m c) ?_)) <;>
    exact funext fun a => by fin_cases a <;> rfl
  · refine Eq.trans ?_ (spread_of_not _ (ix2 r n) h).symm
    exact Finset.sum_eq_zero fun k _ => (congrArg (xn m c (ix2 r k) * ·) (spread_of_not (wi m c) (ix2 k n) h)).trans (mul_zero _)

/-- The claim: the twi programs leave the same array. -/
theorem equal : Cert.algebraic_Kernel13Ideal_Reference13Ideal := fun m g m' g' _ hag =>
  ⟨fun c => G m c,
    (θ_run _ _ _).mono (fun _ h c => ⟨(h c).1.trans (final m c), (h c).2⟩) (Cert.Kernel13Ideal.Value.run_blocks m g),
    (θ_run _ _ _).mono (fun _ h c => ⟨(h c).1.trans (by
        rw [Cert.Reference13Ideal.Read.val_main_v10_eq, (hag c).1, (hag c).2]
        exact (result m c).symm), (h c).2⟩)
      (Cert.Reference13Ideal.Value.run m' g')⟩

end Cert.Project
-- ==== Proof.Mix.lean ====
/-
The mixer's output projection: the merged heads times the projection's weight.

Grid point (i, j, 0) holds 1024 tokens and 1024 columns of the weight and leaves their product; the kernel's array is the
reference's, with no condition on the arguments.
-/
module

public import proofs.«01_k».proof.Proof.Products
public import proofs.«01_k».proof.Proof.GateMath
public import proofs.«01_k».proof.Proof.Gen.Kernel14Ideal.Value
public import proofs.«01_k».proof.Proof.Gen.Reference14Ideal.Read
public import proofs.«01_k».proof.Defs
public import Idealize.ShloMosaic.Lib.Pipeline.ValueKit.Acc

@[expose] public section

set_option maxRecDepth 16384

noncomputable section

namespace Cert.Mix

open Cert.Kernel14Ideal Cert.Kernel14Ideal.Gen Cert.Products Cert.GateMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The merged heads. -/
abbrev hd (c : Dev nD) : S8192x2048.Idx → EReal := m ((c : Thread nD τ).loc main_arg0)
/-- The projection's weight. -/
abbrev wo (c : Dev nD) : S2048x2048.Idx → EReal := m ((c : Thread nD τ).loc main_arg1)

theorem V_hd (c : Dev nD) : V m c main_v0 = hd m c := by
  simp only [V, hostOps0, List.flatten_cons, List.flatten_nil, List.append_nil, List.cons_append, List.nil_append,
    TRef.binary, TRef.nullary, TRef.unary, TRef.toBuf, TRef.ofBuf, cast_eq]
  after_results <;> rfl

theorem V_wo (c : Dev nD) : V m c main_v1 = wo m c := by
  simp only [V, hostOps0, List.flatten_cons, List.flatten_nil, List.append_nil, List.cons_append, List.nil_append,
    TRef.binary, TRef.nullary, TRef.unary, TRef.toBuf, TRef.ofBuf, cast_eq]
  after_results <;> rfl

/-- A step adds the product of the two blocks. -/
theorem step_apply (a : Vec Ideal S1024x1024 .f32) (x : Vec Ideal S1024x2048 .bf16) (w : Vec Ideal S2048x1024 .bf16)
    (y : S1024x1024.Idx) :
    k0_pay2 a x w y = a y + ∑ k : Fin 2048, x (ix2 (y 0) k) * w (ix2 k (y 1)) := by
  rw [ix2_eta y]
  unfold k0_pay2
  rw [shapeCast_self, shapeCast_self, shapeCast_self]
  exact plain_step a x w _ _

/-- The sum starts from zero. -/
theorem start_apply (y : S1024x1024.Idx) : k0_pay1 (F := Ideal) y = 0 := by
  unfold k0_pay1
  rw [shapeCast_self]
  exact Ideal.ofBits_zero_f32

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- Row `r` of the tokens at point `t`. -/
abbrev tok (t : Fin cfg0.N) (r : Fin 1024) : Fin 8192 := ⟨t.val / 2 * 1024 + r.val, by have : t.val < 16 := t.isLt; omega⟩
/-- Column `n` of the result at point `t`. -/
abbrev col (t : Fin cfg0.N) (n : Fin 1024) : Fin 2048 := ⟨t.val % 2 * 1024 + n.val, by omega⟩

/-- The heads' block at a point. -/
abbrev lhs (c : Dev nD) (t : Fin cfg0.N) : Vec Ideal S1024x2048 .bf16 := iblk m c 0 t
/-- The weight's block at a point. -/
abbrev rhs (c : Dev nD) (t : Fin cfg0.N) : Vec Ideal S2048x1024 .bf16 := iblk m c 1 t

theorem in0 (c : Dev nD) (t : Fin cfg0.N) (r : Fin 1024) (k : Fin 2048) : lhs m c t (ix2 r k) = hd m c (ix2 (tok t r) k) := by
  rw [← V_hd m c]
  blk_simp [iblk]
  refine congrArg (V m c main_v0) ?_
  blk_ext [at0]

theorem in1 (c : Dev nD) (t : Fin cfg0.N) (n : Fin 1024) (k : Fin 2048) : rhs m c t (ix2 k n) = wo m c (ix2 k (col t n)) := by
  rw [← V_wo m c]
  blk_simp [iblk]
  refine congrArg (V m c main_v1) ?_
  blk_ext [at1]

/-- What the kernel leaves in its result. -/
def G (c : Dev nD) (i : S8192x2048.Idx) : EReal := ∑ k : Fin 2048, hd m c (ix2 (i 0) k) * wo m c (ix2 k (i 1))

/-- Where an index of the block of point `t` lies in the result. -/
abbrev place (t : Fin cfg0.N) (y : S1024x1024.Idx) : S8192x2048.Idx := ix2 (tok t (y 0)) (col t (y 1))

theorem place2 (t : Fin cfg0.N) (y : S1024x1024.Idx) : ((cfg0.win 2).blk t).view.emb y = place t y := by
  blk_ext [at2]

/-- The block a point leaves. -/
theorem out_eq (c : Dev nD) (t : Fin cfg0.N) (y : S1024x1024.Idx) : outsAt0 m c t y = G m c (place t y) := by
  unfold outsAt0
  frame_out
  show k0_pay2 (F := Ideal) _ _ _ y = _
  rw [step_apply, start_apply, zero_add]
  exact Finset.sum_congr rfl fun k _ => congrArg₂ (fun a b : EReal => a * b) (in0 m c t (y 0) k) (in1 m c t (y 1) k)

/-- The result's array after the run. -/
theorem final (c : Dev nD) : (dats m 0 c).arrAt 2 cfg0.N = G m c := by
  refine (dats m 0 c).arrAt_eq_of_covers 2 _ (by decide +kernel) fun t hf y => ?_
  blk_simp
  rw [after0_2]
  exact (out_eq m c t y).trans (congrArg (G m c) (place2 t y).symm)

/-- The kernel's array is the reference's. -/
theorem result (c : Dev nD) : (G m c : S8192x2048.Idx → EReal) = Cert.Reference14Ideal.Read.val_main_v1 (F := Ideal) (hd m c) (wo m c) := by
  funext i
  rw [Cert.Reference14Ideal.Read.val_main_v1_apply]
  show _ = Cert.Reference14Ideal.Read.val_main_v0 (F := Ideal) (hd m c) (wo m c) i
  rw [Cert.Reference14Ideal.Read.val_main_v0_apply]
  refine Finset.sum_congr rfl fun k _ => congrArg₂ (· * ·) (congrArg (hd m c) ?_) (congrArg (wo m c) ?_) <;>
  exact funext fun a => by fin_cases a <;> rfl

/-- The claim: the two programs leave the same array. -/
theorem equal : Cert.algebraic_Kernel14Ideal_Reference14Ideal := fun m g m' g' _ hag =>
  ⟨fun c => G m c,
    (θ_run _ _ _).mono (fun _ h c => ⟨(h c).1.trans (final m c), (h c).2⟩) (Cert.Kernel14Ideal.Value.run_blocks m g),
    (θ_run _ _ _).mono (fun _ h c => ⟨(h c).1.trans (by
        rw [Cert.Reference14Ideal.Read.val_main_v1_eq, (hag c).1, (hag c).2]
        exact (result m c).symm), (h c).2⟩)
      (Cert.Reference14Ideal.Value.run m' g')⟩

end Cert.Mix
-- ==== Proof.HeadMath.lean ====
/-
The gradient of a head's norm by the root of the mean square, over the extended reals.

The derivative of a row is formed by the kernel from the normalised row, and by differentiation from the derivative of the
reciprocal root. The two are equal on all extended reals: an infinite element makes the reciprocal root zero, and a finite
row has a positive real reciprocal root, which distributes over sums.
-/
module

public import Idealize.ShloMosaic.PureOps.Ideal.Laws

@[expose] public section

noncomputable section

namespace Cert.HeadMath

open Idealize.ShloMosaic
open scoped BigOperators

/-- The word of the row's length. -/
abbrev W : EReal := Ideal.ofBits .f32 0x43800000#32
/-- The word of the small constant under the root. -/
abbrev E : EReal := Ideal.ofBits .f32 0x358637BD#32
/-- The word of minus one half. -/
abbrev H : EReal := Ideal.ofBits .f32 0xBF000000#32

theorem W_eq : W = ((256 : ℝ) : EReal) := by
  simp [W, Ideal.ofBits, Ideal.ieee]
  rw [← EReal.coe_mul]
  norm_num

theorem H_eq : H = ((-(1 / 2) : ℝ) : EReal) := by
  simp [H, Ideal.ofBits, Ideal.ieee]
  rw [← EReal.coe_mul]
  norm_num

theorem E_pos : ∃ e : ℝ, 0 < e ∧ E = (e : EReal) := by
  simp [E, Ideal.ofBits, Ideal.ieee]
  exact ⟨_, by positivity, (EReal.coe_mul _ _).symm⟩

/-- The mean of a row's squares, from their sum, and the constant. -/
def var (q : EReal) : EReal := Ideal.div q W + E
/-- What the row is scaled by. -/
def scale (q : EReal) : EReal := Ideal.rsqrt (var q)

theorem div_W (x : EReal) : Ideal.div x W = x * ((1 / 256 : ℝ) : EReal) := by
  rw [W_eq, Ideal.div_coe (by norm_num)]

/-- Under the root is a positive real number, or the greatest extended real. -/
theorem scale_cases (q : EReal) (h : 0 ≤ q) :
    (var q = ⊤ ∧ scale q = 0) ∨ ∃ v r : ℝ, var q = (v : EReal) ∧ scale q = (r : EReal) ∧ 0 < r ∧ v ≠ 0 ∧ r * r = 1 / v := by
  obtain ⟨e, he, hE⟩ := E_pos
  induction q using EReal.rec with
  | bot => simp at h
  | top =>
    have : var ⊤ = ⊤ := by
      unfold var
      rw [div_W, hE, EReal.top_mul_coe_of_pos (by norm_num), EReal.top_add_coe]
    exact .inl ⟨this, by unfold scale; rw [this]; rfl⟩
  | coe a =>
    have ha : 0 ≤ a := by exact_mod_cast h
    have hv : 0 < a * (1 / 256) + e := by positivity
    have e1 : var (a : EReal) = ((a * (1 / 256) + e : ℝ) : EReal) := by
      unfold var
      rw [div_W, hE, EReal.coe_add, EReal.coe_mul]
    refine .inr ⟨_, (Real.sqrt (a * (1 / 256) + e))⁻¹, e1, ?_, by positivity, hv.ne', ?_⟩
    · unfold scale
      rw [e1, Ideal.rsqrt_coe, if_neg (not_lt.mpr hv.le), if_neg hv.ne']
    · rw [← mul_inv, Real.mul_self_sqrt hv.le]
      exact (one_div _).symm

/-- A sum of products with a positive real number is the product of the sum. -/
theorem sum_mul_coe {ι : Type} (s : Finset ι) (f : ι → EReal) (r : ℝ) (hr : 0 < r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr.le) (EReal.coe_ne_top r)]

/-- Twice a product with a negative real number. -/
theorem double (z : EReal) (c : ℝ) (hc : c < 0) : z * (c : EReal) + z * (c : EReal) = z * ((2 * c : ℝ) : EReal) := by
  have h2 : 2 * c < 0 := by linarith
  induction z using EReal.rec with
  | bot => rw [EReal.bot_mul_coe_of_neg hc, EReal.bot_mul_coe_of_neg h2]; rfl
  | top => rw [EReal.top_mul_coe_of_neg hc, EReal.top_mul_coe_of_neg h2]; rfl
  | coe a => rw [← EReal.coe_mul, ← EReal.coe_mul, ← EReal.coe_add]; congr 1; ring

/-- A row's element of the gradient, as the kernel forms it: `a` is the derivative times the gain, `t` the row's sum. -/
def dNorm (q x a t res : EReal) : EReal := scale q * (a - (x * scale q) * Ideal.div t W) + res

/-- What the derivative of the root adds to each factor of the square. -/
def dRoot (q s : EReal) : EReal := Ideal.div (s * (H * Ideal.div (scale q) (var q))) W

/-- The two forms of the gradient are equal. -/
theorem dNorm_eq {n : ℕ} (q : EReal) (hq : 0 ≤ q) (x a : Fin n → EReal) (j : Fin n) (res : EReal) :
    dNorm q (x j) (a j) (∑ k, a k * (x k * scale q)) res
      = res + a j * scale q + x j * dRoot q (∑ k, x k * a k) + dRoot q (∑ k, x k * a k) * x j := by
  rcases scale_cases q hq with ⟨hv, hs⟩ | ⟨v, r, hv, hs, hr, hv0, hrr⟩
  · have : dRoot q (∑ k, x k * a k) = 0 := by
      unfold dRoot
      rw [hv, hs, div_W]
      simp [Ideal.div]
    unfold dNorm
    rw [this, hs]
    simp
  · have e1 : ∑ k, a k * (x k * scale q) = (∑ k, x k * a k) * (r : EReal) := by
      rw [hs, ← sum_mul_coe _ _ _ hr]
      exact Finset.sum_congr rfl fun k _ => by rw [← mul_assoc, mul_comm (a k)]
    have e2 : dRoot q (∑ k, x k * a k) = (∑ k, x k * a k) * ((-(1 / 2) * (r * (1 / v)) * (1 / 256) : ℝ) : EReal) := by
      unfold dRoot
      rw [hs, hv, H_eq, div_W, Ideal.div_coe hv0, mul_assoc, ← EReal.coe_mul, ← EReal.coe_mul, ← EReal.coe_mul]
    generalize ∑ k, x k * a k = s at e1 e2
    have hc : (-(1 / 2) * (r * (1 / v)) * (1 / 256) : ℝ) < 0 := by
      have : 0 < r * (1 / v) := by rw [← hrr]; positivity
      nlinarith
    have e3 : x j * (s * ((-(1 / 2) * (r * (1 / v)) * (1 / 256) : ℝ) : EReal))
        + s * ((-(1 / 2) * (r * (1 / v)) * (1 / 256) : ℝ) : EReal) * x j = (x j * s) * ((-(r * (r * r) * (1 / 256)) : ℝ) : EReal) := by
      rw [mul_comm (s * _) (x j), ← mul_assoc, double _ _ hc]
      refine congrArg (fun c : ℝ => x j * s * (c : EReal)) ?_
      rw [← hrr]; ring
    have e4 : (r : EReal) * -((x j * (r : EReal)) * (s * (r : EReal) * ((1 / 256 : ℝ) : EReal)))
        = (x j * s) * ((-(r * (r * r) * (1 / 256)) : ℝ) : EReal) := by
      rw [EReal.coe_neg, EReal.coe_mul, EReal.coe_mul, EReal.coe_mul, mul_neg, mul_neg]
      refine congrArg Neg.neg ?_
      ac_rfl
    unfold dNorm
    rw [e1, e2, hs, div_W, sub_eq_add_neg, EReal.left_distrib_of_nonneg_of_ne_top (by exact_mod_cast hr.le) (EReal.coe_ne_top r), e4,
      add_assoc _ (x j * _), e3, mul_comm (r : EReal) (a j), add_comm _ res, add_assoc]

/-- A sum of squares is at least zero. -/
theorem sum_sq_nonneg {n : ℕ} (x : Fin n → EReal) : 0 ≤ ∑ k, x k * x k :=
  Finset.sum_nonneg fun k _ => by
    rcases le_total 0 (x k) with h | h
    · exact mul_nonneg h h
    · exact EReal.mul_nonneg_iff.mpr (.inr ⟨h, h⟩)

end Cert.HeadMath
-- ==== Proof.HeadRow.lean ====
/-
The gradient of the mLSTM's head norm and its output gate, for one token, and one head of a block as the kernel forms it.

A token has four heads of 256 columns. Each head is normalised by itself.
-/
module

public import proofs.«01_k».proof.Proof.Products
public import proofs.«01_k».proof.Proof.HeadMath
public import proofs.«01_k».proof.Proof.Gen.Kernel15Ideal.Value

@[expose] public section

set_option maxRecDepth 16384

noncomputable section

namespace Cert.HeadNorm

open Cert.Kernel15Ideal Cert.Kernel15Ideal.Gen Cert.Products Cert.HeadMath
open Idealize.ShloMosaic Idealize.ShloMosaic.TcCoe Idealize.SL.Sem Idealize.ShloMosaic.ValueIdx Idealize.ShloMosaic.StableHlo
open scoped BigOperators

/-! ## One token -/

/-- Column `k` of head `h`. -/
abbrev col (h : Fin 4) (k : Fin 256) : Fin 1024 := ⟨256 * h.val + k.val, by have := h.isLt; have := k.isLt; omega⟩
/-- The head of a column. -/
abbrev hd (n : Fin 1024) : Fin 4 := ⟨n.val / 256, by have := n.isLt; omega⟩
/-- A column's place in its head. -/
abbrev lo (n : Fin 1024) : Fin 256 := ⟨n.val % 256, Nat.mod_lt _ (by decide)⟩

theorem col_hd_lo (n : Fin 1024) : col (hd n) (lo n) = n := Fin.ext (by show 256 * (n.val / 256) + n.val % 256 = n.val; omega)
theorem hd_col (h : Fin 4) (k : Fin 256) : hd (col h k) = h := Fin.ext (by show (256 * h.val + k.val) / 256 = h.val; have := k.isLt; omega)

/-- The word of one. -/
abbrev one : EReal := Ideal.ofBits .f32 0x3F800000#32
/-- The gate. -/
def gate (x : EReal) : EReal := Ideal.div one (one + Ideal.exp (-x))

/-- A head's sum of squares. -/
def rsq (x : Fin 1024 → EReal) (h : Fin 4) : EReal := ∑ k : Fin 256, x (col h k) * x (col h k)
/-- The normalised token. -/
def hat (x : Fin 1024 → EReal) (n : Fin 1024) : EReal := x n * scale (rsq x (hd n))
/-- The derivative of the scaled normalised token. -/
def thru (o d : Fin 1024 → EReal) (n : Fin 1024) : EReal := d n * gate (o n)
/-- The gradient of the gate's argument. -/
def dGate (x o g d : Fin 1024 → EReal) (n : Fin 1024) : EReal := d n * (hat x n * g n) * (gate (o n) * (one - gate (o n)))
/-- The gradient of the token. -/
def dTok (x o g d : Fin 1024 → EReal) (n : Fin 1024) : EReal :=
  scale (rsq x (hd n)) * (thru o d n * g n - hat x n * Ideal.div (∑ k : Fin 256, thru o d (col (hd n) k) * g (col (hd n) k) * hat x (col (hd n) k)) W)

/-! ## One head of a block -/

section
variable (a b o d : Vec Ideal S512x256 .f32) (g : Vec Ideal S1x256 .f32)

/-- A sum along the rows of a block. -/
theorem rowSum_apply (x : FVec Ideal S512x256 .f32) (r : Fin 512) :
    shapeCast S512x1 (multiReduction .add [1] S512 x 0x00000000#32 reduces_S512x256_S512 (.inl rfl) rfl) shapeCasts_S512_S512x1 (ix2 r 0)
      = ∑ k : Fin 256, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 256) :
    broadcastTo S512x256 x broadcasts_S512x1_S512x256 (ix2 r n) = x (ix2 r 0) :=
  congrArg x (funext fun a => by fin_cases a <;> rfl)

/-- A row spread over a block. -/
theorem gain_apply (r : Fin 512) (n : Fin 256) :
    broadcastTo S512x256 (k0_pay10 g) broadcasts_S1x256_S512x256 (ix2 r n) = g (ix2 0 n) := by
  unfold k0_pay10
  rw [shapeCast_self]
  exact congrArg g (funext fun a => by fin_cases a <;> rfl)

/-- A row's sum of squares. -/
def bsq (r : Fin 512) : EReal := ∑ k : Fin 256, (a (ix2 r k) + b (ix2 r k)) * (a (ix2 r k) + b (ix2 r k))

theorem scale_apply (r : Fin 512) : k0_pay7 a b (ix2 r 0) = scale (bsq a b r) := by
  unfold k0_pay7
  exact congrArg (fun b : EReal => Ideal.rsqrt (Ideal.div b W + E)) (rowSum_apply (mulf (k0_pay6 a b) (k0_pay6 a b)) r)

theorem hat_apply (r : Fin 512) (n : Fin 256) : k0_pay8 a b (ix2 r n) = (a (ix2 r n) + b (ix2 r n)) * scale (bsq a b r) := by
  unfold k0_pay8
  exact congrArg (fun z : EReal => (a (ix2 r n) + b (ix2 r n)) * z) ((spread_apply _ r n).trans (scale_apply a b r))

theorem gateAt_apply (r : Fin 512) (n : Fin 256) : k0_pay9 o (ix2 r n) = gate (o (ix2 r n)) := by
  unfold k0_pay9 gate
  refine congrArg (fun z : EReal => Ideal.div one (one + Ideal.exp z)) ?_
  show Ideal.ofBits .f32 0x00000000#32 - o (ix2 r n) = _
  rw [Ideal.ofBits_zero_f32, sub_eq_add_neg, zero_add]

theorem thru_apply (r : Fin 512) (n : Fin 256) : k0_pay12 o d (ix2 r n) = d (ix2 r n) * gate (o (ix2 r n)) := by
  unfold k0_pay12
  exact congrArg (fun z : EReal => d (ix2 r n) * z) (gateAt_apply o r n)

theorem gate_apply (r : Fin 512) (n : Fin 256) : k0_pay11 a b o d g (ix2 r n)
    = d (ix2 r n) * ((a (ix2 r n) + b (ix2 r n)) * scale (bsq a b r) * g (ix2 0 n)) * (gate (o (ix2 r n)) * (one - gate (o (ix2 r n)))) := by
  unfold k0_pay11
  refine congrArg₂ (fun y z : EReal => y * z) ?_ ?_
  · exact congrArg (fun z : EReal => d (ix2 r n) * z) (congrArg₂ (fun y z : EReal => y * z) (hat_apply a b r n) (gain_apply g r n))
  · exact congrArg (fun z : EReal => z * (one - z)) (gateAt_apply o r n)

theorem gained_apply (r : Fin 512) (n : Fin 256) :
    mulf (k0_pay12 o d) (broadcastTo S512x256 (k0_pay10 g) broadcasts_S1x256_S512x256) (ix2 r n) = d (ix2 r n) * gate (o (ix2 r n)) * g (ix2 0 n) :=
  congrArg₂ (fun y z : EReal => y * z) (thru_apply o d r n) (gain_apply g r n)

theorem tok_apply (r : Fin 512) (n : Fin 256) : k0_pay14 (k0_pay7 a b) (k0_pay8 a b) (k0_pay10 g) (k0_pay12 o d) (ix2 r n)
    = scale (bsq a b r) * (d (ix2 r n) * gate (o (ix2 r n)) * g (ix2 0 n)
        - (a (ix2 r n) + b (ix2 r n)) * scale (bsq a b r)
          * Ideal.div (∑ k : Fin 256, d (ix2 r k) * gate (o (ix2 r k)) * g (ix2 0 k) * ((a (ix2 r k) + b (ix2 r k)) * scale (bsq a b r))) W) := by
  unfold k0_pay14
  dsimp only
  refine congrArg₂ (fun y z : EReal => y * z) ((spread_apply _ r n).trans (scale_apply a b r)) ?_
  refine congrArg₂ (fun y z : EReal => y - z) (gained_apply o d g r n) (congrArg₂ (fun y z : EReal => y * z) (hat_apply a b r n) ?_)
  refine (spread_apply _ r n).trans (congrArg (fun z : EReal => Ideal.div z W) ((rowSum_apply _ r).trans ?_))
  exact Finset.sum_congr rfl fun k _ => congrArg₂ (fun y z : EReal => y * z) (gained_apply o d g r k) (hat_apply a b r k)

theorem step_apply (s : Vec Ideal S1x256 .f32) (n : Fin 256) : k0_pay13 (k0_pay8 a b) (k0_pay12 o d) s (ix2 0 n)
    = s (ix2 0 n) + ∑ r : Fin 512, d (ix2 r n) * gate (o (ix2 r n)) * ((a (ix2 r n) + b (ix2 r n)) * scale (bsq a b r)) := by
  unfold k0_pay13
  rw [shapeCast_self]
  refine congrArg (fun z : EReal => s (ix2 0 n) + z) ?_
  refine (shapeCast_apply _ _ _ (ix1 n) ?_).trans ((Ideal.multiReduction_add_single _ _ _ _ _ _).trans ?_)
  · rw [Shape.rowMajor_val_one, Shape.rowMajor_val_two]
    show n.val = 0 * 256 + n.val
    omega
  · refine Finset.sum_congr rfl fun r _ => ?_
    have e : reduces_S512x256_S256.lift (ix1 n) r = ix2 r n := funext fun a => by fin_cases a <;> rfl
    rw [e]
    exact congrArg₂ (fun y z : EReal => y * z) (thru_apply o d r n) (hat_apply a b r n)
end

/-! ## A head of a block with all its columns -/

section
variable (A B O D : Vec Ideal S512x1024 .f32) (G : Vec Ideal S1x1024 .f32)

/-- Row `r` of the sum of two blocks. -/
abbrev tokRow (r : Fin 512) (n : Fin 1024) : EReal := A (ix2 r n) + B (ix2 r n)
/-- Row `r` of a block. -/
abbrev row (r : Fin 512) (n : Fin 1024) : EReal := O (ix2 r n)
/-- The one row of a block. -/
abbrev row1 (n : Fin 1024) : EReal := G (ix2 0 n)

/-- A head of a block. -/
abbrev part (v : Vec Ideal S512x1024 .f32) (h : Fin 4) (i : ∀ a, (![0, 256 * h.val] : Fin 2 → Nat) a + S512x256.size a ≤ S512x1024.size a) :
    Vec Ideal S512x256 .f32 :=
  View.ld (Val := Elt Ideal) (e' := .f32) v (Rect.unit (s := S512x1024) ![0, 256 * h.val] S512x256.size i)
/-- A head of a row. -/
abbrev part1 (v : Vec Ideal S1x1024 .f32) (h : Fin 4) (i : ∀ a, (![0, 256 * h.val] : Fin 2 → Nat) a + S1x256.size a ≤ S1x1024.size a) :
    Vec Ideal S1x256 .f32 :=
  View.ld (Val := Elt Ideal) (e' := .f32) v (Rect.unit (s := S1x1024) ![0, 256 * h.val] S1x256.size i)

theorem part_apply (v : Vec Ideal S512x1024 .f32) (h : Fin 4) (i : ∀ a, (![0, 256 * h.val] : Fin 2 → Nat) a + S512x256.size a ≤ S512x1024.size a)
    (r : Fin 512) (k : Fin 256) :
    part v h i (ix2 r k) = v (ix2 r (col h k)) :=
  congrArg v (funext fun a => Fin.ext (by
    match a with
    | ⟨0, _⟩ => show 0 + 1 * r.val = r.val; omega
    | ⟨1, _⟩ => show 256 * h.val + 1 * k.val = 256 * h.val + k.val; omega))

theorem part1_apply (v : Vec Ideal S1x1024 .f32) (h : Fin 4) (i : ∀ a, (![0, 256 * h.val] : Fin 2 → Nat) a + S1x256.size a ≤ S1x1024.size a)
    (k : Fin 256) :
    part1 v h i (ix2 0 k) = v (ix2 0 (col h k)) :=
  congrArg v (funext fun a => Fin.ext (by
    match a with
    | ⟨0, _⟩ => rfl
    | ⟨1, _⟩ => show 256 * h.val + 1 * k.val = 256 * h.val + k.val; omega))

variable (h : Fin 4) (i : ∀ a, (![0, 256 * h.val] : Fin 2 → Nat) a + S512x256.size a ≤ S512x1024.size a)
  (i1 : ∀ a, (![0, 256 * h.val] : Fin 2 → Nat) a + S1x256.size a ≤ S1x1024.size a)

theorem bsq_part (r : Fin 512) : bsq (part A h i) (part B h i) r = rsq (tokRow A B r) h :=
  Finset.sum_congr rfl fun k _ => congrArg (fun z : EReal => z * z) (congrArg₂ (fun y z : EReal => y + z) (part_apply A h i r k) (part_apply B h i r k))

theorem hat_part (r : Fin 512) (k : Fin 256) :
    (part A h i (ix2 r k) + part B h i (ix2 r k)) * scale (bsq (part A h i) (part B h i) r) = hat (tokRow A B r) (col h k) := by
  rw [bsq_part, part_apply A h i r k, part_apply B h i r k, hat, hd_col]

theorem thru_part (r : Fin 512) (k : Fin 256) :
    part D h i (ix2 r k) * gate (part O h i (ix2 r k)) = thru (row O r) (row D r) (col h k) := by
  rw [part_apply D h i r k, part_apply O h i r k, thru]

/-- The gate's gradient, a head at a time. -/
theorem gate_piece (x : S512x256.Idx) :
    k0_pay11 (part A h i) (part B h i) (part O h i) (part D h i) (part1 G h i1) x
      = (fun y : S512x1024.Idx => dGate (tokRow A B (y 0)) (row O (y 0)) (row1 G) (row D (y 0)) (y 1))
          ((Rect.unit (s := S512x1024) ![0, 256 * h.val] S512x256.size i).emb x) := by
  obtain ⟨r, k, rfl⟩ : ∃ r k, x = ix2 r k := ⟨x 0, x 1, ix2_eta x⟩
  have e : (Rect.unit (s := S512x1024) ![0, 256 * h.val] S512x256.size i).emb (ix2 r k) = ix2 r (col h k) := funext fun a => Fin.ext (by
    match a with
    | ⟨0, _⟩ => show 0 + 1 * r.val = r.val; omega
    | ⟨1, _⟩ => show 256 * h.val + 1 * k.val = 256 * h.val + k.val; omega)
  rw [e, gate_apply, hat_part, part_apply D h i r k, part_apply O h i r k, part1_apply G h i1 k]
  rfl

/-- The token's gradient, a head at a time. -/
theorem tok_piece (x : S512x256.Idx) :
    k0_pay14 (k0_pay7 (part A h i) (part B h i)) (k0_pay8 (part A h i) (part B h i)) (k0_pay10 (part1 G h i1)) (k0_pay12 (part O h i) (part D h i)) x
      = (fun y : S512x1024.Idx => dTok (tokRow A B (y 0)) (row O (y 0)) (row1 G) (row D (y 0)) (y 1))
          ((Rect.unit (s := S512x1024) ![0, 256 * h.val] S512x256.size i).emb x) := by
  obtain ⟨r, k, rfl⟩ : ∃ r k, x = ix2 r k := ⟨x 0, x 1, ix2_eta x⟩
  have e : (Rect.unit (s := S512x1024) ![0, 256 * h.val] S512x256.size i).emb (ix2 r k) = ix2 r (col h k) := funext fun a => Fin.ext (by
    match a with
    | ⟨0, _⟩ => show 0 + 1 * r.val = r.val; omega
    | ⟨1, _⟩ => show 256 * h.val + 1 * k.val = 256 * h.val + k.val; omega)
  have es : ∑ k : Fin 256, part D h i (ix2 r k) * gate (part O h i (ix2 r k)) * part1 G h i1 (ix2 0 k)
        * ((part A h i (ix2 r k) + part B h i (ix2 r k)) * scale (bsq (part A h i) (part B h i) r))
      = ∑ k : Fin 256, thru (row O r) (row D r) (col h k) * row1 G (col h k) * hat (tokRow A B r) (col h k) :=
    Finset.sum_congr rfl fun k _ => congrArg₂ (fun y z : EReal => y * z)
      (congrArg₂ (fun y z : EReal => y * z) (thru_part O D h i r k) (part1_apply G h i1 k)) (hat_part A B h i r k)
  rw [e, tok_apply, es, hat_part, thru_part, part1_apply G h i1 k, bsq_part]
  show _ = dTok _ _ _ _ (col h k)
  rw [dTok, hd_col]

/-- The running sum, a head at a time. -/
theorem step_piece (s : Vec Ideal S1x256 .f32) (f : Fin 1024 → EReal) (hs : ∀ k, s (ix2 0 k) = f (col h k)) (x : S1x256.Idx) :
    k0_pay13 (k0_pay8 (part A h i) (part B h i)) (k0_pay12 (part O h i) (part D h i)) s x
      = (fun y : S1x1024.Idx => f (y 1) + ∑ r : Fin 512, thru (row O r) (row D r) (y 1) * hat (tokRow A B r) (y 1))
          ((Rect.unit (s := S1x1024) ![0, 256 * h.val] S1x256.size i1).emb x) := by
  obtain ⟨k, rfl⟩ : ∃ k, x = ix2 0 k := ⟨x 1, funext fun a => Fin.ext (by
    match a with
    | ⟨0, _⟩ => have : (x 0).val < 1 := (x 0).isLt; show (x 0).val = 0; omega
    | ⟨1, _⟩ => rfl)⟩
  have e : (Rect.unit (s := S1x1024) ![0, 256 * h.val] S1x256.size i1).emb (ix2 0 k) = ix2 0 (col h k) := funext fun a => Fin.ext (by
    match a with
    | ⟨0, _⟩ => rfl
    | ⟨1, _⟩ => show 256 * h.val + 1 * k.val = 256 * h.val + k.val; omega)
  rw [e, step_apply, hs]
  exact congrArg (fun z : EReal => f (col h k) + z) (Finset.sum_congr rfl fun r _ =>
    congrArg₂ (fun y z : EReal => y * z) (thru_part O D h i r k) (hat_part A B h i r k))
end

end Cert.HeadNorm
-- ==== Proof.HeadReference.lean ====
/-
The reference of the head norm's gradient, element by element.
-/
module

public import proofs.«01_k».proof.Proof.HeadRow
public import proofs.«01_k».proof.Proof.Gen.Reference15Ideal.Read

@[expose] public section

set_option maxRecDepth 16384

noncomputable section

namespace Cert.HeadReference

open Cert.Reference15Ideal Cert.Reference15Ideal.Read Cert.Products Cert.HeadMath Cert.HeadNorm
open Idealize.ShloMosaic Idealize.ShloMosaic.TcCoe Idealize.SL.Sem Idealize.ShloMosaic.ValueIdx Idealize.ShloMosaic.StableHlo
open scoped BigOperators

variable (x0 x1 : S8192x1024.Idx → EReal) (x2 : S8192x6144.Idx → EReal) (x3 : S1024.Idx → EReal) (x4 : S8192x2048.Idx → EReal)

/-- A token's rows. -/
abbrev rX (s : Fin 8192) (n : Fin 1024) : EReal := x0 (ix2 s n) + x1 (ix2 s n)
abbrev rO (s : Fin 8192) (n : Fin 1024) : EReal := x2 (ix2 s ⟨4096 + n.val, by have := n.isLt; omega⟩)
abbrev rD (s : Fin 8192) (n : Fin 1024) : EReal := x4 (ix2 s ⟨1024 + n.val, by have := n.isLt; omega⟩)
abbrev rG (n : Fin 1024) : EReal := x3 (ix1 n)

theorem to_col (s : Fin 8192) (h : Fin 4) (k : Fin 256) : idx_main_v2 (ix3 s h k) = ix2 s (col h k) := funext fun a => Fin.ext (by
  have := s.isLt; have := h.isLt; have := k.isLt
  match a with
  | ⟨0, _⟩ => show ((s.val * 4 + h.val) * 256 + k.val) / 1024 = s.val; omega
  | ⟨1, _⟩ => show ((s.val * 4 + h.val) * 256 + k.val) % 1024 = 256 * h.val + k.val; omega)

theorem of_col (s : Fin 8192) (n : Fin 1024) : idx_main_v57 (ix2 s n) = ix3 s (hd n) (lo n) := funext fun a => Fin.ext (by
  have := s.isLt; have := n.isLt
  match a with
  | ⟨0, _⟩ => show (s.val * 1024 + n.val) / 1024 = s.val; omega
  | ⟨1, _⟩ => show (s.val * 1024 + n.val) / 256 % 4 = n.val / 256; omega
  | ⟨2, _⟩ => show (s.val * 1024 + n.val) % 256 = n.val % 256; omega)

theorem tok_apply (s : Fin 8192) (h : Fin 4) (k : Fin 256) : val_main_v2 (F := Ideal) x0 x1 (ix3 s h k) = rX x0 x1 s (col h k) := by
  rw [val_main_v2_apply, to_col]
  rfl

theorem var_apply (s : Fin 8192) (h : Fin 4) : val_main_v9 (F := Ideal) x0 x1 (ix3 s h 0) = var (rsq (rX x0 x1 s) h) := by
  rw [val_main_v9_apply, val_main_v7_apply, val_main_v5_apply, val_main_v4_apply, val_main_v6_apply, val_main_v8_apply]
  refine congrArg (fun b : EReal => Ideal.div b W + E) ?_
  refine (congrArg (fun b : EReal => b + _) Ideal.ofBits_zero_f32).trans ((zero_add _).trans (Finset.sum_congr rfl fun k _ => ?_))
  have e : idx_main_v4 (idx_main_v5 (ix3 s h 0)) k = ix3 s h k := funext fun a => by fin_cases a <;> rfl
  rw [e, val_main_v3_apply, tok_apply]
  rfl

theorem root_apply (s : Fin 8192) (h : Fin 4) : val_main_v10 (F := Ideal) x0 x1 (ix3 s h 0) = scale (rsq (rX x0 x1 s) h) := by
  rw [val_main_v10_apply, var_apply]
  rfl

theorem hat_apply (s : Fin 8192) (h : Fin 4) (k : Fin 256) : val_main_v15 (F := Ideal) x0 x1 (ix3 s h k) = hat (rX x0 x1 s) (col h k) := by
  have e : idx_main_v14 (ix3 s h k) = ix3 s h 0 := funext fun a => by fin_cases a <;> rfl
  rw [val_main_v15_apply, tok_apply, val_main_v14_apply, e, root_apply, hat, hd_col]
  rfl

theorem gate_apply (s : Fin 8192) (n : Fin 1024) : val_main_v25 (F := Ideal) x2 (ix2 s n) = gate (rO x2 s n) := by
  have e : idx_main_v1 (ix2 s n) = ix2 s ⟨4096 + n.val, by have := n.isLt; omega⟩ := funext fun a => Fin.ext (by
    match a with
    | ⟨0, _⟩ => first | rfl | (show 0 + s.val = s.val; omega)
    | ⟨1, _⟩ => rfl)
  rw [val_main_v25_apply, val_main_v24_apply, val_main_v23_apply, val_main_v22_apply, val_main_v21_apply, val_main_v20_apply, val_main_v1_apply, e]
  rfl

theorem deriv_apply (s : Fin 8192) (n : Fin 1024) : val_main_v31 (F := Ideal) x4 (ix2 s n) = rD x4 s n := by
  have e : idx_main_v31 (ix2 s n) = ix2 s ⟨1024 + n.val, by have := n.isLt; omega⟩ := funext fun a => Fin.ext (by
    match a with
    | ⟨0, _⟩ => first | rfl | (show 0 + s.val = s.val; omega)
    | ⟨1, _⟩ => rfl)
  rw [val_main_v31_apply, e]

theorem thru_apply (s : Fin 8192) (h : Fin 4) (k : Fin 256) :
    val_main_v34 (F := Ideal) x2 x4 (ix3 s h k) = thru (rO x2 s) (rD x4 s) (col h k) := by
  rw [val_main_v34_apply, show idx_main_v34 (ix3 s h k) = ix2 s (col h k) from to_col s h k, val_main_v32_apply, gate_apply, deriv_apply]
  exact mul_comm _ _

theorem gain_apply (s : Fin 8192) (h : Fin 4) (k : Fin 256) : val_main_v17 (F := Ideal) x3 (idx_main_v39 (ix3 s h k)) = rG x3 (col h k) := by
  rw [val_main_v17_apply, val_main_v16_apply]
  exact congrArg x3 (funext fun a => Fin.ext (by
    match a with
    | ⟨0, _⟩ => show h.val * 256 + k.val = 256 * h.val + k.val; omega))

/-- The reference's gradient of the gate's argument. -/
theorem reference6_apply (s : Fin 8192) (n : Fin 1024) : val_main_v35 (F := Ideal) x0 x1 x2 x3 x4 (ix2 s n)
    = dGate (rX x0 x1 s) (rO x2 s) (rG x3) (rD x4 s) n := by
  have e : val_main_v19 (F := Ideal) x0 x1 x3 (ix3 s (hd n) (lo n)) = hat (rX x0 x1 s) n * rG x3 n := by
    rw [val_main_v19_apply, hat_apply, val_main_v18_apply, show idx_main_v18 (ix3 s (hd n) (lo n)) = idx_main_v39 (ix3 s (hd n) (lo n)) from rfl,
      gain_apply, col_hd_lo]
    rfl
  rw [val_main_v35_apply, val_main_v33_apply, deriv_apply, val_main_v29_apply, show idx_main_v29 (ix2 s n) = ix3 s (hd n) (lo n) from of_col s n, e,
    val_main_v28_apply, gate_apply, val_main_v27_apply, gate_apply, val_main_v26_apply]
  rfl

theorem gained_apply (s : Fin 8192) (h : Fin 4) (k : Fin 256) :
    val_main_v40 (F := Ideal) x2 x3 x4 (ix3 s h k) = thru (rO x2 s) (rD x4 s) (col h k) * rG x3 (col h k) := by
  rw [val_main_v40_apply, thru_apply, val_main_v39_apply, gain_apply]
  rfl

theorem dot_apply (s : Fin 8192) (h : Fin 4) : val_main_v45 (F := Ideal) x0 x1 x2 x3 x4 (ix3 s h 0)
    = ∑ k : Fin 256, rX x0 x1 s (col h k) * (thru (rO x2 s) (rD x4 s) (col h k) * rG x3 (col h k)) := by
  rw [val_main_v45_apply, val_main_v44_apply]
  refine (congrArg (fun b : EReal => b + _) Ideal.ofBits_zero_f32).trans ((zero_add _).trans (Finset.sum_congr rfl fun k _ => ?_))
  have e : idx_main_v44 (idx_main_v45 (ix3 s h 0)) k = ix3 s h k := funext fun a => Fin.ext (by
    have := h.isLt
    match a with
    | ⟨0, _⟩ => show ((s.val * 4 + h.val) * 1 + 0) / 4 = s.val; omega
    | ⟨1, _⟩ => show ((s.val * 4 + h.val) * 1 + 0) % 4 = h.val; omega
    | ⟨2, _⟩ => rfl)
  rw [e, val_main_v43_apply, tok_apply, gained_apply]
  rfl

theorem dRoot_apply (s : Fin 8192) (h : Fin 4) (k : Fin 256) : val_main_v52 (F := Ideal) x0 x1 x2 x3 x4 (ix3 s h k)
    = dRoot (rsq (rX x0 x1 s) h) (∑ k : Fin 256, rX x0 x1 s (col h k) * (thru (rO x2 s) (rD x4 s) (col h k) * rG x3 (col h k))) := by
  rw [val_main_v52_apply, val_main_v51_apply]
  refine (congrArg (fun b : EReal => b + _) Ideal.ofBits_zero_f32).trans ((zero_add _).trans ((Fin.sum_univ_one _).trans ?_))
  have e : idx_main_v51 (idx_main_v52 (ix3 s h k)) 0 = ix3 s h 0 := funext fun a => by fin_cases a <;> rfl
  rw [e, val_main_v50_apply, val_main_v48_apply, dot_apply, val_main_v13_apply, val_main_v11_apply, root_apply, var_apply, val_main_v12_apply,
    val_main_v49_apply]
  rfl

/-- The reference's gradient of the token, a head at a time. -/
theorem head_apply (s : Fin 8192) (h : Fin 4) (k : Fin 256) : val_main_v56 (F := Ideal) x0 x1 x2 x3 x4 (ix3 s h k)
    = dTok (rX x0 x1 s) (rO x2 s) (rG x3) (rD x4 s) (col h k) := by
  have e : idx_main_v46 (ix3 s h k) = ix3 s h 0 := funext fun a => by fin_cases a <;> rfl
  rw [val_main_v56_apply, val_main_v54_apply, val_main_v47_apply, val_main_v46_apply, e, root_apply, gained_apply, val_main_v53_apply,
    val_main_v55_apply, dRoot_apply, tok_apply]
  have h1 := dNorm_eq (rsq (rX x0 x1 s) h) (sum_sq_nonneg fun k => rX x0 x1 s (col h k)) (fun k => rX x0 x1 s (col h k))
    (fun k => thru (rO x2 s) (rD x4 s) (col h k) * rG x3 (col h k)) k 0
  rw [zero_add] at h1
  refine h1.symm.trans ?_
  rw [dNorm, add_zero, dTok, hd_col, hat, hd_col]
  simp only [hat, hd_col]

theorem reference5_apply (s : Fin 8192) (n : Fin 1024) : val_main_v57 (F := Ideal) x0 x1 x2 x3 x4 (ix2 s n)
    = dTok (rX x0 x1 s) (rO x2 s) (rG x3) (rD x4 s) n := by
  rw [val_main_v57_apply, of_col, head_apply, col_hd_lo]

/-- The reference's gradient of the gain. -/
theorem reference7_apply (n : Fin 1024) : val_main_v58 (F := Ideal) x0 x1 x2 x4 (ix2 0 n)
    = ∑ s : Fin 8192, hat (rX x0 x1 s) n * thru (rO x2 s) (rD x4 s) n := by
  rw [val_main_v58_apply, val_main_v42_apply, val_main_v41_apply]
  refine (congrArg (fun b : EReal => b + _) Ideal.ofBits_zero_f32).trans ((zero_add _).trans ((Fin.sum_univ_one _).trans ?_))
  rw [val_main_v38_apply, val_main_v37_apply]
  refine (congrArg (fun b : EReal => b + _) Ideal.ofBits_zero_f32).trans ((zero_add _).trans (Finset.sum_congr rfl fun s _ => ?_))
  have e : idx_main_v37 (idx_main_v38 (idx_main_v41 (idx_main_v42 (idx_main_v58 (ix2 0 n))) 0)) s = ix3 s (hd n) (lo n) := funext fun a => Fin.ext (by
    have := n.isLt
    match a with
    | ⟨0, _⟩ => rfl
    | ⟨1, _⟩ => show ((0 * 4 + (0 * 1024 + n.val) / 256) * 256 + (0 * 1024 + n.val) % 256) / 256 = n.val / 256; omega
    | ⟨2, _⟩ => show ((0 * 4 + (0 * 1024 + n.val) / 256) * 256 + (0 * 1024 + n.val) % 256) % 256 = n.val % 256; omega)
  rw [e, val_main_v36_apply, hat_apply, thru_apply, col_hd_lo]
  rfl

end Cert.HeadReference
-- ==== Proof.HeadNorm.lean ====
/-
The gradient of the mLSTM's head norm and its output gate.
-/
module

public import proofs.«01_k».proof.Proof.Products
public import proofs.«01_k».proof.Proof.HeadRow
public import proofs.«01_k».proof.Proof.HeadReference
public import proofs.«01_k».proof.Proof.Gen.Kernel15Ideal.Value
public import proofs.«01_k».proof.Proof.Gen.Reference15Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.HeadNorm

open Cert.Kernel15Ideal Cert.Kernel15Ideal.Gen Cert.Products Cert.HeadMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The two directions' results of the mLSTM. -/
abbrev hf (c : Dev nD) : S8192x1024.Idx → EReal := m ((c : Thread nD τ).loc main_arg0)
abbrev hb (c : Dev nD) : S8192x1024.Idx → EReal := m ((c : Thread nD τ).loc main_arg1)
/-- The projection, whose columns from 4096 on are the gate's argument. -/
abbrev pj (c : Dev nD) : S8192x6144.Idx → EReal := m ((c : Thread nD τ).loc main_arg2)
/-- The gain. -/
abbrev gn (c : Dev nD) : S1024.Idx → EReal := m ((c : Thread nD τ).loc main_arg3)
/-- The derivative of the merged heads, whose columns from 1024 on are the mLSTM's. -/
abbrev dy (c : Dev nD) : S8192x2048.Idx → EReal := m ((c : Thread nD τ).loc main_arg4)

/-- A token's rows. -/
abbrev X (c : Dev nD) (s : Fin 8192) (n : Fin 1024) : EReal := hf m c (ix2 s n) + hb m c (ix2 s n)
abbrev O (c : Dev nD) (s : Fin 8192) (n : Fin 1024) : EReal := pj m c (ix2 s ⟨4096 + n.val, by have := n.isLt; omega⟩)
abbrev D (c : Dev nD) (s : Fin 8192) (n : Fin 1024) : EReal := dy m c (ix2 s ⟨1024 + n.val, by have := n.isLt; omega⟩)
abbrev G (c : Dev nD) (n : Fin 1024) : EReal := gn m c (ix1 n)

theorem V_gn (c : Dev nD) : V m c main_v0 = shapeCast S1x1024 (gn m c) shapeCasts_S1024_S1x1024 := by
  simp only [V, hostOps0, List.flatten_cons, List.flatten_nil, List.append_nil, List.cons_append, List.nil_append,
    TRef.binary, TRef.nullary, TRef.unary, TRef.toBuf, TRef.ofBuf, cast_eq]
  after_results <;> rfl

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 4] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 1] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point: the two directions, the gate's argument, the gain and the derivative. -/
abbrev b0 (c : Dev nD) (t : Fin cfg0.N) : Vec Ideal S512x1024 .f32 := iblk m c 0 t
abbrev b1 (c : Dev nD) (t : Fin cfg0.N) : Vec Ideal S512x1024 .f32 := iblk m c 1 t
abbrev b2 (c : Dev nD) (t : Fin cfg0.N) : Vec Ideal S512x1024 .f32 := iblk m c 2 t
abbrev b3 (c : Dev nD) (t : Fin cfg0.N) : Vec Ideal S1x1024 .f32 := iblk m c 3 t
abbrev b4 (c : Dev nD) (t : Fin cfg0.N) : Vec Ideal S512x1024 .f32 := iblk m c 4 t

theorem in0 (c : Dev nD) (t : Fin cfg0.N) (r : Fin 512) (n : Fin 1024) : b0 m c t (ix2 r n) = hf m c (ix2 (tok t r) n) := by
  rw [show hf m c = V m c main_arg0 from (V_main_arg0 m c).symm]
  blk_simp [iblk]
  refine congrArg (V m c main_arg0) ?_
  blk_ext [at0]

theorem in1 (c : Dev nD) (t : Fin cfg0.N) (r : Fin 512) (n : Fin 1024) : b1 m c t (ix2 r n) = hb m c (ix2 (tok t r) n) := by
  rw [show hb m c = V m c main_arg1 from (V_main_arg1 m c).symm]
  blk_simp [iblk]
  refine congrArg (V m c main_arg1) ?_
  blk_ext [at1]

theorem in2 (c : Dev nD) (t : Fin cfg0.N) (r : Fin 512) (n : Fin 1024) : b2 m c t (ix2 r n) = O m c (tok t r) n := by
  rw [O, show pj m c = V m c main_arg2 from (V_main_arg2 m c).symm]
  blk_simp [iblk]
  refine congrArg (V m c main_arg2) ?_
  blk_ext [at2]

theorem in3 (c : Dev nD) (t : Fin cfg0.N) (n : Fin 1024) : b3 m c t (ix2 0 n) = G m c n := by
  have e : V m c main_v0 (ix2 0 n) = gn m c (ix1 n) := by
    rw [V_gn]
    refine shapeCast_apply _ _ _ (ix1 n) ?_
    rw [Shape.rowMajor_val_one, Shape.rowMajor_val_two]
    show n.val = 0 * 1024 + n.val
    omega
  rw [G, ← e]
  blk_simp [iblk]
  refine congrArg (V m c main_v0) ?_
  blk_ext [at3]

theorem in4 (c : Dev nD) (t : Fin cfg0.N) (r : Fin 512) (n : Fin 1024) : b4 m c t (ix2 r n) = D m c (tok t r) n := by
  rw [D, show dy m c = V m c main_arg4 from (V_main_arg4 m c).symm]
  blk_simp [iblk]
  refine congrArg (V m c main_arg4) ?_
  blk_ext [at4]

theorem row_X (c : Dev nD) (t : Fin cfg0.N) (r : Fin 512) : tokRow (b0 m c t) (b1 m c t) r = X m c (tok t r) :=
  funext fun n => congrArg₂ (fun a b : EReal => a + b) (in0 m c t r n) (in1 m c t r n)
theorem row_O (c : Dev nD) (t : Fin cfg0.N) (r : Fin 512) : row (b2 m c t) r = O m c (tok t r) := funext fun n => in2 m c t r n
theorem row_D (c : Dev nD) (t : Fin cfg0.N) (r : Fin 512) : row (b4 m c t) r = D m c (tok t r) := funext fun n => in4 m c t r n
theorem row_G (c : Dev nD) (t : Fin cfg0.N) : row1 (b3 m c t) = G m c := funext fun n => in3 m c t n

/-- An index of a block lies in the piece of its head. -/
theorem covered (y : S512x1024.Idx) (h : Fin 4) (hy : (y 1).val / 256 = h.val)
    (i : ∀ a, (![0, 256 * h.val] : Fin 2 → Nat) a + S512x256.size a ≤ S512x1024.size a) :
    y ∈ (Rect.unit (s := S512x1024) ![0, 256 * h.val] S512x256.size i).set := by
  rw [Rect.mem_set_unit]
  intro a
  fin_cases a
  · exact ⟨Nat.zero_le _, by have : (y 0).val < 512 := (y 0).isLt; show (y 0).val < 0 + 512; omega⟩
  · exact ⟨by show 256 * h.val ≤ (y 1).val; omega, by show (y 1).val < 256 * h.val + 256; omega⟩

/-- An index of a row lies in the piece of its head. -/
theorem covered1 (y : S1x1024.Idx) (h : Fin 4) (hy : (y 1).val / 256 = h.val)
    (i : ∀ a, (![0, 256 * h.val] : Fin 2 → Nat) a + S1x256.size a ≤ S1x1024.size a) :
    y ∈ (Rect.unit (s := S1x1024) ![0, 256 * h.val] S1x256.size i).set := by
  rw [Rect.mem_set_unit]
  intro a
  fin_cases a
  · exact ⟨Nat.zero_le _, by have : (y 0).val < 1 := (y 0).isLt; show (y 0).val < 0 + 1; omega⟩
  · exact ⟨by show 256 * h.val ≤ (y 1).val; omega, by show (y 1).val < 256 * h.val + 256; omega⟩

/-! ## The first two results -/

theorem out6 (c : Dev nD) (t : Fin cfg0.N) (y : S512x1024.Idx) : (outsAt0 m c t.val t.isLt).2.1 y
    = (fun y : S512x1024.Idx => dGate (tokRow (b0 m c t) (b1 m c t) (y 0)) (row (b2 m c t) (y 0)) (row1 (b3 m c t)) (row (b4 m c t) (y 0)) (y 1)) y := by
  by_cases h : t.val % 16 = 0
  all_goals first | rw [outsAt0_A m c t h] | rw [outsAt0_B m c t h]
  all_goals
    frame_out
    refine View.canon_append_of_piecesOf (Val := Elt Ideal) (e := .f32) (fun y : S512x1024.Idx => dGate (tokRow (b0 m c t) (b1 m c t) (y 0)) (row (b2 m c t) (y 0)) (row1 (b3 m c t)) (row (b4 m c t) (y 0)) (y 1)) [] [_, _, _, _]
      ⟨fun x => ?_, fun x => ?_, fun x => ?_, fun x => ?_, trivial⟩ y ?_
    · exact gate_piece (b0 m c t) (b1 m c t) (b2 m c t) (b4 m c t) (b3 m c t) 3 inb_S512x1024_S512x256_0_768 inb_S1x1024_S1x256_0_768 x
    · exact gate_piece (b0 m c t) (b1 m c t) (b2 m c t) (b4 m c t) (b3 m c t) 2 inb_S512x1024_S512x256_0_512 inb_S1x1024_S1x256_0_512 x
    · exact gate_piece (b0 m c t) (b1 m c t) (b2 m c t) (b4 m c t) (b3 m c t) 1 inb_S512x1024_S512x256_0_256 inb_S1x1024_S1x256_0_256 x
    · exact gate_piece (b0 m c t) (b1 m c t) (b2 m c t) (b4 m c t) (b3 m c t) 0 inb_S512x1024_S512x256_0_0 inb_S1x1024_S1x256_0_0 x
    · have hy : (y 1).val < 1024 := (y 1).isLt
      obtain h | h | h | h : (y 1).val / 256 = 3 ∨ (y 1).val / 256 = 2 ∨ (y 1).val / 256 = 1 ∨ (y 1).val / 256 = 0 := by omega
      · exact ⟨_, .head _, covered y 3 h inb_S512x1024_S512x256_0_768⟩
      · exact ⟨_, .tail _ (.head _), covered y 2 h inb_S512x1024_S512x256_0_512⟩
      · exact ⟨_, .tail _ (.tail _ (.head _)), covered y 1 h inb_S512x1024_S512x256_0_256⟩
      · exact ⟨_, .tail _ (.tail _ (.tail _ (.head _))), covered y 0 h inb_S512x1024_S512x256_0_0⟩

theorem out5 (c : Dev nD) (t : Fin cfg0.N) (y : S512x1024.Idx) : (outsAt0 m c t.val t.isLt).1 y
    = (fun y : S512x1024.Idx => dTok (tokRow (b0 m c t) (b1 m c t) (y 0)) (row (b2 m c t) (y 0)) (row1 (b3 m c t)) (row (b4 m c t) (y 0)) (y 1)) y := by
  by_cases h : t.val % 16 = 0
  all_goals first | rw [outsAt0_A m c t h] | rw [outsAt0_B m c t h]
  all_goals
    frame_out
    refine View.canon_append_of_piecesOf (Val := Elt Ideal) (e := .f32) (fun y : S512x1024.Idx => dTok (tokRow (b0 m c t) (b1 m c t) (y 0)) (row (b2 m c t) (y 0)) (row1 (b3 m c t)) (row (b4 m c t) (y 0)) (y 1)) [] [_, _, _, _]
      ⟨fun x => ?_, fun x => ?_, fun x => ?_, fun x => ?_, trivial⟩ y ?_
    · exact tok_piece (b0 m c t) (b1 m c t) (b2 m c t) (b4 m c t) (b3 m c t) 3 inb_S512x1024_S512x256_0_768 inb_S1x1024_S1x256_0_768 x
    · exact tok_piece (b0 m c t) (b1 m c t) (b2 m c t) (b4 m c t) (b3 m c t) 2 inb_S512x1024_S512x256_0_512 inb_S1x1024_S1x256_0_512 x
    · exact tok_piece (b0 m c t) (b1 m c t) (b2 m c t) (b4 m c t) (b3 m c t) 1 inb_S512x1024_S512x256_0_256 inb_S1x1024_S1x256_0_256 x
    · exact tok_piece (b0 m c t) (b1 m c t) (b2 m c t) (b4 m c t) (b3 m c t) 0 inb_S512x1024_S512x256_0_0 inb_S1x1024_S1x256_0_0 x
    · have hy : (y 1).val < 1024 := (y 1).isLt
      obtain h | h | h | h : (y 1).val / 256 = 3 ∨ (y 1).val / 256 = 2 ∨ (y 1).val / 256 = 1 ∨ (y 1).val / 256 = 0 := by omega
      · exact ⟨_, .head _, covered y 3 h inb_S512x1024_S512x256_0_768⟩
      · exact ⟨_, .tail _ (.head _), covered y 2 h inb_S512x1024_S512x256_0_512⟩
      · exact ⟨_, .tail _ (.tail _ (.head _)), covered y 1 h inb_S512x1024_S512x256_0_256⟩
      · exact ⟨_, .tail _ (.tail _ (.tail _ (.head _))), covered y 0 h inb_S512x1024_S512x256_0_0⟩

/-- What the kernel leaves in its first two results. -/
def G5 (c : Dev nD) (i : S8192x1024.Idx) : EReal := dTok (X m c (i 0)) (O m c (i 0)) (G m c) (D m c (i 0)) (i 1)
def G6 (c : Dev nD) (i : S8192x1024.Idx) : EReal := dGate (X m c (i 0)) (O m c (i 0)) (G m c) (D m c (i 0)) (i 1)

theorem place5 (t : Fin cfg0.N) (y : S512x1024.Idx) : ((cfg0.win 5).blk t).view.emb y = ix2 (tok t (y 0)) (y 1) := by
  blk_ext [at5]
theorem place6 (t : Fin cfg0.N) (y : S512x1024.Idx) : ((cfg0.win 6).blk t).view.emb y = ix2 (tok t (y 0)) (y 1) := by
  blk_ext [at6]

theorem final5 (c : Dev nD) : (dats m 0 c).arrAt 5 cfg0.N = G5 m c := by
  refine (dats m 0 c).arrAt_eq_of_covers 5 _ (by decide +kernel) fun t hf y => ?_
  blk_simp
  rw [after0_5]
  refine Eq.trans ?_ (congrArg (G5 m c) (place5 t y).symm)
  refine (out5 m c t y).trans ?_
  show dTok (tokRow (b0 m c t) (b1 m c t) (y 0)) (row (b2 m c t) (y 0)) (row1 (b3 m c t)) (row (b4 m c t) (y 0)) (y 1)
    = dTok (X m c (tok t (y 0))) (O m c (tok t (y 0))) (G m c) (D m c (tok t (y 0))) (y 1)
  rw [row_X m c t (y 0), row_O m c t (y 0), row_G m c t, row_D m c t (y 0)]

theorem final6 (c : Dev nD) : (dats m 0 c).arrAt 6 cfg0.N = G6 m c := by
  refine (dats m 0 c).arrAt_eq_of_covers 6 _ (by decide +kernel) fun t hf y => ?_
  blk_simp
  rw [after0_6]
  refine Eq.trans ?_ (congrArg (G6 m c) (place6 t y).symm)
  refine (out6 m c t y).trans ?_
  show dGate (tokRow (b0 m c t) (b1 m c t) (y 0)) (row (b2 m c t) (y 0)) (row1 (b3 m c t)) (row (b4 m c t) (y 0)) (y 1)
    = dGate (X m c (tok t (y 0))) (O m c (tok t (y 0))) (G m c) (D m c (tok t (y 0))) (y 1)
  rw [row_X m c t (y 0), row_O m c t (y 0), row_G m c t, row_D m c t (y 0)]

/-! ## The third result -/

/-- What a point adds to the gain's gradient. -/
def addend (c : Dev nD) (t : Fin cfg0.N) (n : Fin 1024) : EReal :=
  ∑ r : Fin 512, thru (row (b2 m c t) r) (row (b4 m c t) r) n * hat (tokRow (b0 m c t) (b1 m c t) r) n

/-- The sum starts from zero. -/
theorem start_apply (y : S1x1024.Idx) : k0_pay5 (F := Ideal) y = 0 := by
  unfold k0_pay5
  exact Ideal.ofBits_zero_f32

/-- Reading a head of the cleared sum. -/
theorem clear_nil (v : View Kernel15Ideal.sig .tc .vmem S1x1024 .f32) (h : Fin 4)
    (i : ∀ a, (![0, 256 * h.val] : Fin 2 → Nat) a + S1x256.size a ≤ S1x1024.size a) :
    v.readCov [⟨Rect.unit ![0, 0] ![1, 1024] inb_S1x1024_S1x1024_0_0, k0_pay5 (F := Ideal)⟩]
        (Rect.unit (s := S1x1024) ![0, 256 * h.val] S1x256.size i).toLoadRect
      = part1 (k0_pay5 (F := Ideal)) h i :=
  View.readCov_fill (Val := Elt Ideal) (e := .f32) v inb_S1x1024_S1x1024_0_0 (k0_pay5 (F := Ideal)) [] _
    (fun a => by fin_cases a <;> rfl)

/-- What the first point loads of the sum. -/
theorem load_first (v : View Kernel15Ideal.sig .tc .vmem S1x1024 .f32) (L : List (View.Piece (Elt Ideal) S1x1024 .f32)) (h : Fin 4)
    (i : ∀ a, (![0, 256 * h.val] : Fin 2 → Nat) a + S1x256.size a ≤ S1x1024.size a)
    (hc : v.readCov L (Rect.unit (s := S1x1024) ![0, 256 * h.val] S1x256.size i).toLoadRect = part1 (k0_pay5 (F := Ideal)) h i) (k : Fin 256) :
    v.readCov L (Rect.unit (s := S1x1024) ![0, 256 * h.val] S1x256.size i).toLoadRect (ix2 0 k) = (fun _ : Fin 1024 => (0 : EReal)) (col h k) := by
  rw [hc]
  exact start_apply _

theorem sum_first (c : Dev nD) (t : Fin cfg0.N) (h : t.val % 16 = 0) (n : Fin 1024) :
    (outsAt0 m c t.val t.isLt).2.2 (ix2 0 n) = 0 + addend m c t n := by
  rw [outsAt0_A m c t h]
  frame_out
  refine View.canon_append_of_piecesOf (Val := Elt Ideal) (e := .f32) (fun y : S1x1024.Idx => (fun _ : Fin 1024 => (0 : EReal)) (y 1) + addend m c t (y 1)) [_] [_, _, _, _]
      ⟨fun x => ?_, fun x => ?_, fun x => ?_, fun x => ?_, trivial⟩ (ix2 0 n) ?_
  · refine step_piece (b0 m c t) (b1 m c t) (b2 m c t) (b4 m c t) 3 inb_S512x1024_S512x256_0_768 inb_S1x1024_S1x256_0_768 _ (fun _ => 0) (fun k => ?_) x
    exact (load_first _ _ 3 inb_S1x1024_S1x256_0_768 ((View.readCov_skip _ _ _ _ _ rfl).trans <| (View.readCov_skip _ _ _ _ _ rfl).trans <| (View.readCov_skip _ _ _ _ _ rfl).trans <| clear_nil _ 3 _)) k
  · refine step_piece (b0 m c t) (b1 m c t) (b2 m c t) (b4 m c t) 2 inb_S512x1024_S512x256_0_512 inb_S1x1024_S1x256_0_512 _ (fun _ => 0) (fun k => ?_) x
    exact (load_first _ _ 2 inb_S1x1024_S1x256_0_512 ((View.readCov_skip _ _ _ _ _ rfl).trans <| (View.readCov_skip _ _ _ _ _ rfl).trans <| clear_nil _ 2 _)) k
  · refine step_piece (b0 m c t) (b1 m c t) (b2 m c t) (b4 m c t) 1 inb_S512x1024_S512x256_0_256 inb_S1x1024_S1x256_0_256 _ (fun _ => 0) (fun k => ?_) x
    exact (load_first _ _ 1 inb_S1x1024_S1x256_0_256 ((View.readCov_skip _ _ _ _ _ rfl).trans <| clear_nil _ 1 _)) k
  · refine step_piece (b0 m c t) (b1 m c t) (b2 m c t) (b4 m c t) 0 inb_S512x1024_S512x256_0_0 inb_S1x1024_S1x256_0_0 _ (fun _ => 0) (fun k => ?_) x
    exact (load_first _ _ 0 inb_S1x1024_S1x256_0_0 (clear_nil _ 0 _)) k
  · have hn : n.val < 1024 := n.isLt
    obtain h | h | h | h : n.val / 256 = 3 ∨ n.val / 256 = 2 ∨ n.val / 256 = 1 ∨ n.val / 256 = 0 := by omega
    · exact ⟨_, .head _, covered1 (ix2 0 n) 3 h inb_S1x1024_S1x256_0_768⟩
    · exact ⟨_, .tail _ (.head _), covered1 (ix2 0 n) 2 h inb_S1x1024_S1x256_0_512⟩
    · exact ⟨_, .tail _ (.tail _ (.head _)), covered1 (ix2 0 n) 1 h inb_S1x1024_S1x256_0_256⟩
    · exact ⟨_, .tail _ (.tail _ (.tail _ (.head _))), covered1 (ix2 0 n) 0 h inb_S1x1024_S1x256_0_0⟩

theorem sum_later (c : Dev nD) (t : Fin cfg0.N) (h : ¬t.val % 16 = 0) (n : Fin 1024) :
    (outsAt0 m c t.val t.isLt).2.2 (ix2 0 n)
      = (outsAt0 m c (t.val - 1) (lt_of_le_of_lt (Nat.sub_le _ _) t.isLt)).2.2 (ix2 0 n) + addend m c t n := by
  rw [outsAt0_B m c t h]
  frame_out
  generalize (outsAt0 m c (t.val - 1) _).2.2 = P
  refine View.canon_append_of_piecesOf (Val := Elt Ideal) (e := .f32) (fun y : S1x1024.Idx => (fun n : Fin 1024 => (P (ix2 0 n) : EReal)) (y 1) + addend m c t (y 1)) [] [_, _, _, _]
      ⟨fun x => ?_, fun x => ?_, fun x => ?_, fun x => ?_, trivial⟩ (ix2 0 n) ?_
  · exact step_piece (b0 m c t) (b1 m c t) (b2 m c t) (b4 m c t) 3 inb_S512x1024_S512x256_0_768 inb_S1x1024_S1x256_0_768 (part1 P 3 inb_S1x1024_S1x256_0_768) (fun n => P (ix2 0 n)) (part1_apply P 3 inb_S1x1024_S1x256_0_768) x
  · exact step_piece (b0 m c t) (b1 m c t) (b2 m c t) (b4 m c t) 2 inb_S512x1024_S512x256_0_512 inb_S1x1024_S1x256_0_512 (part1 P 2 inb_S1x1024_S1x256_0_512) (fun n => P (ix2 0 n)) (part1_apply P 2 inb_S1x1024_S1x256_0_512) x
  · exact step_piece (b0 m c t) (b1 m c t) (b2 m c t) (b4 m c t) 1 inb_S512x1024_S512x256_0_256 inb_S1x1024_S1x256_0_256 (part1 P 1 inb_S1x1024_S1x256_0_256) (fun n => P (ix2 0 n)) (part1_apply P 1 inb_S1x1024_S1x256_0_256) x
  · exact step_piece (b0 m c t) (b1 m c t) (b2 m c t) (b4 m c t) 0 inb_S512x1024_S512x256_0_0 inb_S1x1024_S1x256_0_0 (part1 P 0 inb_S1x1024_S1x256_0_0) (fun n => P (ix2 0 n)) (part1_apply P 0 inb_S1x1024_S1x256_0_0) x
  · have hn : n.val < 1024 := n.isLt
    obtain h | h | h | h : n.val / 256 = 3 ∨ n.val / 256 = 2 ∨ n.val / 256 = 1 ∨ n.val / 256 = 0 := by omega
    · exact ⟨_, .head _, covered1 (ix2 0 n) 3 h inb_S1x1024_S1x256_0_768⟩
    · exact ⟨_, .tail _ (.head _), covered1 (ix2 0 n) 2 h inb_S1x1024_S1x256_0_512⟩
    · exact ⟨_, .tail _ (.tail _ (.head _)), covered1 (ix2 0 n) 1 h inb_S1x1024_S1x256_0_256⟩
    · exact ⟨_, .tail _ (.tail _ (.tail _ (.head _))), covered1 (ix2 0 n) 0 h inb_S1x1024_S1x256_0_0⟩

/-- Point `s` of the run. -/
abbrev pt (s : Fin 16) : Fin cfg0.N := ⟨s.val, s.isLt⟩

/-- After the last point the running sum holds what all points added. -/
theorem sum_eq (c : Dev nD) (t : Fin cfg0.N) (ht : t.val % 16 = 15) (n : Fin 1024) :
    (outsAt0 m c t.val t.isLt).2.2 (ix2 0 n) = ∑ s : Fin 16, addend m c (pt s) n := by
  have h := Pipeline.eq_sum_fin_of_reset_step_apply_of_flush (fun n h k => (outsAt0 m c n h).2.2 (ix2 0 k)) 16 (fun _ => (0 : EReal))
    (fun t n => addend m c t n) (fun t h n => sum_first m c t h n) (fun t h n => sum_later m c t h n) t ht n
  rw [zero_add] at h
  refine h.trans (Finset.sum_congr rfl fun s _ => ?_)
  have e : (⟨16 * (t.val / 16) + s.val, Pipeline.run_point_lt_of_flush t ht s⟩ : Fin cfg0.N) = pt s :=
    Fin.ext (by have : t.val < 16 := t.isLt; show 16 * (t.val / 16) + s.val = s.val; omega)
  exact congrArg (fun t => addend m c t n) e

/-- What the kernel leaves in its third result. -/
def G7 (c : Dev nD) (i : S1x1024.Idx) : EReal := ∑ s : Fin 8192, thru (O m c s) (D m c s) (i 1) * hat (X m c s) (i 1)

theorem run_sum (c : Dev nD) (n : Fin 1024) :
    ∑ s : Fin 16, addend m c (pt s) n = ∑ s : Fin 8192, thru (O m c s) (D m c s) n * hat (X m c s) n := by
  refine Fin.sum_mul_add_congr fun s k hl => ?_
  show thru (row (b2 m c (pt s)) k) (row (b4 m c (pt s)) k) n * hat (tokRow (b0 m c (pt s)) (b1 m c (pt s)) k) n = _
  rw [row_X, row_O, row_D]

theorem place7 (t : Fin cfg0.N) (y : S1x1024.Idx) : ((cfg0.win 7).blk t).view.emb y = y := by
  blk_ext [at7]

theorem final7 (c : Dev nD) : (dats m 0 c).arrAt 7 cfg0.N = G7 m c := by
  refine (dats m 0 c).arrAt_eq_of_covers 7 _ (by decide +kernel) fun t hf y => ?_
  have ht : t.val % 16 = 15 := (flush0_7 t).mp hf
  blk_simp
  rw [after0_7]
  refine Eq.trans ?_ (congrArg (G7 m c) (place7 t y).symm)
  have h0 : y = ix2 0 (y 1) := funext fun a => Fin.ext (by
    match a with
    | ⟨0, _⟩ => have : (y 0).val < 1 := (y 0).isLt; show (y 0).val = 0; omega
    | ⟨1, _⟩ => rfl)
  exact (congrArg (outsAt0 m c t.val t.isLt).2.2 h0).trans ((sum_eq m c t ht (y 1)).trans (run_sum m c (y 1)))

/-- The two first arrays are equal. -/
theorem result5 (c : Dev nD) :
    (G5 m c : S8192x1024.Idx → EReal) = Cert.Reference15Ideal.Read.val_main_v57 (F := Ideal) (hf m c) (hb m c) (pj m c) (gn m c) (dy m c) := by
  funext i
  obtain ⟨s, n, rfl⟩ : ∃ s n, i = ix2 s n := ⟨i 0, i 1, ix2_eta i⟩
  exact (HeadReference.reference5_apply (hf m c) (hb m c) (pj m c) (gn m c) (dy m c) s n).symm

/-- The two second arrays are equal. -/
theorem result6 (c : Dev nD) :
    (G6 m c : S8192x1024.Idx → EReal) = Cert.Reference15Ideal.Read.val_main_v35 (F := Ideal) (hf m c) (hb m c) (pj m c) (gn m c) (dy m c) := by
  funext i
  obtain ⟨s, n, rfl⟩ : ∃ s n, i = ix2 s n := ⟨i 0, i 1, ix2_eta i⟩
  exact (HeadReference.reference6_apply (hf m c) (hb m c) (pj m c) (gn m c) (dy m c) s n).symm

/-- The two third arrays are equal. -/
theorem result7 (c : Dev nD) :
    (G7 m c : S1x1024.Idx → EReal) = Cert.Reference15Ideal.Read.val_main_v58 (F := Ideal) (hf m c) (hb m c) (pj m c) (dy m c) := by
  funext i
  have h0 : i = ix2 0 (i 1) := funext fun a => Fin.ext (by
    match a with
    | ⟨0, _⟩ => have : (i 0).val < 1 := (i 0).isLt; show (i 0).val = 0; omega
    | ⟨1, _⟩ => rfl)
  refine Eq.trans ?_ ((congrArg (Cert.Reference15Ideal.Read.val_main_v58 (F := Ideal) (hf m c) (hb m c) (pj m c) (dy m c)) h0).trans
    (HeadReference.reference7_apply (hf m c) (hb m c) (pj m c) (dy m c) (i 1))).symm
  exact Finset.sum_congr rfl fun s _ => mul_comm _ _

/-- The claim: the two programs leave the same three arrays. -/
theorem equal : Cert.algebraic_Kernel15Ideal_Reference15Ideal := fun m g m' g' _ hag =>
  ⟨fun c => G5 m c, fun c => G6 m c, fun c => G7 m c,
    (θ_run _ _ _).mono (fun _ h c => ⟨(h c).1.trans (final5 m c), (h c).2.1.trans (final6 m c), (h c).2.2.1.trans (final7 m c), (h c).2.2.2⟩)
      (Cert.Kernel15Ideal.Value.run_blocks m g),
    (θ_run _ _ _).mono (fun _ h c => ⟨(h c).1.trans (by
        rw [Cert.Reference15Ideal.Read.val_main_v57_eq, (hag c).1, (hag c).2.1, (hag c).2.2.1, (hag c).2.2.2.1, (hag c).2.2.2.2]
        exact (result5 m c).symm), (h c).2.1.trans (by
        rw [Cert.Reference15Ideal.Read.val_main_v35_eq, (hag c).1, (hag c).2.1, (hag c).2.2.1, (hag c).2.2.2.1, (hag c).2.2.2.2]
        exact (result6 m c).symm), (h c).2.2.1.trans (by
        rw [Cert.Reference15Ideal.Read.val_main_v58_eq, (hag c).1, (hag c).2.1, (hag c).2.2.1, (hag c).2.2.2.2]
        exact (result7 m c).symm), (h c).2.2.2⟩)
      (Cert.Reference15Ideal.Value.run m' g')⟩

end Cert.HeadNorm
-- ==== Proof.NormAfter.lean ====
/-
The gradient of the norm after a feed-forward block, whose result is added by half: of the row it normalises, and of its gain.

Grid point t holds 512 tokens. It writes the gradient of its rows, and adds to a running sum over the tokens the derivative times
the normalised row. The two arrays are those of differentiation, on all extended reals.
-/
module

public import proofs.«01_k».proof.Proof.Products
public import proofs.«01_k».proof.Proof.GateMath
public import proofs.«01_k».proof.Proof.NormMath
public import proofs.«01_k».proof.Proof.Gen.Kernel16Ideal.Value
public import proofs.«01_k».proof.Proof.Gen.Reference16Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.NormAfter

open Cert.Kernel16Ideal Cert.Kernel16Ideal.Gen Cert.Products Cert.GateMath Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The derivative that arrives. -/
abbrev dy (c : Dev nD) : S8192x2048.Idx → EReal := m ((c : Thread nD τ).loc main_arg0)
/-- The row. -/
abbrev xx (c : Dev nD) : S8192x2048.Idx → EReal := m ((c : Thread nD τ).loc main_arg1)
/-- The gain. -/
abbrev gn (c : Dev nD) : S2048.Idx → EReal := m ((c : Thread nD τ).loc main_arg2)
theorem V_xx (c : Dev nD) : V m c main_v0 = xx m c := by
  simp only [V, hostOps0, List.flatten_cons, List.flatten_nil, List.append_nil, List.cons_append, List.nil_append,
    TRef.binary, TRef.nullary, TRef.unary, TRef.toBuf, TRef.ofBuf, cast_eq]
  after_results <;> rfl

theorem V_gn (c : Dev nD) : V m c main_v1 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- The word of one half. -/
abbrev half : EReal := Ideal.ofBits .f32 0x3F000000#32

/-- A row's sum of squares. -/
def sq (x : Vec Ideal S512x2048 .bf16) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- A row widened is the row. -/
theorem wide_apply (x : Vec Ideal S512x2048 .bf16) (r : Fin 512) (n : Fin 2048) : k0_pay3 x (ix2 r n) = x (ix2 r n) := by
  unfold k0_pay3
  rw [shapeCast_self]
  rfl

/-- What the kernel scales a row by. -/
theorem scale_apply (x : Vec Ideal S512x2048 .bf16) (r : Fin 512) : k0_pay5 x (ix2 r 0) = scale (sq x r) := by
  unfold k0_pay5
  exact congrArg (fun b : EReal => Ideal.rsqrt (Ideal.div b W + E)) ((rowSum_apply (mulf (k0_pay3 x) (k0_pay3 x)) r).trans
    (Finset.sum_congr rfl fun k _ => congrArg₂ (fun a b : EReal => a * b) (wide_apply x r k) (wide_apply x r k)))

/-- The normalised row. -/
theorem normal_apply (x : Vec Ideal S512x2048 .bf16) (r : Fin 512) (n : Fin 2048) : k0_pay6 x (ix2 r n) = x (ix2 r n) * scale (sq x r) := by
  unfold k0_pay6
  show k0_pay3 x (ix2 r n) * broadcastTo S512x2048 (k0_pay5 x) broadcasts_S512x1_S512x2048 (ix2 r n) = _
  rw [spread_apply, scale_apply, wide_apply]

/-- The derivative times the gain. -/
theorem gained_apply (d : Vec Ideal S512x2048 .f32) (g : Vec Ideal S1x2048 .f32) (r : Fin 512) (n : Fin 2048) :
    mulf (k0_pay4 d) (broadcastTo S512x2048 (shapeCast S1x2048 g shapeCasts_S1x2048_S1x2048) broadcasts_S1x2048_S512x2048) (ix2 r n)
      = d (ix2 r n) * half * g (ix2 0 n) := by
  rw [shapeCast_self]
  exact congrArg (fun b : EReal => d (ix2 r n) * half * b) (congrArg g (funext fun a => by fin_cases a <;> rfl))

/-- The gradient of a row. -/
theorem grad_apply (x : Vec Ideal S512x2048 .bf16) (d : Vec Ideal S512x2048 .f32) (g : Vec Ideal S1x2048 .f32) (r : Fin 512) (n : Fin 2048) :
    k0_pay1 (k0_pay5 x) (k0_pay8 x d g) (ix2 r n)
      = dNorm (sq x r) (x (ix2 r n)) (d (ix2 r n) * half * g (ix2 0 n))
          (∑ k : Fin 2048, d (ix2 r k) * half * g (ix2 0 k) * (x (ix2 r k) * scale (sq x r))) 0 := by
  unfold k0_pay1 k0_pay8 dNorm
  dsimp only
  rw [add_zero]
  refine congrArg₂ (fun a b : EReal => a * b) ((spread_apply _ r n).trans (scale_apply x r)) ?_
  refine congrArg₂ (fun a b : EReal => a - b) (gained_apply d g r n) (congrArg₂ (fun a b : EReal => a * b) (normal_apply x r n) ?_)
  refine (spread_apply _ r n).trans (congrArg (fun b : EReal => Ideal.div b W) ((rowSum_apply _ r).trans ?_))
  exact Finset.sum_congr rfl fun k _ => congrArg₂ (fun a b : EReal => a * b) (gained_apply d g r k) (normal_apply x r k)

/-- What a point adds to the gain's gradient. -/
def part (x : Vec Ideal S512x2048 .bf16) (d : Vec Ideal S512x2048 .f32) (n : Fin 2048) : EReal :=
  ∑ r : Fin 512, d (ix2 r n) * half * (x (ix2 r n) * scale (sq x r))

/-- A point adds to the running sum. -/
theorem step_apply (x : Vec Ideal S512x2048 .bf16) (d : Vec Ideal S512x2048 .f32) (a : Vec Ideal S1x2048 .f32) (n : Fin 2048) :
    k0_pay7 x d a (ix2 0 n) = a (ix2 0 n) + part x d n := by
  unfold k0_pay7
  rw [shapeCast_self]
  refine congrArg (fun b : EReal => a (ix2 0 n) + b) ?_
  refine (shapeCast_apply _ _ _ (ix1 n) ?_).trans ((Ideal.multiReduction_add_single _ _ _ _ _ _).trans ?_)
  · rw [Shape.rowMajor_val_one, Shape.rowMajor_val_two]
    show n.val = 0 * 2048 + n.val
    omega
  · refine Finset.sum_congr rfl fun r _ => ?_
    have e : reduces_S512x2048_S2048.lift (ix1 n) r = ix2 r n := funext fun a => by fin_cases a <;> rfl
    rw [e]
    exact congrArg₂ (fun a b : EReal => a * b) rfl (normal_apply x r n)

/-- The sum starts from zero. -/
theorem start_apply (y : S1x2048.Idx) : k0_pay2 (F := Ideal) y = 0 := Ideal.ofBits_zero_f32

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point: the derivative, the rows and the gain. -/
abbrev b0 (c : Dev nD) (t : Fin cfg0.N) : Vec Ideal S512x2048 .f32 := iblk m c 0 t
abbrev b1 (c : Dev nD) (t : Fin cfg0.N) : Vec Ideal S512x2048 .bf16 := iblk m c 1 t
abbrev b2 (c : Dev nD) (t : Fin cfg0.N) : Vec Ideal S1x2048 .f32 := iblk m c 2 t

theorem in0 (c : Dev nD) (t : Fin cfg0.N) (r : Fin 512) (n : Fin 2048) : b0 m c t (ix2 r n) = dy m c (ix2 (tok t r) n) := by
  rw [show dy m c = V m c main_arg0 from (V_main_arg0 m c).symm]
  blk_simp [iblk]
  refine congrArg (V m c main_arg0) ?_
  blk_ext [at0]

theorem in1 (c : Dev nD) (t : Fin cfg0.N) (r : Fin 512) (n : Fin 2048) : b1 m c t (ix2 r n) = xx m c (ix2 (tok t r) n) := by
  rw [← V_xx m c]
  blk_simp [iblk]
  refine congrArg (V m c main_v0) ?_
  blk_ext [at1]

theorem in2 (c : Dev nD) (t : Fin cfg0.N) (n : Fin 2048) : b2 m c t (ix2 0 n) = gn m c (ix1 n) := by
  have e : V m c main_v1 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v1) ?_
  blk_ext [at2]

/-- The derivative, halved. -/
def dv (d : S8192x2048.Idx → EReal) (i : S8192x2048.Idx) : EReal := d i * half

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b1 m c t) r = sqs (xx m c) (tok t r) :=
  Finset.sum_congr rfl fun k _ => congrArg₂ (fun a b : EReal => a * b) (in1 m c t r k) (in1 m c t r k)

/-! ## The first result -/

/-- What the kernel leaves in its first result, at a token and a column. -/
def grad (c : Dev nD) (s : Fin 8192) (n : Fin 2048) : EReal :=
  dNorm (sqs (xx m c) s) (xx m c (ix2 s n)) (dv (dy m c) (ix2 s n) * gn m c (ix1 n))
    (∑ k : Fin 2048, dv (dy m c) (ix2 s k) * gn m c (ix1 k) * (xx m c (ix2 s k) * scale (sqs (xx m c) s))) 0
/-- What the kernel leaves in its first result. -/
def G3 (c : Dev nD) (i : S8192x2048.Idx) : EReal := grad m c (i 0) (i 1)

theorem place3 (t : Fin cfg0.N) (y : S512x2048.Idx) : ((cfg0.win 3).blk t).view.emb y = ix2 (tok t (y 0)) (y 1) := by
  blk_ext [at3]

theorem out3 (c : Dev nD) (t : Fin cfg0.N) : (outsAt0 m c t.val t.isLt).1 = k0_pay1 (k0_pay5 (b1 m c t)) (k0_pay8 (b1 m c t) (b0 m c t) (b2 m c t)) := by
  by_cases h : t.val % 16 = 0
  · rw [outsAt0_A m c t h]
    frame_out
  · rw [outsAt0_B m c t h]
    frame_out

/-- The sum over a row of the derivative times the gain times the normalised row. -/
theorem rowDot_eq (c : Dev nD) (t : Fin cfg0.N) (r : Fin 512) :
    ∑ k : Fin 2048, b0 m c t (ix2 r k) * half * b2 m c t (ix2 0 k) * (b1 m c t (ix2 r k) * scale (sq (b1 m c t) r))
      = ∑ k : Fin 2048, dv (dy m c) (ix2 (tok t r) k) * gn m c (ix1 k) * (xx m c (ix2 (tok t r) k) * scale (sqs (xx m c) (tok t r))) :=
  Finset.sum_congr rfl fun k _ => congrArg₂ (fun a b : EReal => a * b)
    (congrArg₂ (fun a b : EReal => a * b) (congrArg (fun a : EReal => a * half) (in0 m c t r k)) (in2 m c t k))
    (congrArg₂ (fun a b : EReal => a * scale b) (in1 m c t r k) (sq_eq m c t r))

theorem block3 (c : Dev nD) (t : Fin cfg0.N) (r : Fin 512) (n : Fin 2048) :
    (outsAt0 m c t.val t.isLt).1 (ix2 r n) = grad m c (tok t r) n := by
  refine (congrFun (out3 m c t) (ix2 r n)).trans ((grad_apply _ _ _ r n).trans ?_)
  unfold grad
  rw [rowDot_eq, sq_eq, in0, in1, in2]
  rfl

theorem final3 (c : Dev nD) : (dats m 0 c).arrAt 3 cfg0.N = G3 m c := by
  refine (dats m 0 c).arrAt_eq_of_covers 3 _ (by decide +kernel) fun t hf y => ?_
  blk_simp
  rw [after0_3]
  refine Eq.trans ?_ (congrArg (G3 m c) (place3 t y).symm)
  exact (congrArg (outsAt0 m c t.val t.isLt).1 (ix2_eta y)).trans (block3 m c t (y 0) (y 1))

/-! ## The second result -/

/-- Point `s` of the run. -/
abbrev pt (s : Fin 16) : Fin cfg0.N := ⟨s.val, s.isLt⟩

/-- After the last point the running sum holds what all points added. -/
theorem sum_eq (c : Dev nD) (t : Fin cfg0.N) (ht : t.val % 16 = 15) (n : Fin 2048) :
    (outsAt0 m c t.val t.isLt).2 (ix2 0 n) = ∑ s : Fin 16, part (b1 m c (pt s)) (b0 m c (pt s)) n := by
  have h := Pipeline.eq_sum_fin_of_reset_step_apply_of_flush (fun n h k => (outsAt0 m c n h).2 (ix2 0 k)) 16 (fun _ => (0 : EReal))
    (fun t n => part (b1 m c t) (b0 m c t) n)
    (fun t h n => by
      show (outsAt0 m c t.val t.isLt).2 (ix2 0 n) = _
      rw [outsAt0_A m c t h]
      frame_out
      rw [step_apply, start_apply])
    (fun t h n => by
      show (outsAt0 m c t.val t.isLt).2 (ix2 0 n) = _
      rw [outsAt0_B m c t h]
      frame_out
      rw [step_apply]) t ht n
  rw [zero_add] at h
  refine h.trans (Finset.sum_congr rfl fun s _ => ?_)
  have e : (⟨16 * (t.val / 16) + s.val, Pipeline.run_point_lt_of_flush t ht s⟩ : Fin cfg0.N) = pt s :=
    Fin.ext (by have : t.val < 16 := t.isLt; show 16 * (t.val / 16) + s.val = s.val; omega)
  exact congrArg (fun t => part (b1 m c t) (b0 m c t) n) e

/-- What the kernel leaves in its second result. -/
def G4 (c : Dev nD) (i : S1x2048.Idx) : EReal :=
  ∑ s : Fin 8192, dv (dy m c) (ix2 s (i 1)) * (xx m c (ix2 s (i 1)) * scale (sqs (xx m c) s))

theorem run_sum (c : Dev nD) (n : Fin 2048) :
    ∑ s : Fin 16, part (b1 m c (pt s)) (b0 m c (pt s)) n
      = ∑ s : Fin 8192, dv (dy m c) (ix2 s n) * (xx m c (ix2 s n) * scale (sqs (xx m c) s)) := by
  refine Fin.sum_mul_add_congr fun s k hl => ?_
  show b0 m c (pt s) (ix2 k n) * half * (b1 m c (pt s) (ix2 k n) * scale (sq (b1 m c (pt s)) k)) = _
  rw [in0, in1, sq_eq]
  rfl

theorem place4 (t : Fin cfg0.N) (y : S1x2048.Idx) : ((cfg0.win 4).blk t).view.emb y = y := by
  blk_ext [at4]

theorem final4 (c : Dev nD) : (dats m 0 c).arrAt 4 cfg0.N = G4 m c := by
  refine (dats m 0 c).arrAt_eq_of_covers 4 _ (by decide +kernel) fun t hf y => ?_
  have ht : t.val % 16 = 15 := (flush0_4 t).mp hf
  blk_simp
  rw [after0_4]
  refine Eq.trans ?_ (congrArg (G4 m c) (place4 t y).symm)
  have h0 : y = ix2 0 (y 1) := funext fun a => Fin.ext (by
    match a with
    | ⟨0, _⟩ => have : (y 0).val < 1 := (y 0).isLt; show (y 0).val = 0; omega
    | ⟨1, _⟩ => rfl)
  exact (congrArg (outsAt0 m c t.val t.isLt).2 h0).trans ((sum_eq m c t ht (y 1)).trans (run_sum m c (y 1)))

/-! ## The reference -/

section
open Cert.Reference16Ideal.Read
variable (d x : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference16Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

theorem thru_apply (i : S8192x2048.Idx) : val_main_v19 (F := Ideal) d i = dv d i := by
  rw [val_main_v19_apply, val_main_v18_apply]
  exact mul_comm _ _

theorem gain_apply (s : Fin 8192) (n : Fin 2048) : val_main_v24 (F := Ideal) d g (ix2 s n) = dv d (ix2 s n) * g (ix1 n) := by
  rw [val_main_v24_apply, thru_apply, val_main_v23_apply, val_main_v13_apply]
  exact congrArg (fun b : EReal => dv d (ix2 s n) * b) (congrArg g (funext fun a => by fin_cases a <;> rfl))

theorem dot_apply (s : Fin 8192) : val_main_v28 (F := Ideal) d x g (ix2 s 0)
    = ∑ k : Fin 2048, x (ix2 s k) * (dv d (ix2 s k) * g (ix1 k)) := by
  rw [val_main_v28_apply, val_main_v27_apply]
  refine (congrArg (fun b : EReal => b + _) Ideal.ofBits_zero_f32).trans ((zero_add _).trans (Finset.sum_congr rfl fun k _ => ?_))
  have h : idx_main_v27 (idx_main_v28 (ix2 s 0)) k = ix2 s k := funext fun a => Fin.ext (by
    match a with
    | ⟨0, _⟩ => show s.val * 1 + 0 = s.val; omega
    | ⟨1, _⟩ => rfl)
  rw [h, val_main_v26_apply, gain_apply]
  rfl

theorem dRoot_apply (s : Fin 8192) (n : Fin 2048) : val_main_v35 (F := Ideal) d x g (ix2 s n)
    = dRoot (sqs x s) (∑ k : Fin 2048, x (ix2 s k) * (dv d (ix2 s k) * g (ix1 k))) := by
  rw [val_main_v35_apply, val_main_v34_apply]
  refine (congrArg (fun b : EReal => b + _) Ideal.ofBits_zero_f32).trans ((zero_add _).trans ((Fin.sum_univ_one _).trans ?_))
  have h : idx_main_v34 (idx_main_v35 (ix2 s n)) 0 = ix2 s 0 := funext fun a => by fin_cases a <;> rfl
  rw [h, val_main_v33_apply, val_main_v31_apply, dot_apply, val_main_v10_apply, val_main_v8_apply, root_apply, var_apply, val_main_v9_apply,
    val_main_v32_apply]
  rfl

/-- The reference's gradient of the row. -/
theorem reference3_apply (s : Fin 8192) (n : Fin 2048) : val_main_v40 (F := Ideal) d x g (ix2 s n)
    = dv d (ix2 s n) * g (ix1 n) * scale (sqs x s)
      + x (ix2 s n) * dRoot (sqs x s) (∑ k : Fin 2048, x (ix2 s k) * (dv d (ix2 s k) * g (ix1 k)))
      + dRoot (sqs x s) (∑ k : Fin 2048, x (ix2 s k) * (dv d (ix2 s k) * g (ix1 k))) * x (ix2 s n) := by
  have h1 : idx_main_v29 (ix2 s n) = ix2 s 0 := funext fun a => by fin_cases a <;> rfl
  rw [val_main_v40_apply, val_main_v39_apply, val_main_v37_apply, val_main_v30_apply, val_main_v36_apply, val_main_v38_apply, dRoot_apply,
    val_main_v29_apply, h1, root_apply, gain_apply]
  rfl

/-- The reference's gradient of the gain. -/
theorem reference4_apply (n : Fin 2048) : val_main_v41 (F := Ideal) d x (ix2 0 n)
    = ∑ s : Fin 8192, x (ix2 s n) * scale (sqs x s) * dv d (ix2 s n) := by
  rw [val_main_v41_apply, val_main_v25_apply]
  refine (congrArg (fun b : EReal => b + _) Ideal.ofBits_zero_f32).trans ((zero_add _).trans ((Fin.sum_univ_one _).trans ?_))
  rw [val_main_v22_apply, val_main_v21_apply]
  refine (congrArg (fun b : EReal => b + _) Ideal.ofBits_zero_f32).trans ((zero_add _).trans (Finset.sum_congr rfl fun s _ => ?_))
  have h : idx_main_v21 (idx_main_v22 (idx_main_v25 (idx_main_v41 (ix2 0 n)) 0)) s = ix2 s n := funext fun a => Fin.ext (by
    match a with
    | ⟨0, _⟩ => rfl
    | ⟨1, _⟩ => show 0 * 2048 + (0 * 2048 + n.val) = n.val; omega)
  have h1 : idx_main_v11 (ix2 s n) = ix2 s 0 := funext fun a => by fin_cases a <;> rfl
  rw [h, val_main_v20_apply, thru_apply, val_main_v12_apply, val_main_v11_apply, h1, root_apply]
  rfl
end

/-- The two first arrays are equal. -/
theorem result3 (c : Dev nD) :
    (G3 m c : S8192x2048.Idx → EReal) = Cert.Reference16Ideal.Read.val_main_v40 (F := Ideal) (dy m c) (xx m c) (gn m c) := by
  funext i
  obtain ⟨s, n, rfl⟩ : ∃ s n, i = ix2 s n := ⟨i 0, i 1, ix2_eta i⟩
  refine Eq.trans ?_ (reference3_apply (dy m c) (xx m c) (gn m c) s n).symm
  refine (dNorm_eq (sqs (xx m c) s) (sum_sq_nonneg fun k => xx m c (ix2 s k)) (fun k => xx m c (ix2 s k))
    (fun k => dv (dy m c) (ix2 s k) * gn m c (ix1 k)) n 0).trans ?_
  rw [zero_add]

/-- The two second arrays are equal. -/
theorem result4 (c : Dev nD) :
    (G4 m c : S1x2048.Idx → EReal) = Cert.Reference16Ideal.Read.val_main_v41 (F := Ideal) (dy m c) (xx m c) := by
  funext i
  have h0 : i = ix2 0 (i 1) := funext fun a => Fin.ext (by
    match a with
    | ⟨0, _⟩ => have : (i 0).val < 1 := (i 0).isLt; show (i 0).val = 0; omega
    | ⟨1, _⟩ => rfl)
  refine Eq.trans ?_ ((congrArg (Cert.Reference16Ideal.Read.val_main_v41 (F := Ideal) (dy m c) (xx m c)) h0).trans
    (reference4_apply (dy m c) (xx m c) (i 1))).symm
  exact Finset.sum_congr rfl fun s _ => mul_comm _ _

/-- The claim: the two programs leave the same two arrays. -/
theorem equal : Cert.algebraic_Kernel16Ideal_Reference16Ideal := fun m g m' g' _ hag =>
  ⟨fun c => G3 m c, fun c => G4 m c,
    (θ_run _ _ _).mono (fun _ h c => ⟨(h c).1.trans (final3 m c), (h c).2.1.trans (final4 m c), (h c).2.2⟩)
      (Cert.Kernel16Ideal.Value.run_blocks m g),
    (θ_run _ _ _).mono (fun _ h c => ⟨(h c).1.trans (by
        rw [Cert.Reference16Ideal.Read.val_main_v40_eq, (hag c).1, (hag c).2.1, (hag c).2.2]
        exact (result3 m c).symm), (h c).2.1.trans (by
        rw [Cert.Reference16Ideal.Read.val_main_v41_eq, (hag c).1, (hag c).2.1]
        exact (result4 m c).symm), (h c).2.2⟩)
      (Cert.Reference16Ideal.Value.run m' g')⟩

end Cert.NormAfter
-- ==== Proof.NormMixer.lean ====
/-
The gradient of the norm after the mixer: of the row it normalises, and of its gain.

Grid point t holds 512 tokens. It writes the gradient of its rows, and adds to a running sum over the tokens the derivative times
the normalised row. The two arrays are those of differentiation, on all extended reals.
-/
module

public import proofs.«01_k».proof.Proof.Products
public import proofs.«01_k».proof.Proof.GateMath
public import proofs.«01_k».proof.Proof.NormMath
public import proofs.«01_k».proof.Proof.Gen.Kernel17Ideal.Value
public import proofs.«01_k».proof.Proof.Gen.Reference17Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.NormMixer

open Cert.Kernel17Ideal Cert.Kernel17Ideal.Gen Cert.Products Cert.GateMath Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The derivative that arrives. -/
abbrev dy (c : Dev nD) : S8192x2048.Idx → EReal := m ((c : Thread nD τ).loc main_arg0)
/-- The row. -/
abbrev xx (c : Dev nD) : S8192x2048.Idx → EReal := m ((c : Thread nD τ).loc main_arg1)
/-- The gain. -/
abbrev gn (c : Dev nD) : S2048.Idx → EReal := m ((c : Thread nD τ).loc main_arg2)
theorem V_xx (c : Dev nD) : V m c main_v0 = xx m c := by
  simp only [V, hostOps0, List.flatten_cons, List.flatten_nil, List.append_nil, List.cons_append, List.nil_append,
    TRef.binary, TRef.nullary, TRef.unary, TRef.toBuf, TRef.ofBuf, cast_eq]
  after_results <;> rfl

theorem V_gn (c : Dev nD) : V m c main_v1 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- A row's sum of squares. -/
def sq (x : Vec Ideal S512x2048 .bf16) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- A row widened is the row. -/
theorem wide_apply (x : Vec Ideal S512x2048 .bf16) (r : Fin 512) (n : Fin 2048) : k0_pay2 x (ix2 r n) = x (ix2 r n) := by
  unfold k0_pay2
  rw [shapeCast_self]
  rfl

/-- What the kernel scales a row by. -/
theorem scale_apply (x : Vec Ideal S512x2048 .bf16) (r : Fin 512) : k0_pay3 x (ix2 r 0) = scale (sq x r) := by
  unfold k0_pay3
  exact congrArg (fun b : EReal => Ideal.rsqrt (Ideal.div b W + E)) ((rowSum_apply (mulf (k0_pay2 x) (k0_pay2 x)) r).trans
    (Finset.sum_congr rfl fun k _ => congrArg₂ (fun a b : EReal => a * b) (wide_apply x r k) (wide_apply x r k)))

/-- The normalised row. -/
theorem normal_apply (x : Vec Ideal S512x2048 .bf16) (r : Fin 512) (n : Fin 2048) : k0_pay4 x (ix2 r n) = x (ix2 r n) * scale (sq x r) := by
  unfold k0_pay4
  show k0_pay2 x (ix2 r n) * broadcastTo S512x2048 (k0_pay3 x) broadcasts_S512x1_S512x2048 (ix2 r n) = _
  rw [spread_apply, scale_apply, wide_apply]

/-- The derivative times the gain. -/
theorem gained_apply (d : Vec Ideal S512x2048 .f32) (g : Vec Ideal S1x2048 .f32) (r : Fin 512) (n : Fin 2048) :
    (mulf (d : FVec Ideal S512x2048 .f32) (broadcastTo S512x2048 (shapeCast S1x2048 g shapeCasts_S1x2048_S1x2048) broadcasts_S1x2048_S512x2048) : FVec Ideal S512x2048 .f32) (ix2 r n)
      = d (ix2 r n) * g (ix2 0 n) := by
  rw [shapeCast_self]
  exact congrArg (fun b : EReal => d (ix2 r n) * b) (congrArg g (funext fun a => by fin_cases a <;> rfl))

/-- The gradient of a row. -/
theorem grad_apply (x : Vec Ideal S512x2048 .bf16) (d : Vec Ideal S512x2048 .f32) (g : Vec Ideal S1x2048 .f32) (r : Fin 512) (n : Fin 2048) :
    k0_pay6 x d g (ix2 r n)
      = dNorm (sq x r) (x (ix2 r n)) (d (ix2 r n) * g (ix2 0 n))
          (∑ k : Fin 2048, d (ix2 r k) * g (ix2 0 k) * (x (ix2 r k) * scale (sq x r))) 0 := by
  unfold k0_pay6 dNorm
  dsimp only
  rw [add_zero]
  refine congrArg₂ (fun a b : EReal => a * b) ((spread_apply _ r n).trans (scale_apply x r)) ?_
  refine congrArg₂ (fun a b : EReal => a - b) (gained_apply d g r n) (congrArg₂ (fun a b : EReal => a * b) (normal_apply x r n) ?_)
  refine (spread_apply _ r n).trans (congrArg (fun b : EReal => Ideal.div b W) ((rowSum_apply _ r).trans ?_))
  exact Finset.sum_congr rfl fun k _ => congrArg₂ (fun a b : EReal => a * b) (gained_apply d g r k) (normal_apply x r k)

/-- What a point adds to the gain's gradient. -/
def part (x : Vec Ideal S512x2048 .bf16) (d : Vec Ideal S512x2048 .f32) (n : Fin 2048) : EReal :=
  ∑ r : Fin 512, d (ix2 r n) * (x (ix2 r n) * scale (sq x r))

/-- A point adds to the running sum. -/
theorem step_apply (x : Vec Ideal S512x2048 .bf16) (d : Vec Ideal S512x2048 .f32) (a : Vec Ideal S1x2048 .f32) (n : Fin 2048) :
    k0_pay5 x d a (ix2 0 n) = a (ix2 0 n) + part x d n := by
  unfold k0_pay5
  rw [shapeCast_self]
  refine congrArg (fun b : EReal => a (ix2 0 n) + b) ?_
  refine (shapeCast_apply _ _ _ (ix1 n) ?_).trans ((Ideal.multiReduction_add_single _ _ _ _ _ _).trans ?_)
  · rw [Shape.rowMajor_val_one, Shape.rowMajor_val_two]
    show n.val = 0 * 2048 + n.val
    omega
  · refine Finset.sum_congr rfl fun r _ => ?_
    have e : reduces_S512x2048_S2048.lift (ix1 n) r = ix2 r n := funext fun a => by fin_cases a <;> rfl
    rw [e]
    exact congrArg₂ (fun a b : EReal => a * b) rfl (normal_apply x r n)

/-- The sum starts from zero. -/
theorem start_apply (y : S1x2048.Idx) : k0_pay1 (F := Ideal) y = 0 := Ideal.ofBits_zero_f32

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point: the derivative, the rows and the gain. -/
abbrev b0 (c : Dev nD) (t : Fin cfg0.N) : Vec Ideal S512x2048 .f32 := iblk m c 0 t
abbrev b1 (c : Dev nD) (t : Fin cfg0.N) : Vec Ideal S512x2048 .bf16 := iblk m c 1 t
abbrev b2 (c : Dev nD) (t : Fin cfg0.N) : Vec Ideal S1x2048 .f32 := iblk m c 2 t

theorem in0 (c : Dev nD) (t : Fin cfg0.N) (r : Fin 512) (n : Fin 2048) : b0 m c t (ix2 r n) = dy m c (ix2 (tok t r) n) := by
  rw [show dy m c = V m c main_arg0 from (V_main_arg0 m c).symm]
  blk_simp [iblk]
  refine congrArg (V m c main_arg0) ?_
  blk_ext [at0]

theorem in1 (c : Dev nD) (t : Fin cfg0.N) (r : Fin 512) (n : Fin 2048) : b1 m c t (ix2 r n) = xx m c (ix2 (tok t r) n) := by
  rw [← V_xx m c]
  blk_simp [iblk]
  refine congrArg (V m c main_v0) ?_
  blk_ext [at1]

theorem in2 (c : Dev nD) (t : Fin cfg0.N) (n : Fin 2048) : b2 m c t (ix2 0 n) = gn m c (ix1 n) := by
  have e : V m c main_v1 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v1) ?_
  blk_ext [at2]

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b1 m c t) r = sqs (xx m c) (tok t r) :=
  Finset.sum_congr rfl fun k _ => congrArg₂ (fun a b : EReal => a * b) (in1 m c t r k) (in1 m c t r k)

/-! ## The first result -/

/-- What the kernel leaves in its first result, at a token and a column. -/
def grad (c : Dev nD) (s : Fin 8192) (n : Fin 2048) : EReal :=
  dNorm (sqs (xx m c) s) (xx m c (ix2 s n)) (dy m c (ix2 s n) * gn m c (ix1 n))
    (∑ k : Fin 2048, dy m c (ix2 s k) * gn m c (ix1 k) * (xx m c (ix2 s k) * scale (sqs (xx m c) s))) 0
/-- What the kernel leaves in its first result. -/
def G3 (c : Dev nD) (i : S8192x2048.Idx) : EReal := grad m c (i 0) (i 1)

theorem place3 (t : Fin cfg0.N) (y : S512x2048.Idx) : ((cfg0.win 3).blk t).view.emb y = ix2 (tok t (y 0)) (y 1) := by
  blk_ext [at3]

theorem out3 (c : Dev nD) (t : Fin cfg0.N) : (outsAt0 m c t.val t.isLt).1 = k0_pay6 (b1 m c t) (b0 m c t) (b2 m c t) := by
  by_cases h : t.val % 16 = 0
  · rw [outsAt0_A m c t h]
    frame_out
  · rw [outsAt0_B m c t h]
    frame_out

/-- The sum over a row of the derivative times the gain times the normalised row. -/
theorem rowDot_eq (c : Dev nD) (t : Fin cfg0.N) (r : Fin 512) :
    ∑ k : Fin 2048, b0 m c t (ix2 r k) * b2 m c t (ix2 0 k) * (b1 m c t (ix2 r k) * scale (sq (b1 m c t) r))
      = ∑ k : Fin 2048, dy m c (ix2 (tok t r) k) * gn m c (ix1 k) * (xx m c (ix2 (tok t r) k) * scale (sqs (xx m c) (tok t r))) :=
  Finset.sum_congr rfl fun k _ => congrArg₂ (fun a b : EReal => a * b)
    (congrArg₂ (fun a b : EReal => a * b) (in0 m c t r k) (in2 m c t k))
    (congrArg₂ (fun a b : EReal => a * scale b) (in1 m c t r k) (sq_eq m c t r))

theorem block3 (c : Dev nD) (t : Fin cfg0.N) (r : Fin 512) (n : Fin 2048) :
    (outsAt0 m c t.val t.isLt).1 (ix2 r n) = grad m c (tok t r) n := by
  refine (congrFun (out3 m c t) (ix2 r n)).trans ((grad_apply _ _ _ r n).trans ?_)
  unfold grad
  rw [rowDot_eq, sq_eq, in0, in1, in2]

theorem final3 (c : Dev nD) : (dats m 0 c).arrAt 3 cfg0.N = G3 m c := by
  refine (dats m 0 c).arrAt_eq_of_covers 3 _ (by decide +kernel) fun t hf y => ?_
  blk_simp
  rw [after0_3]
  refine Eq.trans ?_ (congrArg (G3 m c) (place3 t y).symm)
  exact (congrArg (outsAt0 m c t.val t.isLt).1 (ix2_eta y)).trans (block3 m c t (y 0) (y 1))

/-! ## The second result -/

/-- Point `s` of the run. -/
abbrev pt (s : Fin 16) : Fin cfg0.N := ⟨s.val, s.isLt⟩

/-- After the last point the running sum holds what all points added. -/
theorem sum_eq (c : Dev nD) (t : Fin cfg0.N) (ht : t.val % 16 = 15) (n : Fin 2048) :
    (outsAt0 m c t.val t.isLt).2 (ix2 0 n) = ∑ s : Fin 16, part (b1 m c (pt s)) (b0 m c (pt s)) n := by
  have h := Pipeline.eq_sum_fin_of_reset_step_apply_of_flush (fun n h k => (outsAt0 m c n h).2 (ix2 0 k)) 16 (fun _ => (0 : EReal))
    (fun t n => part (b1 m c t) (b0 m c t) n)
    (fun t h n => by
      show (outsAt0 m c t.val t.isLt).2 (ix2 0 n) = _
      rw [outsAt0_A m c t h]
      frame_out
      rw [step_apply, start_apply])
    (fun t h n => by
      show (outsAt0 m c t.val t.isLt).2 (ix2 0 n) = _
      rw [outsAt0_B m c t h]
      frame_out
      rw [step_apply]) t ht n
  rw [zero_add] at h
  refine h.trans (Finset.sum_congr rfl fun s _ => ?_)
  have e : (⟨16 * (t.val / 16) + s.val, Pipeline.run_point_lt_of_flush t ht s⟩ : Fin cfg0.N) = pt s :=
    Fin.ext (by have : t.val < 16 := t.isLt; show 16 * (t.val / 16) + s.val = s.val; omega)
  exact congrArg (fun t => part (b1 m c t) (b0 m c t) n) e

/-- What the kernel leaves in its second result. -/
def G4 (c : Dev nD) (i : S1x2048.Idx) : EReal :=
  ∑ s : Fin 8192, dy m c (ix2 s (i 1)) * (xx m c (ix2 s (i 1)) * scale (sqs (xx m c) s))

theorem run_sum (c : Dev nD) (n : Fin 2048) :
    ∑ s : Fin 16, part (b1 m c (pt s)) (b0 m c (pt s)) n
      = ∑ s : Fin 8192, dy m c (ix2 s n) * (xx m c (ix2 s n) * scale (sqs (xx m c) s)) := by
  refine Fin.sum_mul_add_congr fun s k hl => ?_
  show b0 m c (pt s) (ix2 k n) * (b1 m c (pt s) (ix2 k n) * scale (sq (b1 m c (pt s)) k)) = _
  rw [in0, in1, sq_eq]

theorem place4 (t : Fin cfg0.N) (y : S1x2048.Idx) : ((cfg0.win 4).blk t).view.emb y = y := by
  blk_ext [at4]

theorem final4 (c : Dev nD) : (dats m 0 c).arrAt 4 cfg0.N = G4 m c := by
  refine (dats m 0 c).arrAt_eq_of_covers 4 _ (by decide +kernel) fun t hf y => ?_
  have ht : t.val % 16 = 15 := (flush0_4 t).mp hf
  blk_simp
  rw [after0_4]
  refine Eq.trans ?_ (congrArg (G4 m c) (place4 t y).symm)
  have h0 : y = ix2 0 (y 1) := funext fun a => Fin.ext (by
    match a with
    | ⟨0, _⟩ => have : (y 0).val < 1 := (y 0).isLt; show (y 0).val = 0; omega
    | ⟨1, _⟩ => rfl)
  exact (congrArg (outsAt0 m c t.val t.isLt).2 h0).trans ((sum_eq m c t ht (y 1)).trans (run_sum m c (y 1)))

/-! ## The reference -/

section
open Cert.Reference17Ideal.Read
variable (d x : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference17Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

theorem gain_apply (s : Fin 8192) (n : Fin 2048) : val_main_v20 (F := Ideal) d g (ix2 s n) = d (ix2 s n) * g (ix1 n) := by
  rw [val_main_v20_apply, val_main_v19_apply, val_main_v13_apply]
  exact congrArg (fun b : EReal => d (ix2 s n) * b) (congrArg g (funext fun a => by fin_cases a <;> rfl))

theorem dot_apply (s : Fin 8192) : val_main_v24 (F := Ideal) d x g (ix2 s 0)
    = ∑ k : Fin 2048, x (ix2 s k) * (d (ix2 s k) * g (ix1 k)) := by
  rw [val_main_v24_apply, val_main_v23_apply]
  refine (congrArg (fun b : EReal => b + _) Ideal.ofBits_zero_f32).trans ((zero_add _).trans (Finset.sum_congr rfl fun k _ => ?_))
  have h : idx_main_v23 (idx_main_v24 (ix2 s 0)) k = ix2 s k := funext fun a => Fin.ext (by
    match a with
    | ⟨0, _⟩ => show s.val * 1 + 0 = s.val; omega
    | ⟨1, _⟩ => rfl)
  rw [h, val_main_v22_apply, gain_apply]
  rfl

theorem dRoot_apply (s : Fin 8192) (n : Fin 2048) : val_main_v31 (F := Ideal) d x g (ix2 s n)
    = dRoot (sqs x s) (∑ k : Fin 2048, x (ix2 s k) * (d (ix2 s k) * g (ix1 k))) := by
  rw [val_main_v31_apply, val_main_v30_apply]
  refine (congrArg (fun b : EReal => b + _) Ideal.ofBits_zero_f32).trans ((zero_add _).trans ((Fin.sum_univ_one _).trans ?_))
  have h : idx_main_v30 (idx_main_v31 (ix2 s n)) 0 = ix2 s 0 := funext fun a => by fin_cases a <;> rfl
  rw [h, val_main_v29_apply, val_main_v27_apply, dot_apply, val_main_v10_apply, val_main_v8_apply, root_apply, var_apply, val_main_v9_apply,
    val_main_v28_apply]
  rfl

/-- The reference's gradient of the row. -/
theorem reference3_apply (s : Fin 8192) (n : Fin 2048) : val_main_v36 (F := Ideal) d x g (ix2 s n)
    = d (ix2 s n) * g (ix1 n) * scale (sqs x s)
      + x (ix2 s n) * dRoot (sqs x s) (∑ k : Fin 2048, x (ix2 s k) * (d (ix2 s k) * g (ix1 k)))
      + dRoot (sqs x s) (∑ k : Fin 2048, x (ix2 s k) * (d (ix2 s k) * g (ix1 k))) * x (ix2 s n) := by
  have h1 : idx_main_v25 (ix2 s n) = ix2 s 0 := funext fun a => by fin_cases a <;> rfl
  rw [val_main_v36_apply, val_main_v35_apply, val_main_v33_apply, val_main_v26_apply, val_main_v32_apply, val_main_v34_apply, dRoot_apply,
    val_main_v25_apply, h1, root_apply, gain_apply]
  rfl

/-- The reference's gradient of the gain. -/
theorem reference4_apply (n : Fin 2048) : val_main_v37 (F := Ideal) d x (ix2 0 n)
    = ∑ s : Fin 8192, x (ix2 s n) * scale (sqs x s) * d (ix2 s n) := by
  rw [val_main_v37_apply, val_main_v21_apply]
  refine (congrArg (fun b : EReal => b + _) Ideal.ofBits_zero_f32).trans ((zero_add _).trans ((Fin.sum_univ_one _).trans ?_))
  rw [val_main_v18_apply, val_main_v17_apply]
  refine (congrArg (fun b : EReal => b + _) Ideal.ofBits_zero_f32).trans ((zero_add _).trans (Finset.sum_congr rfl fun s _ => ?_))
  have h : idx_main_v17 (idx_main_v18 (idx_main_v21 (idx_main_v37 (ix2 0 n)) 0)) s = ix2 s n := funext fun a => Fin.ext (by
    match a with
    | ⟨0, _⟩ => rfl
    | ⟨1, _⟩ => show 0 * 2048 + (0 * 2048 + n.val) = n.val; omega)
  have h1 : idx_main_v11 (ix2 s n) = ix2 s 0 := funext fun a => by fin_cases a <;> rfl
  rw [h, val_main_v16_apply, val_main_v12_apply, val_main_v11_apply, h1, root_apply]
  rfl
end

/-- The two first arrays are equal. -/
theorem result3 (c : Dev nD) :
    (G3 m c : S8192x2048.Idx → EReal) = Cert.Reference17Ideal.Read.val_main_v36 (F := Ideal) (dy m c) (xx m c) (gn m c) := by
  funext i
  obtain ⟨s, n, rfl⟩ : ∃ s n, i = ix2 s n := ⟨i 0, i 1, ix2_eta i⟩
  refine Eq.trans ?_ (reference3_apply (dy m c) (xx m c) (gn m c) s n).symm
  refine (dNorm_eq (sqs (xx m c) s) (sum_sq_nonneg fun k => xx m c (ix2 s k)) (fun k => xx m c (ix2 s k))
    (fun k => dy m c (ix2 s k) * gn m c (ix1 k)) n 0).trans ?_
  rw [zero_add]

/-- The two second arrays are equal. -/
theorem result4 (c : Dev nD) :
    (G4 m c : S1x2048.Idx → EReal) = Cert.Reference17Ideal.Read.val_main_v37 (F := Ideal) (dy m c) (xx m c) := by
  funext i
  have h0 : i = ix2 0 (i 1) := funext fun a => Fin.ext (by
    match a with
    | ⟨0, _⟩ => have : (i 0).val < 1 := (i 0).isLt; show (i 0).val = 0; omega
    | ⟨1, _⟩ => rfl)
  refine Eq.trans ?_ ((congrArg (Cert.Reference17Ideal.Read.val_main_v37 (F := Ideal) (dy m c) (xx m c)) h0).trans
    (reference4_apply (dy m c) (xx m c) (i 1))).symm
  exact Finset.sum_congr rfl fun s _ => mul_comm _ _

/-- The claim: the two programs leave the same two arrays. -/
theorem equal : Cert.algebraic_Kernel17Ideal_Reference17Ideal := fun m g m' g' _ hag =>
  ⟨fun c => G3 m c, fun c => G4 m c,
    (θ_run _ _ _).mono (fun _ h c => ⟨(h c).1.trans (final3 m c), (h c).2.1.trans (final4 m c), (h c).2.2⟩)
      (Cert.Kernel17Ideal.Value.run_blocks m g),
    (θ_run _ _ _).mono (fun _ h c => ⟨(h c).1.trans (by
        rw [Cert.Reference17Ideal.Read.val_main_v36_eq, (hag c).1, (hag c).2.1, (hag c).2.2]
        exact (result3 m c).symm), (h c).2.1.trans (by
        rw [Cert.Reference17Ideal.Read.val_main_v37_eq, (hag c).1, (hag c).2.1]
        exact (result4 m c).symm), (h c).2.2⟩)
      (Cert.Reference17Ideal.Value.run m' g')⟩

end Cert.NormMixer
-- ==== Proof.NormForward.lean ====
/-
The norm before a feed-forward block, forward.

Grid point t holds 512 tokens, and each token is normalised by itself.
-/
module

public import proofs.«01_k».proof.Proof.Products
public import proofs.«01_k».proof.Proof.NormMath
public import proofs.«01_k».proof.Proof.Gen.Kernel18Ideal.Value
public import proofs.«01_k».proof.Proof.Gen.Reference18Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.NormForward

open Cert.Kernel18Ideal Cert.Kernel18Ideal.Gen Cert.Products Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The row. -/
abbrev xx (c : Dev nD) : S8192x2048.Idx → EReal := m ((c : Thread nD τ).loc main_arg0)
/-- The gain. -/
abbrev gn (c : Dev nD) : S2048.Idx → EReal := m ((c : Thread nD τ).loc main_arg1)

theorem V_gn (c : Dev nD) : V m c main_v0 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- A row's sum of squares. -/
def sq (x : Vec Ideal S512x2048 .f32) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- The block the kernel stores. -/
theorem pay_apply (x : Vec Ideal S512x2048 .f32) (g : Vec Ideal S1x2048 .f32) (r : Fin 512) (n : Fin 2048) :
    k0_pay1 x g (ix2 r n) = x (ix2 r n) * scale (sq x r) * g (ix2 0 n) := by
  unfold k0_pay1
  dsimp only
  rw [shapeCast_self]
  refine congrArg₂ (fun a b : EReal => a * b) (congrArg (fun b : EReal => x (ix2 r n) * b) ?_) (congrArg g (funext fun a => by fin_cases a <;> rfl))
  exact (spread_apply _ r n).trans (congrArg (fun b : EReal => Ideal.rsqrt (Ideal.div b W + E)) (rowSum_apply (mulf x x) r))

/-! ## Where the blocks lie -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point. -/
abbrev b0 (c : Dev nD) (t : Fin cfg0.N) : Vec Ideal S512x2048 .f32 := iblk m c 0 t
abbrev b1 (c : Dev nD) (t : Fin cfg0.N) : Vec Ideal S1x2048 .f32 := iblk m c 1 t

theorem in0 (c : Dev nD) (t : Fin cfg0.N) (r : Fin 512) (n : Fin 2048) : b0 m c t (ix2 r n) = xx m c (ix2 (tok t r) n) := by
  rw [show xx m c = V m c main_arg0 from (V_main_arg0 m c).symm]
  blk_simp [iblk]
  refine congrArg (V m c main_arg0) ?_
  blk_ext [at0]

theorem in1 (c : Dev nD) (t : Fin cfg0.N) (n : Fin 2048) : b1 m c t (ix2 0 n) = gn m c (ix1 n) := by
  have e : V m c main_v0 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v0) ?_
  blk_ext [at1]

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b0 m c t) r = sqs (xx m c) (tok t r) :=
  Finset.sum_congr rfl fun k _ => congrArg₂ (fun a b : EReal => a * b) (in0 m c t r k) (in0 m c t r k)

/-! ## The result -/

/-- What the kernel leaves in its result, at a token and a column. -/
def res (c : Dev nD) (s : Fin 8192) (n : Fin 2048) : EReal := xx m c (ix2 s n) * scale (sqs (xx m c) s) * gn m c (ix1 n)
/-- What the kernel leaves in its result. -/
def G (c : Dev nD) (i : S8192x2048.Idx) : EReal := res m c (i 0) (i 1)

theorem place (t : Fin cfg0.N) (y : S512x2048.Idx) : ((cfg0.win 2).blk t).view.emb y = ix2 (tok t (y 0)) (y 1) := by
  blk_ext [at2]

theorem out (c : Dev nD) (t : Fin cfg0.N) : out0_2 (b0 m c t) (b1 m c t) = k0_pay1 (b0 m c t) (b1 m c t) := by
  unfold out0_2
  frame_out

theorem block (c : Dev nD) (t : Fin cfg0.N) (r : Fin 512) (n : Fin 2048) :
    out0_2 (b0 m c t) (b1 m c t) (ix2 r n) = res m c (tok t r) n := by
  refine (congrFun (out m c t) (ix2 r n)).trans ((pay_apply _ _ r n).trans ?_)
  unfold res
  rw [sq_eq, in0, in1]

theorem final (c : Dev nD) : (dats m 0 c).arrAt 2 cfg0.N = G m c := by
  refine (dats m 0 c).arrAt_eq_of_covers 2 _ (by decide +kernel) fun t hf y => ?_
  blk_simp
  rw [after0_2]
  refine Eq.trans ?_ (congrArg (G m c) (place t y).symm)
  exact (congrArg (out0_2 (b0 m c t) (b1 m c t)) (ix2_eta y)).trans (block m c t (y 0) (y 1))

/-! ## The reference -/

section
open Cert.Reference18Ideal.Read
variable (x : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference18Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

/-- The reference's normalised row, times the gain. -/
theorem normal_apply (s : Fin 8192) (n : Fin 2048) : val_main_v12 (F := Ideal) x g (ix2 s n) = x (ix2 s n) * scale (sqs x s) * g (ix1 n) := by
  have h1 : idx_main_v8 (ix2 s n) = ix2 s 0 := funext fun a => by fin_cases a <;> rfl
  have h2 : idx_main_v10 (idx_main_v11 (ix2 s n)) = ix1 n := funext fun a => by fin_cases a <;> rfl
  rw [val_main_v12_apply, val_main_v9_apply, val_main_v8_apply, h1, root_apply, val_main_v11_apply, val_main_v10_apply, h2]
  rfl

/-- The reference's result. -/
theorem reference_apply (s : Fin 8192) (n : Fin 2048) : val_main_v13 (F := Ideal) x g (ix2 s n) = x (ix2 s n) * scale (sqs x s) * g (ix1 n) := by
  rw [val_main_v13_apply, normal_apply]
  rfl
end

/-- The two arrays are equal. -/
theorem result (c : Dev nD) :
    (G m c : S8192x2048.Idx → EReal) = Cert.Reference18Ideal.Read.val_main_v13 (F := Ideal) (xx m c) (gn m c) := by
  funext i
  obtain ⟨s, n, rfl⟩ : ∃ s n, i = ix2 s n := ⟨i 0, i 1, ix2_eta i⟩
  exact (reference_apply (xx m c) (gn m c) s n).symm

/-- The claim: the two programs leave the same array. -/
theorem equal : Cert.algebraic_Kernel18Ideal_Reference18Ideal := fun m g m' g' _ hag =>
  ⟨fun c => G m c,
    (θ_run _ _ _).mono (fun _ h c => ⟨(h c).1.trans (final m c), (h c).2⟩)
      (Cert.Kernel18Ideal.Value.run_blocks m g),
    (θ_run _ _ _).mono (fun _ h c => ⟨(h c).1.trans (by
        rw [Cert.Reference18Ideal.Read.val_main_v13_eq, (hag c).1, (hag c).2]
        exact (result m c).symm), (h c).2⟩)
      (Cert.Reference18Ideal.Value.run m' g')⟩

end Cert.NormForward
-- ==== Proof.NormSum.lean ====
/-
The norm after a feed-forward block, forward: half of it is added to the block's input.

Grid point t holds 512 tokens, and each token is normalised by itself.
-/
module

public import proofs.«01_k».proof.Proof.Products
public import proofs.«01_k».proof.Proof.NormMath
public import proofs.«01_k».proof.Proof.Gen.Kernel19Ideal.Value
public import proofs.«01_k».proof.Proof.Gen.Reference19Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.NormSum

open Cert.Kernel19Ideal Cert.Kernel19Ideal.Gen Cert.Products Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The row. -/
abbrev xx (c : Dev nD) : S8192x2048.Idx → EReal := m ((c : Thread nD τ).loc main_arg0)
/-- The gain. -/
abbrev gn (c : Dev nD) : S2048.Idx → EReal := m ((c : Thread nD τ).loc main_arg1)
/-- The block's input. -/
abbrev rs (c : Dev nD) : S8192x2048.Idx → EReal := m ((c : Thread nD τ).loc main_arg2)

theorem V_xx (c : Dev nD) : V m c main_v0 = xx m c := by
  simp only [V, hostOps0, List.flatten_cons, List.flatten_nil, List.append_nil, List.cons_append, List.nil_append,
    TRef.binary, TRef.nullary, TRef.unary, TRef.toBuf, TRef.ofBuf, cast_eq]
  after_results <;> rfl

theorem V_gn (c : Dev nD) : V m c main_v1 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- The word of one half. -/
abbrev half : EReal := Ideal.ofBits .f32 0x3F000000#32

/-- A row's sum of squares. -/
def sq (x : Vec Ideal S512x2048 .bf16) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- The block the kernel stores. -/
theorem pay_apply (x : Vec Ideal S512x2048 .bf16) (g : Vec Ideal S1x2048 .f32) (e : Vec Ideal S512x2048 .f32) (r : Fin 512) (n : Fin 2048) :
    k0_pay1 x g e (ix2 r n) = x (ix2 r n) * scale (sq x r) * g (ix2 0 n) * half + e (ix2 r n) := by
  unfold k0_pay1
  dsimp only
  rw [shapeCast_self, shapeCast_self]
  refine congrArg (fun a : EReal => a * half + e (ix2 r n)) ?_
  refine congrArg₂ (fun a b : EReal => a * b) (congrArg (fun b : EReal => x (ix2 r n) * b) ?_) (congrArg g (funext fun a => by fin_cases a <;> rfl))
  exact (spread_apply _ r n).trans (congrArg (fun b : EReal => Ideal.rsqrt (Ideal.div b W + E)) ((rowSum_apply (mulf (extf .f32 x bitsLt_bf16_f32) (extf .f32 x bitsLt_bf16_f32)) r)))

/-! ## Where the blocks lie -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point. -/
abbrev b0 (c : Dev nD) (t : Fin cfg0.N) : Vec Ideal S512x2048 .bf16 := iblk m c 0 t
abbrev b1 (c : Dev nD) (t : Fin cfg0.N) : Vec Ideal S1x2048 .f32 := iblk m c 1 t
abbrev b2 (c : Dev nD) (t : Fin cfg0.N) : Vec Ideal S512x2048 .f32 := iblk m c 2 t

theorem in0 (c : Dev nD) (t : Fin cfg0.N) (r : Fin 512) (n : Fin 2048) : b0 m c t (ix2 r n) = xx m c (ix2 (tok t r) n) := by
  rw [← V_xx m c]
  blk_simp [iblk]
  refine congrArg (V m c main_v0) ?_
  blk_ext [at0]

theorem in1 (c : Dev nD) (t : Fin cfg0.N) (n : Fin 2048) : b1 m c t (ix2 0 n) = gn m c (ix1 n) := by
  have e : V m c main_v1 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v1) ?_
  blk_ext [at1]

theorem in2 (c : Dev nD) (t : Fin cfg0.N) (r : Fin 512) (n : Fin 2048) : b2 m c t (ix2 r n) = rs m c (ix2 (tok t r) n) := by
  rw [show rs m c = V m c main_arg2 from (V_main_arg2 m c).symm]
  blk_simp [iblk]
  refine congrArg (V m c main_arg2) ?_
  blk_ext [at2]

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b0 m c t) r = sqs (xx m c) (tok t r) :=
  Finset.sum_congr rfl fun k _ => congrArg₂ (fun a b : EReal => a * b) (in0 m c t r k) (in0 m c t r k)

/-! ## The result -/

/-- What the kernel leaves in its result, at a token and a column. -/
def res (c : Dev nD) (s : Fin 8192) (n : Fin 2048) : EReal := xx m c (ix2 s n) * scale (sqs (xx m c) s) * gn m c (ix1 n) * half + rs m c (ix2 s n)
/-- What the kernel leaves in its result. -/
def G (c : Dev nD) (i : S8192x2048.Idx) : EReal := res m c (i 0) (i 1)

theorem place (t : Fin cfg0.N) (y : S512x2048.Idx) : ((cfg0.win 3).blk t).view.emb y = ix2 (tok t (y 0)) (y 1) := by
  blk_ext [at3]

theorem out (c : Dev nD) (t : Fin cfg0.N) : out0_3 (b0 m c t) (b1 m c t) (b2 m c t) = k0_pay1 (b0 m c t) (b1 m c t) (b2 m c t) := by
  unfold out0_3
  frame_out

theorem block (c : Dev nD) (t : Fin cfg0.N) (r : Fin 512) (n : Fin 2048) :
    out0_3 (b0 m c t) (b1 m c t) (b2 m c t) (ix2 r n) = res m c (tok t r) n := by
  refine (congrFun (out m c t) (ix2 r n)).trans ((pay_apply _ _ _ r n).trans ?_)
  unfold res
  rw [sq_eq, in0, in1, in2]

theorem final (c : Dev nD) : (dats m 0 c).arrAt 3 cfg0.N = G m c := by
  refine (dats m 0 c).arrAt_eq_of_covers 3 _ (by decide +kernel) fun t hf y => ?_
  blk_simp
  rw [after0_3]
  refine Eq.trans ?_ (congrArg (G m c) (place t y).symm)
  exact (congrArg (out0_3 (b0 m c t) (b1 m c t) (b2 m c t)) (ix2_eta y)).trans (block m c t (y 0) (y 1))

/-! ## The reference -/

section
open Cert.Reference19Ideal.Read
variable (x e : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference19Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

/-- The reference's normalised row, times the gain. -/
theorem normal_apply (s : Fin 8192) (n : Fin 2048) : val_main_v12 (F := Ideal) x g (ix2 s n) = x (ix2 s n) * scale (sqs x s) * g (ix1 n) := by
  have h1 : idx_main_v8 (ix2 s n) = ix2 s 0 := funext fun a => by fin_cases a <;> rfl
  have h2 : idx_main_v10 (idx_main_v11 (ix2 s n)) = ix1 n := funext fun a => by fin_cases a <;> rfl
  rw [val_main_v12_apply, val_main_v9_apply, val_main_v8_apply, h1, root_apply, val_main_v11_apply, val_main_v10_apply, h2]
  rfl

/-- The reference's result. -/
theorem reference_apply (s : Fin 8192) (n : Fin 2048) : val_main_v15 (F := Ideal) x g e (ix2 s n) = x (ix2 s n) * scale (sqs x s) * g (ix1 n) * half + e (ix2 s n) := by
  rw [val_main_v15_apply, val_main_v14_apply, val_main_v13_apply, normal_apply]
  refine (add_comm _ _).trans (congrArg (fun a : EReal => a + e (ix2 s n)) (mul_comm _ _))
end

/-- The two arrays are equal. -/
theorem result (c : Dev nD) :
    (G m c : S8192x2048.Idx → EReal) = Cert.Reference19Ideal.Read.val_main_v15 (F := Ideal) (xx m c) (gn m c) (rs m c) := by
  funext i
  obtain ⟨s, n, rfl⟩ : ∃ s n, i = ix2 s n := ⟨i 0, i 1, ix2_eta i⟩
  exact (reference_apply (xx m c) (rs m c) (gn m c) s n).symm

/-- The claim: the two programs leave the same array. -/
theorem equal : Cert.algebraic_Kernel19Ideal_Reference19Ideal := fun m g m' g' _ hag =>
  ⟨fun c => G m c,
    (θ_run _ _ _).mono (fun _ h c => ⟨(h c).1.trans (final m c), (h c).2⟩)
      (Cert.Kernel19Ideal.Value.run_blocks m g),
    (θ_run _ _ _).mono (fun _ h c => ⟨(h c).1.trans (by
        rw [Cert.Reference19Ideal.Read.val_main_v15_eq, (hag c).1, (hag c).2.1, (hag c).2.2]
        exact (result m c).symm), (h c).2⟩)
      (Cert.Reference19Ideal.Value.run m' g')⟩

end Cert.NormSum
-- ==== Proof.NormSumMixer.lean ====
/-
The norm after the mixer, forward: it is added to the mixer's input.

Grid point t holds 512 tokens, and each token is normalised by itself.
-/
module

public import proofs.«01_k».proof.Proof.Products
public import proofs.«01_k».proof.Proof.NormMath
public import proofs.«01_k».proof.Proof.Gen.Kernel20Ideal.Value
public import proofs.«01_k».proof.Proof.Gen.Reference20Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.NormSumMixer

open Cert.Kernel20Ideal Cert.Kernel20Ideal.Gen Cert.Products Cert.NormMath
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ)

/-- The row. -/
abbrev xx (c : Dev nD) : S8192x2048.Idx → EReal := m ((c : Thread nD τ).loc main_arg0)
/-- The gain. -/
abbrev gn (c : Dev nD) : S2048.Idx → EReal := m ((c : Thread nD τ).loc main_arg1)
/-- The block's input. -/
abbrev rs (c : Dev nD) : S8192x2048.Idx → EReal := m ((c : Thread nD τ).loc main_arg2)

theorem V_xx (c : Dev nD) : V m c main_v0 = xx m c := by
  simp only [V, hostOps0, List.flatten_cons, List.flatten_nil, List.append_nil, List.cons_append, List.nil_append,
    TRef.binary, TRef.nullary, TRef.unary, TRef.toBuf, TRef.ofBuf, cast_eq]
  after_results <;> rfl

theorem V_gn (c : Dev nD) : V m c main_v1 = shapeCast S1x2048 (gn m c) shapeCasts_S2048_S1x2048 := by
  simp only [V, hostOps0, List.flatten_cons, List.flatten_nil, List.append_nil, List.cons_append, List.nil_append,
    TRef.binary, TRef.nullary, TRef.unary, TRef.toBuf, TRef.ofBuf, cast_eq]
  after_results <;> rfl

/-! ## One block -/

/-- A row's sum of squares. -/
def sq (x : Vec Ideal S512x2048 .bf16) (r : Fin 512) : EReal := ∑ k : Fin 2048, x (ix2 r k) * x (ix2 r k)

/-- A sum along the rows of a block. -/
theorem rowSum_apply (x : FVec Ideal S512x2048 .f32) (r : Fin 512) :
    shapeCast S512x1 (multiReduction .add [1] S512 x 0x00000000#32 reduces_S512x2048_S512 (.inl rfl) rfl) shapeCasts_S512_S512x1 (ix2 r 0)
      = ∑ k : Fin 2048, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 2048) :
    broadcastTo S512x2048 x broadcasts_S512x1_S512x2048 (ix2 r n) = x (ix2 r 0) :=
  congrArg x (funext fun a => by fin_cases a <;> rfl)

/-- The block the kernel stores. -/
theorem pay_apply (x : Vec Ideal S512x2048 .bf16) (g : Vec Ideal S1x2048 .f32) (e : Vec Ideal S512x2048 .f32) (r : Fin 512) (n : Fin 2048) :
    k0_pay1 x g e (ix2 r n) = x (ix2 r n) * scale (sq x r) * g (ix2 0 n) + e (ix2 r n) := by
  unfold k0_pay1
  dsimp only
  rw [shapeCast_self, shapeCast_self]
  refine congrArg (fun a : EReal => a + e (ix2 r n)) ?_
  refine congrArg₂ (fun a b : EReal => a * b) (congrArg (fun b : EReal => x (ix2 r n) * b) ?_) (congrArg g (funext fun a => by fin_cases a <;> rfl))
  exact (spread_apply _ r n).trans (congrArg (fun b : EReal => Ideal.rsqrt (Ideal.div b W + E)) ((rowSum_apply (mulf (extf .f32 x bitsLt_bf16_f32) (extf .f32 x bitsLt_bf16_f32)) r)))

/-! ## Where the blocks lie -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point. -/
abbrev b0 (c : Dev nD) (t : Fin cfg0.N) : Vec Ideal S512x2048 .bf16 := iblk m c 0 t
abbrev b1 (c : Dev nD) (t : Fin cfg0.N) : Vec Ideal S1x2048 .f32 := iblk m c 1 t
abbrev b2 (c : Dev nD) (t : Fin cfg0.N) : Vec Ideal S512x2048 .f32 := iblk m c 2 t

theorem in0 (c : Dev nD) (t : Fin cfg0.N) (r : Fin 512) (n : Fin 2048) : b0 m c t (ix2 r n) = xx m c (ix2 (tok t r) n) := by
  rw [← V_xx m c]
  blk_simp [iblk]
  refine congrArg (V m c main_v0) ?_
  blk_ext [at0]

theorem in1 (c : Dev nD) (t : Fin cfg0.N) (n : Fin 2048) : b1 m c t (ix2 0 n) = gn m c (ix1 n) := by
  have e : V m c main_v1 (ix2 0 n) = gn m c (ix1 n) := by
    rw [V_gn]
    refine shapeCast_apply _ _ _ (ix1 n) ?_
    rw [Shape.rowMajor_val_one, Shape.rowMajor_val_two]
    show n.val = 0 * 2048 + n.val
    omega
  rw [← e]
  blk_simp [iblk]
  refine congrArg (V m c main_v1) ?_
  blk_ext [at1]

theorem in2 (c : Dev nD) (t : Fin cfg0.N) (r : Fin 512) (n : Fin 2048) : b2 m c t (ix2 r n) = rs m c (ix2 (tok t r) n) := by
  rw [show rs m c = V m c main_arg2 from (V_main_arg2 m c).symm]
  blk_simp [iblk]
  refine congrArg (V m c main_arg2) ?_
  blk_ext [at2]

/-- A token's sum of squares. -/
def sqs (x : S8192x2048.Idx → EReal) (s : Fin 8192) : EReal := ∑ k : Fin 2048, x (ix2 s k) * x (ix2 s k)

theorem sq_eq (c : Dev nD) (t : Fin cfg0.N) (r : Fin 512) : sq (b0 m c t) r = sqs (xx m c) (tok t r) :=
  Finset.sum_congr rfl fun k _ => congrArg₂ (fun a b : EReal => a * b) (in0 m c t r k) (in0 m c t r k)

/-! ## The result -/

/-- What the kernel leaves in its result, at a token and a column. -/
def res (c : Dev nD) (s : Fin 8192) (n : Fin 2048) : EReal := xx m c (ix2 s n) * scale (sqs (xx m c) s) * gn m c (ix1 n) + rs m c (ix2 s n)
/-- What the kernel leaves in its result. -/
def G (c : Dev nD) (i : S8192x2048.Idx) : EReal := res m c (i 0) (i 1)

theorem place (t : Fin cfg0.N) (y : S512x2048.Idx) : ((cfg0.win 3).blk t).view.emb y = ix2 (tok t (y 0)) (y 1) := by
  blk_ext [at3]

theorem out (c : Dev nD) (t : Fin cfg0.N) : out0_3 (b0 m c t) (b1 m c t) (b2 m c t) = k0_pay1 (b0 m c t) (b1 m c t) (b2 m c t) := by
  unfold out0_3
  frame_out

theorem block (c : Dev nD) (t : Fin cfg0.N) (r : Fin 512) (n : Fin 2048) :
    out0_3 (b0 m c t) (b1 m c t) (b2 m c t) (ix2 r n) = res m c (tok t r) n := by
  refine (congrFun (out m c t) (ix2 r n)).trans ((pay_apply _ _ _ r n).trans ?_)
  unfold res
  rw [sq_eq, in0, in1, in2]

theorem final (c : Dev nD) : (dats m 0 c).arrAt 3 cfg0.N = G m c := by
  refine (dats m 0 c).arrAt_eq_of_covers 3 _ (by decide +kernel) fun t hf y => ?_
  blk_simp
  rw [after0_3]
  refine Eq.trans ?_ (congrArg (G m c) (place t y).symm)
  exact (congrArg (out0_3 (b0 m c t) (b1 m c t) (b2 m c t)) (ix2_eta y)).trans (block m c t (y 0) (y 1))

/-! ## The reference -/

section
open Cert.Reference20Ideal.Read
variable (x e : S8192x2048.Idx → EReal) (g : S2048.Idx → EReal)

theorem var_apply (s : Fin 8192) : val_main_v6 (F := Ideal) x (ix2 s 0) = var (sqs x s) := by
  rw [val_main_v6_apply, val_main_v4_apply, val_main_v2_apply, val_main_v1_apply, val_main_v3_apply, val_main_v5_apply]
  refine congrArg (fun b : EReal => Ideal.div b W + E) ?_
  refine (congrArg (fun b : EReal => b + _) Ideal.ofBits_zero_f32).trans ((zero_add _).trans (Finset.sum_congr rfl fun k _ => ?_))
  have h : Cert.Reference20Ideal.Read.idx_main_v1 (idx_main_v2 (ix2 s 0)) k = ix2 s k := funext fun a => by fin_cases a <;> rfl
  rw [h]
  rfl

theorem root_apply (s : Fin 8192) : val_main_v7 (F := Ideal) x (ix2 s 0) = scale (sqs x s) := by
  rw [val_main_v7_apply, var_apply]
  rfl

/-- The reference's normalised row, times the gain. -/
theorem normal_apply (s : Fin 8192) (n : Fin 2048) : val_main_v12 (F := Ideal) x g (ix2 s n) = x (ix2 s n) * scale (sqs x s) * g (ix1 n) := by
  have h1 : idx_main_v8 (ix2 s n) = ix2 s 0 := funext fun a => by fin_cases a <;> rfl
  have h2 : idx_main_v10 (idx_main_v11 (ix2 s n)) = ix1 n := funext fun a => by fin_cases a <;> rfl
  rw [val_main_v12_apply, val_main_v9_apply, val_main_v8_apply, h1, root_apply, val_main_v11_apply, val_main_v10_apply, h2]
  rfl

/-- The reference's result. -/
theorem reference_apply (s : Fin 8192) (n : Fin 2048) : val_main_v13 (F := Ideal) x g e (ix2 s n) = x (ix2 s n) * scale (sqs x s) * g (ix1 n) + e (ix2 s n) := by
  rw [val_main_v13_apply, normal_apply]
  exact add_comm _ _
end

/-- The two arrays are equal. -/
theorem result (c : Dev nD) :
    (G m c : S8192x2048.Idx → EReal) = Cert.Reference20Ideal.Read.val_main_v13 (F := Ideal) (xx m c) (gn m c) (rs m c) := by
  funext i
  obtain ⟨s, n, rfl⟩ : ∃ s n, i = ix2 s n := ⟨i 0, i 1, ix2_eta i⟩
  exact (reference_apply (xx m c) (rs m c) (gn m c) s n).symm

/-- The claim: the two programs leave the same array. -/
theorem equal : Cert.algebraic_Kernel20Ideal_Reference20Ideal := fun m g m' g' _ hag =>
  ⟨fun c => G m c,
    (θ_run _ _ _).mono (fun _ h c => ⟨(h c).1.trans (final m c), (h c).2⟩)
      (Cert.Kernel20Ideal.Value.run_blocks m g),
    (θ_run _ _ _).mono (fun _ h c => ⟨(h c).1.trans (by
        rw [Cert.Reference20Ideal.Read.val_main_v13_eq, (hag c).1, (hag c).2.1, (hag c).2.2]
        exact (result m c).symm), (h c).2⟩)
      (Cert.Reference20Ideal.Value.run m' g')⟩

end Cert.NormSumMixer
-- ==== Proof.HeadForward.lean ====
/-
The head norm of the mLSTM's result and its output gate, forward.

A token has four heads of 256 columns. Each head of the sum of the two directions is normalised by itself, scaled, and gated.
-/
module

public import proofs.«01_k».proof.Proof.Products
public import proofs.«01_k».proof.Proof.HeadMath
public import proofs.«01_k».proof.Proof.HeadRow
public import proofs.«01_k».proof.Proof.Gen.Kernel21Ideal.Value
public import proofs.«01_k».proof.Proof.Gen.Reference21Ideal.Read
public import proofs.«01_k».proof.Defs
public import Idealize.ShloMosaic.Lib.Pipeline.ReadBack
public import Idealize.ShloMosaic.Lib.Pipeline.ValueKit.Acc

@[expose] public section

set_option maxRecDepth 16384

noncomputable section

namespace Cert.HeadForward

open Cert.Kernel21Ideal Cert.Kernel21Ideal.Gen Cert.Products Cert.HeadMath
open Cert.HeadNorm (col hd lo col_hd_lo hd_col one gate rsq hat)
open Idealize.ShloMosaic Idealize.ShloMosaic.TcCoe Idealize.SL.Sem Idealize.ShloMosaic.ValueIdx Idealize.ShloMosaic.StableHlo
open Idealize.ShloMosaic.Pipeline (Dat)
open scoped BigOperators

/-- A token's result: the gate times the scaled normalised token. -/
def gated (x o g : Fin 1024 → EReal) (n : Fin 1024) : EReal := gate (o n) * (hat x n * g n)

/-! ## One head of a block -/

section
variable (a b o : Vec Ideal S512x256 .f32) (g : Vec Ideal S1x256 .f32)

/-- A sum along the rows of a block. -/
theorem rowSum_apply (x : FVec Ideal S512x256 .f32) (r : Fin 512) :
    shapeCast S512x1 (multiReduction .add [1] S512 x 0x00000000#32 reduces_S512x256_S512 (.inl rfl) rfl) shapeCasts_S512_S512x1 (ix2 r 0)
      = ∑ k : Fin 256, x (ix2 r k) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  · exact Finset.sum_congr rfl fun k _ => congrArg x (funext fun a => by fin_cases a <;> rfl)

/-- A column spread over a block. -/
theorem spread_apply (x : FVec Ideal S512x1 .f32) (r : Fin 512) (n : Fin 256) :
    broadcastTo S512x256 x broadcasts_S512x1_S512x256 (ix2 r n) = x (ix2 r 0) :=
  congrArg x (funext fun a => by fin_cases a <;> rfl)

/-- A row's sum of squares. -/
def bsq (r : Fin 512) : EReal := ∑ k : Fin 256, (a (ix2 r k) + b (ix2 r k)) * (a (ix2 r k) + b (ix2 r k))

/-- The block the kernel stores for one head. -/
theorem pay_apply (r : Fin 512) (n : Fin 256) : k0_pay1 a b o g (ix2 r n)
    = gate (o (ix2 r n)) * ((a (ix2 r n) + b (ix2 r n)) * scale (bsq a b r) * g (ix2 0 n)) := by
  unfold k0_pay1 gate
  dsimp only
  rw [shapeCast_self]
  refine congrArg₂ (fun y z : EReal => y * z) (congrArg (fun z : EReal => Ideal.div one (one + Ideal.exp z)) ?_) ?_
  · show Ideal.ofBits .f32 0x00000000#32 - o (ix2 r n) = _
    rw [Ideal.ofBits_zero_f32, sub_eq_add_neg, zero_add]
  · refine congrArg₂ (fun y z : EReal => y * z) (congrArg (fun z : EReal => (a (ix2 r n) + b (ix2 r n)) * z) ?_)
      (congrArg g (funext fun a => by fin_cases a <;> rfl))
    exact (spread_apply _ r n).trans (congrArg (fun b : EReal => Ideal.rsqrt (Ideal.div b W + E)) (rowSum_apply (mulf (addf a b) (addf a b)) r))

/-- The four heads are stored by the same function. -/
theorem second : k0_pay4 (k0_pay2 a b) (k0_pay3 a b) o g = k0_pay1 a b o g := rfl
theorem third : k0_pay8 (k0_pay5 a b) (k0_pay6 a b) (k0_pay7 o) (Scalar.ofBits .f32 0x3F800000#32) g = k0_pay1 a b o g := rfl
theorem fourth : k0_pay9 a b o g = k0_pay1 a b o g := rfl
end

/-! ## A head of a block with all its columns -/

section
variable (A B O : Vec Ideal S512x1024 .f32) (G : Vec Ideal S1x1024 .f32)

/-- Row `r` of the sum of two blocks. -/
abbrev tokRow (r : Fin 512) (n : Fin 1024) : EReal := A (ix2 r n) + B (ix2 r n)
/-- Row `r` of a block. -/
abbrev row (r : Fin 512) (n : Fin 1024) : EReal := O (ix2 r n)
/-- The one row of a block. -/
abbrev row1 (n : Fin 1024) : EReal := G (ix2 0 n)

/-- A head of a block. -/
abbrev part (v : Vec Ideal S512x1024 .f32) (h : Fin 4) (i : ∀ a, (![0, 256 * h.val] : Fin 2 → Nat) a + S512x256.size a ≤ S512x1024.size a) :
    Vec Ideal S512x256 .f32 :=
  View.ld (Val := Elt Ideal) (e' := .f32) v (Rect.unit (s := S512x1024) ![0, 256 * h.val] S512x256.size i)
/-- A head of a row. -/
abbrev part1 (v : Vec Ideal S1x1024 .f32) (h : Fin 4) (i : ∀ a, (![0, 256 * h.val] : Fin 2 → Nat) a + S1x256.size a ≤ S1x1024.size a) :
    Vec Ideal S1x256 .f32 :=
  View.ld (Val := Elt Ideal) (e' := .f32) v (Rect.unit (s := S1x1024) ![0, 256 * h.val] S1x256.size i)

theorem part_apply (v : Vec Ideal S512x1024 .f32) (h : Fin 4) (i : ∀ a, (![0, 256 * h.val] : Fin 2 → Nat) a + S512x256.size a ≤ S512x1024.size a)
    (r : Fin 512) (k : Fin 256) :
    part v h i (ix2 r k) = v (ix2 r (col h k)) :=
  congrArg v (funext fun a => Fin.ext (by
    match a with
    | ⟨0, _⟩ => show 0 + 1 * r.val = r.val; omega
    | ⟨1, _⟩ => show 256 * h.val + 1 * k.val = 256 * h.val + k.val; omega))

theorem part1_apply (v : Vec Ideal S1x1024 .f32) (h : Fin 4) (i : ∀ a, (![0, 256 * h.val] : Fin 2 → Nat) a + S1x256.size a ≤ S1x1024.size a)
    (k : Fin 256) :
    part1 v h i (ix2 0 k) = v (ix2 0 (col h k)) :=
  congrArg v (funext fun a => Fin.ext (by
    match a with
    | ⟨0, _⟩ => rfl
    | ⟨1, _⟩ => show 256 * h.val + 1 * k.val = 256 * h.val + k.val; omega))

variable (h : Fin 4) (i : ∀ a, (![0, 256 * h.val] : Fin 2 → Nat) a + S512x256.size a ≤ S512x1024.size a)
  (i1 : ∀ a, (![0, 256 * h.val] : Fin 2 → Nat) a + S1x256.size a ≤ S1x1024.size a)

theorem bsq_part (r : Fin 512) : bsq (part A h i) (part B h i) r = rsq (tokRow A B r) h :=
  Finset.sum_congr rfl fun k _ => congrArg (fun z : EReal => z * z) (congrArg₂ (fun y z : EReal => y + z) (part_apply A h i r k) (part_apply B h i r k))

theorem hat_part (r : Fin 512) (k : Fin 256) :
    (part A h i (ix2 r k) + part B h i (ix2 r k)) * scale (bsq (part A h i) (part B h i) r) = hat (tokRow A B r) (col h k) := by
  rw [bsq_part, part_apply A h i r k, part_apply B h i r k, hat, hd_col]

/-- The result, a head at a time. -/
theorem piece (x : S512x256.Idx) :
    k0_pay1 (part A h i) (part B h i) (part O h i) (part1 G h i1) x
      = (fun y : S512x1024.Idx => gated (tokRow A B (y 0)) (row O (y 0)) (row1 G) (y 1))
          ((Rect.unit (s := S512x1024) ![0, 256 * h.val] S512x256.size i).emb x) := by
  obtain ⟨r, k, rfl⟩ : ∃ r k, x = ix2 r k := ⟨x 0, x 1, ix2_eta x⟩
  have e : (Rect.unit (s := S512x1024) ![0, 256 * h.val] S512x256.size i).emb (ix2 r k) = ix2 r (col h k) := funext fun a => Fin.ext (by
    match a with
    | ⟨0, _⟩ => show 0 + 1 * r.val = r.val; omega
    | ⟨1, _⟩ => show 256 * h.val + 1 * k.val = 256 * h.val + k.val; omega)
  rw [e, pay_apply, hat_part, part_apply O h i r k, part1_apply G h i1 k]
  rfl
end

variable (m : (ℓ : Loc nD τ sig) → Buf (Elt Ideal) ℓ)

/-- The two directions' results of the mLSTM. -/
abbrev hf (c : Dev nD) : S8192x1024.Idx → EReal := m ((c : Thread nD τ).loc main_arg0)
abbrev hb (c : Dev nD) : S8192x1024.Idx → EReal := m ((c : Thread nD τ).loc main_arg1)
/-- The projection, whose columns from 4096 on are the gate's argument. -/
abbrev pj (c : Dev nD) : S8192x6144.Idx → EReal := m ((c : Thread nD τ).loc main_arg2)
/-- The gain. -/
abbrev gn (c : Dev nD) : S1024.Idx → EReal := m ((c : Thread nD τ).loc main_arg3)

/-- A token's rows. -/
abbrev X (c : Dev nD) (s : Fin 8192) (n : Fin 1024) : EReal := hf m c (ix2 s n) + hb m c (ix2 s n)
abbrev O (c : Dev nD) (s : Fin 8192) (n : Fin 1024) : EReal := pj m c (ix2 s ⟨4096 + n.val, by have := n.isLt; omega⟩)
abbrev G (c : Dev nD) (n : Fin 1024) : EReal := gn m c (ix1 n)

theorem V_gn (c : Dev nD) : V m c main_v0 = shapeCast S1x1024 (gn m c) shapeCasts_S1024_S1x1024 := by
  simp only [V, hostOps0, List.flatten_cons, List.flatten_nil, List.append_nil, List.cons_append, List.nil_append,
    TRef.binary, TRef.nullary, TRef.unary, TRef.toBuf, TRef.ofBuf, cast_eq]
  after_results <;> rfl

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 4] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)

/-- Token `r` of point `t`. -/
abbrev tok (t : Fin cfg0.N) (r : Fin 512) : Fin 8192 := ⟨t.val * 512 + r.val, by have : t.val < 16 := t.isLt; omega⟩

/-- The blocks of a point: the two directions, the gate's argument and the gain. -/
abbrev b0 (c : Dev nD) (t : Fin cfg0.N) : Vec Ideal S512x1024 .f32 := iblk m c 0 t
abbrev b1 (c : Dev nD) (t : Fin cfg0.N) : Vec Ideal S512x1024 .f32 := iblk m c 1 t
abbrev b2 (c : Dev nD) (t : Fin cfg0.N) : Vec Ideal S512x1024 .f32 := iblk m c 2 t
abbrev b3 (c : Dev nD) (t : Fin cfg0.N) : Vec Ideal S1x1024 .f32 := iblk m c 3 t

theorem in0 (c : Dev nD) (t : Fin cfg0.N) (r : Fin 512) (n : Fin 1024) : b0 m c t (ix2 r n) = hf m c (ix2 (tok t r) n) := by
  rw [show hf m c = V m c main_arg0 from (V_main_arg0 m c).symm]
  blk_simp [iblk]
  refine congrArg (V m c main_arg0) ?_
  blk_ext [at0]

theorem in1 (c : Dev nD) (t : Fin cfg0.N) (r : Fin 512) (n : Fin 1024) : b1 m c t (ix2 r n) = hb m c (ix2 (tok t r) n) := by
  rw [show hb m c = V m c main_arg1 from (V_main_arg1 m c).symm]
  blk_simp [iblk]
  refine congrArg (V m c main_arg1) ?_
  blk_ext [at1]

theorem in2 (c : Dev nD) (t : Fin cfg0.N) (r : Fin 512) (n : Fin 1024) : b2 m c t (ix2 r n) = O m c (tok t r) n := by
  rw [O, show pj m c = V m c main_arg2 from (V_main_arg2 m c).symm]
  blk_simp [iblk]
  refine congrArg (V m c main_arg2) ?_
  blk_ext [at2]

theorem in3 (c : Dev nD) (t : Fin cfg0.N) (n : Fin 1024) : b3 m c t (ix2 0 n) = G m c n := by
  have e : V m c main_v0 (ix2 0 n) = gn m c (ix1 n) := by
    rw [V_gn]
    refine shapeCast_apply _ _ _ (ix1 n) ?_
    rw [Shape.rowMajor_val_one, Shape.rowMajor_val_two]
    show n.val = 0 * 1024 + n.val
    omega
  rw [G, ← e]
  blk_simp [iblk]
  refine congrArg (V m c main_v0) ?_
  blk_ext [at3]

theorem row_X (c : Dev nD) (t : Fin cfg0.N) (r : Fin 512) : tokRow (b0 m c t) (b1 m c t) r = X m c (tok t r) :=
  funext fun n => congrArg₂ (fun a b : EReal => a + b) (in0 m c t r n) (in1 m c t r n)
theorem row_O (c : Dev nD) (t : Fin cfg0.N) (r : Fin 512) : row (b2 m c t) r = O m c (tok t r) := funext fun n => in2 m c t r n
theorem row_G (c : Dev nD) (t : Fin cfg0.N) : row1 (b3 m c t) = G m c := funext fun n => in3 m c t n

/-- An index of a block lies in the piece of its head. -/
theorem covered (y : S512x1024.Idx) (h : Fin 4) (hy : (y 1).val / 256 = h.val)
    (i : ∀ a, (![0, 256 * h.val] : Fin 2 → Nat) a + S512x256.size a ≤ S512x1024.size a) :
    y ∈ (Rect.unit (s := S512x1024) ![0, 256 * h.val] S512x256.size i).set := by
  rw [Rect.mem_set_unit]
  intro a
  fin_cases a
  · exact ⟨Nat.zero_le _, by have : (y 0).val < 512 := (y 0).isLt; show (y 0).val < 0 + 512; omega⟩
  · exact ⟨by show 256 * h.val ≤ (y 1).val; omega, by show (y 1).val < 256 * h.val + 256; omega⟩

/-! ## The result -/

theorem out4 (c : Dev nD) (t : Fin cfg0.N) (y : S512x1024.Idx) : out0_4 (b0 m c t) (b1 m c t) (b2 m c t) (b3 m c t) y
    = (fun y : S512x1024.Idx => gated (tokRow (b0 m c t) (b1 m c t) (y 0)) (row (b2 m c t) (y 0)) (row1 (b3 m c t)) (y 1)) y := by
  unfold out0_4
  rw [second, third, fourth]
  refine View.canon_append_of_piecesOf (Val := Elt Ideal) (e := .bf16)
    (fun y : S512x1024.Idx => gated (tokRow (b0 m c t) (b1 m c t) (y 0)) (row (b2 m c t) (y 0)) (row1 (b3 m c t)) (y 1)) [] [_, _, _, _]
    ⟨fun x => ?_, fun x => ?_, fun x => ?_, fun x => ?_, trivial⟩ y ?_
  · exact piece (b0 m c t) (b1 m c t) (b2 m c t) (b3 m c t) 3 inb_S512x1024_S512x256_0_768 inb_S1x1024_S1x256_0_768 x
  · exact piece (b0 m c t) (b1 m c t) (b2 m c t) (b3 m c t) 2 inb_S512x1024_S512x256_0_512 inb_S1x1024_S1x256_0_512 x
  · exact piece (b0 m c t) (b1 m c t) (b2 m c t) (b3 m c t) 1 inb_S512x1024_S512x256_0_256 inb_S1x1024_S1x256_0_256 x
  · exact piece (b0 m c t) (b1 m c t) (b2 m c t) (b3 m c t) 0 inb_S512x1024_S512x256_0_0 inb_S1x1024_S1x256_0_0 x
  · have hy : (y 1).val < 1024 := (y 1).isLt
    obtain h | h | h | h : (y 1).val / 256 = 3 ∨ (y 1).val / 256 = 2 ∨ (y 1).val / 256 = 1 ∨ (y 1).val / 256 = 0 := by omega
    · exact ⟨_, .head _, covered y 3 h inb_S512x1024_S512x256_0_768⟩
    · exact ⟨_, .tail _ (.head _), covered y 2 h inb_S512x1024_S512x256_0_512⟩
    · exact ⟨_, .tail _ (.tail _ (.head _)), covered y 1 h inb_S512x1024_S512x256_0_256⟩
    · exact ⟨_, .tail _ (.tail _ (.tail _ (.head _))), covered y 0 h inb_S512x1024_S512x256_0_0⟩

/-- What the kernel leaves in its result. -/
def G4 (c : Dev nD) (i : S8192x1024.Idx) : EReal := gated (X m c (i 0)) (O m c (i 0)) (G m c) (i 1)

theorem place4 (t : Fin cfg0.N) (y : S512x1024.Idx) : ((cfg0.win 4).blk t).view.emb y = ix2 (tok t (y 0)) (y 1) := by
  blk_ext [at4]

theorem final4 (c : Dev nD) : (dats m 0 c).arrAt 4 cfg0.N = G4 m c := by
  refine (dats m 0 c).arrAt_eq_of_covers 4 _ (by decide +kernel) fun t hf y => ?_
  blk_simp
  rw [after0_4]
  refine Eq.trans ?_ (congrArg (G4 m c) (place4 t y).symm)
  refine (out4 m c t y).trans ?_
  show gated (tokRow (b0 m c t) (b1 m c t) (y 0)) (row (b2 m c t) (y 0)) (row1 (b3 m c t)) (y 1)
    = gated (X m c (tok t (y 0))) (O m c (tok t (y 0))) (G m c) (y 1)
  rw [row_X m c t (y 0), row_O m c t (y 0), row_G m c t]

/-! ## The reference -/

section
open Cert.Reference21Ideal.Read
variable (x0 x1 : S8192x1024.Idx → EReal) (x2 : S8192x6144.Idx → EReal) (x3 : S1024.Idx → EReal)

/-- A token's rows. -/
abbrev rX (s : Fin 8192) (n : Fin 1024) : EReal := x0 (ix2 s n) + x1 (ix2 s n)
abbrev rO (s : Fin 8192) (n : Fin 1024) : EReal := x2 (ix2 s ⟨4096 + n.val, by have := n.isLt; omega⟩)
abbrev rG (n : Fin 1024) : EReal := x3 (ix1 n)

theorem to_col (s : Fin 8192) (h : Fin 4) (k : Fin 256) : Cert.Reference21Ideal.Read.idx_main_v1 (ix3 s h k) = ix2 s (col h k) := funext fun a => Fin.ext (by
  have := s.isLt; have := h.isLt; have := k.isLt
  match a with
  | ⟨0, _⟩ => show ((s.val * 4 + h.val) * 256 + k.val) / 1024 = s.val; omega
  | ⟨1, _⟩ => show ((s.val * 4 + h.val) * 256 + k.val) % 1024 = 256 * h.val + k.val; omega)

theorem of_col (s : Fin 8192) (n : Fin 1024) : idx_main_v23 (ix2 s n) = ix3 s (hd n) (lo n) := funext fun a => Fin.ext (by
  have := s.isLt; have := n.isLt
  match a with
  | ⟨0, _⟩ => show (s.val * 1024 + n.val) / 1024 = s.val; omega
  | ⟨1, _⟩ => show (s.val * 1024 + n.val) / 256 % 4 = n.val / 256; omega
  | ⟨2, _⟩ => show (s.val * 1024 + n.val) % 256 = n.val % 256; omega)

theorem tok_apply (s : Fin 8192) (h : Fin 4) (k : Fin 256) : val_main_v1 (F := Ideal) x0 x1 (ix3 s h k) = rX x0 x1 s (col h k) := by
  rw [val_main_v1_apply, to_col]
  rfl

theorem var_apply (s : Fin 8192) (h : Fin 4) : val_main_v8 (F := Ideal) x0 x1 (ix3 s h 0) = var (rsq (rX x0 x1 s) h) := by
  rw [val_main_v8_apply, val_main_v6_apply, val_main_v4_apply, val_main_v3_apply, val_main_v5_apply, val_main_v7_apply]
  refine congrArg (fun b : EReal => Ideal.div b W + E) ?_
  refine (congrArg (fun b : EReal => b + _) Ideal.ofBits_zero_f32).trans ((zero_add _).trans (Finset.sum_congr rfl fun k _ => ?_))
  have e : idx_main_v3 (idx_main_v4 (ix3 s h 0)) k = ix3 s h k := funext fun a => by fin_cases a <;> rfl
  rw [e, val_main_v2_apply, tok_apply]
  rfl

theorem root_apply (s : Fin 8192) (h : Fin 4) : val_main_v9 (F := Ideal) x0 x1 (ix3 s h 0) = scale (rsq (rX x0 x1 s) h) := by
  rw [val_main_v9_apply, var_apply]
  rfl

theorem hat_apply (s : Fin 8192) (h : Fin 4) (k : Fin 256) : val_main_v11 (F := Ideal) x0 x1 (ix3 s h k) = hat (rX x0 x1 s) (col h k) := by
  have e : idx_main_v10 (ix3 s h k) = ix3 s h 0 := funext fun a => by fin_cases a <;> rfl
  rw [val_main_v11_apply, tok_apply, val_main_v10_apply, e, root_apply, hat, hd_col]
  rfl

theorem gate_apply (s : Fin 8192) (n : Fin 1024) : val_main_v22 (F := Ideal) x2 (ix2 s n) = gate (rO x2 s n) := by
  have e : idx_main_v16 (ix2 s n) = ix2 s ⟨4096 + n.val, by have := n.isLt; omega⟩ := funext fun a => Fin.ext (by
    match a with
    | ⟨0, _⟩ => first | rfl | (show 0 + s.val = s.val; omega)
    | ⟨1, _⟩ => rfl)
  rw [val_main_v22_apply, val_main_v21_apply, val_main_v20_apply, val_main_v19_apply, val_main_v18_apply, val_main_v17_apply, val_main_v16_apply, e]
  rfl

theorem scaled_apply (s : Fin 8192) (h : Fin 4) (k : Fin 256) :
    val_main_v15 (F := Ideal) x0 x1 x3 (ix3 s h k) = hat (rX x0 x1 s) (col h k) * rG x3 (col h k) := by
  rw [val_main_v15_apply, hat_apply, val_main_v14_apply, val_main_v13_apply, val_main_v12_apply]
  exact congrArg (fun z : EReal => hat (rX x0 x1 s) (col h k) * z) (congrArg x3 (funext fun a => Fin.ext (by
    match a with
    | ⟨0, _⟩ => show h.val * 256 + k.val = 256 * h.val + k.val; omega)))

/-- The reference's result. -/
theorem reference_apply (s : Fin 8192) (n : Fin 1024) : val_main_v25 (F := Ideal) x0 x1 x2 x3 (ix2 s n)
    = gated (rX x0 x1 s) (rO x2 s) (rG x3) n := by
  rw [val_main_v25_apply, val_main_v24_apply, gate_apply, val_main_v23_apply, of_col, scaled_apply, col_hd_lo]
  rfl
end

/-- The two arrays are equal. -/
theorem result (c : Dev nD) :
    (G4 m c : S8192x1024.Idx → EReal) = Cert.Reference21Ideal.Read.val_main_v25 (F := Ideal) (hf m c) (hb m c) (pj m c) (gn m c) := by
  funext i
  obtain ⟨s, n, rfl⟩ : ∃ s n, i = ix2 s n := ⟨i 0, i 1, ix2_eta i⟩
  exact (reference_apply (hf m c) (hb m c) (pj m c) (gn m c) s n).symm

/-- The claim: the two programs leave the same array. -/
theorem equal : Cert.algebraic_Kernel21Ideal_Reference21Ideal := fun m g m' g' _ hag =>
  ⟨fun c => G4 m c,
    (θ_run _ _ _).mono (fun _ h c => ⟨(h c).1.trans (final4 m c), (h c).2⟩)
      (Cert.Kernel21Ideal.Value.run_blocks m g),
    (θ_run _ _ _).mono (fun _ h c => ⟨(h c).1.trans (by
        rw [Cert.Reference21Ideal.Read.val_main_v25_eq, (hag c).1, (hag c).2.1, (hag c).2.2.1, (hag c).2.2.2]
        exact (result m c).symm), (h c).2⟩)
      (Cert.Reference21Ideal.Value.run m' g')⟩

end Cert.HeadForward
-- ==== Proof.lean ====
/- The proof of the claim: the feed-forward and the mixer's two projections and the norms, forward and
   backward, and the gradient of the mLSTM's values.

   The frames of the kernels are the generated ones; those of the references are read off their runs, the references having no
   semaphore. The value claims are the theorems `equal` of `Cert.Gate`, `Cert.DownWeight`, `Cert.InWeight`, `Cert.Input` and
   `Cert.Recurrence`, of `Cert.Hidden` and `Cert.Output`, of `Cert.Norm`, and of `Cert.ProjectWeight`, `Cert.ProjectInput`,
   `Cert.MixWeight`, `Cert.Heads`, `Cert.Project`, `Cert.Mix` and `Cert.HeadNorm`, and of `Cert.NormAfter`, `Cert.NormMixer`,
   `Cert.NormForward`, `Cert.NormSum`, `Cert.NormSumMixer` and `Cert.HeadForward`, each proved in a module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Pre_finite
public import proofs.«01_k».proof.Proof.Gen.Pre_finite5
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gate
public import proofs.«01_k».proof.Proof.DownWeight
public import proofs.«01_k».proof.Proof.InWeight
public import proofs.«01_k».proof.Proof.Input
public import proofs.«01_k».proof.Proof.Recurrence
public import proofs.«01_k».proof.Proof.Hidden
public import proofs.«01_k».proof.Proof.Output
public import proofs.«01_k».proof.Proof.Norm
public import proofs.«01_k».proof.Proof.ProjectWeight
public import proofs.«01_k».proof.Proof.ProjectInput
public import proofs.«01_k».proof.Proof.MixWeight
public import proofs.«01_k».proof.Proof.Heads
public import proofs.«01_k».proof.Proof.Project
public import proofs.«01_k».proof.Proof.Mix
public import proofs.«01_k».proof.Proof.HeadNorm
public import proofs.«01_k».proof.Proof.NormAfter
public import proofs.«01_k».proof.Proof.NormMixer
public import proofs.«01_k».proof.Proof.NormForward
public import proofs.«01_k».proof.Proof.NormSum
public import proofs.«01_k».proof.Proof.NormSumMixer
public import proofs.«01_k».proof.Proof.HeadForward
public import Idealize.ShloMosaic.Adequacy
public import Idealize.ShloMosaic.Init

@[expose] public section

noncomputable section

namespace Cert.Proof

open Idealize.ShloMosaic Idealize.SL.Sem

/-- The reference for the gradient of the gated product runs and leaves its arguments. -/
theorem reference1 : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The reference for the gradient of the gated product runs and leaves its arguments (under the value claim's precondition). -/
theorem reference1_pre_finite : Cert.quiescent_ReferenceIdeal_pre_finite := fun m ρ _ =>
  (θ_run Cert.ReferenceIdeal.defs _ _).mono (fun r h => ⟨fun c => (h c).2.2, sem_eq_zero_of_no_sems (by decide) r.2⟩)
    (Cert.ReferenceIdeal.Value.run m ρ)

/-- The reference for the gradient of the down weight runs and leaves its arguments. -/
theorem reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference for the gradient of the input weights runs and leaves its arguments. -/
theorem reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The reference for the gradient of the feed-forward's input runs and leaves its arguments. -/
theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The reference for the gradient of the mLSTM's values runs and leaves its arguments. -/
theorem reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The reference for the gradient of the mLSTM's values runs and leaves its arguments (under the value claim's precondition). -/
theorem reference5_pre_finite5 : Cert.quiescent_Reference5Ideal_pre_finite5 := fun m ρ _ =>
  (θ_run Cert.Reference5Ideal.defs _ _).mono (fun r h => ⟨fun c => (h c).2, sem_eq_zero_of_no_sems (by decide) r.2⟩)
    (Cert.Reference5Ideal.Value.run m ρ)

/-- The reference for the hidden units runs and leaves its arguments. -/
theorem reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

/-- The reference for the feed-forward's result runs and leaves its arguments. -/
theorem reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The reference for the gradient of the norm runs and leaves its arguments. -/
theorem reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

/-- The reference for the gradient of the projection's weight runs and leaves its arguments. -/
theorem reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The reference for the gradient of the projection's input runs and leaves its arguments. -/
theorem reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The reference for the gradient of the output projection's weight runs and leaves its arguments. -/
theorem reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- The reference for the gradient of the merged heads runs and leaves its arguments. -/
theorem reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- The reference for the projection runs and leaves its arguments. -/
theorem reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- The reference for the output projection runs and leaves its arguments. -/
theorem reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- The reference for the gradient of the norm of the mLSTM's heads runs and leaves its arguments. -/
theorem reference15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run m ρ)

/-- The reference for the gradient of the norm after the feed-forward runs and leaves its arguments. -/
theorem reference16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run m ρ)

/-- The reference for the gradient of the norm after the mixer runs and leaves its arguments. -/
theorem reference17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run m ρ)

/-- The reference for the norm before a block runs and leaves its arguments. -/
theorem reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

/-- The reference for the norm after the feed-forward runs and leaves its arguments. -/
theorem reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

/-- The reference for the norm after the mixer runs and leaves its arguments. -/
theorem reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-- The reference for the norm of the mLSTM's heads runs and leaves its arguments. -/
theorem reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

/-- The two readings of the mLSTM's kernel differ by the mask, which is named, and by signs, which are compared with zero. -/
theorem preserves5 : Cert.preserves_Kernel5_Kernel5Ideal :=
  ⟨IdealRules.named_const.statement _ _ _ _ _ rfl, IdealRules.sign_bit.statement Cert.Kernel5Ideal.S128x1 .f32⟩

/-- Everything that the certificate claims. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Pre_finite.Gen.facts,
    Cert.Pre_finite5.Gen.facts,
    fun m ρ _ => Cert.Kernel.Gen.frame m ρ,
    fun m ρ _ => Cert.KernelIdeal.Gen.frame m ρ,
    fun m ρ _ => Cert.KernelIdeal.Gen.frame m ρ,
    reference1,
    reference1_pre_finite,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    reference4,
    fun m ρ _ => Cert.Kernel5.Gen.frame m ρ,
    fun m ρ _ => Cert.Kernel5Ideal.Gen.frame m ρ,
    fun m ρ _ => Cert.Kernel5Ideal.Gen.frame m ρ,
    reference5,
    reference5_pre_finite5,
    fun m ρ _ => Cert.Kernel6.Gen.frame m ρ,
    fun m ρ _ => Cert.Kernel6Ideal.Gen.frame m ρ,
    reference6,
    fun m ρ _ => Cert.Kernel7.Gen.frame m ρ,
    fun m ρ _ => Cert.Kernel7Ideal.Gen.frame m ρ,
    reference7,
    fun m ρ _ => Cert.Kernel8.Gen.frame m ρ,
    fun m ρ _ => Cert.Kernel8Ideal.Gen.frame m ρ,
    reference8,
    fun m ρ _ => Cert.Kernel9.Gen.frame m ρ,
    fun m ρ _ => Cert.Kernel9Ideal.Gen.frame m ρ,
    reference9,
    fun m ρ _ => Cert.Kernel10.Gen.frame m ρ,
    fun m ρ _ => Cert.Kernel10Ideal.Gen.frame m ρ,
    reference10,
    fun m ρ _ => Cert.Kernel11.Gen.frame m ρ,
    fun m ρ _ => Cert.Kernel11Ideal.Gen.frame m ρ,
    reference11,
    fun m ρ _ => Cert.Kernel12.Gen.frame m ρ,
    fun m ρ _ => Cert.Kernel12Ideal.Gen.frame m ρ,
    reference12,
    fun m ρ _ => Cert.Kernel13.Gen.frame m ρ,
    fun m ρ _ => Cert.Kernel13Ideal.Gen.frame m ρ,
    reference13,
    fun m ρ _ => Cert.Kernel14.Gen.frame m ρ,
    fun m ρ _ => Cert.Kernel14Ideal.Gen.frame m ρ,
    reference14,
    fun m ρ _ => Cert.Kernel15.Gen.frame m ρ,
    fun m ρ _ => Cert.Kernel15Ideal.Gen.frame m ρ,
    reference15,
    fun m ρ _ => Cert.Kernel16.Gen.frame m ρ,
    fun m ρ _ => Cert.Kernel16Ideal.Gen.frame m ρ,
    reference16,
    fun m ρ _ => Cert.Kernel17.Gen.frame m ρ,
    fun m ρ _ => Cert.Kernel17Ideal.Gen.frame m ρ,
    reference17,
    fun m ρ _ => Cert.Kernel18.Gen.frame m ρ,
    fun m ρ _ => Cert.Kernel18Ideal.Gen.frame m ρ,
    reference18,
    fun m ρ _ => Cert.Kernel19.Gen.frame m ρ,
    fun m ρ _ => Cert.Kernel19Ideal.Gen.frame m ρ,
    reference19,
    fun m ρ _ => Cert.Kernel20.Gen.frame m ρ,
    fun m ρ _ => Cert.Kernel20Ideal.Gen.frame m ρ,
    reference20,
    fun m ρ _ => Cert.Kernel21.Gen.frame m ρ,
    fun m ρ _ => Cert.Kernel21Ideal.Gen.frame m ρ,
    reference21,
    trivial, Cert.Gate.equal,
    trivial, Cert.DownWeight.equal,
    trivial, Cert.InWeight.equal,
    trivial, Cert.Input.equal,
    preserves5, Cert.Recurrence.equal,
    trivial, Cert.Hidden.equal,
    trivial, Cert.Output.equal,
    trivial, Cert.Norm.equal,
    trivial, Cert.ProjectWeight.equal,
    trivial, Cert.ProjectInput.equal,
    trivial, Cert.MixWeight.equal,
    trivial, Cert.Heads.equal,
    trivial, Cert.Project.equal,
    trivial, Cert.Mix.equal,
    trivial, Cert.HeadNorm.equal,
    trivial, Cert.NormAfter.equal,
    trivial, Cert.NormMixer.equal,
    trivial, Cert.NormForward.equal,
    trivial, Cert.NormSum.equal,
    trivial, Cert.NormSumMixer.equal,
    trivial, Cert.HeadForward.equal⟩

end Cert.Proof

end
